-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_SsmDx (m : (ℓ : Loc Cert.SsmDx.nD Cert.SsmDx.τ Cert.SsmDx.sig) → Buf (Elt Bits) ℓ) : Prop :=
  True

def Pre_SsmDxIdeal (m : (ℓ : Loc Cert.SsmDxIdeal.nD Cert.SsmDxIdeal.τ Cert.SsmDxIdeal.sig) → Buf (Elt Ideal) ℓ) : Prop :=
  True

def Pre_SsmDxRefIdeal (m : (ℓ : Loc Cert.SsmDxRefIdeal.nD Cert.SsmDxRefIdeal.τ Cert.SsmDxRefIdeal.sig) → Buf (Elt Ideal) ℓ) : Prop :=
  True

def Pre_SsmDw (m : (ℓ : Loc Cert.SsmDw.nD Cert.SsmDw.τ Cert.SsmDw.sig) → Buf (Elt Bits) ℓ) : Prop :=
  True

def Pre_SsmDwIdeal (m : (ℓ : Loc Cert.SsmDwIdeal.nD Cert.SsmDwIdeal.τ Cert.SsmDwIdeal.sig) → Buf (Elt Ideal) ℓ) : Prop :=
  True

def Pre_SsmDwRefIdeal (m : (ℓ : Loc Cert.SsmDwRefIdeal.nD Cert.SsmDwRefIdeal.τ Cert.SsmDwRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def Pre_SsmOutDx (m : (ℓ : Loc Cert.SsmOutDx.nD Cert.SsmOutDx.τ Cert.SsmOutDx.sig) → Buf (Elt Bits) ℓ) : Prop :=
  True

def Pre_SsmOutDxIdeal (m : (ℓ : Loc Cert.SsmOutDxIdeal.nD Cert.SsmOutDxIdeal.τ Cert.SsmOutDxIdeal.sig) → Buf (Elt Ideal) ℓ) : Prop :=
  True

def Pre_SsmOutDxRefIdeal (m : (ℓ : Loc Cert.SsmOutDxRefIdeal.nD Cert.SsmOutDxRefIdeal.τ Cert.SsmOutDxRefIdeal.sig) → Buf (Elt Ideal) ℓ) : Prop :=
  True

def Pre_SsmOutDw (m : (ℓ : Loc Cert.SsmOutDw.nD Cert.SsmOutDw.τ Cert.SsmOutDw.sig) → Buf (Elt Bits) ℓ) : Prop :=
  True

def Pre_SsmOutDwIdeal (m : (ℓ : Loc Cert.SsmOutDwIdeal.nD Cert.SsmOutDwIdeal.τ Cert.SsmOutDwIdeal.sig) → Buf (Elt Ideal) ℓ) : Prop :=
  True

def Pre_SsmOutDwRefIdeal (m : (ℓ : Loc Cert.SsmOutDwRefIdeal.nD Cert.SsmOutDwRefIdeal.τ Cert.SsmOutDwRefIdeal.sig) → Buf (Elt Ideal) ℓ) : Prop :=
  True

def Pre_SsmZ (m : (ℓ : Loc Cert.SsmZ.nD Cert.SsmZ.τ Cert.SsmZ.sig) → Buf (Elt Bits) ℓ) : Prop :=
  True

def Pre_SsmZIdeal (m : (ℓ : Loc Cert.SsmZIdeal.nD Cert.SsmZIdeal.τ Cert.SsmZIdeal.sig) → Buf (Elt Ideal) ℓ) : Prop :=
  True

def Pre_SsmZRefIdeal (m : (ℓ : Loc Cert.SsmZRefIdeal.nD Cert.SsmZRefIdeal.τ Cert.SsmZRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixInDx (m : (ℓ : Loc Cert.MixInDx.nD Cert.MixInDx.τ Cert.MixInDx.sig) → Buf (Elt Bits) ℓ) : Prop :=
  True

def Pre_MixInDxIdeal (m : (ℓ : Loc Cert.MixInDxIdeal.nD Cert.MixInDxIdeal.τ Cert.MixInDxIdeal.sig) → Buf (Elt Ideal) ℓ) : Prop :=
  True

def Pre_MixInDxRefIdeal (m : (ℓ : Loc Cert.MixInDxRefIdeal.nD Cert.MixInDxRefIdeal.τ Cert.MixInDxRefIdeal.sig) → Buf (Elt Ideal) ℓ) : Prop :=
  True

def Pre_MixInDw (m : (ℓ : Loc Cert.MixInDw.nD Cert.MixInDw.τ Cert.MixInDw.sig) → Buf (Elt Bits) ℓ) : Prop :=
  True

def Pre_MixInDwIdeal (m : (ℓ : Loc Cert.MixInDwIdeal.nD Cert.MixInDwIdeal.τ Cert.MixInDwIdeal.sig) → Buf (Elt Ideal) ℓ) : Prop :=
  True

def Pre_MixInDwRefIdeal (m : (ℓ : Loc Cert.MixInDwRefIdeal.nD Cert.MixInDwRefIdeal.τ Cert.MixInDwRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_proj [hPre_finite_proj : Cert.Pre_finite_proj.Facts] (m : (ℓ : Loc Cert.PoolIdeal.nD Cert.PoolIdeal.τ Cert.PoolIdeal.sig) → Buf (Elt Ideal) ℓ) : Prop :=
  ∀ c : Dev Cert.PoolIdeal.nD,
    (Cert.Pre_finite_proj.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_proj [hPre_finite_proj : Cert.Pre_finite_proj.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_proj.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8))) = (fun _ => 1#1)

def Pre_SsmDt (m : (ℓ : Loc Cert.SsmDt.nD Cert.SsmDt.τ Cert.SsmDt.sig) → Buf (Elt Bits) ℓ) : Prop :=
  True

def Pre_SsmDtIdeal (m : (ℓ : Loc Cert.SsmDtIdeal.nD Cert.SsmDtIdeal.τ Cert.SsmDtIdeal.sig) → Buf (Elt Ideal) ℓ) : Prop :=
  True

def Pre_SsmDtRefIdeal (m : (ℓ : Loc Cert.SsmDtRefIdeal.nD Cert.SsmDtRefIdeal.τ Cert.SsmDtRefIdeal.sig) → Buf (Elt Ideal) ℓ) : Prop :=
  True

def Pre_SsmDtDx (m : (ℓ : Loc Cert.SsmDtDx.nD Cert.SsmDtDx.τ Cert.SsmDtDx.sig) → Buf (Elt Bits) ℓ) : Prop :=
  True

def Pre_SsmDtDxIdeal (m : (ℓ : Loc Cert.SsmDtDxIdeal.nD Cert.SsmDtDxIdeal.τ Cert.SsmDtDxIdeal.sig) → Buf (Elt Ideal) ℓ) : Prop :=
  True

def Pre_SsmDtDxRefIdeal (m : (ℓ : Loc Cert.SsmDtDxRefIdeal.nD Cert.SsmDtDxRefIdeal.τ Cert.SsmDtDxRefIdeal.sig) → Buf (Elt Ideal) ℓ) : Prop :=
  True

def Pre_SsmDtDw (m : (ℓ : Loc Cert.SsmDtDw.nD Cert.SsmDtDw.τ Cert.SsmDtDw.sig) → Buf (Elt Bits) ℓ) : Prop :=
  True

def Pre_SsmDtDwIdeal (m : (ℓ : Loc Cert.SsmDtDwIdeal.nD Cert.SsmDtDwIdeal.τ Cert.SsmDtDwIdeal.sig) → Buf (Elt Ideal) ℓ) : Prop :=
  True

def Pre_SsmDtDwRefIdeal (m : (ℓ : Loc Cert.SsmDtDwRefIdeal.nD Cert.SsmDtDwRefIdeal.τ Cert.SsmDtDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_SsmDx [hSsmDx : Cert.SsmDx.Facts] : Prop :=
  ∀ (m : (ℓ : Loc Cert.SsmDx.nD Cert.SsmDx.τ Cert.SsmDx.sig) → Buf (Elt Bits) ℓ) (g : Dev Cert.SsmDx.nD → PrngReg), Pre_SsmDx m →
    θ_run (Cert.SsmDx.defs (F := Bits)) (onTc (τ := Cert.SsmDx.τ) (Cert.SsmDx.main (F := Bits))) ⟨m, fun _ => 0, g⟩ (fun r => (∀ c : Dev Cert.SsmDx.nD,
      r.2.mem ((c.tc : Thread Cert.SsmDx.nD Cert.SsmDx.τ).loc Cert.SsmDx.main_arg0) = m ((c.tc : Thread Cert.SsmDx.nD Cert.SsmDx.τ).loc Cert.SsmDx.main_arg0)
      ∧ r.2.mem ((c.tc : Thread Cert.SsmDx.nD Cert.SsmDx.τ).loc Cert.SsmDx.main_arg1) = m ((c.tc : Thread Cert.SsmDx.nD Cert.SsmDx.τ).loc Cert.SsmDx.main_arg1))
      ∧ r.2.sem = fun _ => 0)

def quiescent_SsmDxIdeal [hSsmDxIdeal : Cert.SsmDxIdeal.Facts] : Prop :=
  ∀ (m : (ℓ : Loc Cert.SsmDxIdeal.nD Cert.SsmDxIdeal.τ Cert.SsmDxIdeal.sig) → Buf (Elt Ideal) ℓ) (g : Dev Cert.SsmDxIdeal.nD → PrngReg), Pre_SsmDxIdeal m →
    θ_run (Cert.SsmDxIdeal.defs (F := Ideal)) (onTc (τ := Cert.SsmDxIdeal.τ) (Cert.SsmDxIdeal.main (F := Ideal))) ⟨m, fun _ => 0, g⟩ (fun r => (∀ c : Dev Cert.SsmDxIdeal.nD,
      r.2.mem ((c.tc : Thread Cert.SsmDxIdeal.nD Cert.SsmDxIdeal.τ).loc Cert.SsmDxIdeal.main_arg0) = m ((c.tc : Thread Cert.SsmDxIdeal.nD Cert.SsmDxIdeal.τ).loc Cert.SsmDxIdeal.main_arg0)
      ∧ r.2.mem ((c.tc : Thread Cert.SsmDxIdeal.nD Cert.SsmDxIdeal.τ).loc Cert.SsmDxIdeal.main_arg1) = m ((c.tc : Thread Cert.SsmDxIdeal.nD Cert.SsmDxIdeal.τ).loc Cert.SsmDxIdeal.main_arg1))
      ∧ r.2.sem = fun _ => 0)

def quiescent_SsmDxRefIdeal [hSsmDxRefIdeal : Cert.SsmDxRefIdeal.Facts] : Prop :=
  ∀ (m : (ℓ : Loc Cert.SsmDxRefIdeal.nD Cert.SsmDxRefIdeal.τ Cert.SsmDxRefIdeal.sig) → Buf (Elt Ideal) ℓ) (g : Dev Cert.SsmDxRefIdeal.nD → PrngReg), Pre_SsmDxRefIdeal m →
    θ_run (Cert.SsmDxRefIdeal.defs (F := Ideal)) (onTc (τ := Cert.SsmDxRefIdeal.τ) (Cert.SsmDxRefIdeal.main (F := Ideal))) ⟨m, fun _ => 0, g⟩ (fun r => (∀ c : Dev Cert.SsmDxRefIdeal.nD,
      r.2.mem ((c.tc : Thread Cert.SsmDxRefIdeal.nD Cert.SsmDxRefIdeal.τ).loc Cert.SsmDxRefIdeal.main_arg0) = m ((c.tc : Thread Cert.SsmDxRefIdeal.nD Cert.SsmDxRefIdeal.τ).loc Cert.SsmDxRefIdeal.main_arg0)
      ∧ r.2.mem ((c.tc : Thread Cert.SsmDxRefIdeal.nD Cert.SsmDxRefIdeal.τ).loc Cert.SsmDxRefIdeal.main_arg1) = m ((c.tc : Thread Cert.SsmDxRefIdeal.nD Cert.SsmDxRefIdeal.τ).loc Cert.SsmDxRefIdeal.main_arg1))
      ∧ r.2.sem = fun _ => 0)

def quiescent_SsmDw [hSsmDw : Cert.SsmDw.Facts] : Prop :=
  ∀ (m : (ℓ : Loc Cert.SsmDw.nD Cert.SsmDw.τ Cert.SsmDw.sig) → Buf (Elt Bits) ℓ) (g : Dev Cert.SsmDw.nD → PrngReg), Pre_SsmDw m →
    θ_run (Cert.SsmDw.defs (F := Bits)) (onTc (τ := Cert.SsmDw.τ) (Cert.SsmDw.main (F := Bits))) ⟨m, fun _ => 0, g⟩ (fun r => (∀ c : Dev Cert.SsmDw.nD,
      r.2.mem ((c.tc : Thread Cert.SsmDw.nD Cert.SsmDw.τ).loc Cert.SsmDw.main_arg0) = m ((c.tc : Thread Cert.SsmDw.nD Cert.SsmDw.τ).loc Cert.SsmDw.main_arg0)
      ∧ r.2.mem ((c.tc : Thread Cert.SsmDw.nD Cert.SsmDw.τ).loc Cert.SsmDw.main_arg1) = m ((c.tc : Thread Cert.SsmDw.nD Cert.SsmDw.τ).loc Cert.SsmDw.main_arg1))
      ∧ r.2.sem = fun _ => 0)

def quiescent_SsmDwIdeal [hSsmDwIdeal : Cert.SsmDwIdeal.Facts] : Prop :=
  ∀ (m : (ℓ : Loc Cert.SsmDwIdeal.nD Cert.SsmDwIdeal.τ Cert.SsmDwIdeal.sig) → Buf (Elt Ideal) ℓ) (g : Dev Cert.SsmDwIdeal.nD → PrngReg), Pre_SsmDwIdeal m →
    θ_run (Cert.SsmDwIdeal.defs (F := Ideal)) (onTc (τ := Cert.SsmDwIdeal.τ) (Cert.SsmDwIdeal.main (F := Ideal))) ⟨m, fun _ => 0, g⟩ (fun r => (∀ c : Dev Cert.SsmDwIdeal.nD,
      r.2.mem ((c.tc : Thread Cert.SsmDwIdeal.nD Cert.SsmDwIdeal.τ).loc Cert.SsmDwIdeal.main_arg0) = m ((c.tc : Thread Cert.SsmDwIdeal.nD Cert.SsmDwIdeal.τ).loc Cert.SsmDwIdeal.main_arg0)
      ∧ r.2.mem ((c.tc : Thread Cert.SsmDwIdeal.nD Cert.SsmDwIdeal.τ).loc Cert.SsmDwIdeal.main_arg1) = m ((c.tc : Thread Cert.SsmDwIdeal.nD Cert.SsmDwIdeal.τ).loc Cert.SsmDwIdeal.main_arg1))
      ∧ r.2.sem = fun _ => 0)

def quiescent_SsmDwRefIdeal [hSsmDwRefIdeal : Cert.SsmDwRefIdeal.Facts] : Prop :=
  ∀ (m : (ℓ : Loc Cert.SsmDwRefIdeal.nD Cert.SsmDwRefIdeal.τ Cert.SsmDwRefIdeal.sig) → Buf (Elt Ideal) ℓ) (g : Dev Cert.SsmDwRefIdeal.nD → PrngReg), Pre_SsmDwRefIdeal m →
    θ_run (Cert.SsmDwRefIdeal.defs (F := Ideal)) (onTc (τ := Cert.SsmDwRefIdeal.τ) (Cert.SsmDwRefIdeal.main (F := Ideal))) ⟨m, fun _ => 0, g⟩ (fun r => (∀ c : Dev Cert.SsmDwRefIdeal.nD,
      r.2.mem ((c.tc : Thread Cert.SsmDwRefIdeal.nD Cert.SsmDwRefIdeal.τ).loc Cert.SsmDwRefIdeal.main_arg0) = m ((c.tc : Thread Cert.SsmDwRefIdeal.nD Cert.SsmDwRefIdeal.τ).loc Cert.SsmDwRefIdeal.main_arg0)
      ∧ r.2.mem ((c.tc : Thread Cert.SsmDwRefIdeal.nD Cert.SsmDwRefIdeal.τ).loc Cert.SsmDwRefIdeal.main_arg1) = m ((c.tc : Thread Cert.SsmDwRefIdeal.nD Cert.SsmDwRefIdeal.τ).loc Cert.SsmDwRefIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1)
      ∧ r.2.mem ((c.tc : Thread Cert.SsmIn.nD Cert.SsmIn.τ).loc Cert.SsmIn.main_arg2) = m ((c.tc : Thread Cert.SsmIn.nD Cert.SsmIn.τ).loc Cert.SsmIn.main_arg2)
      ∧ r.2.mem ((c.tc : Thread Cert.SsmIn.nD Cert.SsmIn.τ).loc Cert.SsmIn.main_arg3) = m ((c.tc : Thread Cert.SsmIn.nD Cert.SsmIn.τ).loc Cert.SsmIn.main_arg3))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
      ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2)
      ∧ r.2.mem ((c.tc : Thread Cert.SsmInIdeal.nD Cert.SsmInIdeal.τ).loc Cert.SsmInIdeal.main_arg3) = m ((c.tc : Thread Cert.SsmInIdeal.nD Cert.SsmInIdeal.τ).loc Cert.SsmInIdeal.main_arg3))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1)
      ∧ r.2.mem ((c.tc : Thread Cert.SsmInRefIdeal.nD Cert.SsmInRefIdeal.τ).loc Cert.SsmInRefIdeal.main_arg2) = m ((c.tc : Thread Cert.SsmInRefIdeal.nD Cert.SsmInRefIdeal.τ).loc Cert.SsmInRefIdeal.main_arg2)
      ∧ r.2.mem ((c.tc : Thread Cert.SsmInRefIdeal.nD Cert.SsmInRefIdeal.τ).loc Cert.SsmInRefIdeal.main_arg3) = m ((c.tc : Thread Cert.SsmInRefIdeal.nD Cert.SsmInRefIdeal.τ).loc Cert.SsmInRefIdeal.main_arg3))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2)
      ∧ r.2.mem ((c.tc : Thread Cert.SsmOut.nD Cert.SsmOut.τ).loc Cert.SsmOut.main_arg3) = m ((c.tc : Thread Cert.SsmOut.nD Cert.SsmOut.τ).loc Cert.SsmOut.main_arg3))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2)
      ∧ r.2.mem ((c.tc : Thread Cert.SsmOutRefIdeal.nD Cert.SsmOutRefIdeal.τ).loc Cert.SsmOutRefIdeal.main_arg3) = m ((c.tc : Thread Cert.SsmOutRefIdeal.nD Cert.SsmOutRefIdeal.τ).loc Cert.SsmOutRefIdeal.main_arg3))
      ∧ r.2.sem = fun _ => 0)

def quiescent_SsmOutDx [hSsmOutDx : Cert.SsmOutDx.Facts] : Prop :=
  ∀ (m : (ℓ : Loc Cert.SsmOutDx.nD Cert.SsmOutDx.τ Cert.SsmOutDx.sig) → Buf (Elt Bits) ℓ) (g : Dev Cert.SsmOutDx.nD → PrngReg), Pre_SsmOutDx m →
    θ_run (Cert.SsmOutDx.defs (F := Bits)) (onTc (τ := Cert.SsmOutDx.τ) (Cert.SsmOutDx.main (F := Bits))) ⟨m, fun _ => 0, g⟩ (fun r => (∀ c : Dev Cert.SsmOutDx.nD,
      r.2.mem ((c.tc : Thread Cert.SsmOutDx.nD Cert.SsmOutDx.τ).loc Cert.SsmOutDx.main_arg0) = m ((c.tc : Thread Cert.SsmOutDx.nD Cert.SsmOutDx.τ).loc Cert.SsmOutDx.main_arg0)
      ∧ r.2.mem ((c.tc : Thread Cert.SsmOutDx.nD Cert.SsmOutDx.τ).loc Cert.SsmOutDx.main_arg1) = m ((c.tc : Thread Cert.SsmOutDx.nD Cert.SsmOutDx.τ).loc Cert.SsmOutDx.main_arg1))
      ∧ r.2.sem = fun _ => 0)

def quiescent_SsmOutDxIdeal [hSsmOutDxIdeal : Cert.SsmOutDxIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg), Pre_SsmOutDxIdeal m →
    θ_run (Cert.SsmOutDxIdeal.defs (F := Ideal)) (onTc (τ := Cert.SsmOutDxIdeal.τ) (Cert.SsmOutDxIdeal.main (F := Ideal))) ⟨m, fun _ => 0, g⟩ (fun r => (∀ c : Dev Cert.SsmOutDxIdeal.nD,
      r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
      ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ r.2.sem = fun _ => 0)

def quiescent_SsmOutDxRefIdeal [hSsmOutDxRefIdeal : Cert.SsmOutDxRefIdeal.Facts] : Prop :=
  ∀ (m : (ℓ : Loc Cert.SsmOutDxRefIdeal.nD Cert.SsmOutDxRefIdeal.τ Cert.SsmOutDxRefIdeal.sig) → Buf (Elt Ideal) ℓ) (g : Dev Cert.SsmOutDxRefIdeal.nD → PrngReg), Pre_SsmOutDxRefIdeal m →
    θ_run (Cert.SsmOutDxRefIdeal.defs (F := Ideal)) (onTc (τ := Cert.SsmOutDxRefIdeal.τ) (Cert.SsmOutDxRefIdeal.main (F := Ideal))) ⟨m, fun _ => 0, g⟩ (fun r => (∀ c : Dev Cert.SsmOutDxRefIdeal.nD,
      r.2.mem ((c.tc : Thread Cert.SsmOutDxRefIdeal.nD Cert.SsmOutDxRefIdeal.τ).loc Cert.SsmOutDxRefIdeal.main_arg0) = m ((c.tc : Thread Cert.SsmOutDxRefIdeal.nD Cert.SsmOutDxRefIdeal.τ).loc Cert.SsmOutDxRefIdeal.main_arg0)
      ∧ r.2.mem ((c.tc : Thread Cert.SsmOutDxRefIdeal.nD Cert.SsmOutDxRefIdeal.τ).loc Cert.SsmOutDxRefIdeal.main_arg1) = m ((c.tc : Thread Cert.SsmOutDxRefIdeal.nD Cert.SsmOutDxRefIdeal.τ).loc Cert.SsmOutDxRefIdeal.main_arg1))
      ∧ r.2.sem = fun _ => 0)

def quiescent_SsmOutDw [hSsmOutDw : Cert.SsmOutDw.Facts] : Prop :=
  ∀ (m : (ℓ : Loc Cert.SsmOutDw.nD Cert.SsmOutDw.τ Cert.SsmOutDw.sig) → Buf (Elt Bits) ℓ) (g : Dev Cert.SsmOutDw.nD → PrngReg), Pre_SsmOutDw m →
    θ_run (Cert.SsmOutDw.defs (F := Bits)) (onTc (τ := Cert.SsmOutDw.τ) (Cert.SsmOutDw.main (F := Bits))) ⟨m, fun _ => 0, g⟩ (fun r => (∀ c : Dev Cert.SsmOutDw.nD,
      r.2.mem ((c.tc : Thread Cert.SsmOutDw.nD Cert.SsmOutDw.τ).loc Cert.SsmOutDw.main_arg0) = m ((c.tc : Thread Cert.SsmOutDw.nD Cert.SsmOutDw.τ).loc Cert.SsmOutDw.main_arg0)
      ∧ r.2.mem ((c.tc : Thread Cert.SsmOutDw.nD Cert.SsmOutDw.τ).loc Cert.SsmOutDw.main_arg1) = m ((c.tc : Thread Cert.SsmOutDw.nD Cert.SsmOutDw.τ).loc Cert.SsmOutDw.main_arg1))
      ∧ r.2.sem = fun _ => 0)

def quiescent_SsmOutDwIdeal [hSsmOutDwIdeal : Cert.SsmOutDwIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg), Pre_SsmOutDwIdeal m →
    θ_run (Cert.SsmOutDwIdeal.defs (F := Ideal)) (onTc (τ := Cert.SsmOutDwIdeal.τ) (Cert.SsmOutDwIdeal.main (F := Ideal))) ⟨m, fun _ => 0, g⟩ (fun r => (∀ c : Dev Cert.SsmOutDwIdeal.nD,
      r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
      ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ r.2.sem = fun _ => 0)

def quiescent_SsmOutDwRefIdeal [hSsmOutDwRefIdeal : Cert.SsmOutDwRefIdeal.Facts] : Prop :=
  ∀ (m : (ℓ : Loc Cert.SsmOutDwRefIdeal.nD Cert.SsmOutDwRefIdeal.τ Cert.SsmOutDwRefIdeal.sig) → Buf (Elt Ideal) ℓ) (g : Dev Cert.SsmOutDwRefIdeal.nD → PrngReg), Pre_SsmOutDwRefIdeal m →
    θ_run (Cert.SsmOutDwRefIdeal.defs (F := Ideal)) (onTc (τ := Cert.SsmOutDwRefIdeal.τ) (Cert.SsmOutDwRefIdeal.main (F := Ideal))) ⟨m, fun _ => 0, g⟩ (fun r => (∀ c : Dev Cert.SsmOutDwRefIdeal.nD,
      r.2.mem ((c.tc : Thread Cert.SsmOutDwRefIdeal.nD Cert.SsmOutDwRefIdeal.τ).loc Cert.SsmOutDwRefIdeal.main_arg0) = m ((c.tc : Thread Cert.SsmOutDwRefIdeal.nD Cert.SsmOutDwRefIdeal.τ).loc Cert.SsmOutDwRefIdeal.main_arg0)
      ∧ r.2.mem ((c.tc : Thread Cert.SsmOutDwRefIdeal.nD Cert.SsmOutDwRefIdeal.τ).loc Cert.SsmOutDwRefIdeal.main_arg1) = m ((c.tc : Thread Cert.SsmOutDwRefIdeal.nD Cert.SsmOutDwRefIdeal.τ).loc Cert.SsmOutDwRefIdeal.main_arg1))
      ∧ r.2.sem = fun _ => 0)

def quiescent_SsmZ [hSsmZ : Cert.SsmZ.Facts] : Prop :=
  ∀ (m : (ℓ : Loc Cert.SsmZ.nD Cert.SsmZ.τ Cert.SsmZ.sig) → Buf (Elt Bits) ℓ) (g : Dev Cert.SsmZ.nD → PrngReg), Pre_SsmZ m →
    θ_run (Cert.SsmZ.defs (F := Bits)) (onTc (τ := Cert.SsmZ.τ) (Cert.SsmZ.main (F := Bits))) ⟨m, fun _ => 0, g⟩ (fun r => (∀ c : Dev Cert.SsmZ.nD,
      r.2.mem ((c.tc : Thread Cert.SsmZ.nD Cert.SsmZ.τ).loc Cert.SsmZ.main_arg0) = m ((c.tc : Thread Cert.SsmZ.nD Cert.SsmZ.τ).loc Cert.SsmZ.main_arg0)
      ∧ r.2.mem ((c.tc : Thread Cert.SsmZ.nD Cert.SsmZ.τ).loc Cert.SsmZ.main_arg1) = m ((c.tc : Thread Cert.SsmZ.nD Cert.SsmZ.τ).loc Cert.SsmZ.main_arg1))
      ∧ r.2.sem = fun _ => 0)

def quiescent_SsmZIdeal [hSsmZIdeal : Cert.SsmZIdeal.Facts] : Prop :=
  ∀ (m : (ℓ : Loc Cert.SsmZIdeal.nD Cert.SsmZIdeal.τ Cert.SsmZIdeal.sig) → Buf (Elt Ideal) ℓ) (g : Dev Cert.SsmZIdeal.nD → PrngReg), Pre_SsmZIdeal m →
    θ_run (Cert.SsmZIdeal.defs (F := Ideal)) (onTc (τ := Cert.SsmZIdeal.τ) (Cert.SsmZIdeal.main (F := Ideal))) ⟨m, fun _ => 0, g⟩ (fun r => (∀ c : Dev Cert.SsmZIdeal.nD,
      r.2.mem ((c.tc : Thread Cert.SsmZIdeal.nD Cert.SsmZIdeal.τ).loc Cert.SsmZIdeal.main_arg0) = m ((c.tc : Thread Cert.SsmZIdeal.nD Cert.SsmZIdeal.τ).loc Cert.SsmZIdeal.main_arg0)
      ∧ r.2.mem ((c.tc : Thread Cert.SsmZIdeal.nD Cert.SsmZIdeal.τ).loc Cert.SsmZIdeal.main_arg1) = m ((c.tc : Thread Cert.SsmZIdeal.nD Cert.SsmZIdeal.τ).loc Cert.SsmZIdeal.main_arg1))
      ∧ r.2.sem = fun _ => 0)

def quiescent_SsmZRefIdeal [hSsmZRefIdeal : Cert.SsmZRefIdeal.Facts] : Prop :=
  ∀ (m : (ℓ : Loc Cert.SsmZRefIdeal.nD Cert.SsmZRefIdeal.τ Cert.SsmZRefIdeal.sig) → Buf (Elt Ideal) ℓ) (g : Dev Cert.SsmZRefIdeal.nD → PrngReg), Pre_SsmZRefIdeal m →
    θ_run (Cert.SsmZRefIdeal.defs (F := Ideal)) (onTc (τ := Cert.SsmZRefIdeal.τ) (Cert.SsmZRefIdeal.main (F := Ideal))) ⟨m, fun _ => 0, g⟩ (fun r => (∀ c : Dev Cert.SsmZRefIdeal.nD,
      r.2.mem ((c.tc : Thread Cert.SsmZRefIdeal.nD Cert.SsmZRefIdeal.τ).loc Cert.SsmZRefIdeal.main_arg0) = m ((c.tc : Thread Cert.SsmZRefIdeal.nD Cert.SsmZRefIdeal.τ).loc Cert.SsmZRefIdeal.main_arg0)
      ∧ r.2.mem ((c.tc : Thread Cert.SsmZRefIdeal.nD Cert.SsmZRefIdeal.τ).loc Cert.SsmZRefIdeal.main_arg1) = m ((c.tc : Thread Cert.SsmZRefIdeal.nD Cert.SsmZRefIdeal.τ).loc Cert.SsmZRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixInDx [hMixInDx : Cert.MixInDx.Facts] : Prop :=
  ∀ (m : (ℓ : Loc Cert.MixInDx.nD Cert.MixInDx.τ Cert.MixInDx.sig) → Buf (Elt Bits) ℓ) (g : Dev Cert.MixInDx.nD → PrngReg), Pre_MixInDx m →
    θ_run (Cert.MixInDx.defs (F := Bits)) (onTc (τ := Cert.MixInDx.τ) (Cert.MixInDx.main (F := Bits))) ⟨m, fun _ => 0, g⟩ (fun r => (∀ c : Dev Cert.MixInDx.nD,
      r.2.mem ((c.tc : Thread Cert.MixInDx.nD Cert.MixInDx.τ).loc Cert.MixInDx.main_arg0) = m ((c.tc : Thread Cert.MixInDx.nD Cert.MixInDx.τ).loc Cert.MixInDx.main_arg0)
      ∧ r.2.mem ((c.tc : Thread Cert.MixInDx.nD Cert.MixInDx.τ).loc Cert.MixInDx.main_arg1) = m ((c.tc : Thread Cert.MixInDx.nD Cert.MixInDx.τ).loc Cert.MixInDx.main_arg1)
      ∧ r.2.mem ((c.tc : Thread Cert.MixInDx.nD Cert.MixInDx.τ).loc Cert.MixInDx.main_arg2) = m ((c.tc : Thread Cert.MixInDx.nD Cert.MixInDx.τ).loc Cert.MixInDx.main_arg2)
      ∧ r.2.mem ((c.tc : Thread Cert.MixInDx.nD Cert.MixInDx.τ).loc Cert.MixInDx.main_arg3) = m ((c.tc : Thread Cert.MixInDx.nD Cert.MixInDx.τ).loc Cert.MixInDx.main_arg3)
      ∧ r.2.mem ((c.tc : Thread Cert.MixInDx.nD Cert.MixInDx.τ).loc Cert.MixInDx.main_arg4) = m ((c.tc : Thread Cert.MixInDx.nD Cert.MixInDx.τ).loc Cert.MixInDx.main_arg4))
      ∧ r.2.sem = fun _ => 0)

def quiescent_MixInDxIdeal [hMixInDxIdeal : Cert.MixInDxIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
      ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2)
      ∧ r.2.mem ((c.tc : Thread Cert.MixInDxIdeal.nD Cert.MixInDxIdeal.τ).loc Cert.MixInDxIdeal.main_arg3) = m ((c.tc : Thread Cert.MixInDxIdeal.nD Cert.MixInDxIdeal.τ).loc Cert.MixInDxIdeal.main_arg3)
      ∧ r.2.mem ((c.tc : Thread Cert.MixInDxIdeal.nD Cert.MixInDxIdeal.τ).loc Cert.MixInDxIdeal.main_arg4) = m ((c.tc : Thread Cert.MixInDxIdeal.nD Cert.MixInDxIdeal.τ).loc Cert.MixInDxIdeal.main_arg4))
      ∧ r.2.sem = fun _ => 0)

def quiescent_MixInDxRefIdeal [hMixInDxRefIdeal : Cert.MixInDxRefIdeal.Facts] : Prop :=
  ∀ (m : (ℓ : Loc Cert.MixInDxRefIdeal.nD Cert.MixInDxRefIdeal.τ Cert.MixInDxRefIdeal.sig) → Buf (Elt Ideal) ℓ) (g : Dev Cert.MixInDxRefIdeal.nD → PrngReg), Pre_MixInDxRefIdeal m →
    θ_run (Cert.MixInDxRefIdeal.defs (F := Ideal)) (onTc (τ := Cert.MixInDxRefIdeal.τ) (Cert.MixInDxRefIdeal.main (F := Ideal))) ⟨m, fun _ => 0, g⟩ (fun r => (∀ c : Dev Cert.MixInDxRefIdeal.nD,
      r.2.mem ((c.tc : Thread Cert.MixInDxRefIdeal.nD Cert.MixInDxRefIdeal.τ).loc Cert.MixInDxRefIdeal.main_arg0) = m ((c.tc : Thread Cert.MixInDxRefIdeal.nD Cert.MixInDxRefIdeal.τ).loc Cert.MixInDxRefIdeal.main_arg0)
      ∧ r.2.mem ((c.tc : Thread Cert.MixInDxRefIdeal.nD Cert.MixInDxRefIdeal.τ).loc Cert.MixInDxRefIdeal.main_arg1) = m ((c.tc : Thread Cert.MixInDxRefIdeal.nD Cert.MixInDxRefIdeal.τ).loc Cert.MixInDxRefIdeal.main_arg1)
      ∧ r.2.mem ((c.tc : Thread Cert.MixInDxRefIdeal.nD Cert.MixInDxRefIdeal.τ).loc Cert.MixInDxRefIdeal.main_arg2) = m ((c.tc : Thread Cert.MixInDxRefIdeal.nD Cert.MixInDxRefIdeal.τ).loc Cert.MixInDxRefIdeal.main_arg2)
      ∧ r.2.mem ((c.tc : Thread Cert.MixInDxRefIdeal.nD Cert.MixInDxRefIdeal.τ).loc Cert.MixInDxRefIdeal.main_arg3) = m ((c.tc : Thread Cert.MixInDxRefIdeal.nD Cert.MixInDxRefIdeal.τ).loc Cert.MixInDxRefIdeal.main_arg3)
      ∧ r.2.mem ((c.tc : Thread Cert.MixInDxRefIdeal.nD Cert.MixInDxRefIdeal.τ).loc Cert.MixInDxRefIdeal.main_arg4) = m ((c.tc : Thread Cert.MixInDxRefIdeal.nD Cert.MixInDxRefIdeal.τ).loc Cert.MixInDxRefIdeal.main_arg4))
      ∧ r.2.sem = fun _ => 0)

def quiescent_MixInDw [hMixInDw : Cert.MixInDw.Facts] : Prop :=
  ∀ (m : (ℓ : Loc Cert.MixInDw.nD Cert.MixInDw.τ Cert.MixInDw.sig) → Buf (Elt Bits) ℓ) (g : Dev Cert.MixInDw.nD → PrngReg), Pre_MixInDw m →
    θ_run (Cert.MixInDw.defs (F := Bits)) (onTc (τ := Cert.MixInDw.τ) (Cert.MixInDw.main (F := Bits))) ⟨m, fun _ => 0, g⟩ (fun r => (∀ c : Dev Cert.MixInDw.nD,
      r.2.mem ((c.tc : Thread Cert.MixInDw.nD Cert.MixInDw.τ).loc Cert.MixInDw.main_arg0) = m ((c.tc : Thread Cert.MixInDw.nD Cert.MixInDw.τ).loc Cert.MixInDw.main_arg0)
      ∧ r.2.mem ((c.tc : Thread Cert.MixInDw.nD Cert.MixInDw.τ).loc Cert.MixInDw.main_arg1) = m ((c.tc : Thread Cert.MixInDw.nD Cert.MixInDw.τ).loc Cert.MixInDw.main_arg1))
      ∧ r.2.sem = fun _ => 0)

def quiescent_MixInDwIdeal [hMixInDwIdeal : Cert.MixInDwIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg), Pre_MixInDwIdeal m →
    θ_run (Cert.MixInDwIdeal.defs (F := Ideal)) (onTc (τ := Cert.MixInDwIdeal.τ) (Cert.MixInDwIdeal.main (F := Ideal))) ⟨m, fun _ => 0, g⟩ (fun r => (∀ c : Dev Cert.MixInDwIdeal.nD,
      r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
      ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ r.2.sem = fun _ => 0)

def quiescent_MixInDwRefIdeal [hMixInDwRefIdeal : Cert.MixInDwRefIdeal.Facts] : Prop :=
  ∀ (m : (ℓ : Loc Cert.MixInDwRefIdeal.nD Cert.MixInDwRefIdeal.τ Cert.MixInDwRefIdeal.sig) → Buf (Elt Ideal) ℓ) (g : Dev Cert.MixInDwRefIdeal.nD → PrngReg), Pre_MixInDwRefIdeal m →
    θ_run (Cert.MixInDwRefIdeal.defs (F := Ideal)) (onTc (τ := Cert.MixInDwRefIdeal.τ) (Cert.MixInDwRefIdeal.main (F := Ideal))) ⟨m, fun _ => 0, g⟩ (fun r => (∀ c : Dev Cert.MixInDwRefIdeal.nD,
      r.2.mem ((c.tc : Thread Cert.MixInDwRefIdeal.nD Cert.MixInDwRefIdeal.τ).loc Cert.MixInDwRefIdeal.main_arg0) = m ((c.tc : Thread Cert.MixInDwRefIdeal.nD Cert.MixInDwRefIdeal.τ).loc Cert.MixInDwRefIdeal.main_arg0)
      ∧ r.2.mem ((c.tc : Thread Cert.MixInDwRefIdeal.nD Cert.MixInDwRefIdeal.τ).loc Cert.MixInDwRefIdeal.main_arg1) = m ((c.tc : Thread Cert.MixInDwRefIdeal.nD Cert.MixInDwRefIdeal.τ).loc Cert.MixInDwRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ r.2.sem = fun _ => 0)

def quiescent_PoolIdeal_pre_finite_proj [hPoolIdeal : Cert.PoolIdeal.Facts] [hPre_finite_proj : Cert.Pre_finite_proj.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_proj m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8))
      ∧ r.2.sem = fun _ => 0)

def quiescent_PoolRefIdeal_pre_finite_proj [hPoolRefIdeal : Cert.PoolRefIdeal.Facts] [hPre_finite_proj : Cert.Pre_finite_proj.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_proj m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8))
      ∧ r.2.sem = fun _ => 0)

def quiescent_SsmDt [hSsmDt : Cert.SsmDt.Facts] : Prop :=
  ∀ (m : (ℓ : Loc Cert.SsmDt.nD Cert.SsmDt.τ Cert.SsmDt.sig) → Buf (Elt Bits) ℓ) (g : Dev Cert.SsmDt.nD → PrngReg), Pre_SsmDt m →
    θ_run (Cert.SsmDt.defs (F := Bits)) (onTc (τ := Cert.SsmDt.τ) (Cert.SsmDt.main (F := Bits))) ⟨m, fun _ => 0, g⟩ (fun r => (∀ c : Dev Cert.SsmDt.nD,
      r.2.mem ((c.tc : Thread Cert.SsmDt.nD Cert.SsmDt.τ).loc Cert.SsmDt.main_arg0) = m ((c.tc : Thread Cert.SsmDt.nD Cert.SsmDt.τ).loc Cert.SsmDt.main_arg0)
      ∧ r.2.mem ((c.tc : Thread Cert.SsmDt.nD Cert.SsmDt.τ).loc Cert.SsmDt.main_arg1) = m ((c.tc : Thread Cert.SsmDt.nD Cert.SsmDt.τ).loc Cert.SsmDt.main_arg1))
      ∧ r.2.sem = fun _ => 0)

def quiescent_SsmDtIdeal [hSsmDtIdeal : Cert.SsmDtIdeal.Facts] : Prop :=
  ∀ (m : (ℓ : Loc Cert.SsmDtIdeal.nD Cert.SsmDtIdeal.τ Cert.SsmDtIdeal.sig) → Buf (Elt Ideal) ℓ) (g : Dev Cert.SsmDtIdeal.nD → PrngReg), Pre_SsmDtIdeal m →
    θ_run (Cert.SsmDtIdeal.defs (F := Ideal)) (onTc (τ := Cert.SsmDtIdeal.τ) (Cert.SsmDtIdeal.main (F := Ideal))) ⟨m, fun _ => 0, g⟩ (fun r => (∀ c : Dev Cert.SsmDtIdeal.nD,
      r.2.mem ((c.tc : Thread Cert.SsmDtIdeal.nD Cert.SsmDtIdeal.τ).loc Cert.SsmDtIdeal.main_arg0) = m ((c.tc : Thread Cert.SsmDtIdeal.nD Cert.SsmDtIdeal.τ).loc Cert.SsmDtIdeal.main_arg0)
      ∧ r.2.mem ((c.tc : Thread Cert.SsmDtIdeal.nD Cert.SsmDtIdeal.τ).loc Cert.SsmDtIdeal.main_arg1) = m ((c.tc : Thread Cert.SsmDtIdeal.nD Cert.SsmDtIdeal.τ).loc Cert.SsmDtIdeal.main_arg1))
      ∧ r.2.sem = fun _ => 0)

def quiescent_SsmDtRefIdeal [hSsmDtRefIdeal : Cert.SsmDtRefIdeal.Facts] : Prop :=
  ∀ (m : (ℓ : Loc Cert.SsmDtRefIdeal.nD Cert.SsmDtRefIdeal.τ Cert.SsmDtRefIdeal.sig) → Buf (Elt Ideal) ℓ) (g : Dev Cert.SsmDtRefIdeal.nD → PrngReg), Pre_SsmDtRefIdeal m →
    θ_run (Cert.SsmDtRefIdeal.defs (F := Ideal)) (onTc (τ := Cert.SsmDtRefIdeal.τ) (Cert.SsmDtRefIdeal.main (F := Ideal))) ⟨m, fun _ => 0, g⟩ (fun r => (∀ c : Dev Cert.SsmDtRefIdeal.nD,
      r.2.mem ((c.tc : Thread Cert.SsmDtRefIdeal.nD Cert.SsmDtRefIdeal.τ).loc Cert.SsmDtRefIdeal.main_arg0) = m ((c.tc : Thread Cert.SsmDtRefIdeal.nD Cert.SsmDtRefIdeal.τ).loc Cert.SsmDtRefIdeal.main_arg0)
      ∧ r.2.mem ((c.tc : Thread Cert.SsmDtRefIdeal.nD Cert.SsmDtRefIdeal.τ).loc Cert.SsmDtRefIdeal.main_arg1) = m ((c.tc : Thread Cert.SsmDtRefIdeal.nD Cert.SsmDtRefIdeal.τ).loc Cert.SsmDtRefIdeal.main_arg1))
      ∧ r.2.sem = fun _ => 0)

def quiescent_SsmDtDx [hSsmDtDx : Cert.SsmDtDx.Facts] : Prop :=
  ∀ (m : (ℓ : Loc Cert.SsmDtDx.nD Cert.SsmDtDx.τ Cert.SsmDtDx.sig) → Buf (Elt Bits) ℓ) (g : Dev Cert.SsmDtDx.nD → PrngReg), Pre_SsmDtDx m →
    θ_run (Cert.SsmDtDx.defs (F := Bits)) (onTc (τ := Cert.SsmDtDx.τ) (Cert.SsmDtDx.main (F := Bits))) ⟨m, fun _ => 0, g⟩ (fun r => (∀ c : Dev Cert.SsmDtDx.nD,
      r.2.mem ((c.tc : Thread Cert.SsmDtDx.nD Cert.SsmDtDx.τ).loc Cert.SsmDtDx.main_arg0) = m ((c.tc : Thread Cert.SsmDtDx.nD Cert.SsmDtDx.τ).loc Cert.SsmDtDx.main_arg0)
      ∧ r.2.mem ((c.tc : Thread Cert.SsmDtDx.nD Cert.SsmDtDx.τ).loc Cert.SsmDtDx.main_arg1) = m ((c.tc : Thread Cert.SsmDtDx.nD Cert.SsmDtDx.τ).loc Cert.SsmDtDx.main_arg1)
      ∧ r.2.mem ((c.tc : Thread Cert.SsmDtDx.nD Cert.SsmDtDx.τ).loc Cert.SsmDtDx.main_arg2) = m ((c.tc : Thread Cert.SsmDtDx.nD Cert.SsmDtDx.τ).loc Cert.SsmDtDx.main_arg2)
      ∧ r.2.mem ((c.tc : Thread Cert.SsmDtDx.nD Cert.SsmDtDx.τ).loc Cert.SsmDtDx.main_arg3) = m ((c.tc : Thread Cert.SsmDtDx.nD Cert.SsmDtDx.τ).loc Cert.SsmDtDx.main_arg3)
      ∧ r.2.mem ((c.tc : Thread Cert.SsmDtDx.nD Cert.SsmDtDx.τ).loc Cert.SsmDtDx.main_arg4) = m ((c.tc : Thread Cert.SsmDtDx.nD Cert.SsmDtDx.τ).loc Cert.SsmDtDx.main_arg4)
      ∧ r.2.mem ((c.tc : Thread Cert.SsmDtDx.nD Cert.SsmDtDx.τ).loc Cert.SsmDtDx.main_arg5) = m ((c.tc : Thread Cert.SsmDtDx.nD Cert.SsmDtDx.τ).loc Cert.SsmDtDx.main_arg5))
      ∧ r.2.sem = fun _ => 0)

def quiescent_SsmDtDxIdeal [hSsmDtDxIdeal : Cert.SsmDtDxIdeal.Facts] : Prop :=
  ∀ (m : (ℓ : Loc Cert.SsmDtDxIdeal.nD Cert.SsmDtDxIdeal.τ Cert.SsmDtDxIdeal.sig) → Buf (Elt Ideal) ℓ) (g : Dev Cert.SsmDtDxIdeal.nD → PrngReg), Pre_SsmDtDxIdeal m →
    θ_run (Cert.SsmDtDxIdeal.defs (F := Ideal)) (onTc (τ := Cert.SsmDtDxIdeal.τ) (Cert.SsmDtDxIdeal.main (F := Ideal))) ⟨m, fun _ => 0, g⟩ (fun r => (∀ c : Dev Cert.SsmDtDxIdeal.nD,
      r.2.mem ((c.tc : Thread Cert.SsmDtDxIdeal.nD Cert.SsmDtDxIdeal.τ).loc Cert.SsmDtDxIdeal.main_arg0) = m ((c.tc : Thread Cert.SsmDtDxIdeal.nD Cert.SsmDtDxIdeal.τ).loc Cert.SsmDtDxIdeal.main_arg0)
      ∧ r.2.mem ((c.tc : Thread Cert.SsmDtDxIdeal.nD Cert.SsmDtDxIdeal.τ).loc Cert.SsmDtDxIdeal.main_arg1) = m ((c.tc : Thread Cert.SsmDtDxIdeal.nD Cert.SsmDtDxIdeal.τ).loc Cert.SsmDtDxIdeal.main_arg1)
      ∧ r.2.mem ((c.tc : Thread Cert.SsmDtDxIdeal.nD Cert.SsmDtDxIdeal.τ).loc Cert.SsmDtDxIdeal.main_arg2) = m ((c.tc : Thread Cert.SsmDtDxIdeal.nD Cert.SsmDtDxIdeal.τ).loc Cert.SsmDtDxIdeal.main_arg2)
      ∧ r.2.mem ((c.tc : Thread Cert.SsmDtDxIdeal.nD Cert.SsmDtDxIdeal.τ).loc Cert.SsmDtDxIdeal.main_arg3) = m ((c.tc : Thread Cert.SsmDtDxIdeal.nD Cert.SsmDtDxIdeal.τ).loc Cert.SsmDtDxIdeal.main_arg3)
      ∧ r.2.mem ((c.tc : Thread Cert.SsmDtDxIdeal.nD Cert.SsmDtDxIdeal.τ).loc Cert.SsmDtDxIdeal.main_arg4) = m ((c.tc : Thread Cert.SsmDtDxIdeal.nD Cert.SsmDtDxIdeal.τ).loc Cert.SsmDtDxIdeal.main_arg4)
      ∧ r.2.mem ((c.tc : Thread Cert.SsmDtDxIdeal.nD Cert.SsmDtDxIdeal.τ).loc Cert.SsmDtDxIdeal.main_arg5) = m ((c.tc : Thread Cert.SsmDtDxIdeal.nD Cert.SsmDtDxIdeal.τ).loc Cert.SsmDtDxIdeal.main_arg5))
      ∧ r.2.sem = fun _ => 0)

def quiescent_SsmDtDxRefIdeal [hSsmDtDxRefIdeal : Cert.SsmDtDxRefIdeal.Facts] : Prop :=
  ∀ (m : (ℓ : Loc Cert.SsmDtDxRefIdeal.nD Cert.SsmDtDxRefIdeal.τ Cert.SsmDtDxRefIdeal.sig) → Buf (Elt Ideal) ℓ) (g : Dev Cert.SsmDtDxRefIdeal.nD → PrngReg), Pre_SsmDtDxRefIdeal m →
    θ_run (Cert.SsmDtDxRefIdeal.defs (F := Ideal)) (onTc (τ := Cert.SsmDtDxRefIdeal.τ) (Cert.SsmDtDxRefIdeal.main (F := Ideal))) ⟨m, fun _ => 0, g⟩ (fun r => (∀ c : Dev Cert.SsmDtDxRefIdeal.nD,
      r.2.mem ((c.tc : Thread Cert.SsmDtDxRefIdeal.nD Cert.SsmDtDxRefIdeal.τ).loc Cert.SsmDtDxRefIdeal.main_arg0) = m ((c.tc : Thread Cert.SsmDtDxRefIdeal.nD Cert.SsmDtDxRefIdeal.τ).loc Cert.SsmDtDxRefIdeal.main_arg0)
      ∧ r.2.mem ((c.tc : Thread Cert.SsmDtDxRefIdeal.nD Cert.SsmDtDxRefIdeal.τ).loc Cert.SsmDtDxRefIdeal.main_arg1) = m ((c.tc : Thread Cert.SsmDtDxRefIdeal.nD Cert.SsmDtDxRefIdeal.τ).loc Cert.SsmDtDxRefIdeal.main_arg1)
      ∧ r.2.mem ((c.tc : Thread Cert.SsmDtDxRefIdeal.nD Cert.SsmDtDxRefIdeal.τ).loc Cert.SsmDtDxRefIdeal.main_arg2) = m ((c.tc : Thread Cert.SsmDtDxRefIdeal.nD Cert.SsmDtDxRefIdeal.τ).loc Cert.SsmDtDxRefIdeal.main_arg2)
      ∧ r.2.mem ((c.tc : Thread Cert.SsmDtDxRefIdeal.nD Cert.SsmDtDxRefIdeal.τ).loc Cert.SsmDtDxRefIdeal.main_arg3) = m ((c.tc : Thread Cert.SsmDtDxRefIdeal.nD Cert.SsmDtDxRefIdeal.τ).loc Cert.SsmDtDxRefIdeal.main_arg3)
      ∧ r.2.mem ((c.tc : Thread Cert.SsmDtDxRefIdeal.nD Cert.SsmDtDxRefIdeal.τ).loc Cert.SsmDtDxRefIdeal.main_arg4) = m ((c.tc : Thread Cert.SsmDtDxRefIdeal.nD Cert.SsmDtDxRefIdeal.τ).loc Cert.SsmDtDxRefIdeal.main_arg4)
      ∧ r.2.mem ((c.tc : Thread Cert.SsmDtDxRefIdeal.nD Cert.SsmDtDxRefIdeal.τ).loc Cert.SsmDtDxRefIdeal.main_arg5) = m ((c.tc : Thread Cert.SsmDtDxRefIdeal.nD Cert.SsmDtDxRefIdeal.τ).loc Cert.SsmDtDxRefIdeal.main_arg5))
      ∧ r.2.sem = fun _ => 0)

def quiescent_SsmDtDw [hSsmDtDw : Cert.SsmDtDw.Facts] : Prop :=
  ∀ (m : (ℓ : Loc Cert.SsmDtDw.nD Cert.SsmDtDw.τ Cert.SsmDtDw.sig) → Buf (Elt Bits) ℓ) (g : Dev Cert.SsmDtDw.nD → PrngReg), Pre_SsmDtDw m →
    θ_run (Cert.SsmDtDw.defs (F := Bits)) (onTc (τ := Cert.SsmDtDw.τ) (Cert.SsmDtDw.main (F := Bits))) ⟨m, fun _ => 0, g⟩ (fun r => (∀ c : Dev Cert.SsmDtDw.nD,
      r.2.mem ((c.tc : Thread Cert.SsmDtDw.nD Cert.SsmDtDw.τ).loc Cert.SsmDtDw.main_arg0) = m ((c.tc : Thread Cert.SsmDtDw.nD Cert.SsmDtDw.τ).loc Cert.SsmDtDw.main_arg0)
      ∧ r.2.mem ((c.tc : Thread Cert.SsmDtDw.nD Cert.SsmDtDw.τ).loc Cert.SsmDtDw.main_arg1) = m ((c.tc : Thread Cert.SsmDtDw.nD Cert.SsmDtDw.τ).loc Cert.SsmDtDw.main_arg1))
      ∧ r.2.sem = fun _ => 0)

def quiescent_SsmDtDwIdeal [hSsmDtDwIdeal : Cert.SsmDtDwIdeal.Facts] : Prop :=
  ∀ (m : (ℓ : Loc Cert.SsmDtDwIdeal.nD Cert.SsmDtDwIdeal.τ Cert.SsmDtDwIdeal.sig) → Buf (Elt Ideal) ℓ) (g : Dev Cert.SsmDtDwIdeal.nD → PrngReg), Pre_SsmDtDwIdeal m →
    θ_run (Cert.SsmDtDwIdeal.defs (F := Ideal)) (onTc (τ := Cert.SsmDtDwIdeal.τ) (Cert.SsmDtDwIdeal.main (F := Ideal))) ⟨m, fun _ => 0, g⟩ (fun r => (∀ c : Dev Cert.SsmDtDwIdeal.nD,
      r.2.mem ((c.tc : Thread Cert.SsmDtDwIdeal.nD Cert.SsmDtDwIdeal.τ).loc Cert.SsmDtDwIdeal.main_arg0) = m ((c.tc : Thread Cert.SsmDtDwIdeal.nD Cert.SsmDtDwIdeal.τ).loc Cert.SsmDtDwIdeal.main_arg0)
      ∧ r.2.mem ((c.tc : Thread Cert.SsmDtDwIdeal.nD Cert.SsmDtDwIdeal.τ).loc Cert.SsmDtDwIdeal.main_arg1) = m ((c.tc : Thread Cert.SsmDtDwIdeal.nD Cert.SsmDtDwIdeal.τ).loc Cert.SsmDtDwIdeal.main_arg1))
      ∧ r.2.sem = fun _ => 0)

def quiescent_SsmDtDwRefIdeal [hSsmDtDwRefIdeal : Cert.SsmDtDwRefIdeal.Facts] : Prop :=
  ∀ (m : (ℓ : Loc Cert.SsmDtDwRefIdeal.nD Cert.SsmDtDwRefIdeal.τ Cert.SsmDtDwRefIdeal.sig) → Buf (Elt Ideal) ℓ) (g : Dev Cert.SsmDtDwRefIdeal.nD → PrngReg), Pre_SsmDtDwRefIdeal m →
    θ_run (Cert.SsmDtDwRefIdeal.defs (F := Ideal)) (onTc (τ := Cert.SsmDtDwRefIdeal.τ) (Cert.SsmDtDwRefIdeal.main (F := Ideal))) ⟨m, fun _ => 0, g⟩ (fun r => (∀ c : Dev Cert.SsmDtDwRefIdeal.nD,
      r.2.mem ((c.tc : Thread Cert.SsmDtDwRefIdeal.nD Cert.SsmDtDwRefIdeal.τ).loc Cert.SsmDtDwRefIdeal.main_arg0) = m ((c.tc : Thread Cert.SsmDtDwRefIdeal.nD Cert.SsmDtDwRefIdeal.τ).loc Cert.SsmDtDwRefIdeal.main_arg0)
      ∧ r.2.mem ((c.tc : Thread Cert.SsmDtDwRefIdeal.nD Cert.SsmDtDwRefIdeal.τ).loc Cert.SsmDtDwRefIdeal.main_arg1) = m ((c.tc : Thread Cert.SsmDtDwRefIdeal.nD Cert.SsmDtDwRefIdeal.τ).loc Cert.SsmDtDwRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v57) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v14_0)) (v1 : (c : Dev Cert.UpDxIdeal.nD) → Buf (Elt Ideal) ((c.tc : Thread Cert.UpDxIdeal.nD Cert.UpDxIdeal.τ).loc Cert.UpDxIdeal.main_v14_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v14_0) = v0 c
          ∧ r.2.mem ((c.tc : Thread Cert.UpDxIdeal.nD Cert.UpDxIdeal.τ).loc Cert.UpDxIdeal.main_v14_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v38) = v0 c
          ∧ r.2.mem ((c.tc : Thread Cert.UpDxRefIdeal.nD Cert.UpDxRefIdeal.τ).loc Cert.UpDxRefIdeal.main_v39) = v1 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v7)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v7) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v22)) (v1 : (c : Dev Cert.UpIdeal.nD) → Buf (Elt Ideal) ((c.tc : Thread Cert.UpIdeal.nD Cert.UpIdeal.τ).loc Cert.UpIdeal.main_v27)) (v2 : (c : Dev Cert.UpIdeal.nD) → Buf (Elt Ideal) ((c.tc : Thread Cert.UpIdeal.nD Cert.UpIdeal.τ).loc Cert.UpIdeal.main_v17_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v22) = v0 c
          ∧ r.2.mem ((c.tc : Thread Cert.UpIdeal.nD Cert.UpIdeal.τ).loc Cert.UpIdeal.main_v27) = v1 c
          ∧ r.2.mem ((c.tc : Thread Cert.UpIdeal.nD Cert.UpIdeal.τ).loc Cert.UpIdeal.main_v17_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v27) = v0 c
          ∧ r.2.mem ((c.tc : Thread Cert.UpRefIdeal.nD Cert.UpRefIdeal.τ).loc Cert.UpRefIdeal.main_v24) = v1 c
          ∧ r.2.mem ((c.tc : Thread Cert.UpRefIdeal.nD Cert.UpRefIdeal.τ).loc Cert.UpRefIdeal.main_v30) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_v15) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_SsmDx_SsmDxIdeal : Prop :=
  True

def algebraic_SsmDxIdeal_SsmDxRefIdeal [hSsmDxIdeal : Cert.SsmDxIdeal.Facts] [hSsmDxRefIdeal : Cert.SsmDxRefIdeal.Facts] : Prop :=
  ∀ (m : (ℓ : Loc Cert.SsmDxIdeal.nD Cert.SsmDxIdeal.τ Cert.SsmDxIdeal.sig) → Buf (Elt Ideal) ℓ) (g : Dev Cert.SsmDxIdeal.nD → PrngReg)
    (m' : (ℓ : Loc Cert.SsmDxRefIdeal.nD Cert.SsmDxRefIdeal.τ Cert.SsmDxRefIdeal.sig) → Buf (Elt Ideal) ℓ) (g' : Dev Cert.SsmDxRefIdeal.nD → PrngReg), Pre_SsmDxIdeal m →
    (∀ c : Dev Cert.SsmDxIdeal.nD,
      m' ((c.tc : Thread Cert.SsmDxRefIdeal.nD Cert.SsmDxRefIdeal.τ).loc Cert.SsmDxRefIdeal.main_arg0) = m ((c.tc : Thread Cert.SsmDxIdeal.nD Cert.SsmDxIdeal.τ).loc Cert.SsmDxIdeal.main_arg0)
      ∧ m' ((c.tc : Thread Cert.SsmDxRefIdeal.nD Cert.SsmDxRefIdeal.τ).loc Cert.SsmDxRefIdeal.main_arg1) = m ((c.tc : Thread Cert.SsmDxIdeal.nD Cert.SsmDxIdeal.τ).loc Cert.SsmDxIdeal.main_arg1)) →
    ∃ (v0 : (c : Dev Cert.SsmDxIdeal.nD) → Buf (Elt Ideal) ((c.tc : Thread Cert.SsmDxIdeal.nD Cert.SsmDxIdeal.τ).loc Cert.SsmDxIdeal.main_v3)),
      θ_run (Cert.SsmDxIdeal.defs (F := Ideal)) (onTc (τ := Cert.SsmDxIdeal.τ) (Cert.SsmDxIdeal.main (F := Ideal))) ⟨m, fun _ => 0, g⟩ (fun r => ∀ c : Dev Cert.SsmDxIdeal.nD,
          r.2.mem ((c.tc : Thread Cert.SsmDxIdeal.nD Cert.SsmDxIdeal.τ).loc Cert.SsmDxIdeal.main_v3) = v0 c
          ∧ r.2.mem ((c.tc : Thread Cert.SsmDxIdeal.nD Cert.SsmDxIdeal.τ).loc Cert.SsmDxIdeal.main_arg0) = m ((c.tc : Thread Cert.SsmDxIdeal.nD Cert.SsmDxIdeal.τ).loc Cert.SsmDxIdeal.main_arg0)
          ∧ r.2.mem ((c.tc : Thread Cert.SsmDxIdeal.nD Cert.SsmDxIdeal.τ).loc Cert.SsmDxIdeal.main_arg1) = m ((c.tc : Thread Cert.SsmDxIdeal.nD Cert.SsmDxIdeal.τ).loc Cert.SsmDxIdeal.main_arg1))
      ∧ θ_run (Cert.SsmDxRefIdeal.defs (F := Ideal)) (onTc (τ := Cert.SsmDxRefIdeal.τ) (Cert.SsmDxRefIdeal.main (F := Ideal))) ⟨m', fun _ => 0, g'⟩ (fun r => ∀ c : Dev Cert.SsmDxRefIdeal.nD,
          r.2.mem ((c.tc : Thread Cert.SsmDxRefIdeal.nD Cert.SsmDxRefIdeal.τ).loc Cert.SsmDxRefIdeal.main_v4) = v0 c
          ∧ r.2.mem ((c.tc : Thread Cert.SsmDxRefIdeal.nD Cert.SsmDxRefIdeal.τ).loc Cert.SsmDxRefIdeal.main_arg0) = m' ((c.tc : Thread Cert.SsmDxRefIdeal.nD Cert.SsmDxRefIdeal.τ).loc Cert.SsmDxRefIdeal.main_arg0)
          ∧ r.2.mem ((c.tc : Thread Cert.SsmDxRefIdeal.nD Cert.SsmDxRefIdeal.τ).loc Cert.SsmDxRefIdeal.main_arg1) = m' ((c.tc : Thread Cert.SsmDxRefIdeal.nD Cert.SsmDxRefIdeal.τ).loc Cert.SsmDxRefIdeal.main_arg1))

def preserves_SsmDw_SsmDwIdeal : Prop :=
  True

def algebraic_SsmDwIdeal_SsmDwRefIdeal [hSsmDwIdeal : Cert.SsmDwIdeal.Facts] [hSsmDwRefIdeal : Cert.SsmDwRefIdeal.Facts] : Prop :=
  ∀ (m : (ℓ : Loc Cert.SsmDwIdeal.nD Cert.SsmDwIdeal.τ Cert.SsmDwIdeal.sig) → Buf (Elt Ideal) ℓ) (g : Dev Cert.SsmDwIdeal.nD → PrngReg)
    (m' : (ℓ : Loc Cert.SsmDwRefIdeal.nD Cert.SsmDwRefIdeal.τ Cert.SsmDwRefIdeal.sig) → Buf (Elt Ideal) ℓ) (g' : Dev Cert.SsmDwRefIdeal.nD → PrngReg), Pre_SsmDwIdeal m →
    (∀ c : Dev Cert.SsmDwIdeal.nD,
      m' ((c.tc : Thread Cert.SsmDwRefIdeal.nD Cert.SsmDwRefIdeal.τ).loc Cert.SsmDwRefIdeal.main_arg0) = m ((c.tc : Thread Cert.SsmDwIdeal.nD Cert.SsmDwIdeal.τ).loc Cert.SsmDwIdeal.main_arg0)
      ∧ m' ((c.tc : Thread Cert.SsmDwRefIdeal.nD Cert.SsmDwRefIdeal.τ).loc Cert.SsmDwRefIdeal.main_arg1) = m ((c.tc : Thread Cert.SsmDwIdeal.nD Cert.SsmDwIdeal.τ).loc Cert.SsmDwIdeal.main_arg1)) →
    ∃ (v0 : (c : Dev Cert.SsmDwIdeal.nD) → Buf (Elt Ideal) ((c.tc : Thread Cert.SsmDwIdeal.nD Cert.SsmDwIdeal.τ).loc Cert.SsmDwIdeal.main_v3)),
      θ_run (Cert.SsmDwIdeal.defs (F := Ideal)) (onTc (τ := Cert.SsmDwIdeal.τ) (Cert.SsmDwIdeal.main (F := Ideal))) ⟨m, fun _ => 0, g⟩ (fun r => ∀ c : Dev Cert.SsmDwIdeal.nD,
          r.2.mem ((c.tc : Thread Cert.SsmDwIdeal.nD Cert.SsmDwIdeal.τ).loc Cert.SsmDwIdeal.main_v3) = v0 c
          ∧ r.2.mem ((c.tc : Thread Cert.SsmDwIdeal.nD Cert.SsmDwIdeal.τ).loc Cert.SsmDwIdeal.main_arg0) = m ((c.tc : Thread Cert.SsmDwIdeal.nD Cert.SsmDwIdeal.τ).loc Cert.SsmDwIdeal.main_arg0)
          ∧ r.2.mem ((c.tc : Thread Cert.SsmDwIdeal.nD Cert.SsmDwIdeal.τ).loc Cert.SsmDwIdeal.main_arg1) = m ((c.tc : Thread Cert.SsmDwIdeal.nD Cert.SsmDwIdeal.τ).loc Cert.SsmDwIdeal.main_arg1))
      ∧ θ_run (Cert.SsmDwRefIdeal.defs (F := Ideal)) (onTc (τ := Cert.SsmDwRefIdeal.τ) (Cert.SsmDwRefIdeal.main (F := Ideal))) ⟨m', fun _ => 0, g'⟩ (fun r => ∀ c : Dev Cert.SsmDwRefIdeal.nD,
          r.2.mem ((c.tc : Thread Cert.SsmDwRefIdeal.nD Cert.SsmDwRefIdeal.τ).loc Cert.SsmDwRefIdeal.main_v5) = v0 c
          ∧ r.2.mem ((c.tc : Thread Cert.SsmDwRefIdeal.nD Cert.SsmDwRefIdeal.τ).loc Cert.SsmDwRefIdeal.main_arg0) = m' ((c.tc : Thread Cert.SsmDwRefIdeal.nD Cert.SsmDwRefIdeal.τ).loc Cert.SsmDwRefIdeal.main_arg0)
          ∧ r.2.mem ((c.tc : Thread Cert.SsmDwRefIdeal.nD Cert.SsmDwRefIdeal.τ).loc Cert.SsmDwRefIdeal.main_arg1) = m' ((c.tc : Thread Cert.SsmDwRefIdeal.nD Cert.SsmDwRefIdeal.τ).loc Cert.SsmDwRefIdeal.main_arg1))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)
      ∧ m' ((c.tc : Thread Cert.SsmInRefIdeal.nD Cert.SsmInRefIdeal.τ).loc Cert.SsmInRefIdeal.main_arg2) = m ((c.tc : Thread Cert.SsmInIdeal.nD Cert.SsmInIdeal.τ).loc Cert.SsmInIdeal.main_arg2)
      ∧ m' ((c.tc : Thread Cert.SsmInRefIdeal.nD Cert.SsmInRefIdeal.τ).loc Cert.SsmInRefIdeal.main_arg3) = m ((c.tc : Thread Cert.SsmInIdeal.nD Cert.SsmInIdeal.τ).loc Cert.SsmInIdeal.main_arg3)) →
    ∃ (v0 : (c : Dev Cert.SsmInIdeal.nD) → Buf (Elt Ideal) ((c.tc : Thread Cert.SsmInIdeal.nD Cert.SsmInIdeal.τ).loc Cert.SsmInIdeal.main_v3_0)) (v1 : (c : Dev Cert.SsmInIdeal.nD) → Buf (Elt Ideal) ((c.tc : Thread Cert.SsmInIdeal.nD Cert.SsmInIdeal.τ).loc Cert.SsmInIdeal.main_v3_1)) (v2 : (c : Dev Cert.SsmInIdeal.nD) → Buf (Elt Ideal) ((c.tc : Thread Cert.SsmInIdeal.nD Cert.SsmInIdeal.τ).loc Cert.SsmInIdeal.main_v3_2)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v3_0) = v0 c
          ∧ r.2.mem ((c.tc : Thread Cert.SsmInIdeal.nD Cert.SsmInIdeal.τ).loc Cert.SsmInIdeal.main_v3_1) = v1 c
          ∧ r.2.mem ((c.tc : Thread Cert.SsmInIdeal.nD Cert.SsmInIdeal.τ).loc Cert.SsmInIdeal.main_v3_2) = v2 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
          ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2)
          ∧ r.2.mem ((c.tc : Thread Cert.SsmInIdeal.nD Cert.SsmInIdeal.τ).loc Cert.SsmInIdeal.main_arg3) = m ((c.tc : Thread Cert.SsmInIdeal.nD Cert.SsmInIdeal.τ).loc Cert.SsmInIdeal.main_arg3))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v2) = v0 c
          ∧ r.2.mem ((c.tc : Thread Cert.SsmInRefIdeal.nD Cert.SsmInRefIdeal.τ).loc Cert.SsmInRefIdeal.main_v34) = v1 c
          ∧ r.2.mem ((c.tc : Thread Cert.SsmInRefIdeal.nD Cert.SsmInRefIdeal.τ).loc Cert.SsmInRefIdeal.main_v35) = v2 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1)
          ∧ r.2.mem ((c.tc : Thread Cert.SsmInRefIdeal.nD Cert.SsmInRefIdeal.τ).loc Cert.SsmInRefIdeal.main_arg2) = m' ((c.tc : Thread Cert.SsmInRefIdeal.nD Cert.SsmInRefIdeal.τ).loc Cert.SsmInRefIdeal.main_arg2)
          ∧ r.2.mem ((c.tc : Thread Cert.SsmInRefIdeal.nD Cert.SsmInRefIdeal.τ).loc Cert.SsmInRefIdeal.main_arg3) = m' ((c.tc : Thread Cert.SsmInRefIdeal.nD Cert.SsmInRefIdeal.τ).loc Cert.SsmInRefIdeal.main_arg3))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v3_0)) (v1 : (c : Dev Cert.HeadIdeal.nD) → Buf (Elt Ideal) ((c.tc : Thread Cert.HeadIdeal.nD Cert.HeadIdeal.τ).loc Cert.HeadIdeal.main_v3_1)) (v2 : (c : Dev Cert.HeadIdeal.nD) → Buf (Elt Ideal) ((c.tc : Thread Cert.HeadIdeal.nD Cert.HeadIdeal.τ).loc Cert.HeadIdeal.main_v4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3_0) = v0 c
          ∧ r.2.mem ((c.tc : Thread Cert.HeadIdeal.nD Cert.HeadIdeal.τ).loc Cert.HeadIdeal.main_v3_1) = v1 c
          ∧ r.2.mem ((c.tc : Thread Cert.HeadIdeal.nD Cert.HeadIdeal.τ).loc Cert.HeadIdeal.main_v4) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v52) = v0 c
          ∧ r.2.mem ((c.tc : Thread Cert.HeadRefIdeal.nD Cert.HeadRefIdeal.τ).loc Cert.HeadRefIdeal.main_v53) = v1 c
          ∧ r.2.mem ((c.tc : Thread Cert.HeadRefIdeal.nD Cert.HeadRefIdeal.τ).loc Cert.HeadRefIdeal.main_v54) = v2 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)
      ∧ m' ((c.tc : Thread Cert.SsmOutRefIdeal.nD Cert.SsmOutRefIdeal.τ).loc Cert.SsmOutRefIdeal.main_arg3) = m ((c.tc : Thread Cert.SsmOutIdeal.nD Cert.SsmOutIdeal.τ).loc Cert.SsmOutIdeal.main_arg3)) →
    ∃ (v0 : (c : Dev Cert.SsmOutIdeal.nD) → Buf (Elt Ideal) ((c.tc : Thread Cert.SsmOutIdeal.nD Cert.SsmOutIdeal.τ).loc Cert.SsmOutIdeal.main_v3_0)) (v1 : (c : Dev Cert.SsmOutIdeal.nD) → Buf (Elt Ideal) ((c.tc : Thread Cert.SsmOutIdeal.nD Cert.SsmOutIdeal.τ).loc Cert.SsmOutIdeal.main_v3_1)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v3_0) = v0 c
          ∧ r.2.mem ((c.tc : Thread Cert.SsmOutIdeal.nD Cert.SsmOutIdeal.τ).loc Cert.SsmOutIdeal.main_v3_1) = v1 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
          ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v1) = v0 c
          ∧ r.2.mem ((c.tc : Thread Cert.SsmOutRefIdeal.nD Cert.SsmOutRefIdeal.τ).loc Cert.SsmOutRefIdeal.main_v15) = v1 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2)
          ∧ r.2.mem ((c.tc : Thread Cert.SsmOutRefIdeal.nD Cert.SsmOutRefIdeal.τ).loc Cert.SsmOutRefIdeal.main_arg3) = m' ((c.tc : Thread Cert.SsmOutRefIdeal.nD Cert.SsmOutRefIdeal.τ).loc Cert.SsmOutRefIdeal.main_arg3))

def preserves_SsmOutDx_SsmOutDxIdeal : Prop :=
  True

def algebraic_SsmOutDxIdeal_SsmOutDxRefIdeal [hSsmOutDxIdeal : Cert.SsmOutDxIdeal.Facts] [hSsmOutDxRefIdeal : Cert.SsmOutDxRefIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg)
    (m' : (ℓ : Loc Cert.SsmOutDxRefIdeal.nD Cert.SsmOutDxRefIdeal.τ Cert.SsmOutDxRefIdeal.sig) → Buf (Elt Ideal) ℓ) (g' : Dev Cert.SsmOutDxRefIdeal.nD → PrngReg), Pre_SsmOutDxIdeal m →
    (∀ c : Dev Cert.SsmOutDxIdeal.nD,
      m' ((c.tc : Thread Cert.SsmOutDxRefIdeal.nD Cert.SsmOutDxRefIdeal.τ).loc Cert.SsmOutDxRefIdeal.main_arg0) = m ((c.tc : Thread Cert.SsmOutDxIdeal.nD Cert.SsmOutDxIdeal.τ).loc Cert.SsmOutDxIdeal.main_arg0)
      ∧ m' ((c.tc : Thread Cert.SsmOutDxRefIdeal.nD Cert.SsmOutDxRefIdeal.τ).loc Cert.SsmOutDxRefIdeal.main_arg1) = m ((c.tc : Thread Cert.SsmOutDxIdeal.nD Cert.SsmOutDxIdeal.τ).loc Cert.SsmOutDxIdeal.main_arg1)) →
    ∃ (v0 : (c : Dev Cert.SsmOutDxIdeal.nD) → Buf (Elt Ideal) ((c.tc : Thread Cert.SsmOutDxIdeal.nD Cert.SsmOutDxIdeal.τ).loc Cert.SsmOutDxIdeal.main_v1)),
      θ_run (Cert.SsmOutDxIdeal.defs (F := Ideal)) (onTc (τ := Cert.SsmOutDxIdeal.τ) (Cert.SsmOutDxIdeal.main (F := Ideal))) ⟨m, fun _ => 0, g⟩ (fun r => ∀ c : Dev Cert.SsmOutDxIdeal.nD,
          r.2.mem ((c.tc : Thread Cert.SsmOutDxIdeal.nD Cert.SsmOutDxIdeal.τ).loc Cert.SsmOutDxIdeal.main_v1) = v0 c
          ∧ r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
          ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ θ_run (Cert.SsmOutDxRefIdeal.defs (F := Ideal)) (onTc (τ := Cert.SsmOutDxRefIdeal.τ) (Cert.SsmOutDxRefIdeal.main (F := Ideal))) ⟨m', fun _ => 0, g'⟩ (fun r => ∀ c : Dev Cert.SsmOutDxRefIdeal.nD,
          r.2.mem ((c.tc : Thread Cert.SsmOutDxRefIdeal.nD Cert.SsmOutDxRefIdeal.τ).loc Cert.SsmOutDxRefIdeal.main_v2) = v0 c
          ∧ r.2.mem ((c.tc : Thread Cert.SsmOutDxRefIdeal.nD Cert.SsmOutDxRefIdeal.τ).loc Cert.SsmOutDxRefIdeal.main_arg0) = m' ((c.tc : Thread Cert.SsmOutDxRefIdeal.nD Cert.SsmOutDxRefIdeal.τ).loc Cert.SsmOutDxRefIdeal.main_arg0)
          ∧ r.2.mem ((c.tc : Thread Cert.SsmOutDxRefIdeal.nD Cert.SsmOutDxRefIdeal.τ).loc Cert.SsmOutDxRefIdeal.main_arg1) = m' ((c.tc : Thread Cert.SsmOutDxRefIdeal.nD Cert.SsmOutDxRefIdeal.τ).loc Cert.SsmOutDxRefIdeal.main_arg1))

def preserves_SsmOutDw_SsmOutDwIdeal : Prop :=
  True

def algebraic_SsmOutDwIdeal_SsmOutDwRefIdeal [hSsmOutDwIdeal : Cert.SsmOutDwIdeal.Facts] [hSsmOutDwRefIdeal : Cert.SsmOutDwRefIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg)
    (m' : (ℓ : Loc Cert.SsmOutDwRefIdeal.nD Cert.SsmOutDwRefIdeal.τ Cert.SsmOutDwRefIdeal.sig) → Buf (Elt Ideal) ℓ) (g' : Dev Cert.SsmOutDwRefIdeal.nD → PrngReg), Pre_SsmOutDwIdeal m →
    (∀ c : Dev Cert.SsmOutDwIdeal.nD,
      m' ((c.tc : Thread Cert.SsmOutDwRefIdeal.nD Cert.SsmOutDwRefIdeal.τ).loc Cert.SsmOutDwRefIdeal.main_arg0) = m ((c.tc : Thread Cert.SsmOutDwIdeal.nD Cert.SsmOutDwIdeal.τ).loc Cert.SsmOutDwIdeal.main_arg0)
      ∧ m' ((c.tc : Thread Cert.SsmOutDwRefIdeal.nD Cert.SsmOutDwRefIdeal.τ).loc Cert.SsmOutDwRefIdeal.main_arg1) = m ((c.tc : Thread Cert.SsmOutDwIdeal.nD Cert.SsmOutDwIdeal.τ).loc Cert.SsmOutDwIdeal.main_arg1)) →
    ∃ (v0 : (c : Dev Cert.SsmOutDwIdeal.nD) → Buf (Elt Ideal) ((c.tc : Thread Cert.SsmOutDwIdeal.nD Cert.SsmOutDwIdeal.τ).loc Cert.SsmOutDwIdeal.main_v1)),
      θ_run (Cert.SsmOutDwIdeal.defs (F := Ideal)) (onTc (τ := Cert.SsmOutDwIdeal.τ) (Cert.SsmOutDwIdeal.main (F := Ideal))) ⟨m, fun _ => 0, g⟩ (fun r => ∀ c : Dev Cert.SsmOutDwIdeal.nD,
          r.2.mem ((c.tc : Thread Cert.SsmOutDwIdeal.nD Cert.SsmOutDwIdeal.τ).loc Cert.SsmOutDwIdeal.main_v1) = v0 c
          ∧ r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
          ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ θ_run (Cert.SsmOutDwRefIdeal.defs (F := Ideal)) (onTc (τ := Cert.SsmOutDwRefIdeal.τ) (Cert.SsmOutDwRefIdeal.main (F := Ideal))) ⟨m', fun _ => 0, g'⟩ (fun r => ∀ c : Dev Cert.SsmOutDwRefIdeal.nD,
          r.2.mem ((c.tc : Thread Cert.SsmOutDwRefIdeal.nD Cert.SsmOutDwRefIdeal.τ).loc Cert.SsmOutDwRefIdeal.main_v4) = v0 c
          ∧ r.2.mem ((c.tc : Thread Cert.SsmOutDwRefIdeal.nD Cert.SsmOutDwRefIdeal.τ).loc Cert.SsmOutDwRefIdeal.main_arg0) = m' ((c.tc : Thread Cert.SsmOutDwRefIdeal.nD Cert.SsmOutDwRefIdeal.τ).loc Cert.SsmOutDwRefIdeal.main_arg0)
          ∧ r.2.mem ((c.tc : Thread Cert.SsmOutDwRefIdeal.nD Cert.SsmOutDwRefIdeal.τ).loc Cert.SsmOutDwRefIdeal.main_arg1) = m' ((c.tc : Thread Cert.SsmOutDwRefIdeal.nD Cert.SsmOutDwRefIdeal.τ).loc Cert.SsmOutDwRefIdeal.main_arg1))

def preserves_SsmZ_SsmZIdeal : Prop :=
  True

def algebraic_SsmZIdeal_SsmZRefIdeal [hSsmZIdeal : Cert.SsmZIdeal.Facts] [hSsmZRefIdeal : Cert.SsmZRefIdeal.Facts] : Prop :=
  ∀ (m : (ℓ : Loc Cert.SsmZIdeal.nD Cert.SsmZIdeal.τ Cert.SsmZIdeal.sig) → Buf (Elt Ideal) ℓ) (g : Dev Cert.SsmZIdeal.nD → PrngReg)
    (m' : (ℓ : Loc Cert.SsmZRefIdeal.nD Cert.SsmZRefIdeal.τ Cert.SsmZRefIdeal.sig) → Buf (Elt Ideal) ℓ) (g' : Dev Cert.SsmZRefIdeal.nD → PrngReg), Pre_SsmZIdeal m →
    (∀ c : Dev Cert.SsmZIdeal.nD,
      m' ((c.tc : Thread Cert.SsmZRefIdeal.nD Cert.SsmZRefIdeal.τ).loc Cert.SsmZRefIdeal.main_arg0) = m ((c.tc : Thread Cert.SsmZIdeal.nD Cert.SsmZIdeal.τ).loc Cert.SsmZIdeal.main_arg0)
      ∧ m' ((c.tc : Thread Cert.SsmZRefIdeal.nD Cert.SsmZRefIdeal.τ).loc Cert.SsmZRefIdeal.main_arg1) = m ((c.tc : Thread Cert.SsmZIdeal.nD Cert.SsmZIdeal.τ).loc Cert.SsmZIdeal.main_arg1)) →
    ∃ (v0 : (c : Dev Cert.SsmZIdeal.nD) → Buf (Elt Ideal) ((c.tc : Thread Cert.SsmZIdeal.nD Cert.SsmZIdeal.τ).loc Cert.SsmZIdeal.main_v3)),
      θ_run (Cert.SsmZIdeal.defs (F := Ideal)) (onTc (τ := Cert.SsmZIdeal.τ) (Cert.SsmZIdeal.main (F := Ideal))) ⟨m, fun _ => 0, g⟩ (fun r => ∀ c : Dev Cert.SsmZIdeal.nD,
          r.2.mem ((c.tc : Thread Cert.SsmZIdeal.nD Cert.SsmZIdeal.τ).loc Cert.SsmZIdeal.main_v3) = v0 c
          ∧ r.2.mem ((c.tc : Thread Cert.SsmZIdeal.nD Cert.SsmZIdeal.τ).loc Cert.SsmZIdeal.main_arg0) = m ((c.tc : Thread Cert.SsmZIdeal.nD Cert.SsmZIdeal.τ).loc Cert.SsmZIdeal.main_arg0)
          ∧ r.2.mem ((c.tc : Thread Cert.SsmZIdeal.nD Cert.SsmZIdeal.τ).loc Cert.SsmZIdeal.main_arg1) = m ((c.tc : Thread Cert.SsmZIdeal.nD Cert.SsmZIdeal.τ).loc Cert.SsmZIdeal.main_arg1))
      ∧ θ_run (Cert.SsmZRefIdeal.defs (F := Ideal)) (onTc (τ := Cert.SsmZRefIdeal.τ) (Cert.SsmZRefIdeal.main (F := Ideal))) ⟨m', fun _ => 0, g'⟩ (fun r => ∀ c : Dev Cert.SsmZRefIdeal.nD,
          r.2.mem ((c.tc : Thread Cert.SsmZRefIdeal.nD Cert.SsmZRefIdeal.τ).loc Cert.SsmZRefIdeal.main_v1) = v0 c
          ∧ r.2.mem ((c.tc : Thread Cert.SsmZRefIdeal.nD Cert.SsmZRefIdeal.τ).loc Cert.SsmZRefIdeal.main_arg0) = m' ((c.tc : Thread Cert.SsmZRefIdeal.nD Cert.SsmZRefIdeal.τ).loc Cert.SsmZRefIdeal.main_arg0)
          ∧ r.2.mem ((c.tc : Thread Cert.SsmZRefIdeal.nD Cert.SsmZRefIdeal.τ).loc Cert.SsmZRefIdeal.main_arg1) = m' ((c.tc : Thread Cert.SsmZRefIdeal.nD Cert.SsmZRefIdeal.τ).loc Cert.SsmZRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_v15) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v1)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v1) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v2) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v1)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v1) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v4) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v3) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v0) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixInDx_MixInDxIdeal : Prop :=
  True

def algebraic_MixInDxIdeal_MixInDxRefIdeal [hMixInDxIdeal : Cert.MixInDxIdeal.Facts] [hMixInDxRefIdeal : Cert.MixInDxRefIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg)
    (m' : (ℓ : Loc Cert.MixInDxRefIdeal.nD Cert.MixInDxRefIdeal.τ Cert.MixInDxRefIdeal.sig) → Buf (Elt Ideal) ℓ) (g' : Dev Cert.MixInDxRefIdeal.nD → PrngReg), Pre_MixInDxIdeal m →
    (∀ c : Dev Cert.MixInDxIdeal.nD,
      m' ((c.tc : Thread Cert.MixInDxRefIdeal.nD Cert.MixInDxRefIdeal.τ).loc Cert.MixInDxRefIdeal.main_arg0) = m ((c.tc : Thread Cert.MixInDxIdeal.nD Cert.MixInDxIdeal.τ).loc Cert.MixInDxIdeal.main_arg0)
      ∧ m' ((c.tc : Thread Cert.MixInDxRefIdeal.nD Cert.MixInDxRefIdeal.τ).loc Cert.MixInDxRefIdeal.main_arg1) = m ((c.tc : Thread Cert.MixInDxIdeal.nD Cert.MixInDxIdeal.τ).loc Cert.MixInDxIdeal.main_arg1)
      ∧ m' ((c.tc : Thread Cert.MixInDxRefIdeal.nD Cert.MixInDxRefIdeal.τ).loc Cert.MixInDxRefIdeal.main_arg2) = m ((c.tc : Thread Cert.MixInDxIdeal.nD Cert.MixInDxIdeal.τ).loc Cert.MixInDxIdeal.main_arg2)
      ∧ m' ((c.tc : Thread Cert.MixInDxRefIdeal.nD Cert.MixInDxRefIdeal.τ).loc Cert.MixInDxRefIdeal.main_arg3) = m ((c.tc : Thread Cert.MixInDxIdeal.nD Cert.MixInDxIdeal.τ).loc Cert.MixInDxIdeal.main_arg3)
      ∧ m' ((c.tc : Thread Cert.MixInDxRefIdeal.nD Cert.MixInDxRefIdeal.τ).loc Cert.MixInDxRefIdeal.main_arg4) = m ((c.tc : Thread Cert.MixInDxIdeal.nD Cert.MixInDxIdeal.τ).loc Cert.MixInDxIdeal.main_arg4)) →
    ∃ (v0 : (c : Dev Cert.MixInDxIdeal.nD) → Buf (Elt Ideal) ((c.tc : Thread Cert.MixInDxIdeal.nD Cert.MixInDxIdeal.τ).loc Cert.MixInDxIdeal.main_v5_0)) (v1 : (c : Dev Cert.MixInDxIdeal.nD) → Buf (Elt Ideal) ((c.tc : Thread Cert.MixInDxIdeal.nD Cert.MixInDxIdeal.τ).loc Cert.MixInDxIdeal.main_v5_1)),
      θ_run (Cert.MixInDxIdeal.defs (F := Ideal)) (onTc (τ := Cert.MixInDxIdeal.τ) (Cert.MixInDxIdeal.main (F := Ideal))) ⟨m, fun _ => 0, g⟩ (fun r => ∀ c : Dev Cert.MixInDxIdeal.nD,
          r.2.mem ((c.tc : Thread Cert.MixInDxIdeal.nD Cert.MixInDxIdeal.τ).loc Cert.MixInDxIdeal.main_v5_0) = v0 c
          ∧ r.2.mem ((c.tc : Thread Cert.MixInDxIdeal.nD Cert.MixInDxIdeal.τ).loc Cert.MixInDxIdeal.main_v5_1) = v1 c
          ∧ r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
          ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
          ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2)
          ∧ r.2.mem ((c.tc : Thread Cert.MixInDxIdeal.nD Cert.MixInDxIdeal.τ).loc Cert.MixInDxIdeal.main_arg3) = m ((c.tc : Thread Cert.MixInDxIdeal.nD Cert.MixInDxIdeal.τ).loc Cert.MixInDxIdeal.main_arg3)
          ∧ r.2.mem ((c.tc : Thread Cert.MixInDxIdeal.nD Cert.MixInDxIdeal.τ).loc Cert.MixInDxIdeal.main_arg4) = m ((c.tc : Thread Cert.MixInDxIdeal.nD Cert.MixInDxIdeal.τ).loc Cert.MixInDxIdeal.main_arg4))
      ∧ θ_run (Cert.MixInDxRefIdeal.defs (F := Ideal)) (onTc (τ := Cert.MixInDxRefIdeal.τ) (Cert.MixInDxRefIdeal.main (F := Ideal))) ⟨m', fun _ => 0, g'⟩ (fun r => ∀ c : Dev Cert.MixInDxRefIdeal.nD,
          r.2.mem ((c.tc : Thread Cert.MixInDxRefIdeal.nD Cert.MixInDxRefIdeal.τ).loc Cert.MixInDxRefIdeal.main_v38) = v0 c
          ∧ r.2.mem ((c.tc : Thread Cert.MixInDxRefIdeal.nD Cert.MixInDxRefIdeal.τ).loc Cert.MixInDxRefIdeal.main_v39) = v1 c
          ∧ r.2.mem ((c.tc : Thread Cert.MixInDxRefIdeal.nD Cert.MixInDxRefIdeal.τ).loc Cert.MixInDxRefIdeal.main_arg0) = m' ((c.tc : Thread Cert.MixInDxRefIdeal.nD Cert.MixInDxRefIdeal.τ).loc Cert.MixInDxRefIdeal.main_arg0)
          ∧ r.2.mem ((c.tc : Thread Cert.MixInDxRefIdeal.nD Cert.MixInDxRefIdeal.τ).loc Cert.MixInDxRefIdeal.main_arg1) = m' ((c.tc : Thread Cert.MixInDxRefIdeal.nD Cert.MixInDxRefIdeal.τ).loc Cert.MixInDxRefIdeal.main_arg1)
          ∧ r.2.mem ((c.tc : Thread Cert.MixInDxRefIdeal.nD Cert.MixInDxRefIdeal.τ).loc Cert.MixInDxRefIdeal.main_arg2) = m' ((c.tc : Thread Cert.MixInDxRefIdeal.nD Cert.MixInDxRefIdeal.τ).loc Cert.MixInDxRefIdeal.main_arg2)
          ∧ r.2.mem ((c.tc : Thread Cert.MixInDxRefIdeal.nD Cert.MixInDxRefIdeal.τ).loc Cert.MixInDxRefIdeal.main_arg3) = m' ((c.tc : Thread Cert.MixInDxRefIdeal.nD Cert.MixInDxRefIdeal.τ).loc Cert.MixInDxRefIdeal.main_arg3)
          ∧ r.2.mem ((c.tc : Thread Cert.MixInDxRefIdeal.nD Cert.MixInDxRefIdeal.τ).loc Cert.MixInDxRefIdeal.main_arg4) = m' ((c.tc : Thread Cert.MixInDxRefIdeal.nD Cert.MixInDxRefIdeal.τ).loc Cert.MixInDxRefIdeal.main_arg4))

def preserves_MixInDw_MixInDwIdeal : Prop :=
  True

def algebraic_MixInDwIdeal_MixInDwRefIdeal [hMixInDwIdeal : Cert.MixInDwIdeal.Facts] [hMixInDwRefIdeal : Cert.MixInDwRefIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg)
    (m' : (ℓ : Loc Cert.MixInDwRefIdeal.nD Cert.MixInDwRefIdeal.τ Cert.MixInDwRefIdeal.sig) → Buf (Elt Ideal) ℓ) (g' : Dev Cert.MixInDwRefIdeal.nD → PrngReg), Pre_MixInDwIdeal m →
    (∀ c : Dev Cert.MixInDwIdeal.nD,
      m' ((c.tc : Thread Cert.MixInDwRefIdeal.nD Cert.MixInDwRefIdeal.τ).loc Cert.MixInDwRefIdeal.main_arg0) = m ((c.tc : Thread Cert.MixInDwIdeal.nD Cert.MixInDwIdeal.τ).loc Cert.MixInDwIdeal.main_arg0)
      ∧ m' ((c.tc : Thread Cert.MixInDwRefIdeal.nD Cert.MixInDwRefIdeal.τ).loc Cert.MixInDwRefIdeal.main_arg1) = m ((c.tc : Thread Cert.MixInDwIdeal.nD Cert.MixInDwIdeal.τ).loc Cert.MixInDwIdeal.main_arg1)) →
    ∃ (v0 : (c : Dev Cert.MixInDwIdeal.nD) → Buf (Elt Ideal) ((c.tc : Thread Cert.MixInDwIdeal.nD Cert.MixInDwIdeal.τ).loc Cert.MixInDwIdeal.main_v2)),
      θ_run (Cert.MixInDwIdeal.defs (F := Ideal)) (onTc (τ := Cert.MixInDwIdeal.τ) (Cert.MixInDwIdeal.main (F := Ideal))) ⟨m, fun _ => 0, g⟩ (fun r => ∀ c : Dev Cert.MixInDwIdeal.nD,
          r.2.mem ((c.tc : Thread Cert.MixInDwIdeal.nD Cert.MixInDwIdeal.τ).loc Cert.MixInDwIdeal.main_v2) = v0 c
          ∧ r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
          ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ θ_run (Cert.MixInDwRefIdeal.defs (F := Ideal)) (onTc (τ := Cert.MixInDwRefIdeal.τ) (Cert.MixInDwRefIdeal.main (F := Ideal))) ⟨m', fun _ => 0, g'⟩ (fun r => ∀ c : Dev Cert.MixInDwRefIdeal.nD,
          r.2.mem ((c.tc : Thread Cert.MixInDwRefIdeal.nD Cert.MixInDwRefIdeal.τ).loc Cert.MixInDwRefIdeal.main_v5) = v0 c
          ∧ r.2.mem ((c.tc : Thread Cert.MixInDwRefIdeal.nD Cert.MixInDwRefIdeal.τ).loc Cert.MixInDwRefIdeal.main_arg0) = m' ((c.tc : Thread Cert.MixInDwRefIdeal.nD Cert.MixInDwRefIdeal.τ).loc Cert.MixInDwRefIdeal.main_arg0)
          ∧ r.2.mem ((c.tc : Thread Cert.MixInDwRefIdeal.nD Cert.MixInDwRefIdeal.τ).loc Cert.MixInDwRefIdeal.main_arg1) = m' ((c.tc : Thread Cert.MixInDwRefIdeal.nD Cert.MixInDwRefIdeal.τ).loc Cert.MixInDwRefIdeal.main_arg1))

def preserves_Pool_PoolIdeal : Prop :=
  True

def algebraic_PoolIdeal_PoolRefIdeal_pre_finite_proj [hPoolIdeal : Cert.PoolIdeal.Facts] [hPoolRefIdeal : Cert.PoolRefIdeal.Facts] [hPre_finite_proj : Cert.Pre_finite_proj.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_proj m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)
      ∧ m' ((c.tc : Thread Cert.PoolRefIdeal.nD Cert.PoolRefIdeal.τ).loc Cert.PoolRefIdeal.main_arg8) = m ((c.tc : Thread Cert.PoolIdeal.nD Cert.PoolIdeal.τ).loc Cert.PoolIdeal.main_arg8)) →
    ∃ (v0 : (c : Dev Cert.PoolIdeal.nD) → Buf (Elt Ideal) ((c.tc : Thread Cert.PoolIdeal.nD Cert.PoolIdeal.τ).loc Cert.PoolIdeal.main_v0_1)) (v1 : (c : Dev Cert.PoolIdeal.nD) → Buf (Elt Ideal) ((c.tc : Thread Cert.PoolIdeal.nD Cert.PoolIdeal.τ).loc Cert.PoolIdeal.main_v0_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0_1) = v0 c
          ∧ r.2.mem ((c.tc : Thread Cert.PoolIdeal.nD Cert.PoolIdeal.τ).loc Cert.PoolIdeal.main_v0_2) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v80) = v0 c
          ∧ r.2.mem ((c.tc : Thread Cert.PoolRefIdeal.nD Cert.PoolRefIdeal.τ).loc Cert.PoolRefIdeal.main_v74) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7)
          ∧ r.2.mem ((c.tc : Thread Cert.PoolRefIdeal.nD Cert.PoolRefIdeal.τ).loc Cert.PoolRefIdeal.main_arg8) = m' ((c.tc : Thread Cert.PoolRefIdeal.nD Cert.PoolRefIdeal.τ).loc Cert.PoolRefIdeal.main_arg8))

def preserves_SsmDt_SsmDtIdeal : Prop :=
  True

def algebraic_SsmDtIdeal_SsmDtRefIdeal [hSsmDtIdeal : Cert.SsmDtIdeal.Facts] [hSsmDtRefIdeal : Cert.SsmDtRefIdeal.Facts] : Prop :=
  ∀ (m : (ℓ : Loc Cert.SsmDtIdeal.nD Cert.SsmDtIdeal.τ Cert.SsmDtIdeal.sig) → Buf (Elt Ideal) ℓ) (g : Dev Cert.SsmDtIdeal.nD → PrngReg)
    (m' : (ℓ : Loc Cert.SsmDtRefIdeal.nD Cert.SsmDtRefIdeal.τ Cert.SsmDtRefIdeal.sig) → Buf (Elt Ideal) ℓ) (g' : Dev Cert.SsmDtRefIdeal.nD → PrngReg), Pre_SsmDtIdeal m →
    (∀ c : Dev Cert.SsmDtIdeal.nD,
      m' ((c.tc : Thread Cert.SsmDtRefIdeal.nD Cert.SsmDtRefIdeal.τ).loc Cert.SsmDtRefIdeal.main_arg0) = m ((c.tc : Thread Cert.SsmDtIdeal.nD Cert.SsmDtIdeal.τ).loc Cert.SsmDtIdeal.main_arg0)
      ∧ m' ((c.tc : Thread Cert.SsmDtRefIdeal.nD Cert.SsmDtRefIdeal.τ).loc Cert.SsmDtRefIdeal.main_arg1) = m ((c.tc : Thread Cert.SsmDtIdeal.nD Cert.SsmDtIdeal.τ).loc Cert.SsmDtIdeal.main_arg1)) →
    ∃ (v0 : (c : Dev Cert.SsmDtIdeal.nD) → Buf (Elt Ideal) ((c.tc : Thread Cert.SsmDtIdeal.nD Cert.SsmDtIdeal.τ).loc Cert.SsmDtIdeal.main_v6)),
      θ_run (Cert.SsmDtIdeal.defs (F := Ideal)) (onTc (τ := Cert.SsmDtIdeal.τ) (Cert.SsmDtIdeal.main (F := Ideal))) ⟨m, fun _ => 0, g⟩ (fun r => ∀ c : Dev Cert.SsmDtIdeal.nD,
          r.2.mem ((c.tc : Thread Cert.SsmDtIdeal.nD Cert.SsmDtIdeal.τ).loc Cert.SsmDtIdeal.main_v6) = v0 c
          ∧ r.2.mem ((c.tc : Thread Cert.SsmDtIdeal.nD Cert.SsmDtIdeal.τ).loc Cert.SsmDtIdeal.main_arg0) = m ((c.tc : Thread Cert.SsmDtIdeal.nD Cert.SsmDtIdeal.τ).loc Cert.SsmDtIdeal.main_arg0)
          ∧ r.2.mem ((c.tc : Thread Cert.SsmDtIdeal.nD Cert.SsmDtIdeal.τ).loc Cert.SsmDtIdeal.main_arg1) = m ((c.tc : Thread Cert.SsmDtIdeal.nD Cert.SsmDtIdeal.τ).loc Cert.SsmDtIdeal.main_arg1))
      ∧ θ_run (Cert.SsmDtRefIdeal.defs (F := Ideal)) (onTc (τ := Cert.SsmDtRefIdeal.τ) (Cert.SsmDtRefIdeal.main (F := Ideal))) ⟨m', fun _ => 0, g'⟩ (fun r => ∀ c : Dev Cert.SsmDtRefIdeal.nD,
          r.2.mem ((c.tc : Thread Cert.SsmDtRefIdeal.nD Cert.SsmDtRefIdeal.τ).loc Cert.SsmDtRefIdeal.main_v3) = v0 c
          ∧ r.2.mem ((c.tc : Thread Cert.SsmDtRefIdeal.nD Cert.SsmDtRefIdeal.τ).loc Cert.SsmDtRefIdeal.main_arg0) = m' ((c.tc : Thread Cert.SsmDtRefIdeal.nD Cert.SsmDtRefIdeal.τ).loc Cert.SsmDtRefIdeal.main_arg0)
          ∧ r.2.mem ((c.tc : Thread Cert.SsmDtRefIdeal.nD Cert.SsmDtRefIdeal.τ).loc Cert.SsmDtRefIdeal.main_arg1) = m' ((c.tc : Thread Cert.SsmDtRefIdeal.nD Cert.SsmDtRefIdeal.τ).loc Cert.SsmDtRefIdeal.main_arg1))

def preserves_SsmDtDx_SsmDtDxIdeal : Prop :=
  True

def algebraic_SsmDtDxIdeal_SsmDtDxRefIdeal [hSsmDtDxIdeal : Cert.SsmDtDxIdeal.Facts] [hSsmDtDxRefIdeal : Cert.SsmDtDxRefIdeal.Facts] : Prop :=
  ∀ (m : (ℓ : Loc Cert.SsmDtDxIdeal.nD Cert.SsmDtDxIdeal.τ Cert.SsmDtDxIdeal.sig) → Buf (Elt Ideal) ℓ) (g : Dev Cert.SsmDtDxIdeal.nD → PrngReg)
    (m' : (ℓ : Loc Cert.SsmDtDxRefIdeal.nD Cert.SsmDtDxRefIdeal.τ Cert.SsmDtDxRefIdeal.sig) → Buf (Elt Ideal) ℓ) (g' : Dev Cert.SsmDtDxRefIdeal.nD → PrngReg), Pre_SsmDtDxIdeal m →
    (∀ c : Dev Cert.SsmDtDxIdeal.nD,
      m' ((c.tc : Thread Cert.SsmDtDxRefIdeal.nD Cert.SsmDtDxRefIdeal.τ).loc Cert.SsmDtDxRefIdeal.main_arg0) = m ((c.tc : Thread Cert.SsmDtDxIdeal.nD Cert.SsmDtDxIdeal.τ).loc Cert.SsmDtDxIdeal.main_arg0)
      ∧ m' ((c.tc : Thread Cert.SsmDtDxRefIdeal.nD Cert.SsmDtDxRefIdeal.τ).loc Cert.SsmDtDxRefIdeal.main_arg1) = m ((c.tc : Thread Cert.SsmDtDxIdeal.nD Cert.SsmDtDxIdeal.τ).loc Cert.SsmDtDxIdeal.main_arg1)
      ∧ m' ((c.tc : Thread Cert.SsmDtDxRefIdeal.nD Cert.SsmDtDxRefIdeal.τ).loc Cert.SsmDtDxRefIdeal.main_arg2) = m ((c.tc : Thread Cert.SsmDtDxIdeal.nD Cert.SsmDtDxIdeal.τ).loc Cert.SsmDtDxIdeal.main_arg2)
      ∧ m' ((c.tc : Thread Cert.SsmDtDxRefIdeal.nD Cert.SsmDtDxRefIdeal.τ).loc Cert.SsmDtDxRefIdeal.main_arg3) = m ((c.tc : Thread Cert.SsmDtDxIdeal.nD Cert.SsmDtDxIdeal.τ).loc Cert.SsmDtDxIdeal.main_arg3)
      ∧ m' ((c.tc : Thread Cert.SsmDtDxRefIdeal.nD Cert.SsmDtDxRefIdeal.τ).loc Cert.SsmDtDxRefIdeal.main_arg4) = m ((c.tc : Thread Cert.SsmDtDxIdeal.nD Cert.SsmDtDxIdeal.τ).loc Cert.SsmDtDxIdeal.main_arg4)
      ∧ m' ((c.tc : Thread Cert.SsmDtDxRefIdeal.nD Cert.SsmDtDxRefIdeal.τ).loc Cert.SsmDtDxRefIdeal.main_arg5) = m ((c.tc : Thread Cert.SsmDtDxIdeal.nD Cert.SsmDtDxIdeal.τ).loc Cert.SsmDtDxIdeal.main_arg5)) →
    ∃ (v0 : (c : Dev Cert.SsmDtDxIdeal.nD) → Buf (Elt Ideal) ((c.tc : Thread Cert.SsmDtDxIdeal.nD Cert.SsmDtDxIdeal.τ).loc Cert.SsmDtDxIdeal.main_v6_0)) (v1 : (c : Dev Cert.SsmDtDxIdeal.nD) → Buf (Elt Ideal) ((c.tc : Thread Cert.SsmDtDxIdeal.nD Cert.SsmDtDxIdeal.τ).loc Cert.SsmDtDxIdeal.main_v6_1)),
      θ_run (Cert.SsmDtDxIdeal.defs (F := Ideal)) (onTc (τ := Cert.SsmDtDxIdeal.τ) (Cert.SsmDtDxIdeal.main (F := Ideal))) ⟨m, fun _ => 0, g⟩ (fun r => ∀ c : Dev Cert.SsmDtDxIdeal.nD,
          r.2.mem ((c.tc : Thread Cert.SsmDtDxIdeal.nD Cert.SsmDtDxIdeal.τ).loc Cert.SsmDtDxIdeal.main_v6_0) = v0 c
          ∧ r.2.mem ((c.tc : Thread Cert.SsmDtDxIdeal.nD Cert.SsmDtDxIdeal.τ).loc Cert.SsmDtDxIdeal.main_v6_1) = v1 c
          ∧ r.2.mem ((c.tc : Thread Cert.SsmDtDxIdeal.nD Cert.SsmDtDxIdeal.τ).loc Cert.SsmDtDxIdeal.main_arg0) = m ((c.tc : Thread Cert.SsmDtDxIdeal.nD Cert.SsmDtDxIdeal.τ).loc Cert.SsmDtDxIdeal.main_arg0)
          ∧ r.2.mem ((c.tc : Thread Cert.SsmDtDxIdeal.nD Cert.SsmDtDxIdeal.τ).loc Cert.SsmDtDxIdeal.main_arg1) = m ((c.tc : Thread Cert.SsmDtDxIdeal.nD Cert.SsmDtDxIdeal.τ).loc Cert.SsmDtDxIdeal.main_arg1)
          ∧ r.2.mem ((c.tc : Thread Cert.SsmDtDxIdeal.nD Cert.SsmDtDxIdeal.τ).loc Cert.SsmDtDxIdeal.main_arg2) = m ((c.tc : Thread Cert.SsmDtDxIdeal.nD Cert.SsmDtDxIdeal.τ).loc Cert.SsmDtDxIdeal.main_arg2)
          ∧ r.2.mem ((c.tc : Thread Cert.SsmDtDxIdeal.nD Cert.SsmDtDxIdeal.τ).loc Cert.SsmDtDxIdeal.main_arg3) = m ((c.tc : Thread Cert.SsmDtDxIdeal.nD Cert.SsmDtDxIdeal.τ).loc Cert.SsmDtDxIdeal.main_arg3)
          ∧ r.2.mem ((c.tc : Thread Cert.SsmDtDxIdeal.nD Cert.SsmDtDxIdeal.τ).loc Cert.SsmDtDxIdeal.main_arg4) = m ((c.tc : Thread Cert.SsmDtDxIdeal.nD Cert.SsmDtDxIdeal.τ).loc Cert.SsmDtDxIdeal.main_arg4)
          ∧ r.2.mem ((c.tc : Thread Cert.SsmDtDxIdeal.nD Cert.SsmDtDxIdeal.τ).loc Cert.SsmDtDxIdeal.main_arg5) = m ((c.tc : Thread Cert.SsmDtDxIdeal.nD Cert.SsmDtDxIdeal.τ).loc Cert.SsmDtDxIdeal.main_arg5))
      ∧ θ_run (Cert.SsmDtDxRefIdeal.defs (F := Ideal)) (onTc (τ := Cert.SsmDtDxRefIdeal.τ) (Cert.SsmDtDxRefIdeal.main (F := Ideal))) ⟨m', fun _ => 0, g'⟩ (fun r => ∀ c : Dev Cert.SsmDtDxRefIdeal.nD,
          r.2.mem ((c.tc : Thread Cert.SsmDtDxRefIdeal.nD Cert.SsmDtDxRefIdeal.τ).loc Cert.SsmDtDxRefIdeal.main_v41) = v0 c
          ∧ r.2.mem ((c.tc : Thread Cert.SsmDtDxRefIdeal.nD Cert.SsmDtDxRefIdeal.τ).loc Cert.SsmDtDxRefIdeal.main_v42) = v1 c
          ∧ r.2.mem ((c.tc : Thread Cert.SsmDtDxRefIdeal.nD Cert.SsmDtDxRefIdeal.τ).loc Cert.SsmDtDxRefIdeal.main_arg0) = m' ((c.tc : Thread Cert.SsmDtDxRefIdeal.nD Cert.SsmDtDxRefIdeal.τ).loc Cert.SsmDtDxRefIdeal.main_arg0)
          ∧ r.2.mem ((c.tc : Thread Cert.SsmDtDxRefIdeal.nD Cert.SsmDtDxRefIdeal.τ).loc Cert.SsmDtDxRefIdeal.main_arg1) = m' ((c.tc : Thread Cert.SsmDtDxRefIdeal.nD Cert.SsmDtDxRefIdeal.τ).loc Cert.SsmDtDxRefIdeal.main_arg1)
          ∧ r.2.mem ((c.tc : Thread Cert.SsmDtDxRefIdeal.nD Cert.SsmDtDxRefIdeal.τ).loc Cert.SsmDtDxRefIdeal.main_arg2) = m' ((c.tc : Thread Cert.SsmDtDxRefIdeal.nD Cert.SsmDtDxRefIdeal.τ).loc Cert.SsmDtDxRefIdeal.main_arg2)
          ∧ r.2.mem ((c.tc : Thread Cert.SsmDtDxRefIdeal.nD Cert.SsmDtDxRefIdeal.τ).loc Cert.SsmDtDxRefIdeal.main_arg3) = m' ((c.tc : Thread Cert.SsmDtDxRefIdeal.nD Cert.SsmDtDxRefIdeal.τ).loc Cert.SsmDtDxRefIdeal.main_arg3)
          ∧ r.2.mem ((c.tc : Thread Cert.SsmDtDxRefIdeal.nD Cert.SsmDtDxRefIdeal.τ).loc Cert.SsmDtDxRefIdeal.main_arg4) = m' ((c.tc : Thread Cert.SsmDtDxRefIdeal.nD Cert.SsmDtDxRefIdeal.τ).loc Cert.SsmDtDxRefIdeal.main_arg4)
          ∧ r.2.mem ((c.tc : Thread Cert.SsmDtDxRefIdeal.nD Cert.SsmDtDxRefIdeal.τ).loc Cert.SsmDtDxRefIdeal.main_arg5) = m' ((c.tc : Thread Cert.SsmDtDxRefIdeal.nD Cert.SsmDtDxRefIdeal.τ).loc Cert.SsmDtDxRefIdeal.main_arg5))

def preserves_SsmDtDw_SsmDtDwIdeal : Prop :=
  True

def algebraic_SsmDtDwIdeal_SsmDtDwRefIdeal [hSsmDtDwIdeal : Cert.SsmDtDwIdeal.Facts] [hSsmDtDwRefIdeal : Cert.SsmDtDwRefIdeal.Facts] : Prop :=
  ∀ (m : (ℓ : Loc Cert.SsmDtDwIdeal.nD Cert.SsmDtDwIdeal.τ Cert.SsmDtDwIdeal.sig) → Buf (Elt Ideal) ℓ) (g : Dev Cert.SsmDtDwIdeal.nD → PrngReg)
    (m' : (ℓ : Loc Cert.SsmDtDwRefIdeal.nD Cert.SsmDtDwRefIdeal.τ Cert.SsmDtDwRefIdeal.sig) → Buf (Elt Ideal) ℓ) (g' : Dev Cert.SsmDtDwRefIdeal.nD → PrngReg), Pre_SsmDtDwIdeal m →
    (∀ c : Dev Cert.SsmDtDwIdeal.nD,
      m' ((c.tc : Thread Cert.SsmDtDwRefIdeal.nD Cert.SsmDtDwRefIdeal.τ).loc Cert.SsmDtDwRefIdeal.main_arg0) = m ((c.tc : Thread Cert.SsmDtDwIdeal.nD Cert.SsmDtDwIdeal.τ).loc Cert.SsmDtDwIdeal.main_arg0)
      ∧ m' ((c.tc : Thread Cert.SsmDtDwRefIdeal.nD Cert.SsmDtDwRefIdeal.τ).loc Cert.SsmDtDwRefIdeal.main_arg1) = m ((c.tc : Thread Cert.SsmDtDwIdeal.nD Cert.SsmDtDwIdeal.τ).loc Cert.SsmDtDwIdeal.main_arg1)) →
    ∃ (v0 : (c : Dev Cert.SsmDtDwIdeal.nD) → Buf (Elt Ideal) ((c.tc : Thread Cert.SsmDtDwIdeal.nD Cert.SsmDtDwIdeal.τ).loc Cert.SsmDtDwIdeal.main_v2)),
      θ_run (Cert.SsmDtDwIdeal.defs (F := Ideal)) (onTc (τ := Cert.SsmDtDwIdeal.τ) (Cert.SsmDtDwIdeal.main (F := Ideal))) ⟨m, fun _ => 0, g⟩ (fun r => ∀ c : Dev Cert.SsmDtDwIdeal.nD,
          r.2.mem ((c.tc : Thread Cert.SsmDtDwIdeal.nD Cert.SsmDtDwIdeal.τ).loc Cert.SsmDtDwIdeal.main_v2) = v0 c
          ∧ r.2.mem ((c.tc : Thread Cert.SsmDtDwIdeal.nD Cert.SsmDtDwIdeal.τ).loc Cert.SsmDtDwIdeal.main_arg0) = m ((c.tc : Thread Cert.SsmDtDwIdeal.nD Cert.SsmDtDwIdeal.τ).loc Cert.SsmDtDwIdeal.main_arg0)
          ∧ r.2.mem ((c.tc : Thread Cert.SsmDtDwIdeal.nD Cert.SsmDtDwIdeal.τ).loc Cert.SsmDtDwIdeal.main_arg1) = m ((c.tc : Thread Cert.SsmDtDwIdeal.nD Cert.SsmDtDwIdeal.τ).loc Cert.SsmDtDwIdeal.main_arg1))
      ∧ θ_run (Cert.SsmDtDwRefIdeal.defs (F := Ideal)) (onTc (τ := Cert.SsmDtDwRefIdeal.τ) (Cert.SsmDtDwRefIdeal.main (F := Ideal))) ⟨m', fun _ => 0, g'⟩ (fun r => ∀ c : Dev Cert.SsmDtDwRefIdeal.nD,
          r.2.mem ((c.tc : Thread Cert.SsmDtDwRefIdeal.nD Cert.SsmDtDwRefIdeal.τ).loc Cert.SsmDtDwRefIdeal.main_v6) = v0 c
          ∧ r.2.mem ((c.tc : Thread Cert.SsmDtDwRefIdeal.nD Cert.SsmDtDwRefIdeal.τ).loc Cert.SsmDtDwRefIdeal.main_arg0) = m' ((c.tc : Thread Cert.SsmDtDwRefIdeal.nD Cert.SsmDtDwRefIdeal.τ).loc Cert.SsmDtDwRefIdeal.main_arg0)
          ∧ r.2.mem ((c.tc : Thread Cert.SsmDtDwRefIdeal.nD Cert.SsmDtDwRefIdeal.τ).loc Cert.SsmDtDwRefIdeal.main_arg1) = m' ((c.tc : Thread Cert.SsmDtDwRefIdeal.nD Cert.SsmDtDwRefIdeal.τ).loc Cert.SsmDtDwRefIdeal.main_arg1))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hSsmDx : Cert.SsmDx.Facts) (hSsmDxIdeal : Cert.SsmDxIdeal.Facts) (hSsmDxRefIdeal : Cert.SsmDxRefIdeal.Facts) (hSsmDw : Cert.SsmDw.Facts) (hSsmDwIdeal : Cert.SsmDwIdeal.Facts) (hSsmDwRefIdeal : Cert.SsmDwRefIdeal.Facts) (hSsmIn : Cert.SsmIn.Facts) (hSsmInIdeal : Cert.SsmInIdeal.Facts) (hSsmInRefIdeal : Cert.SsmInRefIdeal.Facts) (hHead : Cert.Head.Facts) (hHeadIdeal : Cert.HeadIdeal.Facts) (hHeadRefIdeal : Cert.HeadRefIdeal.Facts) (hSsmOut : Cert.SsmOut.Facts) (hSsmOutIdeal : Cert.SsmOutIdeal.Facts) (hSsmOutRefIdeal : Cert.SsmOutRefIdeal.Facts) (hSsmOutDx : Cert.SsmOutDx.Facts) (hSsmOutDxIdeal : Cert.SsmOutDxIdeal.Facts) (hSsmOutDxRefIdeal : Cert.SsmOutDxRefIdeal.Facts) (hSsmOutDw : Cert.SsmOutDw.Facts) (hSsmOutDwIdeal : Cert.SsmOutDwIdeal.Facts) (hSsmOutDwRefIdeal : Cert.SsmOutDwRefIdeal.Facts) (hSsmZ : Cert.SsmZ.Facts) (hSsmZIdeal : Cert.SsmZIdeal.Facts) (hSsmZRefIdeal : Cert.SsmZRefIdeal.Facts) (hMixOut : Cert.MixOut.Facts) (hMixOutIdeal : Cert.MixOutIdeal.Facts) (hMixOutRefIdeal : Cert.MixOutRefIdeal.Facts) (hMixOutDx : Cert.MixOutDx.Facts) (hMixOutDxIdeal : Cert.MixOutDxIdeal.Facts) (hMixOutDxRefIdeal : Cert.MixOutDxRefIdeal.Facts) (hMixOutDw : Cert.MixOutDw.Facts) (hMixOutDwIdeal : Cert.MixOutDwIdeal.Facts) (hMixOutDwRefIdeal : Cert.MixOutDwRefIdeal.Facts) (hMixIn : Cert.MixIn.Facts) (hMixInIdeal : Cert.MixInIdeal.Facts) (hMixInRefIdeal : Cert.MixInRefIdeal.Facts) (hMixInDx : Cert.MixInDx.Facts) (hMixInDxIdeal : Cert.MixInDxIdeal.Facts) (hMixInDxRefIdeal : Cert.MixInDxRefIdeal.Facts) (hMixInDw : Cert.MixInDw.Facts) (hMixInDwIdeal : Cert.MixInDwIdeal.Facts) (hMixInDwRefIdeal : Cert.MixInDwRefIdeal.Facts) (hPool : Cert.Pool.Facts) (hPoolIdeal : Cert.PoolIdeal.Facts) (hPoolRefIdeal : Cert.PoolRefIdeal.Facts) (hSsmDt : Cert.SsmDt.Facts) (hSsmDtIdeal : Cert.SsmDtIdeal.Facts) (hSsmDtRefIdeal : Cert.SsmDtRefIdeal.Facts) (hSsmDtDx : Cert.SsmDtDx.Facts) (hSsmDtDxIdeal : Cert.SsmDtDxIdeal.Facts) (hSsmDtDxRefIdeal : Cert.SsmDtDxRefIdeal.Facts) (hSsmDtDw : Cert.SsmDtDw.Facts) (hSsmDtDwIdeal : Cert.SsmDtDwIdeal.Facts) (hSsmDtDwRefIdeal : Cert.SsmDtDwRefIdeal.Facts) (hPre_finite : Cert.Pre_finite.Facts) (hPre_finite_proj : Cert.Pre_finite_proj.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_SsmDx (hSsmDx := hSsmDx)
    ∧ quiescent_SsmDxIdeal (hSsmDxIdeal := hSsmDxIdeal)
    ∧ quiescent_SsmDxRefIdeal (hSsmDxRefIdeal := hSsmDxRefIdeal)
    ∧ quiescent_SsmDw (hSsmDw := hSsmDw)
    ∧ quiescent_SsmDwIdeal (hSsmDwIdeal := hSsmDwIdeal)
    ∧ quiescent_SsmDwRefIdeal (hSsmDwRefIdeal := hSsmDwRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_Head (hHead := hHead)
    ∧ quiescent_HeadIdeal (hHeadIdeal := hHeadIdeal)
    ∧ quiescent_HeadRefIdeal (hHeadRefIdeal := hHeadRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ quiescent_SsmOutDx (hSsmOutDx := hSsmOutDx)
    ∧ quiescent_SsmOutDxIdeal (hSsmOutDxIdeal := hSsmOutDxIdeal)
    ∧ quiescent_SsmOutDxRefIdeal (hSsmOutDxRefIdeal := hSsmOutDxRefIdeal)
    ∧ quiescent_SsmOutDw (hSsmOutDw := hSsmOutDw)
    ∧ quiescent_SsmOutDwIdeal (hSsmOutDwIdeal := hSsmOutDwIdeal)
    ∧ quiescent_SsmOutDwRefIdeal (hSsmOutDwRefIdeal := hSsmOutDwRefIdeal)
    ∧ quiescent_SsmZ (hSsmZ := hSsmZ)
    ∧ quiescent_SsmZIdeal (hSsmZIdeal := hSsmZIdeal)
    ∧ quiescent_SsmZRefIdeal (hSsmZRefIdeal := hSsmZRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixInDx (hMixInDx := hMixInDx)
    ∧ quiescent_MixInDxIdeal (hMixInDxIdeal := hMixInDxIdeal)
    ∧ quiescent_MixInDxRefIdeal (hMixInDxRefIdeal := hMixInDxRefIdeal)
    ∧ quiescent_MixInDw (hMixInDw := hMixInDw)
    ∧ quiescent_MixInDwIdeal (hMixInDwIdeal := hMixInDwIdeal)
    ∧ quiescent_MixInDwRefIdeal (hMixInDwRefIdeal := hMixInDwRefIdeal)
    ∧ quiescent_Pool (hPool := hPool)
    ∧ quiescent_PoolIdeal (hPoolIdeal := hPoolIdeal)
    ∧ quiescent_PoolIdeal_pre_finite_proj (hPoolIdeal := hPoolIdeal) (hPre_finite_proj := hPre_finite_proj)
    ∧ quiescent_PoolRefIdeal (hPoolRefIdeal := hPoolRefIdeal)
    ∧ quiescent_PoolRefIdeal_pre_finite_proj (hPoolRefIdeal := hPoolRefIdeal) (hPre_finite_proj := hPre_finite_proj)
    ∧ quiescent_SsmDt (hSsmDt := hSsmDt)
    ∧ quiescent_SsmDtIdeal (hSsmDtIdeal := hSsmDtIdeal)
    ∧ quiescent_SsmDtRefIdeal (hSsmDtRefIdeal := hSsmDtRefIdeal)
    ∧ quiescent_SsmDtDx (hSsmDtDx := hSsmDtDx)
    ∧ quiescent_SsmDtDxIdeal (hSsmDtDxIdeal := hSsmDtDxIdeal)
    ∧ quiescent_SsmDtDxRefIdeal (hSsmDtDxRefIdeal := hSsmDtDxRefIdeal)
    ∧ quiescent_SsmDtDw (hSsmDtDw := hSsmDtDw)
    ∧ quiescent_SsmDtDwIdeal (hSsmDtDwIdeal := hSsmDtDwIdeal)
    ∧ quiescent_SsmDtDwRefIdeal (hSsmDtDwRefIdeal := hSsmDtDwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_SsmDx_SsmDxIdeal
    ∧ algebraic_SsmDxIdeal_SsmDxRefIdeal (hSsmDxIdeal := hSsmDxIdeal) (hSsmDxRefIdeal := hSsmDxRefIdeal)
    ∧ preserves_SsmDw_SsmDwIdeal
    ∧ algebraic_SsmDwIdeal_SsmDwRefIdeal (hSsmDwIdeal := hSsmDwIdeal) (hSsmDwRefIdeal := hSsmDwRefIdeal)
    ∧ preserves_SsmIn_SsmInIdeal
    ∧ algebraic_SsmInIdeal_SsmInRefIdeal (hSsmInIdeal := hSsmInIdeal) (hSsmInRefIdeal := hSsmInRefIdeal)
    ∧ preserves_Head_HeadIdeal
    ∧ algebraic_HeadIdeal_HeadRefIdeal (hHeadIdeal := hHeadIdeal) (hHeadRefIdeal := hHeadRefIdeal)
    ∧ preserves_SsmOut_SsmOutIdeal
    ∧ algebraic_SsmOutIdeal_SsmOutRefIdeal (hSsmOutIdeal := hSsmOutIdeal) (hSsmOutRefIdeal := hSsmOutRefIdeal)
    ∧ preserves_SsmOutDx_SsmOutDxIdeal
    ∧ algebraic_SsmOutDxIdeal_SsmOutDxRefIdeal (hSsmOutDxIdeal := hSsmOutDxIdeal) (hSsmOutDxRefIdeal := hSsmOutDxRefIdeal)
    ∧ preserves_SsmOutDw_SsmOutDwIdeal
    ∧ algebraic_SsmOutDwIdeal_SsmOutDwRefIdeal (hSsmOutDwIdeal := hSsmOutDwIdeal) (hSsmOutDwRefIdeal := hSsmOutDwRefIdeal)
    ∧ preserves_SsmZ_SsmZIdeal
    ∧ algebraic_SsmZIdeal_SsmZRefIdeal (hSsmZIdeal := hSsmZIdeal) (hSsmZRefIdeal := hSsmZRefIdeal)
    ∧ preserves_MixOut_MixOutIdeal
    ∧ algebraic_MixOutIdeal_MixOutRefIdeal (hMixOutIdeal := hMixOutIdeal) (hMixOutRefIdeal := hMixOutRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_MixIn_MixInIdeal
    ∧ algebraic_MixInIdeal_MixInRefIdeal (hMixInIdeal := hMixInIdeal) (hMixInRefIdeal := hMixInRefIdeal)
    ∧ preserves_MixInDx_MixInDxIdeal
    ∧ algebraic_MixInDxIdeal_MixInDxRefIdeal (hMixInDxIdeal := hMixInDxIdeal) (hMixInDxRefIdeal := hMixInDxRefIdeal)
    ∧ preserves_MixInDw_MixInDwIdeal
    ∧ algebraic_MixInDwIdeal_MixInDwRefIdeal (hMixInDwIdeal := hMixInDwIdeal) (hMixInDwRefIdeal := hMixInDwRefIdeal)
    ∧ preserves_Pool_PoolIdeal
    ∧ algebraic_PoolIdeal_PoolRefIdeal_pre_finite_proj (hPoolIdeal := hPoolIdeal) (hPoolRefIdeal := hPoolRefIdeal) (hPre_finite_proj := hPre_finite_proj)
    ∧ preserves_SsmDt_SsmDtIdeal
    ∧ algebraic_SsmDtIdeal_SsmDtRefIdeal (hSsmDtIdeal := hSsmDtIdeal) (hSsmDtRefIdeal := hSsmDtRefIdeal)
    ∧ preserves_SsmDtDx_SsmDtDxIdeal
    ∧ algebraic_SsmDtDxIdeal_SsmDtDxRefIdeal (hSsmDtDxIdeal := hSsmDtDxIdeal) (hSsmDtDxRefIdeal := hSsmDtDxRefIdeal)
    ∧ preserves_SsmDtDw_SsmDtDwIdeal
    ∧ algebraic_SsmDtDwIdeal_SsmDtDwRefIdeal (hSsmDtDwIdeal := hSsmDtDwIdeal) (hSsmDtDwRefIdeal := hSsmDtDwRefIdeal)
-- ==== Pre_finite.lean ====
abbrev S4096x5632 : Shape := ⟨2, ![4096, 5632]⟩
abbrev S3x5632 : Shape := ⟨2, ![3, 5632]⟩
abbrev S1x5632 : Shape := ⟨2, ![1, 5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x5632 .f32) (main_arg1 : FVec F S3x5632 .f32) (main_arg2 : FVec F S1x5632 .f32) (main_arg3 : FVec F S2816x1024 .f32) (main_arg4 : FVec F S4096x1024 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S1x5632 .f32 := Host.absf main_arg2
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_c_3 : IVec S_ 1 := constantI S_ 1 1#1
  let main_v12 : IVec S_ 1 := (fun x v => Host.reduce IntOp.andi x v reducesTo_S1x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite_proj.lean ====
abbrev S4096x1280 : Shape := ⟨2, ![4096, 1280]⟩
abbrev S4096x128 : Shape := ⟨2, ![4096, 128]⟩
abbrev S4x128x128 : Shape := ⟨3, ![4, 128, 128]⟩
abbrev S1x512 : Shape := ⟨2, ![1, 512]⟩
abbrev S8 : Shape := ⟨1, ![8]⟩
abbrev S4096x512 : Shape := ⟨2, ![4096, 512]⟩
abbrev S4096x1024 : Shape := ⟨2, ![4096, 1024]⟩
abbrev S_ : Shape := ⟨0, ![]⟩

class Facts : Prop where
  slices_S4096x1280_S4096x512_0_0 : S4096x1280.Slices ![0, 0] S4096x512
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x1280 .f32) (main_arg1 : FVec F S4096x128 .f32) (main_arg2 : FVec F S4096x128 .f32) (main_arg3 : FVec F S4x128x128 .f32) (main_arg4 : FVec F S1x512 .f32) (main_arg5 : FVec F S8 .f32) (main_arg6 : FVec F S4096x512 .f32) (main_arg7 : FVec F S4096x128 .f32) (main_arg8 : FVec F S4096x1024 .f32) : IVec S_ 1 :=
  let main_v0 : FVec F S4096x512 .f32 := (extractStridedSlice S4096x512 ![0, 0] · slices_S4096x1280_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  main_v4
-- ==== Kernel.lean ====
abbrev S4096x5632 : Shape := ⟨2, ![4096, 5632]⟩
abbrev S3x5632 : Shape := ⟨2, ![3, 5632]⟩
abbrev S1x5632 : Shape := ⟨2, ![1, 5632]⟩
abbrev S2816x1024 : Shape := ⟨2, ![2816, 1024]⟩
abbrev S4096x1024 : Shape := ⟨2, ![4096, 1024]⟩
abbrev S4096x1408 : Shape := ⟨2, ![4096, 1408]⟩
abbrev S3x1408 : Shape := ⟨2, ![3, 1408]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S1x1408 : Shape := ⟨2, ![1, 1408]⟩
abbrev S512x1024 : Shape := ⟨2, ![512, 1024]⟩
abbrev S1408x1024 : Shape := ⟨2, ![1408, 1024]⟩
abbrev S512x2816 : Shape := ⟨2, ![512, 2816]⟩
abbrev S3x2816 : Shape := ⟨2, ![3, 2816]⟩
abbrev S1x2816 : Shape := ⟨2, ![1, 2816]⟩
abbrev S8x2816 : Shape := ⟨2, ![8, 2816]⟩
abbrev S512x1408 : Shape := ⟨2, ![512, 1408]⟩
abbrev S504x2816 : Shape := ⟨2, ![504, 2816]⟩
abbrev S2816 : Shape := ⟨1, ![2816]⟩

abbrev nBuf : Space → Nat
  | .hbm => 66
  | .vmem => 17
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S2816x1024, .f32⟩
  | .hbm, ⟨4, _⟩ => ⟨S4096x1024, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x5632, .f32⟩
  | .hbm, ⟨10, _⟩ => ⟨S4096x5632, .bf16⟩
  | .hbm, ⟨11, _⟩ => ⟨S3x1408, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S3x5632, .f32⟩
  | .hbm, ⟨16, _⟩ => ⟨S_, .f32⟩
  | .hbm, ⟨17, _⟩ => ⟨S2x5632, .f32⟩
  | .hbm, ⟨18, _⟩ => ⟨S4096x5632, .f32⟩
  | .hbm, ⟨19, _⟩ => ⟨S4098x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S1x5632, .f32⟩
  | .hbm, ⟨35, _⟩ => ⟨S5632, .f32⟩
  | .hbm, ⟨36, _⟩ => ⟨S1x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S1x1408, .f32⟩
  | .hbm, ⟨41, _⟩ => ⟨S1x1408, .f32⟩
  | .hbm, ⟨42, _⟩ => ⟨S1x1408, .f32⟩
  | .hbm, ⟨43, _⟩ => ⟨S1x1408, .f32⟩
  | .hbm, ⟨44, _⟩ => ⟨S1x5632, .f32⟩
  | .hbm, ⟨45, _⟩ => ⟨S4096x5632, .f32⟩
  | .hbm, ⟨46, _⟩ => ⟨S4096x5632, .f32⟩
  | .hbm, ⟨47, _⟩ => ⟨S2816x1024, .bf16⟩
  | .hbm, ⟨48, _⟩ => ⟨S4096x5632, .bf16⟩
  | .hbm, ⟨49, _⟩ => ⟨S3x5632, .f32⟩
  | .hbm, ⟨50, _⟩ => ⟨S1x5632, .f32⟩
  | .hbm, ⟨51, _⟩ => ⟨S4096x1408, .bf16⟩
  | .hbm, ⟨52, _⟩ => ⟨S4096x1408, .bf16⟩
  | .hbm, ⟨53, _⟩ => ⟨S4096x1408, .bf16⟩
  | .hbm, ⟨54, _⟩ => ⟨S4096x1408, .bf16⟩
  | .hbm, ⟨55, _⟩ => ⟨S4096x5632, .bf16⟩
  | .hbm, ⟨56, _⟩ => ⟨S3x1408, .f32⟩
  | .hbm, ⟨57, _⟩ => ⟨S3x1408, .f32⟩
  | .hbm, ⟨58, _⟩ => ⟨S3x1408, .f32⟩
  | .hbm, ⟨59, _⟩ => ⟨S3x1408, .f32⟩
  | .hbm, ⟨60, _⟩ => ⟨S3x5632, .f32⟩
  | .hbm, ⟨61, _⟩ => ⟨S1x1408, .f32⟩
  | .hbm, ⟨62, _⟩ => ⟨S1x1408, .f32⟩
  | .hbm, ⟨63, _⟩ => ⟨S1x1408, .f32⟩
  | .hbm, ⟨64, _⟩ => ⟨S1x1408, .f32⟩
  | .hbm, ⟨65, _⟩ => ⟨S1x5632, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .f32⟩
  | .local _ .vmem, ⟨7, _⟩ => ⟨S512x2816, .f32⟩
  | .local _ .vmem, ⟨8, _⟩ => ⟨S3x2816, .f32⟩
  | .local _ .vmem, ⟨9, _⟩ => ⟨S3x2816, .f32⟩
  | .local _ .vmem, ⟨10, _⟩ => ⟨S512x2816, .bf16⟩
  | .local _ .vmem, ⟨11, _⟩ => ⟨S512x2816, .bf16⟩
  | .local _ .vmem, ⟨12, _⟩ => ⟨S3x2816, .f32⟩
  | .local _ .vmem, ⟨13, _⟩ => ⟨S3x2816, .f32⟩
  | .local _ .vmem, ⟨14, _⟩ => ⟨S1x2816, .f32⟩
  | .local _ .vmem, ⟨15, _⟩ => ⟨S1x2816, .f32⟩
  | .local _ .vmem, ⟨16, _⟩ => ⟨S8x2816, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42_0 : Ref sig .tc := ⟨.hbm, 48, rfl⟩
abbrev main_v42_1 : Ref sig .tc := ⟨.hbm, 49, rfl⟩
abbrev main_v42_2 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c0_i32_30 : BitVec 32 := 0#32
  let v90 : BitVec 1 := Scalar.cmpi .eq arg1 c0_i32_30
  let v91 : BitVec 32 := Scalar.extui v90
  let c0_i32_31 : BitVec 32 := 0#32
  let v92 : BitVec 1 := Scalar.cmpi .ne v91 c0_i32_31
  v92

def k0_cond3 (i : grid0.Coords) : BitVec 1 :=
  let arg1 : BitVec 32 := BitVec.ofNat 32 (i 1).val
  let c0_i32_32 : BitVec 32 := 0#32
  let v93 : BitVec 1 := Scalar.cmpi .sgt arg1 c0_i32_32
  let v94 : BitVec 32 := Scalar.extui v93
  let c0_i32_33 : BitVec 32 := 0#32
  let v95 : BitVec 1 := Scalar.cmpi .ne v94 c0_i32_33
  v95

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x5632 : Shape := ⟨2, ![4096, 5632]⟩
abbrev S3x5632 : Shape := ⟨2, ![3, 5632]⟩
abbrev S1x5632 : Shape := ⟨2, ![1, 5632]⟩
abbrev S2816x1024 : Shape := ⟨2, ![2816, 1024]⟩
abbrev S4096x1024 : Shape := ⟨2, ![4096, 1024]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S4096x2816 : Shape := ⟨2, ![4096, 2816]⟩

abbrev nBuf : Space → Nat
  | .hbm => 106
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S2x5632, .f32⟩
  | .hbm, ⟨7, _⟩ => ⟨S4098x5632, .f32⟩
  | .hbm, ⟨8, _⟩ => ⟨S_, .f32⟩
  | .hbm, ⟨9, _⟩ => ⟨S2x5632, .f32⟩
  | .hbm, ⟨10, _⟩ => ⟨S4096x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x1024, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x5632, .f32⟩
  | .hbm, ⟨57, _⟩ => ⟨S_, .f32⟩
  | .hbm, ⟨58, _⟩ => ⟨S5632, .f32⟩
  | .hbm, ⟨59, _⟩ => ⟨S1x5632, .f32⟩
  | .hbm, ⟨60, _⟩ => ⟨S4096x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S4096x5632, .f32⟩
  | .hbm, ⟨65, _⟩ => ⟨S4096x5632, .f32⟩
  | .hbm, ⟨66, _⟩ => ⟨S_, .f32⟩
  | .hbm, ⟨67, _⟩ => ⟨S5632, .f32⟩
  | .hbm, ⟨68, _⟩ => ⟨S1x5632, .f32⟩
  | .hbm, ⟨69, _⟩ => ⟨S_, .f32⟩
  | .hbm, ⟨70, _⟩ => ⟨S3x5632, .f32⟩
  | .hbm, ⟨71, _⟩ => ⟨S_, .f32⟩
  | .hbm, ⟨72, _⟩ => ⟨S4098x5632, .f32⟩
  | .hbm, ⟨73, _⟩ => ⟨S4096x5632, .f32⟩
  | .hbm, ⟨74, _⟩ => ⟨S_, .f32⟩
  | .hbm, ⟨75, _⟩ => ⟨S5632, .f32⟩
  | .hbm, ⟨76, _⟩ => ⟨S1x5632, .f32⟩
  | .hbm, ⟨77, _⟩ => ⟨S4096x5632, .f32⟩
  | .hbm, ⟨78, _⟩ => ⟨S4096x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S_, .f32⟩
  | .hbm, ⟨83, _⟩ => ⟨S3x5632, .f32⟩
  | .hbm, ⟨84, _⟩ => ⟨S3x5632, .f32⟩
  | .hbm, ⟨85, _⟩ => ⟨S_, .f32⟩
  | .hbm, ⟨86, _⟩ => ⟨S4098x5632, .f32⟩
  | .hbm, ⟨87, _⟩ => ⟨S4098x5632, .f32⟩
  | .hbm, ⟨88, _⟩ => ⟨S4096x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S4096x5632, .f32⟩
  | .hbm, ⟨93, _⟩ => ⟨S4096x5632, .f32⟩
  | .hbm, ⟨94, _⟩ => ⟨S_, .f32⟩
  | .hbm, ⟨95, _⟩ => ⟨S5632, .f32⟩
  | .hbm, ⟨96, _⟩ => ⟨S1x5632, .f32⟩
  | .hbm, ⟨97, _⟩ => ⟨S_, .f32⟩
  | .hbm, ⟨98, _⟩ => ⟨S3x5632, .f32⟩
  | .hbm, ⟨99, _⟩ => ⟨S3x5632, .f32⟩
  | .hbm, ⟨100, _⟩ => ⟨S_, .f32⟩
  | .hbm, ⟨101, _⟩ => ⟨S4098x5632, .f32⟩
  | .hbm, ⟨102, _⟩ => ⟨S4098x5632, .f32⟩
  | .hbm, ⟨103, _⟩ => ⟨S2x5632, .f32⟩
  | .hbm, ⟨104, _⟩ => ⟨S4096x5632, .f32⟩
  | .hbm, ⟨105, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v27_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v27_1 : Ref sig .tc := ⟨.hbm, 45, rfl⟩
abbrev main_v27_0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_cst_1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]
-- ==== UpDx.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S4096x1408 : Shape := ⟨2, ![4096, 1408]⟩
abbrev S1024x1408 : Shape := ⟨2, ![1024, 1408]⟩
abbrev S_ : Shape := ⟨0, ![]⟩
abbrev S8x128 : Shape := ⟨2, ![8, 128]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1x1 : Shape := ⟨2, ![1, 1]⟩

abbrev nBuf : Space → Nat
  | .hbm => 22
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x5632, .f32⟩
  | .hbm, ⟨10, _⟩ => ⟨S4096x5632, .bf16⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S1024x5632, .f32⟩
  | .hbm, ⟨16, _⟩ => ⟨S1024x5632, .bf16⟩
  | .hbm, ⟨17, _⟩ => ⟨S_, .f32⟩
  | .hbm, ⟨18, _⟩ => ⟨S8x128, .f32⟩
  | .hbm, ⟨19, _⟩ => ⟨S1x1024, .f32⟩
  | .hbm, ⟨20, _⟩ => ⟨S4096x1024, .f32⟩
  | .hbm, ⟨21, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_19 : BitVec 32 := 0#32
  let v42 : BitVec 1 := Scalar.cmpi .ne v41 c0_i32_19
  v42

def k0_cond2 (i : grid0.Coords) : BitVec 1 :=
  let arg0 : BitVec 32 := BitVec.ofNat 32 (i 0).val
  let c0_i32_20 : BitVec 32 := 0#32
  let v43 : BitVec 1 := Scalar.cmpi .sgt arg0 c0_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== UpDxRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== UpDw.lean ====
abbrev S4096x1024 : Shape := ⟨2, ![4096, 1024]⟩
abbrev S4096x5632 : Shape := ⟨2, ![4096, 5632]⟩
abbrev S4096x1408 : Shape := ⟨2, ![4096, 1408]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x5632, .f32⟩
  | .hbm, ⟨8, _⟩ => ⟨S4096x5632, .bf16⟩
  | .hbm, ⟨9, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![v28.toNat, arg0.toNat, c0_i32_11.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S1024x1408 : Shape := ⟨2, ![1024, 1408]⟩
abbrev S3x1408 : Shape := ⟨2, ![3, 1408]⟩
abbrev S1x1408 : Shape := ⟨2, ![1, 1408]⟩
abbrev S4096x5632 : Shape := ⟨2, ![4096, 5632]⟩
abbrev S4096x2816 : Shape := ⟨2, ![4096, 2816]⟩
abbrev S256x1024 : Shape := ⟨2, ![256, 1024]⟩
abbrev S1024x2816 : Shape := ⟨2, ![1024, 2816]⟩
abbrev S3x2816 : Shape := ⟨2, ![3, 2816]⟩
abbrev S1x2816 : Shape := ⟨2, ![1, 2816]⟩
abbrev S256x2816 : Shape := ⟨2, ![256, 2816]⟩
abbrev S256x1408 : Shape := ⟨2, ![256, 1408]⟩
abbrev S8x2816 : Shape := ⟨2, ![8, 2816]⟩
abbrev S248x2816 : Shape := ⟨2, ![248, 2816]⟩
abbrev S4096x1408 : Shape := ⟨2, ![4096, 1408]⟩

abbrev nBuf : Space → Nat
  | .hbm => 34
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S4096x1024, .bf16⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x5632, .f32⟩
  | .hbm, ⟨10, _⟩ => ⟨S1024x5632, .bf16⟩
  | .hbm, ⟨11, _⟩ => ⟨S3x1408, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S3x5632, .f32⟩
  | .hbm, ⟨16, _⟩ => ⟨S1x1408, .f32⟩
  | .hbm, ⟨17, _⟩ => ⟨S1x1408, .f32⟩
  | .hbm, ⟨18, _⟩ => ⟨S1x1408, .f32⟩
  | .hbm, ⟨19, _⟩ => ⟨S1x1408, .f32⟩
  | .hbm, ⟨20, _⟩ => ⟨S1x5632, .f32⟩
  | .hbm, ⟨21, _⟩ => ⟨S4096x5632, .bf16⟩
  | .hbm, ⟨22, _⟩ => ⟨S4096x5632, .f32⟩
  | .hbm, ⟨23, _⟩ => ⟨S4096x2816, .bf16⟩
  | .hbm, ⟨24, _⟩ => ⟨S4096x1408, .bf16⟩
  | .hbm, ⟨25, _⟩ => ⟨S4096x1408, .bf16⟩
  | .hbm, ⟨26, _⟩ => ⟨S4096x1408, .bf16⟩
  | .hbm, ⟨27, _⟩ => ⟨S4096x1408, .bf16⟩
  | .hbm, ⟨28, _⟩ => ⟨S4096x5632, .bf16⟩
  | .hbm, ⟨29, _⟩ => ⟨S4096x1408, .f32⟩
  | .hbm, ⟨30, _⟩ => ⟨S4096x1408, .f32⟩
  | .hbm, ⟨31, _⟩ => ⟨S4096x1408, .f32⟩
  | .hbm, ⟨32, _⟩ => ⟨S4096x1408, .f32⟩
  | .hbm, ⟨33, _⟩ => ⟨S4096x5632, .f32⟩
  | .local _ .vmem, ⟨0, _⟩ => ⟨S256x1024, .bf16⟩
  | .local _ .vmem, ⟨1, _⟩ => ⟨S256x1024, .bf16⟩
  | .local _ .vmem, ⟨2, _⟩ => ⟨S1024x2816, .bf16⟩
  | .local _ .vmem, ⟨3, _⟩ => ⟨S1024x2816, .bf16⟩
  | .local _ .vmem, ⟨4, _⟩ => ⟨S3x2816, .f32⟩
  | .local _ .vmem, ⟨5, _⟩ => ⟨S3x2816, .f32⟩
  | .local _ .vmem, ⟨6, _⟩ => ⟨S1x2816, .f32⟩
  | .local _ .vmem, ⟨7, _⟩ => ⟨S1x2816, .f32⟩
  | .local _ .vmem, ⟨8, _⟩ => ⟨S256x2816, .bf16⟩
  | .local _ .vmem, ⟨9, _⟩ => ⟨S256x2816, .bf16⟩
  | .local _ .vmem, ⟨10, _⟩ => ⟨S256x2816, .f32⟩
  | .local _ .vmem, ⟨11, _⟩ => ⟨S256x2816, .f32⟩
  | .local _ .vmem, ⟨12, _⟩ => ⟨S256x1408, .bf16⟩
  | .local _ .vmem, ⟨13, _⟩ => ⟨S256x1408, .bf16⟩
  | .local _ .vmem, ⟨14, _⟩ => ⟨S8x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev main_v17_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpRefIdeal.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S4096x2816 : Shape := ⟨2, ![4096, 2816]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S4096x5632, .f32⟩
  | .hbm, ⟨5, _⟩ => ⟨S_, .f32⟩
  | .hbm, ⟨6, _⟩ => ⟨S2x5632, .f32⟩
  | .hbm, ⟨7, _⟩ => ⟨S4098x5632, .f32⟩
  | .hbm, ⟨8, _⟩ => ⟨S4096x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x5632, .bf16⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x2816, .bf16⟩
  | .hbm, ⟨5, _⟩ => ⟨S2816x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SsmDx.lean ====
abbrev S1024x6176 : Shape := ⟨2, ![1024, 6176]⟩
abbrev S4096x6144 : Shape := ⟨2, ![4096, 6144]⟩
abbrev S6176x1024 : Shape := ⟨2, ![6176, 1024]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x6176, .f32⟩
  | .hbm, ⟨1, _⟩ => ⟨S4096x6144, .f32⟩
  | .hbm, ⟨2, _⟩ => ⟨S4096x6144, .bf16⟩
  | .hbm, ⟨3, _⟩ => ⟨S6176x1024, .f32⟩
  | .hbm, ⟨4, _⟩ => ⟨S6176x1024, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x6176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDxRefIdeal.lean ====
abbrev S1024x6176 : Shape := ⟨2, ![1024, 6176]⟩
abbrev S4096x6144 : Shape := ⟨2, ![4096, 6144]⟩
abbrev S_ : Shape := ⟨0, ![]⟩
abbrev S4096x1024 : Shape := ⟨2, ![4096, 1024]⟩
abbrev S4096x6176 : Shape := ⟨2, ![4096, 6176]⟩

abbrev nBuf : Space → Nat
  | .hbm => 9
  | .vmem => 0
  | .smem => 0
  | _ => 0

abbrev bufTy : (tb : Table) → Fin (tcTables nBuf tb) → BufTy
  | .hbm, ⟨0, _⟩ => ⟨S1024x6176, .f32⟩
  | .hbm, ⟨1, _⟩ => ⟨S4096x6144, .f32⟩
  | .hbm, ⟨2, _⟩ => ⟨S_, .f32⟩
  | .hbm, ⟨3, _⟩ => ⟨S4096x1024, .f32⟩
  | .hbm, ⟨4, _⟩ => ⟨S4096x6176, .f32⟩
  | .hbm, ⟨5, _⟩ => ⟨S4096x6144, .f32⟩
  | .hbm, ⟨6, _⟩ => ⟨S_, .f32⟩
  | .hbm, ⟨7, _⟩ => ⟨S4096x6176, .f32⟩
  | .hbm, ⟨8, _⟩ => ⟨S4096x1024, .f32⟩
  | _, _ => ⟨S1024x6176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== SsmDw.lean ====
abbrev S4096x1024 : Shape := ⟨2, ![4096, 1024]⟩
abbrev S4096x6144 : Shape := ⟨2, ![4096, 6144]⟩
abbrev S6176x1024 : Shape := ⟨2, ![6176, 1024]⟩
abbrev S2048x1024 : Shape := ⟨2, ![2048, 1024]⟩
abbrev S1024x1024 : Shape := ⟨2, ![1024, 1024]⟩
abbrev S6144x1024 : Shape := ⟨2, ![6144, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x6144, .bf16⟩
  | .hbm, ⟨3, _⟩ => ⟨S4096x1024, .bf16⟩
  | .hbm, ⟨4, _⟩ => ⟨S6176x1024, .bf16⟩
  | .hbm, ⟨5, _⟩ => ⟨S6144x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDwRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | .hbm, ⟨7, _⟩ => ⟨S6144x1024, .f32⟩
  | .hbm, ⟨8, _⟩ => ⟨S6144x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmIn.lean ====
abbrev S4096x1024 : Shape := ⟨2, ![4096, 1024]⟩
abbrev S1024x6176 : Shape := ⟨2, ![1024, 6176]⟩
abbrev S4x4096 : Shape := ⟨2, ![4, 4096]⟩
abbrev S1x4096 : Shape := ⟨2, ![1, 4096]⟩
abbrev S6176x1024 : Shape := ⟨2, ![6176, 1024]⟩
abbrev S4096x4096 : Shape := ⟨2, ![4096, 4096]⟩
abbrev S256x1024 : Shape := ⟨2, ![256, 1024]⟩
abbrev S1024x1024 : Shape := ⟨2, ![1024, 1024]⟩
abbrev S4x1024 : Shape := ⟨2, ![4, 1024]⟩
abbrev S1x1024 : Shape := ⟨2, ![1, 1024]⟩
abbrev S8x1024 : Shape := ⟨2, ![8, 1024]⟩
abbrev S248x1024 : Shape := ⟨2, ![248, 1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4x4096, .f32⟩
  | .hbm, ⟨3, _⟩ => ⟨S1x4096, .f32⟩
  | .hbm, ⟨4, _⟩ => ⟨S4096x1024, .bf16⟩
  | .hbm, ⟨5, _⟩ => ⟨S6176x1024, .f32⟩
  | .hbm, ⟨6, _⟩ => ⟨S6176x1024, .bf16⟩
  | .hbm, ⟨7, _⟩ => ⟨S4096x4096, .f32⟩
  | .hbm, ⟨8, _⟩ => ⟨S4096x4096, .f32⟩
  | .hbm, ⟨9, _⟩ => ⟨S4096x4096, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SsmInRefIdeal.lean ====
abbrev S4096x1024 : Shape := ⟨2, ![4096, 1024]⟩
abbrev S1024x6176 : Shape := ⟨2, ![1024, 6176]⟩
abbrev S4x4096 : Shape := ⟨2, ![4, 4096]⟩
abbrev S1x4096 : Shape := ⟨2, ![1, 4096]⟩
abbrev S4096x6176 : Shape := ⟨2, ![4096, 6176]⟩
abbrev S4096x2048 : Shape := ⟨2, ![4096, 2048]⟩
abbrev S4096x4096 : Shape := ⟨2, ![4096, 4096]⟩
abbrev S4096x32 : Shape := ⟨2, ![4096, 32]⟩
abbrev S_ : Shape := ⟨0, ![]⟩
abbrev S3x4096 : Shape := ⟨2, ![3, 4096]⟩
abbrev S4099x4096 : Shape := ⟨2, ![4099, 4096]⟩
abbrev S4096 : Shape := ⟨1, ![4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4x4096, .f32⟩
  | .hbm, ⟨3, _⟩ => ⟨S1x4096, .f32⟩
  | .hbm, ⟨4, _⟩ => ⟨S4096x6176, .f32⟩
  | .hbm, ⟨5, _⟩ => ⟨S4096x2048, .f32⟩
  | .hbm, ⟨6, _⟩ => ⟨S4096x4096, .f32⟩
  | .hbm, ⟨7, _⟩ => ⟨S4096x32, .f32⟩
  | .hbm, ⟨8, _⟩ => ⟨S_, .f32⟩
  | .hbm, ⟨9, _⟩ => ⟨S3x4096, .f32⟩
  | .hbm, ⟨10, _⟩ => ⟨S4099x4096, .f32⟩
  | .hbm, ⟨11, _⟩ => ⟨S4096x4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S1x4096, .f32⟩
  | .hbm, ⟨19, _⟩ => ⟨S4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S1x4096, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S1x4096, .f32⟩
  | .hbm, ⟨33, _⟩ => ⟨S4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Head.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S1024x2816 : Shape := ⟨2, ![1024, 2816]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 12
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x128, .f32⟩
  | .hbm, ⟨11, _⟩ => ⟨S1x1, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_22 : BitVec 32 := 0#32
  let v52 : BitVec 1 := Scalar.cmpi .ne v51 c0_i32_22
  v52

def k0_cond2 (i : grid0.Coords) : BitVec 1 :=
  let arg0 : BitVec 32 := BitVec.ofNat 32 (i 0).val
  let c0_i32_23 : BitVec 32 := 0#32
  let v53 : BitVec 1 := Scalar.cmpi .sgt arg0 c0_i32_23
  let v54 : BitVec 32 := Scalar.extui v53
  let c0_i32_24 : BitVec 32 := 0#32
  let v55 : BitVec 1 := Scalar.cmpi .ne v54 c0_i32_24
  v55

def k0_cond3 (i : grid0.Coords) : BitVec 1 :=
  let arg0 : BitVec 32 := BitVec.ofNat 32 (i 0).val
  let c0_i32_25 : BitVec 32 := 0#32
  let v58 : BitVec 1 := Scalar.cmpi .eq arg0 c0_i32_25
  let v59 : BitVec 32 := Scalar.extui v58
  let c0_i32_26 : BitVec 32 := 0#32
  let v60 : BitVec 1 := Scalar.cmpi .ne v59 c0_i32_26
  v60

def k0_cond4 (i : grid0.Coords) : BitVec 1 :=
  let arg0 : BitVec 32 := BitVec.ofNat 32 (i 0).val
  let c0_i32_27 : BitVec 32 := 0#32
  let v61 : BitVec 1 := Scalar.cmpi .sgt arg0 c0_i32_27
  let v62 : BitVec 32 := Scalar.extui v61
  let c0_i32_28 : BitVec 32 := 0#32
  let v63 : BitVec 1 := Scalar.cmpi .ne v62 c0_i32_28
  v63

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== HeadRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S1x1, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== SsmOut.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1024, .f32⟩
  | .hbm, ⟨4, _⟩ => ⟨S4096x2048, .bf16⟩
  | .hbm, ⟨5, _⟩ => ⟨S2048x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SsmOutRefIdeal.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SsmOutDx.lean ====
abbrev S2048x1024 : Shape := ⟨2, ![2048, 1024]⟩
abbrev S4096x1024 : Shape := ⟨2, ![4096, 1024]⟩
abbrev S4096x2048 : Shape := ⟨2, ![4096, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x1024, .bf16⟩
  | .hbm, ⟨3, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDxRefIdeal.lean ====
abbrev S2048x1024 : Shape := ⟨2, ![2048, 1024]⟩
abbrev S4096x1024 : Shape := ⟨2, ![4096, 1024]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsmOutDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmZ.lean ====
abbrev S4096x1024 : Shape := ⟨2, ![4096, 1024]⟩
abbrev S1024x6176 : Shape := ⟨2, ![1024, 6176]⟩
abbrev S6176x1024 : Shape := ⟨2, ![6176, 1024]⟩
abbrev S4096x2048 : Shape := ⟨2, ![4096, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x1024, .bf16⟩
  | .hbm, ⟨3, _⟩ => ⟨S6176x1024, .f32⟩
  | .hbm, ⟨4, _⟩ => ⟨S6176x1024, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmZRefIdeal.lean ====
abbrev S4096x1024 : Shape := ⟨2, ![4096, 1024]⟩
abbrev S1024x6176 : Shape := ⟨2, ![1024, 6176]⟩
abbrev S4096x6176 : Shape := ⟨2, ![4096, 6176]⟩
abbrev S4096x2048 : Shape := ⟨2, ![4096, 2048]⟩
abbrev S4096x4096 : Shape := ⟨2, ![4096, 4096]⟩
abbrev S4096x32 : Shape := ⟨2, ![4096, 32]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x2048, .f32⟩
  | .hbm, ⟨4, _⟩ => ⟨S4096x4096, .f32⟩
  | .hbm, ⟨5, _⟩ => ⟨S4096x32, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixOutRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MixOutDx.lean ====
abbrev S1024x1024 : Shape := ⟨2, ![1024, 1024]⟩
abbrev S4096x1024 : Shape := ⟨2, ![4096, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixOutDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixOutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixIn.lean ====
abbrev S4096x1024 : Shape := ⟨2, ![4096, 1024]⟩
abbrev S1024x1280 : Shape := ⟨2, ![1024, 1280]⟩
abbrev S1280x1024 : Shape := ⟨2, ![1280, 1024]⟩
abbrev S4096x1280 : Shape := ⟨2, ![4096, 1280]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1280, .f32⟩
  | .hbm, ⟨2, _⟩ => ⟨S4096x1024, .bf16⟩
  | .hbm, ⟨3, _⟩ => ⟨S1280x1024, .f32⟩
  | .hbm, ⟨4, _⟩ => ⟨S1280x1024, .bf16⟩
  | .hbm, ⟨5, _⟩ => ⟨S4096x1280, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x1280, .f32⟩
  | .local _ .vmem, ⟨4, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x1024 : Shape := ⟨2, ![4096, 1024]⟩
abbrev S1024x1280 : Shape := ⟨2, ![1024, 1280]⟩
abbrev S4096x1280 : Shape := ⟨2, ![4096, 1280]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1280, .f32⟩
  | .hbm, ⟨2, _⟩ => ⟨S4096x1280, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixInDx.lean ====
abbrev S4096x1024 : Shape := ⟨2, ![4096, 1024]⟩
abbrev S1024 : Shape := ⟨1, ![1024]⟩
abbrev S1024x1280 : Shape := ⟨2, ![1024, 1280]⟩
abbrev S4096x1280 : Shape := ⟨2, ![4096, 1280]⟩
abbrev S1280x1024 : Shape := ⟨2, ![1280, 1024]⟩
abbrev S_ : Shape := ⟨0, ![]⟩
abbrev S8x128 : Shape := ⟨2, ![8, 128]⟩
abbrev S1x1024 : Shape := ⟨2, ![1, 1024]⟩
abbrev S1024x1024 : Shape := ⟨2, ![1024, 1024]⟩
abbrev S1024x1 : Shape := ⟨2, ![1024, 1]⟩
abbrev S1x1 : Shape := ⟨2, ![1, 1]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S4096x1280, .f32⟩
  | .hbm, ⟨4, _⟩ => ⟨S4096x1024, .f32⟩
  | .hbm, ⟨5, _⟩ => ⟨S4096x1280, .bf16⟩
  | .hbm, ⟨6, _⟩ => ⟨S1280x1024, .f32⟩
  | .hbm, ⟨7, _⟩ => ⟨S1280x1024, .bf16⟩
  | .hbm, ⟨8, _⟩ => ⟨S_, .f32⟩
  | .hbm, ⟨9, _⟩ => ⟨S8x128, .f32⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_19 : BitVec 32 := 0#32
  let v42 : BitVec 1 := Scalar.cmpi .ne v41 c0_i32_19
  v42

def k0_cond2 (i : grid0.Coords) : BitVec 1 :=
  let arg0 : BitVec 32 := BitVec.ofNat 32 (i 0).val
  let c0_i32_20 : BitVec 32 := 0#32
  let v43 : BitVec 1 := Scalar.cmpi .sgt arg0 c0_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== MixInDxRefIdeal.lean ====
abbrev S4096x1024 : Shape := ⟨2, ![4096, 1024]⟩
abbrev S1024 : Shape := ⟨1, ![1024]⟩
abbrev S1024x1280 : Shape := ⟨2, ![1024, 1280]⟩
abbrev S4096x1280 : Shape := ⟨2, ![4096, 1280]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S4096x1280, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1280, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== MixInDw.lean ====
abbrev S4096x1024 : Shape := ⟨2, ![4096, 1024]⟩
abbrev S4096x1280 : Shape := ⟨2, ![4096, 1280]⟩
abbrev S1280x1024 : Shape := ⟨2, ![1280, 1024]⟩
abbrev S2048x1280 : Shape := ⟨2, ![2048, 1280]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1280, .f32⟩
  | .hbm, ⟨2, _⟩ => ⟨S4096x1280, .bf16⟩
  | .hbm, ⟨3, _⟩ => ⟨S4096x1024, .bf16⟩
  | .hbm, ⟨4, _⟩ => ⟨S1280x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .bf16⟩
  | .local _ .vmem, ⟨5, _⟩ => ⟨S1280x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixInDwRefIdeal.lean ====
abbrev S4096x1024 : Shape := ⟨2, ![4096, 1024]⟩
abbrev S4096x1280 : Shape := ⟨2, ![4096, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1280, .f32⟩
  | .hbm, ⟨2, _⟩ => ⟨S_, .f32⟩
  | .hbm, ⟨3, _⟩ => ⟨S1024x1280, .f32⟩
  | .hbm, ⟨4, _⟩ => ⟨S4096x1280, .f32⟩
  | .hbm, ⟨5, _⟩ => ⟨S1280x1024, .f32⟩
  | .hbm, ⟨6, _⟩ => ⟨S1024x1280, .f32⟩
  | .hbm, ⟨7, _⟩ => ⟨S1280x1024, .f32⟩
  | .hbm, ⟨8, _⟩ => ⟨S1280x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Pool.lean ====
abbrev S4096x1280 : Shape := ⟨2, ![4096, 1280]⟩
abbrev S4096x128 : Shape := ⟨2, ![4096, 128]⟩
abbrev S4x128x128 : Shape := ⟨3, ![4, 128, 128]⟩
abbrev S1x512 : Shape := ⟨2, ![1, 512]⟩
abbrev S8 : Shape := ⟨1, ![8]⟩
abbrev S4096x512 : Shape := ⟨2, ![4096, 512]⟩
abbrev S4096x1024 : Shape := ⟨2, ![4096, 1024]⟩
abbrev S1x128 : Shape := ⟨2, ![1, 128]⟩
abbrev S128x1280 : Shape := ⟨2, ![128, 1280]⟩
abbrev S128x128 : Shape := ⟨2, ![128, 128]⟩
abbrev S128x512 : Shape := ⟨2, ![128, 512]⟩
abbrev S128x1024 : Shape := ⟨2, ![128, 1024]⟩
abbrev S128x1 : Shape := ⟨2, ![128, 1]⟩
abbrev S256x1 : Shape := ⟨2, ![256, 1]⟩
abbrev S256x128 : Shape := ⟨2, ![256, 128]⟩
abbrev S1x128x128 : Shape := ⟨3, ![1, 128, 128]⟩
abbrev S128 : Shape := ⟨1, ![128]⟩
abbrev S512x128 : Shape := ⟨2, ![512, 128]⟩
abbrev S128x64 : Shape := ⟨2, ![128, 64]⟩
abbrev S512x64 : Shape := ⟨2, ![512, 64]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 13
  | .vmem => 37
  | .smem => 1
  | _ => 0

abbrev bufTy : (tb : Table) → Fin (tcTables nBuf tb) → BufTy
  | .hbm, ⟨0, _⟩ => ⟨S4096x1280, .f32⟩
  | .hbm, ⟨1, _⟩ => ⟨S4096x128, .f32⟩
  | .hbm, ⟨2, _⟩ => ⟨S4096x128, .f32⟩
  | .hbm, ⟨3, _⟩ => ⟨S4x128x128, .f32⟩
  | .hbm, ⟨4, _⟩ => ⟨S1x512, .f32⟩
  | .hbm, ⟨5, _⟩ => ⟨S8, .f32⟩
  | .hbm, ⟨6, _⟩ => ⟨S4096x512, .f32⟩
  | .hbm, ⟨7, _⟩ => ⟨S4096x128, .f32⟩
  | .hbm, ⟨8, _⟩ => ⟨S4096x1024, .f32⟩
  | .hbm, ⟨9, _⟩ => ⟨S4096x1280, .bf16⟩
  | .hbm, ⟨10, _⟩ => ⟨S4x128x128, .f32⟩
  | .hbm, ⟨11, _⟩ => ⟨S1x512, .f32⟩
  | .hbm, ⟨12, _⟩ => ⟨S1x128, .f32⟩
  | .local _ .vmem, ⟨0, _⟩ => ⟨S128x1280, .f32⟩
  | .local _ .vmem, ⟨1, _⟩ => ⟨S128x1280, .f32⟩
  | .local _ .vmem, ⟨2, _⟩ => ⟨S128x1280, .f32⟩
  | .local _ .vmem, ⟨3, _⟩ => ⟨S128x1280, .f32⟩
  | .local _ .vmem, ⟨4, _⟩ => ⟨S128x1280, .f32⟩
  | .local _ .vmem, ⟨5, _⟩ => ⟨S128x1280, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S4x128x128, .f32⟩
  | .local _ .vmem, ⟨19, _⟩ => ⟨S1x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1280, .bf16⟩
  | .local _ .vmem, ⟨33, _⟩ => ⟨S128x1280, .bf16⟩
  | .local _ .vmem, ⟨34, _⟩ => ⟨S4x128x128, .f32⟩
  | .local _ .vmem, ⟨35, _⟩ => ⟨S1x512, .f32⟩
  | .local _ .vmem, ⟨36, _⟩ => ⟨S1x128, .f32⟩
  | .local _ .smem, ⟨0, _⟩ => ⟨S8, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem20_0 : DmaSem sig := 36
abbrev cc0_sem21_0 : DmaSem sig := 37

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_227 : BitVec 32 := 0#32
  let v799 : BitVec 1 := Scalar.cmpi .eq arg0 c0_i32_227
  let v800 : BitVec 32 := Scalar.extui v799
  let c0_i32_228 : BitVec 32 := 0#32
  let v801 : BitVec 1 := Scalar.cmpi .ne v800 c0_i32_228
  v801

def k0_cond2 (i : grid0.Coords) : BitVec 1 :=
  let arg0 : BitVec 32 := BitVec.ofNat 32 (i 0).val
  let c0_i32_229 : BitVec 32 := 0#32
  let v802 : BitVec 1 := Scalar.cmpi .sgt arg0 c0_i32_229
  let v803 : BitVec 32 := Scalar.extui v802
  let c0_i32_230 : BitVec 32 := 0#32
  let v804 : BitVec 1 := Scalar.cmpi .ne v803 c0_i32_230
  v804

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1280 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== PoolRefIdeal.lean ====
abbrev S4096x1280 : Shape := ⟨2, ![4096, 1280]⟩
abbrev S4096x128 : Shape := ⟨2, ![4096, 128]⟩
abbrev S4x128x128 : Shape := ⟨3, ![4, 128, 128]⟩
abbrev S1x512 : Shape := ⟨2, ![1, 512]⟩
abbrev S8 : Shape := ⟨1, ![8]⟩
abbrev S4096x512 : Shape := ⟨2, ![4096, 512]⟩
abbrev S4096x1024 : Shape := ⟨2, ![4096, 1024]⟩
abbrev S4096x4x128 : Shape := ⟨3, ![4096, 4, 128]⟩
abbrev S_ : Shape := ⟨0, ![]⟩
abbrev S1x4x128 : Shape := ⟨3, ![1, 4, 128]⟩
abbrev S4097x4x128 : Shape := ⟨3, ![4097, 4, 128]⟩
abbrev S4096 : Shape := ⟨1, ![4096]⟩
abbrev S4096x1x128 : Shape := ⟨3, ![4096, 1, 128]⟩
abbrev S1x128 : Shape := ⟨2, ![1, 128]⟩
abbrev S4095x1x128 : Shape := ⟨3, ![4095, 1, 128]⟩
abbrev S4095x128 : Shape := ⟨2, ![4095, 128]⟩
abbrev S4096x1 : Shape := ⟨2, ![4096, 1]⟩
abbrev S3x128 : Shape := ⟨2, ![3, 128]⟩
abbrev S4093x1x128 : Shape := ⟨3, ![4093, 1, 128]⟩
abbrev S4093x128 : Shape := ⟨2, ![4093, 128]⟩
abbrev S7x128 : Shape := ⟨2, ![7, 128]⟩
abbrev S4089x1x128 : Shape := ⟨3, ![4089, 1, 128]⟩
abbrev S4089x128 : Shape := ⟨2, ![4089, 128]⟩
abbrev S15x128 : Shape := ⟨2, ![15, 128]⟩
abbrev S4081x1x128 : Shape := ⟨3, ![4081, 1, 128]⟩
abbrev S4081x128 : Shape := ⟨2, ![4081, 128]⟩
abbrev S4x128x4096 : Shape := ⟨3, ![4, 128, 4096]⟩
abbrev S512 : Shape := ⟨1, ![512]⟩

abbrev nBuf : Space → Nat
  | .hbm => 103
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S4096x128, .f32⟩
  | .hbm, ⟨2, _⟩ => ⟨S4096x128, .f32⟩
  | .hbm, ⟨3, _⟩ => ⟨S4x128x128, .f32⟩
  | .hbm, ⟨4, _⟩ => ⟨S1x512, .f32⟩
  | .hbm, ⟨5, _⟩ => ⟨S8, .f32⟩
  | .hbm, ⟨6, _⟩ => ⟨S4096x512, .f32⟩
  | .hbm, ⟨7, _⟩ => ⟨S4096x128, .f32⟩
  | .hbm, ⟨8, _⟩ => ⟨S4096x1024, .f32⟩
  | .hbm, ⟨9, _⟩ => ⟨S4096x512, .f32⟩
  | .hbm, ⟨10, _⟩ => ⟨S4096x4x128, .f32⟩
  | .hbm, ⟨11, _⟩ => ⟨S_, .f32⟩
  | .hbm, ⟨12, _⟩ => ⟨S1x4x128, .f32⟩
  | .hbm, ⟨13, _⟩ => ⟨S_, .f32⟩
  | .hbm, ⟨14, _⟩ => ⟨S_, .f32⟩
  | .hbm, ⟨15, _⟩ => ⟨S4096x4x128, .f32⟩
  | .hbm, ⟨16, _⟩ => ⟨S4097x4x128, .f32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096x1x128, .f32⟩
  | .hbm, ⟨22, _⟩ => ⟨S4096x128, .f32⟩
  | .hbm, ⟨23, _⟩ => ⟨S_, .f32⟩
  | .hbm, ⟨24, _⟩ => ⟨S1x128, .f32⟩
  | .hbm, ⟨25, _⟩ => ⟨S4095x1x128, .f32⟩
  | .hbm, ⟨26, _⟩ => ⟨S4095x128, .f32⟩
  | .hbm, ⟨27, _⟩ => ⟨S4096x128, .f32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .f32⟩
  | .hbm, ⟨32, _⟩ => ⟨S4096x1, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S4096x1x128, .f32⟩
  | .hbm, ⟨37, _⟩ => ⟨S4096x128, .f32⟩
  | .hbm, ⟨38, _⟩ => ⟨S_, .f32⟩
  | .hbm, ⟨39, _⟩ => ⟨S3x128, .f32⟩
  | .hbm, ⟨40, _⟩ => ⟨S4093x1x128, .f32⟩
  | .hbm, ⟨41, _⟩ => ⟨S4093x128, .f32⟩
  | .hbm, ⟨42, _⟩ => ⟨S4096x128, .f32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .f32⟩
  | .hbm, ⟨47, _⟩ => ⟨S4096x1, .f32⟩
  | .hbm, ⟨48, _⟩ => ⟨S4096x128, .f32⟩
  | .hbm, ⟨49, _⟩ => ⟨S4096x128, .f32⟩
  | .hbm, ⟨50, _⟩ => ⟨S4096x128, .f32⟩
  | .hbm, ⟨51, _⟩ => ⟨S4096x1x128, .f32⟩
  | .hbm, ⟨52, _⟩ => ⟨S4096x128, .f32⟩
  | .hbm, ⟨53, _⟩ => ⟨S_, .f32⟩
  | .hbm, ⟨54, _⟩ => ⟨S7x128, .f32⟩
  | .hbm, ⟨55, _⟩ => ⟨S4089x1x128, .f32⟩
  | .hbm, ⟨56, _⟩ => ⟨S4089x128, .f32⟩
  | .hbm, ⟨57, _⟩ => ⟨S4096x128, .f32⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .f32⟩
  | .hbm, ⟨62, _⟩ => ⟨S4096x1, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x1x128, .f32⟩
  | .hbm, ⟨67, _⟩ => ⟨S4096x128, .f32⟩
  | .hbm, ⟨68, _⟩ => ⟨S_, .f32⟩
  | .hbm, ⟨69, _⟩ => ⟨S15x128, .f32⟩
  | .hbm, ⟨70, _⟩ => ⟨S4081x1x128, .f32⟩
  | .hbm, ⟨71, _⟩ => ⟨S4081x128, .f32⟩
  | .hbm, ⟨72, _⟩ => ⟨S4096x128, .f32⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .f32⟩
  | .hbm, ⟨77, _⟩ => ⟨S4096x1, .f32⟩
  | .hbm, ⟨78, _⟩ => ⟨S4096x128, .f32⟩
  | .hbm, ⟨79, _⟩ => ⟨S4096x128, .f32⟩
  | .hbm, ⟨80, _⟩ => ⟨S4096x128, .f32⟩
  | .hbm, ⟨81, _⟩ => ⟨S4096x1x128, .f32⟩
  | .hbm, ⟨82, _⟩ => ⟨S4096x1x128, .f32⟩
  | .hbm, ⟨83, _⟩ => ⟨S4096x1x128, .f32⟩
  | .hbm, ⟨84, _⟩ => ⟨S4096x1x128, .f32⟩
  | .hbm, ⟨85, _⟩ => ⟨S4096x4x128, .f32⟩
  | .hbm, ⟨86, _⟩ => ⟨S4096x4x128, .f32⟩
  | .hbm, ⟨87, _⟩ => ⟨S4x128x4096, .f32⟩
  | .hbm, ⟨88, _⟩ => ⟨S4096x4x128, .f32⟩
  | .hbm, ⟨89, _⟩ => ⟨S4096x512, .f32⟩
  | .hbm, ⟨90, _⟩ => ⟨S4096x512, .f32⟩
  | .hbm, ⟨91, _⟩ => ⟨S4096x512, .f32⟩
  | .hbm, ⟨92, _⟩ => ⟨S4096x512, .f32⟩
  | .hbm, ⟨93, _⟩ => ⟨S4096x512, .f32⟩
  | .hbm, ⟨94, _⟩ => ⟨S_, .f32⟩
  | .hbm, ⟨95, _⟩ => ⟨S512, .f32⟩
  | .hbm, ⟨96, _⟩ => ⟨S1x512, .f32⟩
  | .hbm, ⟨97, _⟩ => ⟨S4096x512, .f32⟩
  | .hbm, ⟨98, _⟩ => ⟨S4096x512, .f32⟩
  | .hbm, ⟨99, _⟩ => ⟨S4096x4x128, .f32⟩
  | .hbm, ⟨100, _⟩ => ⟨S4x128x4096, .f32⟩
  | .hbm, ⟨101, _⟩ => ⟨S4x128x128, .f32⟩
  | .hbm, ⟨102, _⟩ => ⟨S4x128x128, .f32⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_call0_call0_cst : Ref sig .tc := ⟨.hbm, 13, rfl⟩
abbrev main_call0_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== SsmDt.lean ====
abbrev S4096x1024 : Shape := ⟨2, ![4096, 1024]⟩
abbrev S1024x6176 : Shape := ⟨2, ![1024, 6176]⟩
abbrev S6176x1024 : Shape := ⟨2, ![6176, 1024]⟩
abbrev S32x1024 : Shape := ⟨2, ![32, 1024]⟩
abbrev S_ : Shape := ⟨0, ![]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩
abbrev S4096x32 : Shape := ⟨2, ![4096, 32]⟩

abbrev nBuf : Space → Nat
  | .hbm => 11
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x1024, .bf16⟩
  | .hbm, ⟨3, _⟩ => ⟨S6176x1024, .f32⟩
  | .hbm, ⟨4, _⟩ => ⟨S32x1024, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S128x1024, .bf16⟩
  | .hbm, ⟨9, _⟩ => ⟨S4096x128, .f32⟩
  | .hbm, ⟨10, _⟩ => ⟨S4096x32, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDtRefIdeal.lean ====
abbrev S4096x1024 : Shape := ⟨2, ![4096, 1024]⟩
abbrev S1024x6176 : Shape := ⟨2, ![1024, 6176]⟩
abbrev S4096x6176 : Shape := ⟨2, ![4096, 6176]⟩
abbrev S4096x2048 : Shape := ⟨2, ![4096, 2048]⟩
abbrev S4096x4096 : Shape := ⟨2, ![4096, 4096]⟩
abbrev S4096x32 : Shape := ⟨2, ![4096, 32]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x2048, .f32⟩
  | .hbm, ⟨4, _⟩ => ⟨S4096x4096, .f32⟩
  | .hbm, ⟨5, _⟩ => ⟨S4096x32, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsmDtDx.lean ====
abbrev S4096x1024 : Shape := ⟨2, ![4096, 1024]⟩
abbrev S1024 : Shape := ⟨1, ![1024]⟩
abbrev S1024x6176 : Shape := ⟨2, ![1024, 6176]⟩
abbrev S4096x128 : Shape := ⟨2, ![4096, 128]⟩
abbrev S6176x1024 : Shape := ⟨2, ![6176, 1024]⟩
abbrev S32x1024 : Shape := ⟨2, ![32, 1024]⟩
abbrev S_ : Shape := ⟨0, ![]⟩
abbrev S128x1024 : Shape := ⟨2, ![128, 1024]⟩
abbrev S8x128 : Shape := ⟨2, ![8, 128]⟩
abbrev S1x1024 : Shape := ⟨2, ![1, 1024]⟩
abbrev S1024x128 : Shape := ⟨2, ![1024, 128]⟩
abbrev S1024x1024 : Shape := ⟨2, ![1024, 1024]⟩
abbrev S1024x1 : Shape := ⟨2, ![1024, 1]⟩
abbrev S1x1 : Shape := ⟨2, ![1, 1]⟩

abbrev nBuf : Space → Nat
  | .hbm => 17
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6176, .f32⟩
  | .hbm, ⟨3, _⟩ => ⟨S4096x128, .f32⟩
  | .hbm, ⟨4, _⟩ => ⟨S4096x1024, .f32⟩
  | .hbm, ⟨5, _⟩ => ⟨S4096x1024, .f32⟩
  | .hbm, ⟨6, _⟩ => ⟨S6176x1024, .f32⟩
  | .hbm, ⟨7, _⟩ => ⟨S32x1024, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S128x1024, .bf16⟩
  | .hbm, ⟨12, _⟩ => ⟨S_, .f32⟩
  | .hbm, ⟨13, _⟩ => ⟨S8x128, .f32⟩
  | .hbm, ⟨14, _⟩ => ⟨S1x1024, .f32⟩
  | .hbm, ⟨15, _⟩ => ⟨S4096x1024, .f32⟩
  | .hbm, ⟨16, _⟩ => ⟨S1x1024, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S8x128, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_21 : BitVec 32 := 0#32
  let v44 : BitVec 1 := Scalar.cmpi .ne v43 c0_i32_21
  v44

def k0_cond2 (i : grid0.Coords) : BitVec 1 :=
  let arg0 : BitVec 32 := BitVec.ofNat 32 (i 0).val
  let c0_i32_22 : BitVec 32 := 0#32
  let v45 : BitVec 1 := Scalar.cmpi .sgt arg0 c0_i32_22
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== SsmDtDxRefIdeal.lean ====
abbrev S4096x1024 : Shape := ⟨2, ![4096, 1024]⟩
abbrev S1024 : Shape := ⟨1, ![1024]⟩
abbrev S1024x6176 : Shape := ⟨2, ![1024, 6176]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x32 : Shape := ⟨2, ![1024, 32]⟩
abbrev S4096x32 : Shape := ⟨2, ![4096, 32]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6176, .f32⟩
  | .hbm, ⟨3, _⟩ => ⟨S4096x128, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x32, .f32⟩
  | .hbm, ⟨27, _⟩ => ⟨S4096x32, .f32⟩
  | .hbm, ⟨28, _⟩ => ⟨S4096x32, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== SsmDtDw.lean ====
abbrev S4096x1024 : Shape := ⟨2, ![4096, 1024]⟩
abbrev S4096x128 : Shape := ⟨2, ![4096, 128]⟩
abbrev S128x1024 : Shape := ⟨2, ![128, 1024]⟩
abbrev S2048x128 : Shape := ⟨2, ![2048, 128]⟩
abbrev S2048x1024 : Shape := ⟨2, ![2048, 1024]⟩
abbrev S32x1024 : Shape := ⟨2, ![32, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x1024, .bf16⟩
  | .hbm, ⟨3, _⟩ => ⟨S128x1024, .bf16⟩
  | .hbm, ⟨4, _⟩ => ⟨S32x1024, .bf16⟩
  | .local _ .vmem, ⟨0, _⟩ => ⟨S2048x128, .f32⟩
  | .local _ .vmem, ⟨1, _⟩ => ⟨S2048x128, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SsmDtDwRefIdeal.lean ====
abbrev S4096x1024 : Shape := ⟨2, ![4096, 1024]⟩
abbrev S4096x128 : Shape := ⟨2, ![4096, 128]⟩
abbrev S_ : Shape := ⟨0, ![]⟩
abbrev S1024x32 : Shape := ⟨2, ![1024, 32]⟩
abbrev S4096x32 : Shape := ⟨2, ![4096, 32]⟩
abbrev S32x1024 : Shape := ⟨2, ![32, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S_, .f32⟩
  | .hbm, ⟨3, _⟩ => ⟨S1024x32, .f32⟩
  | .hbm, ⟨4, _⟩ => ⟨S4096x32, .f32⟩
  | .hbm, ⟨5, _⟩ => ⟨S4096x32, .f32⟩
  | .hbm, ⟨6, _⟩ => ⟨S32x1024, .f32⟩
  | .hbm, ⟨7, _⟩ => ⟨S1024x32, .f32⟩
  | .hbm, ⟨8, _⟩ => ⟨S32x1024, .f32⟩
  | .hbm, ⟨9, _⟩ => ⟨S32x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Points.lean ====
/- What one grid point leaves: in each of the three output windows and in the carried rows, as the body's payloads of the
   input blocks (and, at the later points of a column block, of what the point before left). -/
module

public import proofs.«01_k».proof.Proof.Gen.KernelIdeal.Frame
public import Idealize.ShloMosaic.Lib.Pipeline.ValueKit

@[expose] public section

set_option maxRecDepth 16384

noncomputable section

namespace Cert.KernelIdeal.Back

open Cert.KernelIdeal Cert.KernelIdeal.Gen Idealize.ShloMosaic Idealize.ShloMosaic.TcCoe Idealize.ShloMosaic.Tactic Idealize.SL.Sem

variable {F : FTy → Type} [FloatOps F]

/-- The gradient of the convolved activations in one block: the u half and the g half side by side. -/
def dBlock (x0 : Vec F S512x1024 .f32) (x1 : Vec F S1408x1024 .bf16) (x3 : Vec F S512x2816 .f32) : FVec F S512x2816 .f32 :=
  k0_pay15 (k0_pay11 x3 x0 x1) (k0_pay12 x3 x0 x1) (k0_pay13 x3) (k0_pay14 x3)

/-- Its first eight rows, which the next point (the block above) reads. -/
def topBlock (x0 : Vec F S512x1024 .f32) (x1 : Vec F S1408x1024 .bf16) (x3 : Vec F S512x2816 .f32) : FVec F S8x2816 .f32 :=
  k0_pay16 (k0_pay11 x3 x0 x1) (k0_pay12 x3 x0 x1) (k0_pay13 x3) (k0_pay14 x3)

/-- The gradient of the pre-convolution activations in one block, over the rows `xs` of the block below. -/
def dhBlock (x0 : Vec F S512x1024 .f32) (x1 : Vec F S1408x1024 .bf16) (x3 : Vec F S512x2816 .f32) (x4 : Vec F S3x2816 .f32)
    (xs : Vec F S8x2816 .f32) : FVec F S512x2816 .bf16 :=
  k0_pay19 (k0_pay6 x4) (k0_pay11 x3 x0 x1) (k0_pay12 x3 x0 x1) (k0_pay13 x3) (k0_pay14 x3) xs

/-- One block's part of the gradient of the convolution's weight. -/
def dwBlock (x0 : Vec F S512x1024 .f32) (x1 : Vec F S1408x1024 .bf16) (x2 : Vec F S512x2816 .bf16) (x3 : Vec F S512x2816 .f32)
    (xs : Vec F S8x2816 .f32) : FVec F S3x2816 .f32 :=
  k0_pay1 (k0_pay7 x2) (k0_pay15 (k0_pay11 x3 x0 x1) (k0_pay12 x3 x0 x1) (k0_pay13 x3) (k0_pay14 x3)) (k0_pay17 (k0_pay11 x3 x0 x1) (k0_pay12 x3 x0 x1) (k0_pay13 x3) (k0_pay14 x3) xs) (k0_pay20 (k0_pay7 x2) (k0_pay11 x3 x0 x1) (k0_pay12 x3 x0 x1) (k0_pay13 x3) (k0_pay14 x3) xs)

/-- One block's part of the gradient of the convolution's bias. -/
def dbBlock (x0 : Vec F S512x1024 .f32) (x1 : Vec F S1408x1024 .bf16) (x3 : Vec F S512x2816 .f32) : FVec F S1x2816 .f32 :=
  k0_pay2 (k0_pay15 (k0_pay11 x3 x0 x1) (k0_pay12 x3 x0 x1) (k0_pay13 x3) (k0_pay14 x3))

theorem dhOf_A (c : Dev nD) (i : grid0.Coords) (a2 : Memref sig .tc .vmem S512x1024 .f32) (h2 : a2.IsWhole) (a3 : Memref sig .tc .vmem S1408x1024 .bf16) (h3 : a3.IsWhole) (a4 : Memref sig .tc .vmem S512x2816 .bf16) (h4 : a4.IsWhole) (a5 : Memref sig .tc .vmem S512x2816 .f32) (h5 : a5.IsWhole) (a6 : Memref sig .tc .vmem S3x2816 .f32) (h6 : a6.IsWhole) (a7 : Memref sig .tc .vmem S512x2816 .bf16) (h7 : a7.IsWhole) (a8 : Memref sig .tc .vmem S3x2816 .f32) (h8 : a8.IsWhole) (a9 : Memref sig .tc .vmem S1x2816 .f32) (h9 : a9.IsWhole) (a10 : Memref sig .tc .vmem S8x2816 .f32) (h10 : a10.IsWhole)
    (hc0 : cond0_0 i) (hc1 : cond0_1 i) (hc2 : ¬cond0_2 i) (x0 : Vec F S512x1024 .f32) (x1 : Vec F S1408x1024 .bf16) (x2 : Vec F S512x2816 .bf16) (x3 : Vec F S512x2816 .f32) (x4 : Vec F S3x2816 .f32) :
    out0_A_5 c i a2 h2 a3 h3 a4 h4 a5 h5 a6 h6 a7 h7 a8 h8 a9 h9 a10 h10 hc0 hc1 hc2 x0 x1 x2 x3 x4 = dhBlock x0 x1 x3 x4 k0_pay5 := by
  frame_out
  rfl

theorem dwOf_A (c : Dev nD) (i : grid0.Coords) (a2 : Memref sig .tc .vmem S512x1024 .f32) (h2 : a2.IsWhole) (a3 : Memref sig .tc .vmem S1408x1024 .bf16) (h3 : a3.IsWhole) (a4 : Memref sig .tc .vmem S512x2816 .bf16) (h4 : a4.IsWhole) (a5 : Memref sig .tc .vmem S512x2816 .f32) (h5 : a5.IsWhole) (a6 : Memref sig .tc .vmem S3x2816 .f32) (h6 : a6.IsWhole) (a7 : Memref sig .tc .vmem S512x2816 .bf16) (h7 : a7.IsWhole) (a8 : Memref sig .tc .vmem S3x2816 .f32) (h8 : a8.IsWhole) (a9 : Memref sig .tc .vmem S1x2816 .f32) (h9 : a9.IsWhole) (a10 : Memref sig .tc .vmem S8x2816 .f32) (h10 : a10.IsWhole)
    (hc0 : cond0_0 i) (hc1 : cond0_1 i) (hc2 : ¬cond0_2 i) (x0 : Vec F S512x1024 .f32) (x1 : Vec F S1408x1024 .bf16) (x2 : Vec F S512x2816 .bf16) (x3 : Vec F S512x2816 .f32) (x4 : Vec F S3x2816 .f32) :
    out0_A_6 c i a2 h2 a3 h3 a4 h4 a5 h5 a6 h6 a7 h7 a8 h8 a9 h9 a10 h10 hc0 hc1 hc2 x0 x1 x2 x3 x4 = dwBlock x0 x1 x2 x3 k0_pay5 := by
  frame_out
  rfl

theorem dbOf_A (c : Dev nD) (i : grid0.Coords) (a2 : Memref sig .tc .vmem S512x1024 .f32) (h2 : a2.IsWhole) (a3 : Memref sig .tc .vmem S1408x1024 .bf16) (h3 : a3.IsWhole) (a4 : Memref sig .tc .vmem S512x2816 .bf16) (h4 : a4.IsWhole) (a5 : Memref sig .tc .vmem S512x2816 .f32) (h5 : a5.IsWhole) (a6 : Memref sig .tc .vmem S3x2816 .f32) (h6 : a6.IsWhole) (a7 : Memref sig .tc .vmem S512x2816 .bf16) (h7 : a7.IsWhole) (a8 : Memref sig .tc .vmem S3x2816 .f32) (h8 : a8.IsWhole) (a9 : Memref sig .tc .vmem S1x2816 .f32) (h9 : a9.IsWhole) (a10 : Memref sig .tc .vmem S8x2816 .f32) (h10 : a10.IsWhole)
    (hc0 : cond0_0 i) (hc1 : cond0_1 i) (hc2 : ¬cond0_2 i) (x0 : Vec F S512x1024 .f32) (x1 : Vec F S1408x1024 .bf16) (x2 : Vec F S512x2816 .bf16) (x3 : Vec F S512x2816 .f32) (x4 : Vec F S3x2816 .f32) :
    out0_A_7 c i a2 h2 a3 h3 a4 h4 a5 h5 a6 h6 a7 h7 a8 h8 a9 h9 a10 h10 hc0 hc1 hc2 x0 x1 x2 x3 x4 = dbBlock x0 x1 x3 := by
  frame_out
  rfl

theorem aheadOf_A (c : Dev nD) (i : grid0.Coords) (a2 : Memref sig .tc .vmem S512x1024 .f32) (h2 : a2.IsWhole) (a3 : Memref sig .tc .vmem S1408x1024 .bf16) (h3 : a3.IsWhole) (a4 : Memref sig .tc .vmem S512x2816 .bf16) (h4 : a4.IsWhole) (a5 : Memref sig .tc .vmem S512x2816 .f32) (h5 : a5.IsWhole) (a6 : Memref sig .tc .vmem S3x2816 .f32) (h6 : a6.IsWhole) (a7 : Memref sig .tc .vmem S512x2816 .bf16) (h7 : a7.IsWhole) (a8 : Memref sig .tc .vmem S3x2816 .f32) (h8 : a8.IsWhole) (a9 : Memref sig .tc .vmem S1x2816 .f32) (h9 : a9.IsWhole) (a10 : Memref sig .tc .vmem S8x2816 .f32) (h10 : a10.IsWhole)
    (hc0 : cond0_0 i) (hc1 : cond0_1 i) (hc2 : ¬cond0_2 i) (x0 : Vec F S512x1024 .f32) (x1 : Vec F S1408x1024 .bf16) (x2 : Vec F S512x2816 .bf16) (x3 : Vec F S512x2816 .f32) (x4 : Vec F S3x2816 .f32) :
    sout0_A_0 c i a2 h2 a3 h3 a4 h4 a5 h5 a6 h6 a7 h7 a8 h8 a9 h9 a10 h10 hc0 hc1 hc2 x0 x1 x2 x3 x4 = topBlock x0 x1 x3 := by
  frame_out
  rfl

theorem dhOf_B (c : Dev nD) (i : grid0.Coords) (a2 : Memref sig .tc .vmem S512x1024 .f32) (h2 : a2.IsWhole) (a3 : Memref sig .tc .vmem S1408x1024 .bf16) (h3 : a3.IsWhole) (a4 : Memref sig .tc .vmem S512x2816 .bf16) (h4 : a4.IsWhole) (a5 : Memref sig .tc .vmem S512x2816 .f32) (h5 : a5.IsWhole) (a6 : Memref sig .tc .vmem S3x2816 .f32) (h6 : a6.IsWhole) (a7 : Memref sig .tc .vmem S512x2816 .bf16) (h7 : a7.IsWhole) (a8 : Memref sig .tc .vmem S3x2816 .f32) (h8 : a8.IsWhole) (a9 : Memref sig .tc .vmem S1x2816 .f32) (h9 : a9.IsWhole) (a10 : Memref sig .tc .vmem S8x2816 .f32) (h10 : a10.IsWhole)
    (hc0 : ¬cond0_0 i) (hc1 : ¬cond0_1 i) (hc2 : cond0_2 i) (x0 : Vec F S512x1024 .f32) (x1 : Vec F S1408x1024 .bf16) (x2 : Vec F S512x2816 .bf16) (x3 : Vec F S512x2816 .f32) (x4 : Vec F S3x2816 .f32) (xo6 : Vec F S3x2816 .f32) (xo7 : Vec F S1x2816 .f32) (xs0 : Vec F S8x2816 .f32) :
    out0_B_5 c i a2 h2 a3 h3 a4 h4 a5 h5 a6 h6 a7 h7 a8 h8 a9 h9 a10 h10 hc0 hc1 hc2 x0 x1 x2 x3 x4 xo6 xo7 xs0 = dhBlock x0 x1 x3 x4 xs0 := by
  frame_out
  rfl

theorem dwOf_B (c : Dev nD) (i : grid0.Coords) (a2 : Memref sig .tc .vmem S512x1024 .f32) (h2 : a2.IsWhole) (a3 : Memref sig .tc .vmem S1408x1024 .bf16) (h3 : a3.IsWhole) (a4 : Memref sig .tc .vmem S512x2816 .bf16) (h4 : a4.IsWhole) (a5 : Memref sig .tc .vmem S512x2816 .f32) (h5 : a5.IsWhole) (a6 : Memref sig .tc .vmem S3x2816 .f32) (h6 : a6.IsWhole) (a7 : Memref sig .tc .vmem S512x2816 .bf16) (h7 : a7.IsWhole) (a8 : Memref sig .tc .vmem S3x2816 .f32) (h8 : a8.IsWhole) (a9 : Memref sig .tc .vmem S1x2816 .f32) (h9 : a9.IsWhole) (a10 : Memref sig .tc .vmem S8x2816 .f32) (h10 : a10.IsWhole)
    (hc0 : ¬cond0_0 i) (hc1 : ¬cond0_1 i) (hc2 : cond0_2 i) (x0 : Vec F S512x1024 .f32) (x1 : Vec F S1408x1024 .bf16) (x2 : Vec F S512x2816 .bf16) (x3 : Vec F S512x2816 .f32) (x4 : Vec F S3x2816 .f32) (xo6 : Vec F S3x2816 .f32) (xo7 : Vec F S1x2816 .f32) (xs0 : Vec F S8x2816 .f32) :
    out0_B_6 c i a2 h2 a3 h3 a4 h4 a5 h5 a6 h6 a7 h7 a8 h8 a9 h9 a10 h10 hc0 hc1 hc2 x0 x1 x2 x3 x4 xo6 xo7 xs0 = addf xo6 (dwBlock x0 x1 x2 x3 xs0) := by
  frame_out
  unfold k0_pay3
  simp only [shapeCast_self]
  rfl

theorem dbOf_B (c : Dev nD) (i : grid0.Coords) (a2 : Memref sig .tc .vmem S512x1024 .f32) (h2 : a2.IsWhole) (a3 : Memref sig .tc .vmem S1408x1024 .bf16) (h3 : a3.IsWhole) (a4 : Memref sig .tc .vmem S512x2816 .bf16) (h4 : a4.IsWhole) (a5 : Memref sig .tc .vmem S512x2816 .f32) (h5 : a5.IsWhole) (a6 : Memref sig .tc .vmem S3x2816 .f32) (h6 : a6.IsWhole) (a7 : Memref sig .tc .vmem S512x2816 .bf16) (h7 : a7.IsWhole) (a8 : Memref sig .tc .vmem S3x2816 .f32) (h8 : a8.IsWhole) (a9 : Memref sig .tc .vmem S1x2816 .f32) (h9 : a9.IsWhole) (a10 : Memref sig .tc .vmem S8x2816 .f32) (h10 : a10.IsWhole)
    (hc0 : ¬cond0_0 i) (hc1 : ¬cond0_1 i) (hc2 : cond0_2 i) (x0 : Vec F S512x1024 .f32) (x1 : Vec F S1408x1024 .bf16) (x2 : Vec F S512x2816 .bf16) (x3 : Vec F S512x2816 .f32) (x4 : Vec F S3x2816 .f32) (xo6 : Vec F S3x2816 .f32) (xo7 : Vec F S1x2816 .f32) (xs0 : Vec F S8x2816 .f32) :
    out0_B_7 c i a2 h2 a3 h3 a4 h4 a5 h5 a6 h6 a7 h7 a8 h8 a9 h9 a10 h10 hc0 hc1 hc2 x0 x1 x2 x3 x4 xo6 xo7 xs0 = addf xo7 (dbBlock x0 x1 x3) := by
  frame_out
  unfold k0_pay4
  simp only [shapeCast_self]
  rfl

theorem aheadOf_B (c : Dev nD) (i : grid0.Coords) (a2 : Memref sig .tc .vmem S512x1024 .f32) (h2 : a2.IsWhole) (a3 : Memref sig .tc .vmem S1408x1024 .bf16) (h3 : a3.IsWhole) (a4 : Memref sig .tc .vmem S512x2816 .bf16) (h4 : a4.IsWhole) (a5 : Memref sig .tc .vmem S512x2816 .f32) (h5 : a5.IsWhole) (a6 : Memref sig .tc .vmem S3x2816 .f32) (h6 : a6.IsWhole) (a7 : Memref sig .tc .vmem S512x2816 .bf16) (h7 : a7.IsWhole) (a8 : Memref sig .tc .vmem S3x2816 .f32) (h8 : a8.IsWhole) (a9 : Memref sig .tc .vmem S1x2816 .f32) (h9 : a9.IsWhole) (a10 : Memref sig .tc .vmem S8x2816 .f32) (h10 : a10.IsWhole)
    (hc0 : ¬cond0_0 i) (hc1 : ¬cond0_1 i) (hc2 : cond0_2 i) (x0 : Vec F S512x1024 .f32) (x1 : Vec F S1408x1024 .bf16) (x2 : Vec F S512x2816 .bf16) (x3 : Vec F S512x2816 .f32) (x4 : Vec F S3x2816 .f32) (xo6 : Vec F S3x2816 .f32) (xo7 : Vec F S1x2816 .f32) (xs0 : Vec F S8x2816 .f32) :
    sout0_B_0 c i a2 h2 a3 h3 a4 h4 a5 h5 a6 h6 a7 h7 a8 h8 a9 h9 a10 h10 hc0 hc1 hc2 x0 x1 x2 x3 x4 xo6 xo7 xs0 = topBlock x0 x1 x3 := by
  frame_out
  rfl

end Cert.KernelIdeal.Back

end
-- ==== Proof.Spec.lean ====
/- The gradients as plain sums over rows and columns, free of shapes: what both programs are compared against. -/
module

public import Idealize.ShloMosaic.Lib.IdealHost
public import Idealize.ShloMosaic.Lib.Pointwise

@[expose] public section

set_option maxRecDepth 16384

noncomputable section

namespace FfnBack

open Idealize.ShloMosaic

/-- The logistic function. -/
def sg (x : EReal) : EReal := Ideal.div 1 (1 + Ideal.exp (-x))

/-- The gradient of `silu g * u` with respect to `u`, at the incoming gradient `dv`. -/
def gradU (dv g : EReal) : EReal := dv * (g * sg g)

/-- The gradient of `silu g * u` with respect to `g`, at the incoming gradient `dv`. -/
def gradG (dv u g : EReal) : EReal := dv * u * (sg g * (1 + g * (1 - sg g)))

theorem gradG_congr {dv dv' u u' g g' : EReal} (h₁ : dv = dv') (h₂ : u = u') (h₃ : g = g') :
    gradG dv u g = gradG dv' u' g' := by subst h₁ h₂ h₃; rfl

section
variable (X : Fin 4096 → Fin 5632 → EReal) (W : Fin 3 → Fin 5632 → EReal) (B : Fin 5632 → EReal)
  (D : Fin 2816 → Fin 1024 → EReal) (C : Fin 4096 → Fin 1024 → EReal)

/-- The convolved activations: rows before the first are zero. -/
def hcv (R : Fin 4096) (l : Fin 5632) : EReal :=
  (if h : (R : ℕ) < 2 then 0 else X ⟨R - 2, by omega⟩ l) * W 0 l +
    (if h : 1 + (R : ℕ) < 2 then 0 else X ⟨1 + R - 2, by omega⟩ l) * W 1 l + X R l * W 2 l + B l

/-- The gradient of the gated activations: one row of the incoming gradient times one row of the weight. -/
def dav (R : Fin 4096) (q : Fin 2816) : EReal := ∑ k, C R k * D q k

/-- The gradient of the convolved activations. -/
def dconv (R : Fin 4096) (l : Fin 5632) : EReal :=
  if h : (l : ℕ) < 2816 then gradU (dav D C R ⟨l, h⟩) (hcv X W B R ⟨2816 + l, by omega⟩)
  else gradG (dav D C R ⟨l - 2816, by omega⟩) (hcv X W B R ⟨l - 2816, by omega⟩) (hcv X W B R l)

/-- The same, zero after the last row. -/
def dext (n : ℕ) (l : Fin 5632) : EReal := if h : n < 4096 then dconv X W B D C ⟨n, h⟩ l else 0

/-- The gradient of the pre-convolution activations. -/
def dhid (R : Fin 4096) (l : Fin 5632) : EReal :=
  dext X W B D C R l * W 2 l + dext X W B D C (R + 1) l * W 1 l + dext X W B D C (R + 2) l * W 0 l

/-- The gradient of the convolution's weight. -/
def dwgt (k : Fin 3) (l : Fin 5632) : EReal := ∑ R : Fin 4096, dext X W B D C (R + (2 - k)) l * X R l

/-- The gradient of the convolution's bias. -/
def dbia (l : Fin 5632) : EReal := ∑ R : Fin 4096, dext X W B D C R l

end

end FfnBack

end
-- ==== Proof.Blocks.lean ====
/- The blocks one grid point computes, read at an index over the extended reals. -/
module

public import proofs.«01_k».proof.Proof.Points
public import proofs.«01_k».proof.Proof.Spec

@[expose] public section

set_option maxRecDepth 16384

noncomputable section

namespace Cert.KernelIdeal.Back

open Cert.KernelIdeal Cert.KernelIdeal.Gen Idealize.ShloMosaic Idealize.ShloMosaic.TcCoe Idealize.ShloMosaic.Tactic Idealize.SL.Sem

variable (x0 : FVec Ideal S512x1024 .f32) (x1 : FVec Ideal S1408x1024 .bf16) (x2 : FVec Ideal S512x2816 .bf16)
  (x3 : FVec Ideal S512x2816 .f32) (x4 : FVec Ideal S3x2816 .f32) (xs : FVec Ideal S8x2816 .f32)

theorem dBlock_at (r : Fin 512) (l : Fin 2816) : dBlock (F := Ideal) x0 x1 x3 (ix2 r l) =
    if h : (l : ℕ) < 1408 then
      FfnBack.gradU (∑ k : Fin 1024, x0 (ix2 r k) * x1 (ix2 ⟨l, h⟩ k)) (x3 (ix2 r ⟨1408 + l, by omega⟩))
    else
      FfnBack.gradG (∑ k : Fin 1024, x0 (ix2 r k) * x1 (ix2 ⟨l - 1408, by omega⟩ k)) (x3 (ix2 r ⟨l - 1408, by omega⟩)) (x3 (ix2 r l)) := by
  pointwise [dBlock, k0_pay15, k0_pay11, k0_pay12, k0_pay13, k0_pay14, k0_pay8, k0_pay9, k0_pay10, FfnBack.gradU, FfnBack.gradG, FfnBack.sg]
  by_cases h : (l : ℕ) < 1408
  · simp only [dif_pos h, zero_sub]
  · have e : (⟨1408 + ((l : ℕ) - 1408), by omega⟩ : Fin 2816) = l := Fin.ext (by first | omega | (simp only []; omega))
    simp only [dif_neg h, zero_sub, e]

theorem topBlock_at (r : Fin 8) (l : Fin 2816) : topBlock (F := Ideal) x0 x1 x3 (ix2 r l) = dBlock (F := Ideal) x0 x1 x3 (ix2 ⟨r, by omega⟩ l) := by
  unfold topBlock dBlock
  generalize k0_pay11 (F := Ideal) x3 x0 x1 = a
  generalize k0_pay12 (F := Ideal) x3 x0 x1 = b
  pointwise [k0_pay16]

section
variable (a b d e : FVec Ideal S512x1408 .f32)

/-- The block shifted up by one row: its last row is the block below's first. -/
theorem shift1_at (r : Fin 512) (l : Fin 2816) : k0_pay17 (F := Ideal) a b d e xs (ix2 r l) =
    if h : (r : ℕ) < 511 then k0_pay15 (F := Ideal) a b d e (ix2 ⟨r + 1, by omega⟩ l) else xs (ix2 0 l) := by
  pointwise [k0_pay17]
  obtain ⟨r, hr⟩ := r
  by_cases h : r < 504
  · rw [dif_pos h, dif_pos (by first | omega | (simp only []; omega))]
    exact congrArg (fun i => k0_pay15 a b d e (ix2 i l)) (Fin.ext (by first | omega | (simp only []; omega)))
  · rw [dif_neg h]
    simp (disch := word_cmp_side) only [hlo_ix]
    by_cases h' : 7 ≤ r - 504
    · rw [if_pos h', dif_neg (by first | omega | (simp only []; omega))]
      exact congrArg (fun i => xs (ix2 i l)) (Fin.ext (by first | omega | (simp only []; omega)))
    · rw [if_neg h', dif_pos (by first | omega | (simp only []; omega))]
      exact congrArg (fun i => k0_pay15 a b d e (ix2 i l)) (Fin.ext (by first | omega | (simp only []; omega)))

/-- The block shifted up by two rows: its last two rows are the block below's first two. -/
theorem shift2_at (r : Fin 512) (l : Fin 2816) : k0_pay18 (F := Ideal) a b d e xs (ix2 r l) =
    if h : (r : ℕ) < 510 then k0_pay15 (F := Ideal) a b d e (ix2 ⟨r + 2, by omega⟩ l) else xs (ix2 ⟨r - 510, by omega⟩ l) := by
  pointwise [k0_pay18]
  obtain ⟨r, hr⟩ := r
  by_cases h : r < 504
  · rw [dif_pos h, dif_pos (by first | omega | (simp only []; omega))]
    exact congrArg (fun i => k0_pay15 a b d e (ix2 i l)) (Fin.ext (by first | omega | (simp only []; omega)))
  · rw [dif_neg h]
    simp (disch := word_cmp_side) only [hlo_ix]
    by_cases h' : 6 ≤ r - 504
    · rw [if_pos h', dif_neg (by first | omega | (simp only []; omega))]
      exact congrArg (fun i => xs (ix2 i l)) (Fin.ext (by first | omega | (simp only []; omega)))
    · rw [if_neg h', dif_pos (by first | omega | (simp only []; omega))]
      exact congrArg (fun i => k0_pay15 a b d e (ix2 i l)) (Fin.ext (by first | omega | (simp only []; omega)))

end

theorem dhBlock_at (r : Fin 512) (l : Fin 2816) : dhBlock (F := Ideal) x0 x1 x3 x4 xs (ix2 r l) =
   dBlock (F := Ideal) x0 x1 x3 (ix2 r l) * x4 (ix2 2 l)
   + (if h : (r : ℕ) < 511 then dBlock (F := Ideal) x0 x1 x3 (ix2 ⟨r + 1, by omega⟩ l) else xs (ix2 0 l)) * x4 (ix2 1 l)
   + (if h : (r : ℕ) < 510 then dBlock (F := Ideal) x0 x1 x3 (ix2 ⟨r + 2, by omega⟩ l) else xs (ix2 ⟨r - 510, by omega⟩ l)) * x4 (ix2 0 l) := by
  unfold dhBlock dBlock
  generalize k0_pay11 (F := Ideal) x3 x0 x1 = a
  generalize k0_pay12 (F := Ideal) x3 x0 x1 = b
  pointwise [k0_pay6, k0_pay19, shift1_at, shift2_at]

theorem dwBlock_at0 (l : Fin 2816) : dwBlock (F := Ideal) x0 x1 x2 x3 xs (ix2 0 l) =
    ∑ r : Fin 512, (if h : (r : ℕ) < 510 then dBlock (F := Ideal) x0 x1 x3 (ix2 ⟨r + 2, by omega⟩ l) else xs (ix2 ⟨r - 510, by omega⟩ l)) * x2 (ix2 r l) := by
  unfold dwBlock dBlock
  generalize k0_pay11 (F := Ideal) x3 x0 x1 = a
  generalize k0_pay12 (F := Ideal) x3 x0 x1 = b
  generalize k0_pay13 (F := Ideal) x3 = d
  generalize k0_pay14 (F := Ideal) x3 = e
  pointwise [k0_pay7, k0_pay1, k0_pay20, shift2_at]

theorem dwBlock_at1 (l : Fin 2816) : dwBlock (F := Ideal) x0 x1 x2 x3 xs (ix2 1 l) =
    ∑ r : Fin 512, (if h : (r : ℕ) < 511 then dBlock (F := Ideal) x0 x1 x3 (ix2 ⟨r + 1, by omega⟩ l) else xs (ix2 0 l)) * x2 (ix2 r l) := by
  unfold dwBlock dBlock
  generalize k0_pay11 (F := Ideal) x3 x0 x1 = a
  generalize k0_pay12 (F := Ideal) x3 x0 x1 = b
  generalize k0_pay13 (F := Ideal) x3 = d
  generalize k0_pay14 (F := Ideal) x3 = e
  pointwise [k0_pay7, k0_pay1, shift1_at]

theorem dwBlock_at2 (l : Fin 2816) : dwBlock (F := Ideal) x0 x1 x2 x3 xs (ix2 2 l) =
    ∑ r : Fin 512, dBlock (F := Ideal) x0 x1 x3 (ix2 r l) * x2 (ix2 r l) := by
  unfold dwBlock dBlock
  generalize k0_pay11 (F := Ideal) x3 x0 x1 = a
  generalize k0_pay12 (F := Ideal) x3 x0 x1 = b
  generalize k0_pay13 (F := Ideal) x3 = d
  generalize k0_pay14 (F := Ideal) x3 = e
  pointwise [k0_pay7, k0_pay1]

theorem dbBlock_at (r : Fin 1) (l : Fin 2816) : dbBlock (F := Ideal) x0 x1 x3 (ix2 r l) = ∑ x, dBlock (F := Ideal) x0 x1 x3 (ix2 x l) := by
  unfold dbBlock dBlock
  generalize k0_pay11 (F := Ideal) x3 x0 x1 = a
  generalize k0_pay12 (F := Ideal) x3 x0 x1 = b
  pointwise [k0_pay2]

end Cert.KernelIdeal.Back

end
-- ==== Proof.Entry.lean ====
/- The call's operands at an index, in terms of the arguments: the columns in the call's order. -/
module

public import proofs.«01_k».proof.Proof.Gen.KernelIdeal.Frame
public import proofs.«01_k».proof.Proof.Spec
public import Idealize.ShloMosaic.Lib.StableHlo.ReadAt

@[expose] public section

set_option maxRecDepth 16384

noncomputable section

namespace Cert.KernelIdeal.Back

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (c : Dev nD)

/-- The column of the arguments that a column of the call's operands holds: the halves of u and g interleaved. -/
def pc (l : Fin 5632) : Fin 5632 :=
  ⟨if (l : ℕ) < 1408 then l else if (l : ℕ) < 2816 then l + 1408 else if (l : ℕ) < 4224 then l - 1408 else l, by split_ifs <;> omega⟩

/-- The arguments as functions of row and column. -/
def aX (R : Fin 4096) (l : Fin 5632) : EReal := m (c.tc.loc main_arg0) (ix2 R l)
def aW (k : Fin 3) (l : Fin 5632) : EReal := m (c.tc.loc main_arg1) (ix2 k l)
def aB (l : Fin 5632) : EReal := m (c.tc.loc main_arg2) (ix2 0 l)
def aD (q : Fin 2816) (k : Fin 1024) : EReal := m (c.tc.loc main_arg3) (ix2 q k)
def aC (R : Fin 4096) (k : Fin 1024) : EReal := m (c.tc.loc main_arg4) (ix2 R k)

theorem ct_at (r : Fin 4096) (k : Fin 1024) : V m c main_arg4 (ix2 r k) = aC m c r k := by
  rw [V_main_arg4]; rfl

theorem wd_at (q : Fin 2816) (k : Fin 1024) : V m c main_v41 (ix2 q k) = aD m c q k := by
  unfold V
  after_reads_at
  rfl

theorem hid_at (r : Fin 4096) (l : Fin 5632) : V m c main_v5 (ix2 r l) = aX m c r (pc l) := by
  unfold V aX
  after_reads_at
  by_cases h1 : (l : ℕ) < 1408
  · have e : pc l = ⟨l, by omega⟩ := Fin.ext (by simp only [pc, if_pos h1])
    simp only [dif_pos (show (l : ℕ) < 1408 by omega)]
    rw [e]
    after_reads_at
  by_cases h2 : (l : ℕ) < 2816
  · have e : pc l = ⟨2816 + (l - 1408), by omega⟩ := Fin.ext (by simp only [pc, if_neg h1, if_pos h2]; omega)
    simp only [dif_neg (show ¬ (l : ℕ) < 1408 by omega), dif_pos (show (l : ℕ) - 1408 < 1408 by omega)]
    rw [e]
    after_reads_at
  by_cases h3 : (l : ℕ) < 4224
  · have e : pc l = ⟨1408 + (l - 1408 - 1408), by omega⟩ := Fin.ext (by simp only [pc, if_neg h1, if_neg h2, if_pos h3]; omega)
    simp only [dif_neg (show ¬ (l : ℕ) < 1408 by omega), dif_neg (show ¬ (l : ℕ) - 1408 < 1408 by omega), dif_pos (show (l : ℕ) - 1408 - 1408 < 1408 by omega)]
    rw [e]
    after_reads_at
  · have e : pc l = ⟨4224 + (l - 1408 - 1408 - 1408), by omega⟩ := Fin.ext (by simp only [pc, if_neg h1, if_neg h2, if_neg h3]; omega)
    simp only [dif_neg (show ¬ (l : ℕ) < 1408 by omega), dif_neg (show ¬ (l : ℕ) - 1408 < 1408 by omega), dif_neg (show ¬ (l : ℕ) - 1408 - 1408 < 1408 by omega)]
    rw [e]
    after_reads_at

theorem cw_at (r : Fin 3) (l : Fin 5632) : V m c main_v10 (ix2 r l) = aW m c r (pc l) := by
  unfold V aW
  after_reads_at
  by_cases h1 : (l : ℕ) < 1408
  · have e : pc l = ⟨l, by omega⟩ := Fin.ext (by simp only [pc, if_pos h1])
    simp only [dif_pos (show (l : ℕ) < 1408 by omega)]
    rw [e]
    after_reads_at
  by_cases h2 : (l : ℕ) < 2816
  · have e : pc l = ⟨2816 + (l - 1408), by omega⟩ := Fin.ext (by simp only [pc, if_neg h1, if_pos h2]; omega)
    simp only [dif_neg (show ¬ (l : ℕ) < 1408 by omega), dif_pos (show (l : ℕ) - 1408 < 1408 by omega)]
    rw [e]
    after_reads_at
  by_cases h3 : (l : ℕ) < 4224
  · have e : pc l = ⟨1408 + (l - 1408 - 1408), by omega⟩ := Fin.ext (by simp only [pc, if_neg h1, if_neg h2, if_pos h3]; omega)
    simp only [dif_neg (show ¬ (l : ℕ) < 1408 by omega), dif_neg (show ¬ (l : ℕ) - 1408 < 1408 by omega), dif_pos (show (l : ℕ) - 1408 - 1408 < 1408 by omega)]
    rw [e]
    after_reads_at
  · have e : pc l = ⟨4224 + (l - 1408 - 1408 - 1408), by omega⟩ := Fin.ext (by simp only [pc, if_neg h1, if_neg h2, if_neg h3]; omega)
    simp only [dif_neg (show ¬ (l : ℕ) < 1408 by omega), dif_neg (show ¬ (l : ℕ) - 1408 < 1408 by omega), dif_neg (show ¬ (l : ℕ) - 1408 - 1408 < 1408 by omega)]
    rw [e]
    after_reads_at

theorem hc_at (r : Fin 4096) (l : Fin 5632) : V m c main_v40 (ix2 r l) =
    FfnBack.hcv (aX m c) (aW m c) (aB m c) r (pc l) := by
  unfold V FfnBack.hcv aX aW aB
  after_reads_at
  by_cases h1 : (l : ℕ) < 1408
  · have e : pc l = ⟨l, by omega⟩ := Fin.ext (by simp only [pc, if_pos h1])
    simp only [dif_pos (show (l : ℕ) < 1408 by omega)]
    after_reads_at
    simp only [dif_pos (show (l : ℕ) < 1408 by omega)]
    after_reads_at
    simp only [e]; try rfl
  by_cases h2 : (l : ℕ) < 2816
  · have e : pc l = ⟨2816 + (l - 1408), by omega⟩ := Fin.ext (by simp only [pc, if_neg h1, if_pos h2]; omega)
    simp only [dif_neg (show ¬ (l : ℕ) < 1408 by omega), dif_pos (show (l : ℕ) - 1408 < 1408 by omega)]
    after_reads_at
    simp only [dif_neg (show ¬ (l : ℕ) < 1408 by omega), dif_pos (show (l : ℕ) - 1408 < 1408 by omega)]
    after_reads_at
    simp only [e]; try rfl
  by_cases h3 : (l : ℕ) < 4224
  · have e : pc l = ⟨1408 + (l - 1408 - 1408), by omega⟩ := Fin.ext (by simp only [pc, if_neg h1, if_neg h2, if_pos h3]; omega)
    simp only [dif_neg (show ¬ (l : ℕ) < 1408 by omega), dif_neg (show ¬ (l : ℕ) - 1408 < 1408 by omega), dif_pos (show (l : ℕ) - 1408 - 1408 < 1408 by omega)]
    after_reads_at
    simp only [dif_neg (show ¬ (l : ℕ) < 1408 by omega), dif_neg (show ¬ (l : ℕ) - 1408 < 1408 by omega), dif_pos (show (l : ℕ) - 1408 - 1408 < 1408 by omega)]
    after_reads_at
    simp only [e]; try rfl
  · have e : pc l = ⟨4224 + (l - 1408 - 1408 - 1408), by omega⟩ := Fin.ext (by simp only [pc, if_neg h1, if_neg h2, if_neg h3]; omega)
    simp only [dif_neg (show ¬ (l : ℕ) < 1408 by omega), dif_neg (show ¬ (l : ℕ) - 1408 < 1408 by omega), dif_neg (show ¬ (l : ℕ) - 1408 - 1408 < 1408 by omega)]
    after_reads_at
    simp only [dif_neg (show ¬ (l : ℕ) < 1408 by omega), dif_neg (show ¬ (l : ℕ) - 1408 < 1408 by omega), dif_neg (show ¬ (l : ℕ) - 1408 - 1408 < 1408 by omega)]
    after_reads_at
    simp only [e]; try rfl

end Cert.KernelIdeal.Back

end
-- ==== Proof.Left.lean ====
/- What each grid point leaves, at an index: the rows and columns of the gradients the point holds. -/
module

public import proofs.«01_k».proof.Proof.Blocks
public import proofs.«01_k».proof.Proof.Entry

@[expose] public section

set_option maxRecDepth 16384

noncomputable section

namespace Cert.KernelIdeal.Back

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, t.val < 16 ∧ win0_0.index t = ![7 - t.val % 8, 0] ∧ win0_1.index t = ![t.val / 8, 0] ∧
    win0_2.index t = ![7 - t.val % 8, t.val / 8] ∧ win0_3.index t = ![7 - t.val % 8, t.val / 8] ∧ win0_4.index t = ![0, t.val / 8] ∧
    win0_5.index t = ![7 - t.val % 8, t.val / 8] ∧ win0_6.index t = ![0, t.val / 8] ∧ win0_7.index t = ![0, t.val / 8] :=
  (by decide +kernel : ∀ t : Fin grid0.N, _)

/-- The row of the arrays that row `r` of point `t`'s blocks is; the points walk the rows from the last block up. -/
def row (t : Fin cfg0.N) (r : Fin 512) : Fin 4096 := ⟨512 * (7 - t.val % 8) + r, by omega⟩

/-- The column of the arrays that column `l` of point `t`'s blocks is. -/
def col (t : Fin cfg0.N) (l : Fin 2816) : Fin 5632 := ⟨2816 * (t.val / 8) + l, by have := (idx t).1; omega⟩

/-- The column of the arguments it holds. -/
def acol (t : Fin cfg0.N) (l : Fin 2816) : Fin 5632 := pc (col t l)

theorem acol_val (t : Fin cfg0.N) (l : Fin 2816) :
    (acol t l : ℕ) = if (l : ℕ) < 1408 then 1408 * (t.val / 8) + l else 1408 + 1408 * (t.val / 8) + l := by
  have := (idx t).1
  have hd : t.val / 8 = 0 ∨ t.val / 8 = 1 := by omega
  have hl := l.isLt
  have hc : (col t l : ℕ) = 2816 * (t.val / 8) + l := rfl
  have hp : (acol t l : ℕ) = if (col t l : ℕ) < 1408 then (col t l : ℕ) else if (col t l : ℕ) < 2816 then (col t l : ℕ) + 1408
      else if (col t l : ℕ) < 4224 then (col t l : ℕ) - 1408 else (col t l : ℕ) := rfl
  rw [hp]
  by_cases h : (l : ℕ) < 1408
  · rw [if_pos h]
    rcases hd with hd | hd
    · rw [if_pos (by omega)]; omega
    · rw [if_neg (by omega), if_neg (by omega), if_pos (by omega)]; omega
  · rw [if_neg h]
    rcases hd with hd | hd
    · rw [if_neg (by omega), if_pos (by omega)]; omega
    · rw [if_neg (by omega), if_neg (by omega), if_neg (by omega)]; omega

theorem iblk0_at (t : Fin cfg0.N) (r : Fin 512) (k : Fin 1024) : iblk m c 0 t (ix2 r k) = aC m c (row t r) k := by
  rw [← ct_at]
  blk_ext [iblk, idx t, row]

theorem iblk1_at (t : Fin cfg0.N) (q : Fin 1408) (k : Fin 1024) :
    iblk m c 1 t (ix2 q k) = aD m c ⟨1408 * (t.val / 8) + q, by have := (idx t).1; omega⟩ k := by
  rw [← wd_at]
  blk_ext [iblk, idx t]

theorem iblk2_at (t : Fin cfg0.N) (r : Fin 512) (l : Fin 2816) : iblk m c 2 t (ix2 r l) = aX m c (row t r) (acol t l) := by
  unfold acol
  rw [← hid_at]
  blk_ext [iblk, idx t, row, col]

theorem iblk3_at (t : Fin cfg0.N) (r : Fin 512) (l : Fin 2816) :
    iblk m c 3 t (ix2 r l) = FfnBack.hcv (aX m c) (aW m c) (aB m c) (row t r) (acol t l) := by
  unfold acol
  rw [← hc_at]
  blk_ext [iblk, idx t, row, col]

theorem iblk4_at (t : Fin cfg0.N) (k : Fin 3) (l : Fin 2816) : iblk m c 4 t (ix2 k l) = aW m c k (acol t l) := by
  unfold acol
  rw [← cw_at]
  blk_ext [iblk, idx t, col]

/-- The gradient of the convolved activations after the last row is zero: its rows as the points carry them. -/
abbrev dx (n : ℕ) (l : Fin 5632) : EReal := FfnBack.dext (aX m c) (aW m c) (aB m c) (aD m c) (aC m c) n l

/-- A point's block of the gradient of the convolved activations. -/
abbrev dB (t : Fin cfg0.N) : FVec Ideal S512x2816 .f32 := dBlock (F := Ideal) (iblk m c 0 t) (iblk m c 1 t) (iblk m c 3 t)

theorem dB_at (t : Fin cfg0.N) (r : Fin 512) (l : Fin 2816) : dB m c t (ix2 r l) = dx m c (row t r) (acol t l) := by
  have hR : ((row t r : Fin 4096) : ℕ) < 4096 := (row t r).isLt
  have ha := acol_val t l
  have ht := (idx t).1
  refine (dBlock_at _ _ _ r l).trans ?_
  unfold dx FfnBack.dext
  rw [dif_pos hR]
  unfold FfnBack.dconv FfnBack.dav
  by_cases h : (l : ℕ) < 1408
  · rw [if_pos h] at ha
    rw [dif_pos h, dif_pos (by omega)]
    refine congrArg₂ FfnBack.gradU (Finset.sum_congr rfl fun k _ => ?_) ?_
    · refine Ideal.mul_congr (iblk0_at m c t r k) ((iblk1_at m c t _ k).trans ?_)
      exact congrArg (fun q => aD m c q k) (Fin.ext ha.symm)
    · refine (iblk3_at m c t r _).trans ?_
      refine congrArg (FfnBack.hcv _ _ _ _) (Fin.ext ?_)
      rw [acol_val, if_neg (by simp only []; omega)]
      simp only []
      omega
  · rw [if_neg h] at ha
    rw [dif_neg h, dif_neg (by omega)]
    have e : FfnBack.hcv (aX m c) (aW m c) (aB m c) (row t r) (acol t ⟨l - 1408, by omega⟩) =
        FfnBack.hcv (aX m c) (aW m c) (aB m c) (row t r) ⟨acol t l - 2816, by omega⟩ := by
      refine congrArg (FfnBack.hcv _ _ _ _) (Fin.ext ?_)
      rw [acol_val, if_pos (by simp only []; omega)]
      simp only []
      omega
    refine FfnBack.gradG_congr (Finset.sum_congr rfl fun k _ => ?_) ((iblk3_at m c t r _).trans e) (iblk3_at m c t r l)
    refine Ideal.mul_congr (iblk0_at m c t r k) ((iblk1_at m c t _ k).trans ?_)
    refine congrArg (fun q => aD m c q k) (Fin.ext ?_)
    simp only []
    omega

theorem topB_at (t : Fin cfg0.N) (s : Fin 8) (l : Fin 2816) :
    topBlock (F := Ideal) (iblk m c 0 t) (iblk m c 1 t) (iblk m c 3 t) (ix2 s l) = dx m c (512 * (7 - t.val % 8) + s) (acol t l) :=
  (topBlock_at _ _ _ s l).trans (dB_at m c t _ l)

/-- The rows carried into a point: zero at the last block, else the first rows of the block below. -/
def ahead (t : Fin cfg0.N) : FVec Ideal S8x2816 .f32 :=
  if h : t.val % 8 = 0 then k0_pay5 (F := Ideal)
  else topBlock (F := Ideal) (iblk m c 0 ⟨t.val - 1, by have := t.isLt; omega⟩) (iblk m c 1 ⟨t.val - 1, by have := t.isLt; omega⟩) (iblk m c 3 ⟨t.val - 1, by have := t.isLt; omega⟩)

theorem pay5_at (i : S8x2816.Idx) : k0_pay5 (F := Ideal) i = 0 := by pointwise [k0_pay5]

theorem ahead_at (t : Fin cfg0.N) (s : Fin 8) (l : Fin 2816) :
    ahead m c t (ix2 s l) = dx m c (512 * (8 - t.val % 8) + s) (acol t l) := by
  unfold ahead
  by_cases h : t.val % 8 = 0
  · rw [dif_pos h, pay5_at]
    unfold dx FfnBack.dext
    rw [dif_neg (by omega)]
  · rw [dif_neg h]
    refine (topB_at m c _ s l).trans ?_
    have e1 : 512 * (7 - (t.val - 1) % 8) + (s : ℕ) = 512 * (8 - t.val % 8) + s := by omega
    have e2 : acol ⟨t.val - 1, by have := t.isLt; omega⟩ l = acol t l := by
      refine Fin.ext ?_
      rw [acol_val, acol_val]
      simp only []
      have : (t.val - 1) / 8 = t.val / 8 := by omega
      rw [this]
    simp only [e1, e2]

theorem left_ahead (t : Fin cfg0.N) : (outsAt0 m c t.val t.isLt).2.2.2 =
    topBlock (F := Ideal) (iblk m c 0 t) (iblk m c 1 t) (iblk m c 3 t) := by
  by_cases h : t.val % 8 = 0
  · rw [outsAt0_A m c t h h (by omega)]
    dsimp only
    rw [aheadOf_A]
  · rw [outsAt0_B m c t h h (by omega)]
    dsimp only
    rw [aheadOf_B]

theorem left_dh (t : Fin cfg0.N) : (outsAt0 m c t.val t.isLt).1 =
    dhBlock (F := Ideal) (iblk m c 0 t) (iblk m c 1 t) (iblk m c 3 t) (iblk m c 4 t) (ahead m c t) := by
  by_cases h : t.val % 8 = 0
  · rw [outsAt0_A m c t h h (by omega), ahead, dif_pos h]
    dsimp only
    rw [dhOf_A]
  · rw [outsAt0_B m c t h h (by omega), ahead, dif_neg h, ← left_ahead m c ⟨t.val - 1, by have := t.isLt; omega⟩]
    dsimp only
    rw [dhOf_B]

theorem left_dw_A (t : Fin cfg0.N) (h : t.val % 8 = 0) : (outsAt0 m c t.val t.isLt).2.1 =
    dwBlock (F := Ideal) (iblk m c 0 t) (iblk m c 1 t) (iblk m c 2 t) (iblk m c 3 t) (ahead m c t) := by
  rw [outsAt0_A m c t h h (by omega), ahead, dif_pos h]
  dsimp only
  rw [dwOf_A]

theorem left_dw_B (t : Fin cfg0.N) (h : ¬t.val % 8 = 0) : (outsAt0 m c t.val t.isLt).2.1 =
    addf (outsAt0 m c (t.val - 1) (by have := t.isLt; omega)).2.1
      (dwBlock (F := Ideal) (iblk m c 0 t) (iblk m c 1 t) (iblk m c 2 t) (iblk m c 3 t) (ahead m c t)) := by
  rw [outsAt0_B m c t h h (by omega), ahead, dif_neg h, ← left_ahead m c ⟨t.val - 1, by have := t.isLt; omega⟩]
  dsimp only
  rw [dwOf_B]

theorem left_db_A (t : Fin cfg0.N) (h : t.val % 8 = 0) : (outsAt0 m c t.val t.isLt).2.2.1 =
    dbBlock (F := Ideal) (iblk m c 0 t) (iblk m c 1 t) (iblk m c 3 t) := by
  rw [outsAt0_A m c t h h (by omega)]
  dsimp only
  rw [dbOf_A]

theorem left_db_B (t : Fin cfg0.N) (h : ¬t.val % 8 = 0) : (outsAt0 m c t.val t.isLt).2.2.1 =
    addf (outsAt0 m c (t.val - 1) (by have := t.isLt; omega)).2.2.1
      (dbBlock (F := Ideal) (iblk m c 0 t) (iblk m c 1 t) (iblk m c 3 t)) := by
  rw [outsAt0_B m c t h h (by omega)]
  dsimp only
  rw [dbOf_B]

end Cert.KernelIdeal.Back

end
-- ==== Proof.Final.lean ====
/- The three arrays the call writes: the gradients, their columns in the call's order. -/
module

public import proofs.«01_k».proof.Proof.Left

@[expose] public section

set_option maxRecDepth 16384

noncomputable section

namespace Cert.KernelIdeal.Back

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (c : Dev nD)

theorem hN : cfg0.N = 16 := N_0

/-- The gradients of the arguments, as functions of the arguments. -/
abbrev gH (R : Fin 4096) (l : Fin 5632) : EReal := FfnBack.dhid (aX m c) (aW m c) (aB m c) (aD m c) (aC m c) R l
abbrev gW (k : Fin 3) (l : Fin 5632) : EReal := FfnBack.dwgt (aX m c) (aW m c) (aB m c) (aD m c) (aC m c) k l
abbrev gB (l : Fin 5632) : EReal := FfnBack.dbia (aX m c) (aW m c) (aB m c) (aD m c) (aC m c) l

/-- The arrays the call writes. -/
def arrH : FVec Ideal S4096x5632 .bf16 := fun i => gH m c (i 0) (pc (i 1))
def arrW : FVec Ideal S3x5632 .f32 := fun i => gW m c (i 0) (pc (i 1))
def arrB : FVec Ideal S1x5632 .f32 := fun i => gB m c (pc (i 1))

/-- The row below, also past the block's end. -/
theorem next1 (t : Fin cfg0.N) (r : Fin 512) (l : Fin 2816) :
    (if h : (r : ℕ) < 511 then dB m c t (ix2 ⟨r + 1, by omega⟩ l) else ahead m c t (ix2 0 l)) = dx m c (row t r + 1) (acol t l) := by
  by_cases h : (r : ℕ) < 511
  · rw [dif_pos h]
    exact dB_at m c t _ l
  · rw [dif_neg h]
    refine (ahead_at m c t 0 l).trans (congrArg (fun n => dx m c n (acol t l)) ?_)
    simp only [row]
    omega

/-- The row after that. -/
theorem next2 (t : Fin cfg0.N) (r : Fin 512) (l : Fin 2816) :
    (if h : (r : ℕ) < 510 then dB m c t (ix2 ⟨r + 2, by omega⟩ l) else ahead m c t (ix2 ⟨r - 510, by omega⟩ l)) =
      dx m c (row t r + 2) (acol t l) := by
  by_cases h : (r : ℕ) < 510
  · rw [dif_pos h]
    exact dB_at m c t _ l
  · rw [dif_neg h]
    refine (ahead_at m c t _ l).trans (congrArg (fun n => dx m c n (acol t l)) ?_)
    simp only [row]
    omega

theorem dh_at (t : Fin cfg0.N) (r : Fin 512) (l : Fin 2816) :
    dhBlock (F := Ideal) (iblk m c 0 t) (iblk m c 1 t) (iblk m c 3 t) (iblk m c 4 t) (ahead m c t) (ix2 r l) =
      gH m c (row t r) (acol t l) := by
  refine (dhBlock_at _ _ _ _ _ r l).trans ?_
  refine Ideal.add_congr (Ideal.add_congr ?_ ?_) ?_
  · exact Ideal.mul_congr (dB_at m c t r l) (iblk4_at m c t 2 l)
  · exact Ideal.mul_congr (next1 m c t r l) (iblk4_at m c t 1 l)
  · exact Ideal.mul_congr (next2 m c t r l) (iblk4_at m c t 0 l)

theorem dw_at (t : Fin cfg0.N) (k : Fin 3) (l : Fin 2816) :
    dwBlock (F := Ideal) (iblk m c 0 t) (iblk m c 1 t) (iblk m c 2 t) (iblk m c 3 t) (ahead m c t) (ix2 k l) =
      ∑ r : Fin 512, dx m c (row t r + (2 - k)) (acol t l) * aX m c (row t r) (acol t l) := by
  match k with
  | 0 => exact (dwBlock_at0 _ _ _ _ _ l).trans (Finset.sum_congr rfl fun r _ => Ideal.mul_congr (next2 m c t r l) (iblk2_at m c t r l))
  | 1 => exact (dwBlock_at1 _ _ _ _ _ l).trans (Finset.sum_congr rfl fun r _ => Ideal.mul_congr (next1 m c t r l) (iblk2_at m c t r l))
  | 2 => exact (dwBlock_at2 _ _ _ _ _ l).trans (Finset.sum_congr rfl fun r _ => Ideal.mul_congr (dB_at m c t r l) (iblk2_at m c t r l))

theorem db_at (t : Fin cfg0.N) (z : Fin 1) (l : Fin 2816) :
    dbBlock (F := Ideal) (iblk m c 0 t) (iblk m c 1 t) (iblk m c 3 t) (ix2 z l) = ∑ r : Fin 512, dx m c (row t r) (acol t l) :=
  (dbBlock_at _ _ _ z l).trans (Finset.sum_congr rfl fun r _ => dB_at m c t r l)

/-- The blocks of rows, from the last up, are all the rows. -/
theorem sum_rows (j : ℕ) (hj : j < 2) (f : Fin 4096 → EReal) :
    (∑ s : Fin 8, ∑ r : Fin 512, f (row ⟨8 * j + s, by have := hN; omega⟩ r)) = ∑ R : Fin 4096, f R := by
  rw [Fin.sum_univ_tiles 8 512 rfl f, ← Equiv.sum_comp Fin.revPerm]
  refine Finset.sum_congr rfl fun s _ => ?_
  refine Finset.sum_congr rfl fun r _ => ?_
  refine congrArg f (Fin.ext ?_)
  simp only [row, Fin.revPerm_apply, Fin.val_rev]
  omega

theorem final_dh : (dats m 0 c).arrAt 5 cfg0.N = arrH m c := by
  refine (dats m 0 c).arrAt_eq_of_covers 5 _ (by decide +kernel) fun t hf y => ?_
  obtain ⟨r, l, rfl⟩ : ∃ r : Fin 512, ∃ l : Fin 2816, y = ix2 r l := ⟨y 0, y 1, eq_ix2 y⟩
  have e : (win0_5.blk t).view.emb (ix2 r l) = ix2 (row t r) (col t l) := by blk_ext [idx t, row, col]
  blk_simp
  rw [e]
  rw [after0_5, left_dh]
  exact dh_at m c t r l

theorem final_dw : (dats m 0 c).arrAt 6 cfg0.N = arrW m c := by
  refine (dats m 0 c).arrAt_eq_of_covers 6 _ (by decide +kernel) fun t hf y => ?_
  obtain ⟨r, l, rfl⟩ : ∃ r : Fin 3, ∃ l : Fin 2816, y = ix2 r l := ⟨y 0, y 1, eq_ix2 y⟩
  have e : (win0_6.blk t).view.emb (ix2 r l) = ix2 r (col t l) := by blk_ext [idx t, row, col]
  blk_simp
  rw [e]
  rw [after0_6, Pipeline.eq_sum_fin_of_reset_step_apply_of_flush (fun n h => (outsAt0 m c n h).2.1) 8 (fun _ => 0)
    (fun p j => dwBlock (F := Ideal) (iblk m c 0 p) (iblk m c 1 p) (iblk m c 2 p) (iblk m c 3 p) (ahead m c p) j)
    (fun t h j => by rw [left_dw_A m c t h, zero_add]) (fun t h j => by rw [left_dw_B m c t h]; rfl)
    t ((flush0_6 t).mp hf) _, zero_add]
  have ht := (idx t).1
  have hs : ∀ s : Fin 8, (⟨8 * (t.val / 8) + s, by have := hN; omega⟩ : Fin cfg0.N).val / 8 = t.val / 8 := fun s => by
    simp only []; omega
  have hc : ∀ s : Fin 8, acol ⟨8 * (t.val / 8) + s, by have := hN; omega⟩ l = acol t l := fun s =>
    Fin.ext (by rw [acol_val, acol_val, hs])
  refine Eq.trans (Fin.sum_fin_congr fun s => ?_) (sum_rows (t.val / 8) (by omega) (fun R => dx m c (R + (2 - r)) (acol t l) * aX m c R (acol t l)))
  refine (dw_at m c _ r l).trans ?_
  rw [hc]

theorem final_db : (dats m 0 c).arrAt 7 cfg0.N = arrB m c := by
  refine (dats m 0 c).arrAt_eq_of_covers 7 _ (by decide +kernel) fun t hf y => ?_
  obtain ⟨r, l, rfl⟩ : ∃ r : Fin 1, ∃ l : Fin 2816, y = ix2 r l := ⟨y 0, y 1, eq_ix2 y⟩
  have e : (win0_7.blk t).view.emb (ix2 r l) = ix2 r (col t l) := by blk_ext [idx t, row, col]
  blk_simp
  rw [e]
  rw [after0_7, Pipeline.eq_sum_fin_of_reset_step_apply_of_flush (fun n h => (outsAt0 m c n h).2.2.1) 8 (fun _ => 0)
    (fun p j => dbBlock (F := Ideal) (iblk m c 0 p) (iblk m c 1 p) (iblk m c 3 p) j)
    (fun t h j => by rw [left_db_A m c t h, zero_add]) (fun t h j => by rw [left_db_B m c t h]; rfl)
    t ((flush0_7 t).mp hf) _, zero_add]
  have ht := (idx t).1
  have hs : ∀ s : Fin 8, (⟨8 * (t.val / 8) + s, by have := hN; omega⟩ : Fin cfg0.N).val / 8 = t.val / 8 := fun s => by
    simp only []; omega
  have hc : ∀ s : Fin 8, acol ⟨8 * (t.val / 8) + s, by have := hN; omega⟩ l = acol t l := fun s =>
    Fin.ext (by rw [acol_val, acol_val, hs])
  refine Eq.trans (Fin.sum_fin_congr fun s => ?_) (sum_rows (t.val / 8) (by omega) (fun R => dx m c R (acol t l)))
  refine (db_at m c _ r l).trans ?_
  rw [hc]

end Cert.KernelIdeal.Back

end
-- ==== Proof.Tail.lean ====
/- The host lines after the call put the gradients' columns back: the results in the arguments' order. -/
module

public import proofs.«01_k».proof.Proof.Final

@[expose] public section

set_option maxRecDepth 16384

noncomputable section

namespace Cert.KernelIdeal.Back

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (c : Dev nD)

/-- Interleaving the halves twice changes nothing. -/
theorem pc_pc (l : Fin 5632) : pc (pc l) = l := by
  refine Fin.ext ?_
  have h : ∀ x : Fin 5632, (pc x : ℕ) = if (x : ℕ) < 1408 then (x : ℕ) else if (x : ℕ) < 2816 then (x : ℕ) + 1408
      else if (x : ℕ) < 4224 then (x : ℕ) - 1408 else (x : ℕ) := fun _ => rfl
  have h1 := h l
  have h2 := h (pc l)
  split_ifs at h1 h2 <;> omega

theorem order_dh (W : Valuation τ sig (Elt Ideal)) (r : Fin 4096) (l : Fin 5632) :
    StableHlo.after [hostOps1].flatten W main_v47 (ix2 r l) = W main_v42_0 (ix2 r (pc l)) := by
  after_reads_at
  by_cases h1 : (l : ℕ) < 1408
  · have e : pc l = ⟨l, by omega⟩ := Fin.ext (by simp only [pc, if_pos h1])
    simp only [dif_pos (show (l : ℕ) < 1408 by omega), e]
    after_reads_at
  by_cases h2 : (l : ℕ) < 2816
  · have e : pc l = ⟨2816 + (l - 1408), by omega⟩ := Fin.ext (by simp only [pc, if_neg h1, if_pos h2]; omega)
    simp only [dif_neg (show ¬ (l : ℕ) < 1408 by omega), dif_pos (show (l : ℕ) - 1408 < 1408 by omega), e]
    after_reads_at
  by_cases h3 : (l : ℕ) < 4224
  · have e : pc l = ⟨1408 + (l - 1408 - 1408), by omega⟩ := Fin.ext (by simp only [pc, if_neg h1, if_neg h2, if_pos h3]; omega)
    simp only [dif_neg (show ¬ (l : ℕ) < 1408 by omega), dif_neg (show ¬ (l : ℕ) - 1408 < 1408 by omega), dif_pos (show (l : ℕ) - 1408 - 1408 < 1408 by omega), e]
    after_reads_at
  · have e : pc l = ⟨4224 + (l - 1408 - 1408 - 1408), by omega⟩ := Fin.ext (by simp only [pc, if_neg h1, if_neg h2, if_neg h3]; omega)
    simp only [dif_neg (show ¬ (l : ℕ) < 1408 by omega), dif_neg (show ¬ (l : ℕ) - 1408 < 1408 by omega), dif_neg (show ¬ (l : ℕ) - 1408 - 1408 < 1408 by omega), e]
    after_reads_at

theorem res_dh (r : Fin 4096) (l : Fin 5632) :
    Pipeline.afterTail₀ cfgs (dats m) 0 (V0 m) [hostOps1] c main_v47 (ix2 r l) = gH m c r l := by
  unfold Pipeline.afterTail₀
  refine (order_dh _ r l).trans ?_
  have e : Pipeline.withArrays (cfgs 0).spec c (V0 m c) (fun w => (dats m 0 c).arrAt w (cfgs 0).N) main_v42_0 = arrH m c :=
    (Pipeline.withArrays_arr (cfgs 0).spec (by decide : Function.Injective (Pipeline.arrRef spec0)) c (V0 m c)
      (fun w => (dats m 0 c).arrAt w (cfgs 0).N) 5).trans (final_dh m c)
  refine (congrFun e _).trans ?_
  unfold arrH
  exact congrArg (gH m c r) (pc_pc l)

theorem order_dw (W : Valuation τ sig (Elt Ideal)) (r : Fin 3) (l : Fin 5632) :
    StableHlo.after [hostOps1].flatten W main_v52 (ix2 r l) = W main_v42_1 (ix2 r (pc l)) := by
  after_reads_at
  by_cases h1 : (l : ℕ) < 1408
  · have e : pc l = ⟨l, by omega⟩ := Fin.ext (by simp only [pc, if_pos h1])
    simp only [dif_pos (show (l : ℕ) < 1408 by omega), e]
    after_reads_at
  by_cases h2 : (l : ℕ) < 2816
  · have e : pc l = ⟨2816 + (l - 1408), by omega⟩ := Fin.ext (by simp only [pc, if_neg h1, if_pos h2]; omega)
    simp only [dif_neg (show ¬ (l : ℕ) < 1408 by omega), dif_pos (show (l : ℕ) - 1408 < 1408 by omega), e]
    after_reads_at
  by_cases h3 : (l : ℕ) < 4224
  · have e : pc l = ⟨1408 + (l - 1408 - 1408), by omega⟩ := Fin.ext (by simp only [pc, if_neg h1, if_neg h2, if_pos h3]; omega)
    simp only [dif_neg (show ¬ (l : ℕ) < 1408 by omega), dif_neg (show ¬ (l : ℕ) - 1408 < 1408 by omega), dif_pos (show (l : ℕ) - 1408 - 1408 < 1408 by omega), e]
    after_reads_at
  · have e : pc l = ⟨4224 + (l - 1408 - 1408 - 1408), by omega⟩ := Fin.ext (by simp only [pc, if_neg h1, if_neg h2, if_neg h3]; omega)
    simp only [dif_neg (show ¬ (l : ℕ) < 1408 by omega), dif_neg (show ¬ (l : ℕ) - 1408 < 1408 by omega), dif_neg (show ¬ (l : ℕ) - 1408 - 1408 < 1408 by omega), e]
    after_reads_at

theorem res_dw (r : Fin 3) (l : Fin 5632) :
    Pipeline.afterTail₀ cfgs (dats m) 0 (V0 m) [hostOps1] c main_v52 (ix2 r l) = gW m c r l := by
  unfold Pipeline.afterTail₀
  refine (order_dw _ r l).trans ?_
  have e : Pipeline.withArrays (cfgs 0).spec c (V0 m c) (fun w => (dats m 0 c).arrAt w (cfgs 0).N) main_v42_1 = arrW m c :=
    (Pipeline.withArrays_arr (cfgs 0).spec (by decide : Function.Injective (Pipeline.arrRef spec0)) c (V0 m c)
      (fun w => (dats m 0 c).arrAt w (cfgs 0).N) 6).trans (final_dw m c)
  refine (congrFun e _).trans ?_
  unfold arrW
  exact congrArg (gW m c r) (pc_pc l)

theorem order_db (W : Valuation τ sig (Elt Ideal)) (r : Fin 1) (l : Fin 5632) :
    StableHlo.after [hostOps1].flatten W main_v57 (ix2 r l) = W main_v42_2 (ix2 r (pc l)) := by
  obtain rfl : r = 0 := Subsingleton.elim _ _
  after_reads_at
  by_cases h1 : (l : ℕ) < 1408
  · have e : pc l = ⟨l, by omega⟩ := Fin.ext (by simp only [pc, if_pos h1])
    simp only [dif_pos (show (l : ℕ) < 1408 by omega), e]
    after_reads_at
  by_cases h2 : (l : ℕ) < 2816
  · have e : pc l = ⟨2816 + (l - 1408), by omega⟩ := Fin.ext (by simp only [pc, if_neg h1, if_pos h2]; omega)
    simp only [dif_neg (show ¬ (l : ℕ) < 1408 by omega), dif_pos (show (l : ℕ) - 1408 < 1408 by omega), e]
    after_reads_at
  by_cases h3 : (l : ℕ) < 4224
  · have e : pc l = ⟨1408 + (l - 1408 - 1408), by omega⟩ := Fin.ext (by simp only [pc, if_neg h1, if_neg h2, if_pos h3]; omega)
    simp only [dif_neg (show ¬ (l : ℕ) < 1408 by omega), dif_neg (show ¬ (l : ℕ) - 1408 < 1408 by omega), dif_pos (show (l : ℕ) - 1408 - 1408 < 1408 by omega), e]
    after_reads_at
  · have e : pc l = ⟨4224 + (l - 1408 - 1408 - 1408), by omega⟩ := Fin.ext (by simp only [pc, if_neg h1, if_neg h2, if_neg h3]; omega)
    simp only [dif_neg (show ¬ (l : ℕ) < 1408 by omega), dif_neg (show ¬ (l : ℕ) - 1408 < 1408 by omega), dif_neg (show ¬ (l : ℕ) - 1408 - 1408 < 1408 by omega), e]
    after_reads_at

theorem res_db (r : Fin 1) (l : Fin 5632) :
    Pipeline.afterTail₀ cfgs (dats m) 0 (V0 m) [hostOps1] c main_v57 (ix2 r l) = gB m c l := by
  unfold Pipeline.afterTail₀
  refine (order_db _ r l).trans ?_
  have e : Pipeline.withArrays (cfgs 0).spec c (V0 m c) (fun w => (dats m 0 c).arrAt w (cfgs 0).N) main_v42_2 = arrB m c :=
    (Pipeline.withArrays_arr (cfgs 0).spec (by decide : Function.Injective (Pipeline.arrRef spec0)) c (V0 m c)
      (fun w => (dats m 0 c).arrAt w (cfgs 0).N) 7).trans (final_db m c)
  refine (congrFun e _).trans ?_
  unfold arrB
  exact congrArg (gB m c) (pc_pc l)

end Cert.KernelIdeal.Back

end
-- ==== Proof.Finite.lean ====
/- Real arguments: what the precondition says of each entry, and the two spellings of the SiLU gradient at reals. -/
module

public import proofs.«01_k».proof.Proof.Spec
public import proofs.«01_k».proof.Defs
public import Idealize.ShloMosaic.Lib.ReduceAll
public import Idealize.ShloMosaic.Lib.Pointwise

@[expose] public section

set_option maxRecDepth 16384

noncomputable section

namespace FfnBack

open Idealize.ShloMosaic

/-- An extended real that is a real. -/
def Real? (x : EReal) : Prop := ∃ r : ℝ, x = (r : EReal)

theorem Real?.zero : Real? 0 := ⟨0, by simp⟩
theorem Real?.add {x y : EReal} : Real? x → Real? y → Real? (x + y)
  | ⟨a, ha⟩, ⟨b, hb⟩ => ⟨a + b, by rw [ha, hb, EReal.coe_add]⟩
theorem Real?.mul {x y : EReal} : Real? x → Real? y → Real? (x * y)
  | ⟨a, ha⟩, ⟨b, hb⟩ => ⟨a * b, by rw [ha, hb, EReal.coe_mul]⟩
theorem Real?.sum {ι : Type} (s : Finset ι) (f : ι → EReal) (h : ∀ i, Real? (f i)) : Real? (∑ i ∈ s, f i) := by
  classical
  induction s using Finset.induction_on with
  | empty => exact ⟨0, by simp⟩
  | insert a s ha ih => rw [Finset.sum_insert ha]; exact (h a).add ih

theorem Real?.sg {x : EReal} : Real? x → Real? (sg x)
  | ⟨a, ha⟩ => ⟨(1 + Real.exp (-a))⁻¹, by
    have hp : (0 : ℝ) < 1 + Real.exp (-a) := by positivity
    subst ha
    unfold FfnBack.sg
    rw [← EReal.coe_neg, show Ideal.exp ((-a : ℝ) : EReal) = ((Real.exp (-a) : ℝ) : EReal) from rfl,
      ← EReal.coe_one, ← EReal.coe_add]
    have h0 : ((1 + Real.exp (-a) : ℝ) : EReal) ≠ 0 := by exact_mod_cast hp.ne'
    rw [Ideal.div, if_neg h0, EReal.coe_one, one_mul, EReal.coe_inv]⟩

/-- The product rule's two terms are the closed form. -/
theorem gradG_split {dv u g : EReal} (hd : Real? dv) (hu : Real? u) (hg : Real? g) :
    dv * u * sg g + (g * (dv * u)) * (sg g * (1 - sg g)) = gradG dv u g := by
  obtain ⟨s, hs⟩ := hg.sg
  obtain ⟨a, rfl⟩ := hd
  obtain ⟨b, rfl⟩ := hu
  obtain ⟨c, rfl⟩ := hg
  unfold gradG
  rw [hs]
  norm_cast
  ring

/-- `|x| < ∞`, as the predicate prints it, says that `x` is a real. -/
theorem Real?.of_cmp {x : EReal}
    (h : Ideal.cmp .olt (max x (-x)) (Ideal.ofBits .f32 0x7F800000#32) = 1#1) : Real? x := by
  have htop : Ideal.ofBits .f32 0x7F800000#32 = ⊤ := by simp [Ideal.ofBits, Ideal.ieee]
  rw [htop] at h
  have hlt : max x (-x) < ⊤ := by
    unfold Ideal.cmp at h
    by_contra hc
    simp [hc] at h
  induction x using EReal.rec with
  | bot => simp at hlt
  | top => simp at hlt
  | coe r => exact ⟨r, rfl⟩

section
variable {X : Fin 4096 → Fin 5632 → EReal} {W : Fin 3 → Fin 5632 → EReal} {B : Fin 5632 → EReal}
  {D : Fin 2816 → Fin 1024 → EReal} {C : Fin 4096 → Fin 1024 → EReal}

theorem hcv_real (hX : ∀ r l, Real? (X r l)) (hW : ∀ k l, Real? (W k l)) (hB : ∀ l, Real? (B l)) (R : Fin 4096) (l : Fin 5632) :
    Real? (hcv X W B R l) := by
  unfold hcv
  refine Real?.add (Real?.add (Real?.add (Real?.mul ?_ (hW _ _)) (Real?.mul ?_ (hW _ _))) (Real?.mul (hX _ _) (hW _ _))) (hB _)
  · split
    exacts [Real?.zero, hX _ _]
  · split
    exacts [Real?.zero, hX _ _]

theorem dav_real (hD : ∀ q k, Real? (D q k)) (hC : ∀ r k, Real? (C r k)) (R : Fin 4096) (q : Fin 2816) : Real? (dav D C R q) :=
  Real?.sum _ _ fun k => (hC R k).mul (hD q k)

end

/-- A sum over rows against rows shifted down is the sum over rows of the other factor shifted up. -/
theorem sum_shift (n j : ℕ) (f g : Fin n → EReal) :
    ∑ r : Fin n, (if h : (r : ℕ) < j then 0 else f ⟨r - j, by omega⟩) * g r
      = ∑ r : Fin n, (if h : (r : ℕ) + j < n then g ⟨r + j, h⟩ else 0) * f r := by
  have hl : ∀ r : Fin n, (if h : (r : ℕ) < j then 0 else f ⟨r - j, by omega⟩) * g r
      = ∑ q : Fin n, if (r : ℕ) = q + j then f q * g r else 0 := by
    intro r
    by_cases h : (r : ℕ) < j
    · rw [dif_pos h, zero_mul]
      exact (Finset.sum_eq_zero fun q _ => if_neg (by omega)).symm
    · rw [dif_neg h, Finset.sum_eq_single ⟨r - j, by omega⟩ (fun q _ hq => if_neg fun e => hq (Fin.ext (by simp only []; omega)))
        (fun hn => absurd (Finset.mem_univ _) hn), if_pos (by simp only []; omega)]
  have hr : ∀ q : Fin n, (if h : (q : ℕ) + j < n then g ⟨q + j, h⟩ else 0) * f q
      = ∑ r : Fin n, if (r : ℕ) = q + j then f q * g r else 0 := by
    intro q
    by_cases h : (q : ℕ) + j < n
    · rw [dif_pos h, Finset.sum_eq_single ⟨q + j, h⟩ (fun r _ hr => if_neg fun e => hr (Fin.ext e))
        (fun hn => absurd (Finset.mem_univ _) hn), if_pos rfl, mul_comm]
    · rw [dif_neg h, zero_mul]
      exact (Finset.sum_eq_zero fun r _ => if_neg (by omega)).symm
  simp only [hl, hr]
  exact Finset.sum_comm

end FfnBack

namespace Cert.Pre_finite

open Idealize.ShloMosaic FfnBack

instance : Subsingleton S_.Idx := ⟨fun a b => funext fun i => i.elim0⟩

section
variable (a0 : FVec Ideal S4096x5632 .f32) (a1 : FVec Ideal S3x5632 .f32) (a2 : FVec Ideal S1x5632 .f32)
  (a3 : FVec Ideal S2816x1024 .f32) (a4 : FVec Ideal S4096x1024 .f32)

/-- The precondition says that every entry of every argument is a real. -/
theorem real_of_fn [Cert.Pre_finite.Facts] (h : fn (F := Ideal) a0 a1 a2 a3 a4 = fun _ => 1#1) :
    (∀ i, Real? (a0 i)) ∧ (∀ i, Real? (a1 i)) ∧ (∀ i, Real? (a2 i)) ∧ (∀ i, Real? (a3 i)) ∧ (∀ i, Real? (a4 i)) := by
  have h' := congrFun h (fun i => i.elim0)
  dsimp only [fn, fn_part1] at h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨fun i => Real?.of_cmp (Host.reduce_andi_all _ _ _ _ _ e0 i), fun i => Real?.of_cmp (Host.reduce_andi_all _ _ _ _ _ e1 i),
    fun i => Real?.of_cmp (Host.reduce_andi_all _ _ _ _ _ e2 i), fun i => Real?.of_cmp (Host.reduce_andi_all _ _ _ _ _ e3 i),
    fun i => Real?.of_cmp (Host.reduce_andi_all _ _ _ _ _ e4 i)⟩

end

end Cert.Pre_finite

end
-- ==== Proof.Ref.lean ====
/- The reference's results at an index: its printed terms, split at the gradient of the convolved activations, are the plain sums. -/
module

public import proofs.«01_k».proof.Proof.Finite
public import proofs.«01_k».proof.Proof.Gen.ReferenceIdeal.Run

@[expose] public section

set_option maxRecDepth 16384

noncomputable section

namespace Cert.ReferenceIdeal.Back

open Cert.ReferenceIdeal Cert.ReferenceIdeal.Gen Idealize.ShloMosaic Idealize.ShloMosaic.TcCoe Idealize.ShloMosaic.Tactic Idealize.SL.Sem FfnBack

section
variable (A0 : FVec Ideal S4096x5632 .f32) (A1 : FVec Ideal S3x5632 .f32) (A2 : FVec Ideal S1x5632 .f32)
  (A3 : FVec Ideal S2816x1024 .f32) (A4 : FVec Ideal S4096x1024 .f32)

/-- The activations with two rows of zeros before the first. -/
def xpad : FVec Ideal S4098x5632 .f32 :=
  concatenate S4098x5632 0 [⟨S2x5632, (broadcastInDim S2x5632 ![] bcast_S_S2x5632 (constant S_ .f32 0x00000000#32))⟩, ⟨S4096x5632, A0⟩] concatenates_S2x5632_S4096x5632_S4098x5632_d0

/-- A tap of the convolution, for every row. -/
def tap0 : FVec Ideal S4096x5632 .f32 :=
  broadcastInDim S4096x5632 ![0, 1] bcast_S1x5632_S4096x5632_0_1 (broadcastInDim S1x5632 ![1] bcast_S5632_S1x5632_1 (shapeCast _ (extractStridedSlice S1x5632 ![0, 0] A1 slices_S3x5632_S1x5632_0_0) shapeCasts_S1x5632_S5632))
@[inherit_doc tap0] def tap1 : FVec Ideal S4096x5632 .f32 :=
  broadcastInDim S4096x5632 ![0, 1] bcast_S1x5632_S4096x5632_0_1 (broadcastInDim S1x5632 ![1] bcast_S5632_S1x5632_1 (shapeCast _ (extractStridedSlice S1x5632 ![1, 0] A1 slices_S3x5632_S1x5632_1_0) shapeCasts_S1x5632_S5632))
@[inherit_doc tap0] def tap2 : FVec Ideal S4096x5632 .f32 :=
  broadcastInDim S4096x5632 ![0, 1] bcast_S1x5632_S4096x5632_0_1 (broadcastInDim S1x5632 ![1] bcast_S5632_S1x5632_1 (shapeCast _ (extractStridedSlice S1x5632 ![2, 0] A1 slices_S3x5632_S1x5632_2_0) shapeCasts_S1x5632_S5632))

/-- The activations shifted down by two rows and by one. -/
def lag2 : FVec Ideal S4096x5632 .f32 := extractStridedSlice S4096x5632 ![0, 0] (xpad A0) slices_S4098x5632_S4096x5632_0_0
@[inherit_doc lag2] def lag1 : FVec Ideal S4096x5632 .f32 := extractStridedSlice S4096x5632 ![1, 0] (xpad A0) slices_S4098x5632_S4096x5632_1_0
@[inherit_doc lag2] def lag0 : FVec Ideal S4096x5632 .f32 := extractStridedSlice S4096x5632 ![2, 0] (xpad A0) slices_S4098x5632_S4096x5632_2_0

/-- The convolved activations. -/
def hcR : FVec Ideal S4096x5632 .f32 :=
  addf (addf (addf (mulf (lag2 A0) (tap0 A1)) (mulf (lag1 A0) (tap1 A1))) (mulf (lag0 A0) (tap2 A1))) (broadcastInDim S4096x5632 ![0, 1] bcast_S1x5632_S4096x5632_0_1 A2)

/-- The gate's half of the convolved activations. -/
def gR : FVec Ideal S4096x2816 .f32 := extractStridedSlice S4096x2816 ![0, 2816] (hcR A0 A1 A2) slices_S4096x5632_S4096x2816_0_2816
/-- The other half. -/
def uR : FVec Ideal S4096x2816 .f32 := extractStridedSlice S4096x2816 ![0, 0] (hcR A0 A1 A2) slices_S4096x5632_S4096x2816_0_0
/-- The constant one. -/
def oneR : FVec Ideal S4096x2816 .f32 := broadcastInDim S4096x2816 ![] bcast_S_S4096x2816 (constant S_ .f32 0x3F800000#32)
/-- The logistic of the gate. -/
def sR : FVec Ideal S4096x2816 .f32 := Host.divf oneR (addf oneR (Host.exp (Host.negf (gR A0 A1 A2))))
/-- The gradient of the gated activations. -/
def dvR : FVec Ideal S4096x2816 .f32 := Host.dotGeneral dot_S4096x1024_S2816x1024_S4096x2816_1_1_0_0_n_n none A4 A3

/-- The gradient of the convolved activations. -/
def dR : FVec Ideal S4096x5632 .f32 :=
  concatenate S4096x5632 1 [⟨S4096x2816, mulf (mulf (gR A0 A1 A2) (sR A0 A1 A2)) (dvR A3 A4)⟩, ⟨S4096x2816, addf (mulf (mulf (dvR A3 A4) (uR A0 A1 A2)) (sR A0 A1 A2)) (mulf (mulf (gR A0 A1 A2) (mulf (dvR A3 A4) (uR A0 A1 A2))) (mulf (sR A0 A1 A2) (subf oneR (sR A0 A1 A2))))⟩] concatenates_S4096x2816_S4096x2816_S4096x5632_d1

/-- A product's sum over the rows, as the one row it is kept in. -/
def rowSum (x d : FVec Ideal S4096x5632 .f32) : FVec Ideal S1x5632 .f32 :=
  broadcastInDim S1x5632 ![1] bcast_S5632_S1x5632_1 (Host.reduceAdd (shapeCast S1x5632 (Host.reduceAdd (mulf x d) (constant S_ .f32 0x00000000#32) reducesTo_S4096x5632_S5632_d0 h_S_) shapeCasts_S5632_S1x5632) (constant S_ .f32 0x00000000#32) reducesTo_S1x5632_S5632_d0 h_S_)

theorem lag0_at (r : Fin 4096) (l : Fin 5632) : lag0 A0 (ix2 r l) = A0 (ix2 r l) := by
  unfold lag0 xpad; pointwise []
theorem lag1_at (r : Fin 4096) (l : Fin 5632) : lag1 A0 (ix2 r l) = if h : 1 + (r : ℕ) < 2 then 0 else A0 (ix2 ⟨1 + r - 2, by omega⟩ l) := by
  unfold lag1 xpad; pointwise []
theorem lag2_at (r : Fin 4096) (l : Fin 5632) : lag2 A0 (ix2 r l) = if h : (r : ℕ) < 2 then 0 else A0 (ix2 ⟨r - 2, by omega⟩ l) := by
  unfold lag2 xpad; pointwise []
theorem tap0_at (r : Fin 4096) (l : Fin 5632) : tap0 A1 (ix2 r l) = A1 (ix2 0 l) := by unfold tap0; pointwise []
theorem tap1_at (r : Fin 4096) (l : Fin 5632) : tap1 A1 (ix2 r l) = A1 (ix2 1 l) := by unfold tap1; pointwise []
theorem tap2_at (r : Fin 4096) (l : Fin 5632) : tap2 A1 (ix2 r l) = A1 (ix2 2 l) := by unfold tap2; pointwise []
theorem hcR_at (r : Fin 4096) (l : Fin 5632) : hcR A0 A1 A2 (ix2 r l)
    = hcv (fun r l => A0 (ix2 r l)) (fun k l => A1 (ix2 k l)) (fun l => A2 (ix2 0 l)) r l := by
  unfold hcR hcv
  pointwise [lag0_at, lag1_at, lag2_at, tap0_at, tap1_at, tap2_at]
theorem dvR_at (r : Fin 4096) (q : Fin 2816) : dvR A3 A4 (ix2 r q)
    = dav (fun q k => A3 (ix2 q k)) (fun r k => A4 (ix2 r k)) r q := by
  unfold dvR dav
  pointwise []
theorem sR_at (r : Fin 4096) (q : Fin 2816) : sR A0 A1 A2 (ix2 r q) = sg (gR A0 A1 A2 (ix2 r q)) := by
  unfold sR oneR FfnBack.sg
  pointwise []
theorem rowSum_at (x d : FVec Ideal S4096x5632 .f32) (z : Fin 1) (l : Fin 5632) : rowSum x d (ix2 z l)
    = ∑ r : Fin 4096, x (ix2 r l) * d (ix2 r l) := by
  unfold rowSum
  pointwise []
  exact Fin.sum_univ_one _

theorem gR_at (r : Fin 4096) (q : Fin 2816) : gR A0 A1 A2 (ix2 r q) = hcR A0 A1 A2 (ix2 r ⟨2816 + q, by omega⟩) := by
  unfold gR; pointwise []
theorem uR_at (r : Fin 4096) (q : Fin 2816) : uR A0 A1 A2 (ix2 r q) = hcR A0 A1 A2 (ix2 r ⟨q, by omega⟩) := by
  unfold uR; pointwise []

variable (h0 : ∀ r l, Real? (A0 (ix2 r l))) (h1 : ∀ k l, Real? (A1 (ix2 k l))) (h2 : ∀ l, Real? (A2 (ix2 0 l)))
  (h3 : ∀ q k, Real? (A3 (ix2 q k))) (h4 : ∀ r k, Real? (A4 (ix2 r k)))

include h0 h1 h2 h3 h4 in
theorem dR_at (r : Fin 4096) (l : Fin 5632) : dR A0 A1 A2 A3 A4 (ix2 r l)
    = dext (fun r l => A0 (ix2 r l)) (fun k l => A1 (ix2 k l)) (fun l => A2 (ix2 0 l)) (fun q k => A3 (ix2 q k)) (fun r k => A4 (ix2 r k)) r l := by
  rw [dext, dif_pos r.isLt, dconv]
  have hone : ∀ q, oneR (ix2 r q) = 1 := fun q => by unfold oneR; pointwise []
  by_cases hl : (l : ℕ) < 2816
  · rw [dif_pos hl, gradU, mul_comm]
    unfold dR
    pointwise [gR_at, uR_at, sR_at, dvR_at, hcR_at, hone]
    rw [dif_pos hl]
  · rw [dif_neg hl, ← gradG_split (dav_real h3 h4 _ _) (hcv_real h0 h1 h2 _ _) (hcv_real h0 h1 h2 _ _)]
    unfold dR
    pointwise [gR_at, uR_at, sR_at, dvR_at, hcR_at, hone]
    rw [dif_neg hl]
    have e : (⟨2816 + (l - 2816), by omega⟩ : Fin 5632) = l := Fin.ext (by simp only []; omega)
    simp only [e]

/-- The hidden gradient from the convolution's: three taps over the rows ahead. -/
def dhF (d : FVec Ideal S4096x5632 .f32) : FVec Ideal S4096x5632 .bf16 :=
  truncf .bf16 (extractStridedSlice S4096x5632 ![2, 0] (addf (addf (pad S4098x5632 ![2, 0] ![0, 0] ![0, 0] (mulf d (tap2 A1)) (constant S_ .f32 0x00000000#32) pads_S4096x5632_S4098x5632_200_000 h_S_) (pad S4098x5632 ![1, 0] ![1, 0] ![0, 0] (mulf d (tap1 A1)) (constant S_ .f32 0x00000000#32) pads_S4096x5632_S4098x5632_110_000 h_S_)) (pad S4098x5632 ![0, 0] ![2, 0] ![0, 0] (mulf d (tap0 A1)) (constant S_ .f32 0x00000000#32) pads_S4096x5632_S4098x5632_020_000 h_S_)) slices_S4098x5632_S4096x5632_2_0) bitsLt_bf16_f32

/-- The weight's gradient from the convolution's: one row sum per tap, each put in its row. -/
def dwF (d : FVec Ideal S4096x5632 .f32) : FVec Ideal S3x5632 .f32 :=
  addf (addf (pad S3x5632 ![2, 0] ![0, 0] ![0, 0] (rowSum (lag0 A0) d) (constant S_ .f32 0x00000000#32) pads_S1x5632_S3x5632_200_000 h_S_) (pad S3x5632 ![1, 0] ![1, 0] ![0, 0] (rowSum (lag1 A0) d) (constant S_ .f32 0x00000000#32) pads_S1x5632_S3x5632_110_000 h_S_)) (pad S3x5632 ![0, 0] ![2, 0] ![0, 0] (rowSum (lag2 A0) d) (constant S_ .f32 0x00000000#32) pads_S1x5632_S3x5632_020_000 h_S_)

/-- The bias's gradient from the convolution's: its row sum. -/
def dbF (d : FVec Ideal S4096x5632 .f32) : FVec Ideal S1x5632 .f32 :=
  shapeCast S1x5632 (Host.reduceAdd d (constant S_ .f32 0x00000000#32) reducesTo_S4096x5632_S5632_d0 h_S_) shapeCasts_S5632_S1x5632

theorem dhF_at (d : FVec Ideal S4096x5632 .f32) (r : Fin 4096) (l : Fin 5632) : dhF A1 d (ix2 r l)
    = d (ix2 r l) * A1 (ix2 2 l) + (if h : (r : ℕ) + 1 < 4096 then d (ix2 ⟨r + 1, h⟩ l) else 0) * A1 (ix2 1 l)
      + (if h : (r : ℕ) + 2 < 4096 then d (ix2 ⟨r + 2, h⟩ l) else 0) * A1 (ix2 0 l) := by
  unfold dhF
  pointwise [tap0_at, tap1_at, tap2_at]
  congr 1
  · congr 1
    by_cases h : (r : ℕ) + 1 < 4096
    · rw [dif_pos h, dif_pos (by omega)]
      have e : (⟨2 + r - 1, by omega⟩ : Fin 4096) = ⟨r + 1, h⟩ := Fin.ext (by simp only []; omega)
      rw [e]
    · rw [dif_neg h, dif_neg (by omega), zero_mul]
  · by_cases h : (r : ℕ) + 2 < 4096
    · rw [dif_pos h, dif_pos (by omega)]
      have e : (⟨2 + r, by omega⟩ : Fin 4096) = ⟨r + 2, h⟩ := Fin.ext (by simp only []; omega)
      rw [e]
    · rw [dif_neg h, dif_neg (by omega), zero_mul]

theorem dwF_at (d : FVec Ideal S4096x5632 .f32) (k : Fin 3) (l : Fin 5632) : dwF A0 d (ix2 k l)
    = ∑ r : Fin 4096, (if h : (r : ℕ) + (2 - k) < 4096 then d (ix2 ⟨r + (2 - k), h⟩ l) else 0) * A0 (ix2 r l) := by
  unfold dwF
  fin_cases k
  · pointwise [rowSum_at]
    simp only [lag2_at]
    exact sum_shift 4096 2 (fun r => A0 (ix2 r l)) (fun r => d (ix2 r l))
  · pointwise [rowSum_at]
    simp only [lag1_at]
    refine Eq.trans (Finset.sum_congr rfl fun r _ => ?_) (sum_shift 4096 1 (fun r => A0 (ix2 r l)) (fun r => d (ix2 r l)))
    congr 1
    by_cases h : (r : ℕ) < 1
    · rw [dif_pos h, dif_pos (by omega)]
    · rw [dif_neg h, dif_neg (by omega)]
      have e : (⟨1 + r - 2, by omega⟩ : Fin 4096) = ⟨r - 1, by omega⟩ := Fin.ext (by simp only []; omega)
      rw [e]
  · pointwise [rowSum_at]
    simp only [lag0_at]
    refine Finset.sum_congr rfl fun r _ => ?_
    exact mul_comm _ _

theorem dbF_at (d : FVec Ideal S4096x5632 .f32) (z : Fin 1) (l : Fin 5632) : dbF d (ix2 z l) = ∑ r : Fin 4096, d (ix2 r l) := by
  unfold dbF
  pointwise []

end

section
variable (m : (ℓ : Loc nD τ sig) → Buf (Elt Ideal) ℓ) (c : Dev nD)

/-- The gradient of the convolved activations, of the arguments in memory. -/
def dM : FVec Ideal S4096x5632 .f32 :=
  dR (m (c.tc.loc main_arg0)) (m (c.tc.loc main_arg1)) (m (c.tc.loc main_arg2)) (m (c.tc.loc main_arg3)) (m (c.tc.loc main_arg4))

theorem out0_eq : Value.res_out0 m c = dhF (m (c.tc.loc main_arg1)) (dM m c) := rfl
theorem out1_eq : Value.res_out1 m c = dwF (m (c.tc.loc main_arg0)) (dM m c) := rfl
theorem out2_eq : Value.res_out2 m c = dbF (dM m c) := rfl

/-- The arguments in memory, as functions of a row and a column. -/
abbrev rX (r : Fin 4096) (l : Fin 5632) : EReal := m (c.tc.loc main_arg0) (ix2 r l)
@[inherit_doc rX] abbrev rW (k : Fin 3) (l : Fin 5632) : EReal := m (c.tc.loc main_arg1) (ix2 k l)
@[inherit_doc rX] abbrev rB (l : Fin 5632) : EReal := m (c.tc.loc main_arg2) (ix2 (0 : Fin 1) l)
@[inherit_doc rX] abbrev rD (q : Fin 2816) (k : Fin 1024) : EReal := m (c.tc.loc main_arg3) (ix2 q k)
@[inherit_doc rX] abbrev rC (r : Fin 4096) (k : Fin 1024) : EReal := m (c.tc.loc main_arg4) (ix2 r k)

variable (h0 : ∀ r l, Real? (rX m c r l)) (h1 : ∀ k l, Real? (rW m c k l)) (h2 : ∀ l, Real? (rB m c l))
  (h3 : ∀ q k, Real? (rD m c q k)) (h4 : ∀ r k, Real? (rC m c r k))

include h0 h1 h2 h3 h4

theorem dM_at (r : Fin 4096) (l : Fin 5632) : dM m c (ix2 r l) = dext (rX m c) (rW m c) (rB m c) (rD m c) (rC m c) r l :=
  dR_at _ _ _ _ _ h0 h1 h2 h3 h4 r l

/-- The rows after the last are zero in both spellings. -/
theorem dM_ext (n : ℕ) (l : Fin 5632) : (if h : n < 4096 then dM m c (ix2 ⟨n, h⟩ l) else 0)
    = dext (rX m c) (rW m c) (rB m c) (rD m c) (rC m c) n l := by
  by_cases h : n < 4096
  · rw [dif_pos h]; exact dM_at m c h0 h1 h2 h3 h4 ⟨n, h⟩ l
  · rw [dif_neg h, dext, dif_neg h]

theorem out0_at (r : Fin 4096) (l : Fin 5632) : Value.res_out0 m c (ix2 r l)
    = dhid (rX m c) (rW m c) (rB m c) (rD m c) (rC m c) r l := by
  rw [out0_eq, dhF_at, dM_ext m c h0 h1 h2 h3 h4, dM_ext m c h0 h1 h2 h3 h4, dM_at m c h0 h1 h2 h3 h4]
  rfl

theorem out1_at (k : Fin 3) (l : Fin 5632) : Value.res_out1 m c (ix2 k l)
    = dwgt (rX m c) (rW m c) (rB m c) (rD m c) (rC m c) k l := by
  rw [out1_eq, dwF_at]
  simp only [dM_ext m c h0 h1 h2 h3 h4]
  rfl

theorem out2_at (z : Fin 1) (l : Fin 5632) : Value.res_out2 m c (ix2 z l)
    = dbia (rX m c) (rW m c) (rB m c) (rD m c) (rC m c) l := by
  rw [out2_eq, dbF_at]
  simp only [dM_at m c h0 h1 h2 h3 h4]
  rfl

end

end Cert.ReferenceIdeal.Back

end
-- ==== Proof.Main.lean ====
/- The two sides put together: the reference's frame and the equality of the three gradients. -/
module

public import proofs.«01_k».proof.Proof.Tail
public import proofs.«01_k».proof.Proof.Ref
public import proofs.«01_k».proof.Proof.Gen.Pre_finite
public import Idealize.ShloMosaic.Lib.Quiescent

@[expose] public section

set_option maxRecDepth 16384

noncomputable section

namespace Cert.Back

open Idealize.ShloMosaic Idealize.ShloMosaic.TcCoe Idealize.SL.Sem FfnBack

/-- The reference has no semaphores: its frame is its run's arguments. -/
theorem ref_frame : Cert.quiescent_ReferenceIdeal (hReferenceIdeal := Cert.ReferenceIdeal.Gen.facts) := fun m ρ _ =>
  (θ_run _ _ _).mono (fun r h => ⟨fun c => (h c).2.2.2, sem_eq_zero_of_no_sems (by decide) _⟩) (Cert.ReferenceIdeal.Value.run m ρ)

theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.ReferenceIdeal.Value.res_out0 m' c, fun c => Cert.ReferenceIdeal.Value.res_out1 m' c,
    fun c => Cert.ReferenceIdeal.Value.res_out2 m' c, ?_, ?_⟩
  · refine (θ_run _ _ _).mono (fun r h c => ?_) (θ_run_and (Cert.KernelIdeal.Gen.run_main m g) (Cert.KernelIdeal.Gen.unchanged m g))
    obtain ⟨hr, hu⟩ := h
    obtain ⟨e0, e1, e2, e3, e4⟩ := hargs c
    obtain ⟨p0, p1, p2, p3, p4⟩ := Cert.Pre_finite.real_of_fn _ _ _ _ _ (hpre c)
    have q0 : ∀ r l, Real? (Cert.ReferenceIdeal.Back.rX m' c r l) := fun r l => by
      unfold Cert.ReferenceIdeal.Back.rX; rw [e0]; exact p0 _
    have q1 : ∀ r l, Real? (Cert.ReferenceIdeal.Back.rW m' c r l) := fun r l => by
      unfold Cert.ReferenceIdeal.Back.rW; rw [e1]; exact p1 _
    have q2 : ∀ l, Real? (Cert.ReferenceIdeal.Back.rB m' c l) := fun l => by
      unfold Cert.ReferenceIdeal.Back.rB; rw [e2]; exact p2 _
    have q3 : ∀ r l, Real? (Cert.ReferenceIdeal.Back.rD m' c r l) := fun r l => by
      unfold Cert.ReferenceIdeal.Back.rD; rw [e3]; exact p3 _
    have q4 : ∀ r l, Real? (Cert.ReferenceIdeal.Back.rC m' c r l) := fun r l => by
      unfold Cert.ReferenceIdeal.Back.rC; rw [e4]; exact p4 _
    have hX : Cert.ReferenceIdeal.Back.rX m' c = Cert.KernelIdeal.Back.aX m c := funext fun r => funext fun l => congrFun e0 _
    have hW : Cert.ReferenceIdeal.Back.rW m' c = Cert.KernelIdeal.Back.aW m c := funext fun r => funext fun l => congrFun e1 _
    have hB : Cert.ReferenceIdeal.Back.rB m' c = Cert.KernelIdeal.Back.aB m c := funext fun l => congrFun e2 _
    have hD : Cert.ReferenceIdeal.Back.rD m' c = Cert.KernelIdeal.Back.aD m c := funext fun r => funext fun l => congrFun e3 _
    have hC : Cert.ReferenceIdeal.Back.rC m' c = Cert.KernelIdeal.Back.aC m c := funext fun r => funext fun l => congrFun e4 _
    refine ⟨?_, ?_, ?_, hu c⟩
    · refine ((hr c).2 Cert.KernelIdeal.main_v47 (Pipeline.mem_restRefs_of Cert.KernelIdeal.main_v47 (by decide) (by decide))).trans ?_
      funext y
      obtain ⟨r, l, rfl⟩ : ∃ r : Fin 4096, ∃ l : Fin 5632, y = ix2 r l := ⟨y 0, y 1, eq_ix2 y⟩
      refine (Cert.KernelIdeal.Back.res_dh m c r l).trans (Eq.symm ?_)
      refine (Cert.ReferenceIdeal.Back.out0_at m' c q0 q1 q2 q3 q4 r l).trans ?_
      rw [hX, hW, hB, hD, hC]
    · refine ((hr c).2 Cert.KernelIdeal.main_v52 (Pipeline.mem_restRefs_of Cert.KernelIdeal.main_v52 (by decide) (by decide))).trans ?_
      funext y
      obtain ⟨r, l, rfl⟩ : ∃ r : Fin 3, ∃ l : Fin 5632, y = ix2 r l := ⟨y 0, y 1, eq_ix2 y⟩
      refine (Cert.KernelIdeal.Back.res_dw m c r l).trans (Eq.symm ?_)
      refine (Cert.ReferenceIdeal.Back.out1_at m' c q0 q1 q2 q3 q4 r l).trans ?_
      rw [hX, hW, hB, hD, hC]
    · refine ((hr c).2 Cert.KernelIdeal.main_v57 (Pipeline.mem_restRefs_of Cert.KernelIdeal.main_v57 (by decide) (by decide))).trans ?_
      funext y
      obtain ⟨r, l, rfl⟩ : ∃ r : Fin 1, ∃ l : Fin 5632, y = ix2 r l := ⟨y 0, y 1, eq_ix2 y⟩
      refine (Cert.KernelIdeal.Back.res_db m c r l).trans (Eq.symm ?_)
      refine (Cert.ReferenceIdeal.Back.out2_at m' c q0 q1 q2 q3 q4 r l).trans ?_
      rw [hX, hW, hB, hD, hC]
  · exact Cert.ReferenceIdeal.Value.run m' g'

end Cert.Back

end
-- ==== Proof.Order.lean ====
/- The order of the columns in the calls: the first and the last quarter in place, the second and the third exchanged. -/
module

public import Idealize.ShloMosaic.Lib.Pipeline.ValueKit
public import Idealize.ShloMosaic.Lib.StableHlo.ReadAt

@[expose] public section

set_option maxRecDepth 16384

noncomputable section

namespace FfnBack

open Idealize.ShloMosaic Idealize.ShloMosaic.Tactic

/-- The column of the arguments that a column of a call's operands holds: the halves of u and g interleaved. -/
def pc (l : Fin 5632) : Fin 5632 :=
  ⟨if (l : ℕ) < 1408 then l else if (l : ℕ) < 2816 then l + 1408 else if (l : ℕ) < 4224 then l - 1408 else l, by split_ifs <;> omega⟩

/-- The order is its own inverse. -/
theorem pc_pc (l : Fin 5632) : pc (pc l) = l := by
  refine Fin.ext ?_
  have h : ∀ x : Fin 5632, (pc x : ℕ) = if (x : ℕ) < 1408 then (x : ℕ) else if (x : ℕ) < 2816 then (x : ℕ) + 1408
    else if (x : ℕ) < 4224 then (x : ℕ) - 1408 else (x : ℕ) := fun _ => rfl
  have h1 := h l
  have h2 := h (pc l)
  split_ifs at h1 h2 <;> omega

/-- A tile of the order: one half's columns, then the other's. -/
theorem pc_tile (d : ℕ) (hd : d < 2) (l : Fin 2816) :
    (pc ⟨2816 * d + l, by omega⟩ : ℕ) = if (l : ℕ) < 1408 then 1408 * d + l else 2816 + 1408 * d + (l - 1408) := by
  have h : ∀ x : Fin 5632, (pc x : ℕ) = if (x : ℕ) < 1408 then (x : ℕ) else if (x : ℕ) < 2816 then (x : ℕ) + 1408
    else if (x : ℕ) < 4224 then (x : ℕ) - 1408 else (x : ℕ) := fun _ => rfl
  rw [h]
  simp only []
  obtain rfl | rfl : d = 0 ∨ d = 1 := by omega
  all_goals split_ifs <;> omega

theorem pick {α : Type} (f : Fin 5632 → α) (l : Fin 5632) :
    (if h : (l : ℕ) < 1408 then f ⟨l, l.isLt⟩
     else if h : (l : ℕ) - 1408 < 1408 then f ⟨2816 + (l - 1408), by omega⟩
     else if h : (l : ℕ) - 1408 - 1408 < 1408 then f ⟨1408 + (l - 1408 - 1408), by omega⟩
     else f ⟨4224 + (l - 1408 - 1408 - 1408), by omega⟩) = f (pc l) := by
  have h : (pc l : ℕ) = if (l : ℕ) < 1408 then (l : ℕ) else if (l : ℕ) < 2816 then (l : ℕ) + 1408
    else if (l : ℕ) < 4224 then (l : ℕ) - 1408 else (l : ℕ) := rfl
  split_ifs at h ⊢ <;> first | exact congrArg f (Fin.ext (by simp only []; omega)) | (exfalso; omega)

/-- The four slices put side by side in that order, at an index. -/
theorem order_at {n : ℕ} {α : Type} (x : (⟨2, ![n, 5632]⟩ : Shape).Idx → α)
    (h0 : (⟨2, ![n, 5632]⟩ : Shape).Slices ![0, 0] ⟨2, ![n, 1408]⟩) (h1 : (⟨2, ![n, 5632]⟩ : Shape).Slices ![0, 2816] ⟨2, ![n, 1408]⟩)
    (h2 : (⟨2, ![n, 5632]⟩ : Shape).Slices ![0, 1408] ⟨2, ![n, 1408]⟩) (h3 : (⟨2, ![n, 5632]⟩ : Shape).Slices ![0, 4224] ⟨2, ![n, 1408]⟩)
    (hc : Shape.Concatenates [⟨2, ![n, 1408]⟩, ⟨2, ![n, 1408]⟩, ⟨2, ![n, 1408]⟩, ⟨2, ![n, 1408]⟩] ⟨2, ![n, 5632]⟩ 1)
    (r : Fin n) (l : Fin 5632) :
    concatenate ⟨2, ![n, 5632]⟩ 1 [⟨⟨2, ![n, 1408]⟩, extractStridedSlice ⟨2, ![n, 1408]⟩ ![0, 0] x h0⟩,
      ⟨⟨2, ![n, 1408]⟩, extractStridedSlice ⟨2, ![n, 1408]⟩ ![0, 2816] x h1⟩,
      ⟨⟨2, ![n, 1408]⟩, extractStridedSlice ⟨2, ![n, 1408]⟩ ![0, 1408] x h2⟩,
      ⟨⟨2, ![n, 1408]⟩, extractStridedSlice ⟨2, ![n, 1408]⟩ ![0, 4224] x h3⟩] hc (ix2 r l) = x (ix2 r (pc l)) := by
  refine Eq.trans ?_ (pick (fun k => x (ix2 r k)) l)
  pointwise []
  split_ifs <;> (refine congrArg x (funext fun a => Fin.ext ?_); revert a; refine Fin.forall_fin_two.2 ⟨?_, ?_⟩) <;>
    first | rfl | exact Nat.zero_add _

end FfnBack

end
-- ==== Proof.NormSpec.lean ====
/- The norm of a row over its 1024 columns. -/
module

public import Idealize.ShloMosaic.Lib.Pipeline.ValueKit

@[expose] public section

set_option maxRecDepth 16384

noncomputable section

namespace FfnBack

open Idealize.ShloMosaic

/-- The number of columns and the number added to the mean of the squares, as the programs write them. -/
def cols : EReal := Ideal.ofBits .f32 0x44800000#32
def eps : EReal := Ideal.ofBits .f32 0x358637BD#32

/-- The reciprocal root of the mean of the squares. -/
def rstd (y : Fin 1024 → EReal) : EReal := Ideal.rsqrt (Ideal.div (∑ j, y j * y j) cols + eps)

/-- The norm, at one column. -/
def rms (y : Fin 1024 → EReal) (w : Fin 1024 → EReal) (k : Fin 1024) : EReal := y k * rstd y * w k

end FfnBack

end
-- ==== Proof.NormGrad.lean ====
/- The gradient of a row's norm: the product rule's terms, and the closed form. -/
module

public import proofs.«01_k».proof.Proof.NormSpec

@[expose] public section

set_option maxRecDepth 16384

noncomputable section

namespace FfnBack

open Idealize.ShloMosaic

/-- The constant of the derivative of the reciprocal root, as the reference writes it. -/
def mhalf : EReal := Ideal.ofBits .f32 0xBF000000#32

theorem cols_eq : cols = ((1024 : ℝ) : EReal) := by
  unfold cols
  simp [Ideal.ofBits, Ideal.ieee, -EReal.coe_mul]
  norm_num

theorem mhalf_eq : mhalf = ((-(1 / 2) : ℝ) : EReal) := by
  unfold mhalf
  simp [Ideal.ofBits, Ideal.ieee, -EReal.coe_mul, -EReal.coe_neg]
  norm_num

theorem eps_eq : ∃ e : ℝ, 0 < e ∧ eps = (e : EReal) := by
  refine ⟨8796093 * (2 : ℝ) ^ (-43 : ℤ), by positivity, ?_⟩
  unfold eps
  simp [Ideal.ofBits, Ideal.ieee, -EReal.coe_mul]

/-- The gradient with respect to the row: `c` the residual's, `g` the norm's, already multiplied by the norm's weights. -/
def dnorm (x g : Fin 1024 → EReal) (c : EReal) (k : Fin 1024) : EReal :=
  c + rstd x * (g k - x k * rstd x * Ideal.div (∑ j, g j * (x j * rstd x)) cols)

/-- What the derivative of the mean of the squares puts before `x`. -/
def dmean (x g : Fin 1024 → EReal) : EReal :=
  Ideal.div ((∑ j, x j * g j) * (mhalf * Ideal.div (rstd x) (Ideal.div (∑ j, x j * x j) cols + eps))) cols

theorem div_real {a b : ℝ} (hb : b ≠ 0) : Ideal.div (a : EReal) (b : EReal) = ((a / b : ℝ) : EReal) := by
  have h0 : (b : EReal) ≠ 0 := by exact_mod_cast hb
  rw [Ideal.div, if_neg h0, div_eq_mul_inv, EReal.coe_mul, EReal.coe_inv]

theorem rsqrt_real {v : ℝ} (hv : 0 < v) : Ideal.rsqrt (v : EReal) = (((Real.sqrt v)⁻¹ : ℝ) : EReal) := by
  show (if v < 0 then _ else if v = 0 then _ else _) = _
  rw [if_neg (not_lt.2 hv.le), if_neg hv.ne']

theorem div_cols (a : EReal) : Ideal.div a cols = a * ((1 / 1024 : ℝ) : EReal) := by
  have h0 : ((1024 : ℝ) : EReal) ≠ 0 := by exact_mod_cast (by norm_num : (1024 : ℝ) ≠ 0)
  rw [cols_eq, Ideal.div, if_neg h0, ← EReal.coe_inv, one_div]

theorem sq_nonneg' (a : EReal) : 0 ≤ a * a := by
  rcases le_total 0 a with h | h
  · exact mul_nonneg h h
  · rw [← neg_mul_neg]
    exact mul_nonneg (EReal.neg_nonneg.2 h) (EReal.neg_nonneg.2 h)

/-- A number that is not negative and not infinite comes out of a sum. -/
theorem sum_mul_real {ι : Type} (s : Finset ι) (f : ι → EReal) {q : ℝ} (hq : 0 ≤ q) :
    (∑ j ∈ s, f j * (q : EReal)) = (∑ j ∈ s, f j) * (q : EReal) := by
  classical
  induction s using Finset.induction_on with
  | empty => simp
  | insert a s ha ih =>
    rw [Finset.sum_insert ha, Finset.sum_insert ha, ih,
      EReal.right_distrib_of_nonneg_of_ne_top (EReal.coe_nonneg.2 hq) (EReal.coe_ne_top q)]

theorem twice (a : EReal) : a + a = a * ((2 : ℝ) : EReal) := by
  induction a with
  | bot => rw [EReal.bot_mul_coe_of_pos (by norm_num)]; rfl
  | top => rw [EReal.top_mul_coe_of_pos (by norm_num)]; rfl
  | coe r => rw [← EReal.coe_mul, ← EReal.coe_add, mul_two]

/-- The root's reciprocal is 0 where the mean of the squares is infinite, and a positive number elsewhere. -/
theorem rstd_cases (x : Fin 1024 → EReal) : (Ideal.div (∑ j, x j * x j) cols + eps = ⊤ ∧ rstd x = 0) ∨
    ∃ q : ℝ, 0 < q ∧ Ideal.div (∑ j, x j * x j) cols + eps = ((q * q : ℝ) : EReal) ∧ rstd x = ((q⁻¹ : ℝ) : EReal) := by
  obtain ⟨e, he, hE⟩ := eps_eq
  have h0 : 0 ≤ ∑ j, x j * x j := Finset.sum_nonneg fun j _ => sq_nonneg' _
  unfold rstd
  rw [div_cols, hE]
  generalize (∑ j, x j * x j) = s at h0 ⊢
  induction s with
  | bot => exact absurd h0 (by simp)
  | top =>
    left
    rw [EReal.top_mul_coe_of_pos (by norm_num), EReal.top_add_coe]
    exact ⟨rfl, rfl⟩
  | coe r =>
    right
    have hr : 0 ≤ r := EReal.coe_nonneg.1 h0
    have hv : 0 < r * (1 / 1024) + e := by positivity
    refine ⟨Real.sqrt (r * (1 / 1024) + e), Real.sqrt_pos.2 hv, ?_, ?_⟩
    · rw [Real.mul_self_sqrt hv.le, EReal.coe_add, EReal.coe_mul]
    · rw [← EReal.coe_mul, ← EReal.coe_add, rsqrt_real hv]

/-- The product rule's three terms are the closed form, infinite entries included: what is taken out of a sum is never negative and never infinite. -/
theorem dnorm_eq (x g : Fin 1024 → EReal) (c : EReal) (k : Fin 1024) :
    c + g k * rstd x + x k * dmean x g + dmean x g * x k = dnorm x g c k := by
  unfold dnorm dmean
  rcases rstd_cases x with ⟨hv, hr⟩ | ⟨q, hq, hv, hr⟩
  · rw [hv, hr, div_cols, div_cols]
    have h : Ideal.div (0 : EReal) ⊤ = 0 := by rw [Ideal.div, if_neg (by simp), zero_mul]
    simp [h]
  · have hi : 0 ≤ q⁻¹ := inv_nonneg.2 hq.le
    rw [hv, hr, div_cols, div_cols, mhalf_eq, div_real (mul_self_ne_zero.2 hq.ne')]
    have hs : (∑ j, g j * (x j * ((q⁻¹ : ℝ) : EReal))) = (∑ j, x j * g j) * ((q⁻¹ : ℝ) : EReal) := by
      rw [← sum_mul_real _ _ hi]
      exact Finset.sum_congr rfl fun j _ => by rw [← mul_assoc, mul_comm (g j)]
    rw [hs]
    generalize (∑ j, x j * g j) = S
    rw [mul_comm _ (x k), add_assoc, twice, sub_eq_add_neg,
      EReal.left_distrib_of_nonneg_of_ne_top (EReal.coe_nonneg.2 hi) (EReal.coe_ne_top _), ← add_assoc, mul_comm (g k)]
    refine congrArg (c + ((q⁻¹ : ℝ) : EReal) * g k + ·) ?_
    have hn : ∀ a : EReal, -a = a * ((-1 : ℝ) : EReal) := fun a => by
      rw [EReal.coe_neg, EReal.coe_one, mul_neg, mul_one]
    have hk : ((-(1 / 2) : ℝ) : EReal) * ((q⁻¹ / (q * q) : ℝ) : EReal) * ((1 / 1024 : ℝ) : EReal) * ((2 : ℝ) : EReal)
        = ((q⁻¹ : ℝ) : EReal) * ((q⁻¹ : ℝ) : EReal) * ((q⁻¹ : ℝ) : EReal) * ((1 / 1024 : ℝ) : EReal) * ((-1 : ℝ) : EReal) := by
      simp only [← EReal.coe_mul]
      refine congrArg _ ?_
      field_simp
    rw [hn]
    refine Eq.trans (b := x k * S * (((-(1 / 2) : ℝ) : EReal) * ((q⁻¹ / (q * q) : ℝ) : EReal) * ((1 / 1024 : ℝ) : EReal) * ((2 : ℝ) : EReal))) ?_ ?_
    · ac_rfl
    · rw [hk]
      ac_rfl

end FfnBack

end
-- ==== Proof.UpNorm.lean ====
/- The gradient through the first product, the norm and the residual: the product's row, the norm's gradient, and the sum over the rows kept between the points. -/
module

public import proofs.«01_k».proof.Proof.Gen.UpDxIdeal.Value
public import proofs.«01_k».proof.Proof.Gen.UpDxRefIdeal.Run
public import proofs.«01_k».proof.Proof.Gen.UpDxIdeal
public import proofs.«01_k».proof.Proof.Gen.UpDxRefIdeal
public import proofs.«01_k».proof.Defs
public import proofs.«01_k».proof.Proof.Order
public import proofs.«01_k».proof.Proof.NormGrad
public import Idealize.ShloMosaic.Lib.Pipeline.ValueKit
public import Idealize.ShloMosaic.Lib.StableHlo.ReadAt
public import Idealize.ShloMosaic.Lib.Quiescent

@[expose] public section

set_option maxRecDepth 16384

noncomputable section

namespace Cert.UpDxIdeal.Grad

open Cert.UpDxIdeal Cert.UpDxIdeal.Gen Idealize.ShloMosaic Idealize.ShloMosaic.TcCoe Idealize.ShloMosaic.Tactic Idealize.SL.Sem

section
variable {F : FTy → Type} [FloatOps F]

/-- The one entry of the token the call reads. -/
def tok (x5 : Vec F S8x128 .f32) : Vec F S1x1 .f32 := View.ld x5 (Rect.unit ![0, 0] ![1, 1] inb_S8x128_S1x1_0_0)

theorem tok_at (x5 : Vec F S8x128 .f32) : tok x5 (ix2 0 0) = x5 (ix2 0 0) := by
  unfold tok
  exact View.ld_unit_apply_of _ _ _ _ _ _ (Fin.forall_fin_two.2 ⟨rfl, rfl⟩)

theorem dxOf_A (c : Dev nD) (i : grid0.Coords) (arg3 : Memref sig .tc .vmem S512x5632 .bf16) (harg3 : arg3.IsWhole) (arg4 : Memref sig .tc .vmem S1024x5632 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S512x1024 .f32) (harg9 : arg9.IsWhole) (arg10 : Memref sig .tc .vmem S1x1024 .f32) (harg10 : arg10.IsWhole) (hc0 : cond0_0 i) (hc1 : ¬cond0_1 i)
    (x0 : Vec F S512x5632 .bf16) (x1 : Vec F S1024x5632 .bf16) (x2 : Vec F S512x1024 .f32) (x3 : Vec F S1x1024 .f32) (x4 : Vec F S512x1024 .f32) (x5 : Vec F S8x128 .f32) :
    out0_A_6 c i arg3 harg3 arg4 harg4 arg5 harg5 arg6 harg6 arg7 harg7 arg8 harg8 arg9 harg9 arg10 harg10 hc0 hc1 x0 x1 x2 x3 x4 x5 = k0_pay6 x0 x1 x2 x3 x4 (tok x5) := by
  frame_out
  rfl

theorem dxOf_B (c : Dev nD) (i : grid0.Coords) (arg3 : Memref sig .tc .vmem S512x5632 .bf16) (harg3 : arg3.IsWhole) (arg4 : Memref sig .tc .vmem S1024x5632 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S512x1024 .f32) (harg9 : arg9.IsWhole) (arg10 : Memref sig .tc .vmem S1x1024 .f32) (harg10 : arg10.IsWhole) (hc0 : ¬cond0_0 i) (hc1 : cond0_1 i)
    (x0 : Vec F S512x5632 .bf16) (x1 : Vec F S1024x5632 .bf16) (x2 : Vec F S512x1024 .f32) (x3 : Vec F S1x1024 .f32) (x4 : Vec F S512x1024 .f32) (x5 : Vec F S8x128 .f32) (xo7 : Vec F S1x1024 .f32) :
    out0_B_6 c i arg3 harg3 arg4 harg4 arg5 harg5 arg6 harg6 arg7 harg7 arg8 harg8 arg9 harg9 arg10 harg10 hc0 hc1 x0 x1 x2 x3 x4 x5 xo7 = k0_pay6 x0 x1 x2 x3 x4 (tok x5) := by
  frame_out
  rfl

theorem dwOf_A (c : Dev nD) (i : grid0.Coords) (arg3 : Memref sig .tc .vmem S512x5632 .bf16) (harg3 : arg3.IsWhole) (arg4 : Memref sig .tc .vmem S1024x5632 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S512x1024 .f32) (harg9 : arg9.IsWhole) (arg10 : Memref sig .tc .vmem S1x1024 .f32) (harg10 : arg10.IsWhole) (hc0 : cond0_0 i) (hc1 : ¬cond0_1 i)
    (x0 : Vec F S512x5632 .bf16) (x1 : Vec F S1024x5632 .bf16) (x2 : Vec F S512x1024 .f32) (x3 : Vec F S1x1024 .f32) (x4 : Vec F S512x1024 .f32) (x5 : Vec F S8x128 .f32) :
    out0_A_7 c i arg3 harg3 arg4 harg4 arg5 harg5 arg6 harg6 arg7 harg7 arg8 harg8 arg9 harg9 arg10 harg10 hc0 hc1 x0 x1 x2 x3 x4 x5 = k0_pay1 (k0_pay3 x0 x1) (k0_pay5 x2) := by
  frame_out

theorem dwOf_B (c : Dev nD) (i : grid0.Coords) (arg3 : Memref sig .tc .vmem S512x5632 .bf16) (harg3 : arg3.IsWhole) (arg4 : Memref sig .tc .vmem S1024x5632 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S512x1024 .f32) (harg9 : arg9.IsWhole) (arg10 : Memref sig .tc .vmem S1x1024 .f32) (harg10 : arg10.IsWhole) (hc0 : ¬cond0_0 i) (hc1 : cond0_1 i)
    (x0 : Vec F S512x5632 .bf16) (x1 : Vec F S1024x5632 .bf16) (x2 : Vec F S512x1024 .f32) (x3 : Vec F S1x1024 .f32) (x4 : Vec F S512x1024 .f32) (x5 : Vec F S8x128 .f32) (xo7 : Vec F S1x1024 .f32) :
    out0_B_7 c i arg3 harg3 arg4 harg4 arg5 harg5 arg6 harg6 arg7 harg7 arg8 harg8 arg9 harg9 arg10 harg10 hc0 hc1 x0 x1 x2 x3 x4 x5 xo7 = k0_pay2 (k0_pay3 x0 x1) (k0_pay5 x2) xo7 := by
  frame_out

end

theorem pay3_at (x0 : FVec Ideal S512x5632 .bf16) (x1 : FVec Ideal S1024x5632 .bf16) (r : Fin 512) (k : Fin 1024) :
    k0_pay3 (F := Ideal) x0 x1 (ix2 r k) = ∑ l : Fin 5632, x0 (ix2 r l) * x1 (ix2 k l) := by
  pointwise [k0_pay3]

theorem pay5_at (x2 : FVec Ideal S512x1024 .f32) (r : Fin 512) (k : Fin 1024) :
    k0_pay5 (F := Ideal) x2 (ix2 r k) = x2 (ix2 r k) * FfnBack.rstd (fun j => x2 (ix2 r j)) := by
  pointwise [k0_pay5, k0_pay4]
  rfl

theorem pay6_at (x0 : FVec Ideal S512x5632 .bf16) (x1 : FVec Ideal S1024x5632 .bf16) (x2 : FVec Ideal S512x1024 .f32)
    (x3 : FVec Ideal S1x1024 .f32) (x4 : FVec Ideal S512x1024 .f32) (x5 : FVec Ideal S8x128 .f32) (r : Fin 512) (k : Fin 1024) :
    k0_pay6 (F := Ideal) x0 x1 x2 x3 x4 (tok x5) (ix2 r k)
      = FfnBack.dnorm (fun j => x2 (ix2 r j)) (fun j => k0_pay3 (F := Ideal) x0 x1 (ix2 r j) * x3 (ix2 0 j)) (x4 (ix2 r k) + x5 (ix2 0 0)) k := by
  pointwise [k0_pay6, k0_pay5, k0_pay4, tok_at]
  rfl

theorem pay1_at (v4 v15 : FVec Ideal S512x1024 .f32) (z : Fin 1) (k : Fin 1024) :
    k0_pay1 (F := Ideal) v4 v15 (ix2 z k) = ∑ r : Fin 512, v4 (ix2 r k) * v15 (ix2 r k) := by
  pointwise [k0_pay1]

theorem pay2_at (v4 v15 : FVec Ideal S512x1024 .f32) (v : FVec Ideal S1x1024 .f32) (z : Fin 1) (k : Fin 1024) :
    k0_pay2 (F := Ideal) v4 v15 v (ix2 z k) = v (ix2 z k) + k0_pay1 (F := Ideal) v4 v15 (ix2 z k) := by
  pointwise [k0_pay2]

variable (m : (ℓ : Loc nD τ sig) → Buf (Elt Ideal) ℓ) (c : Dev nD)

/-- The arguments as functions of row and column. -/
def aX (R : Fin 4096) (k : Fin 1024) : EReal := m (c.tc.loc main_arg0) (ix2 R k)
def aN (k : Fin 1024) : EReal := m (c.tc.loc main_arg1) (ix1 k)
def aU (k : Fin 1024) (l : Fin 5632) : EReal := m (c.tc.loc main_arg2) (ix2 k l)
def aG (R : Fin 4096) (l : Fin 5632) : EReal := m (c.tc.loc main_arg3) (ix2 R l)
def aC (R : Fin 4096) (k : Fin 1024) : EReal := m (c.tc.loc main_arg4) (ix2 R k)

/-- The gradient of the normed row. -/
def dh (R : Fin 4096) (k : Fin 1024) : EReal := ∑ l : Fin 5632, aG m c R l * aU m c k l

/-- The arrays the call writes. -/
def arrX : FVec Ideal S4096x1024 .f32 := fun i => FfnBack.dnorm (aX m c (i 0)) (fun k => dh m c (i 0) k * aN m c k) (aC m c (i 0) (i 1)) (i 1)
def arrN : FVec Ideal S1x1024 .f32 := fun i => ∑ R : Fin 4096, dh m c R (i 1) * (aX m c R (i 1) * FfnBack.rstd (aX m c R))

theorem hN : cfg0.N = 8 := N_0

theorem idx : ∀ t : Fin cfg0.N, t.val < 8 ∧ win0_0.index t = ![t.val, 0] ∧ win0_1.index t = ![0, 0] ∧
    win0_2.index t = ![t.val, 0] ∧ win0_3.index t = ![0, 0] ∧ win0_4.index t = ![t.val, 0] ∧ win0_5.index t = ![0, 0] ∧
    win0_6.index t = ![t.val, 0] ∧ win0_7.index t = ![0, 0] :=
  (by decide +kernel : ∀ t : Fin grid0.N, _)

def row (t : Fin cfg0.N) (r : Fin 512) : Fin 4096 := ⟨512 * t.val + r, by have := (idx t).1; omega⟩

theorem g_at (r : Fin 4096) (l : Fin 5632) : V m c main_v5 (ix2 r l) = aG m c r (FfnBack.pc l) := by
  refine Eq.trans ?_ (FfnBack.pick (fun k => aG m c r k) l)
  unfold V aG
  after_reads_at
  split_ifs <;> after_reads_at

theorem u_at (k : Fin 1024) (l : Fin 5632) : V m c main_v11 (ix2 k l) = aU m c k (FfnBack.pc l) := by
  refine Eq.trans ?_ (FfnBack.pick (fun l => aU m c k l) l)
  unfold V aU
  after_reads_at
  split_ifs <;> after_reads_at

theorem x_at (r : Fin 4096) (k : Fin 1024) : V m c main_arg0 (ix2 r k) = aX m c r k := by
  rw [V_main_arg0]; rfl

theorem n_at (z : Fin 1) (k : Fin 1024) : V m c main_v13 (ix2 z k) = aN m c k := by
  obtain rfl : z = 0 := Subsingleton.elim _ _
  unfold V aN
  after_reads_at

theorem c_at (r : Fin 4096) (k : Fin 1024) : V m c main_arg4 (ix2 r k) = aC m c r k := by
  rw [V_main_arg4]; rfl

theorem tok0_at (r : Fin 8) (k : Fin 128) : V m c main_v12 (ix2 r k) = (0 : EReal) := by
  unfold V
  after_reads_at

theorem iblk0_at (t : Fin cfg0.N) (r : Fin 512) (l : Fin 5632) : iblk m c 0 t (ix2 r l) = aG m c (row t r) (FfnBack.pc l) := by
  rw [← g_at]
  blk_ext [iblk, idx t, row]

theorem iblk1_at (t : Fin cfg0.N) (k : Fin 1024) (l : Fin 5632) : iblk m c 1 t (ix2 k l) = aU m c k (FfnBack.pc l) := by
  rw [← u_at]
  blk_ext [iblk, idx t]

theorem iblk2_at (t : Fin cfg0.N) (r : Fin 512) (k : Fin 1024) : iblk m c 2 t (ix2 r k) = aX m c (row t r) k := by
  rw [← x_at]
  blk_ext [iblk, idx t, row]

theorem iblk3_at (t : Fin cfg0.N) (k : Fin 1024) : iblk m c 3 t (ix2 0 k) = aN m c k := by
  rw [← n_at m c 0]
  blk_ext [iblk, idx t]

theorem iblk4_at (t : Fin cfg0.N) (r : Fin 512) (k : Fin 1024) : iblk m c 4 t (ix2 r k) = aC m c (row t r) k := by
  rw [← c_at]
  blk_ext [iblk, idx t, row]

theorem iblk5_at (t : Fin cfg0.N) (r : Fin 8) (k : Fin 128) : iblk m c 5 t (ix2 r k) = (0 : EReal) := by
  rw [← tok0_at m c r k]
  blk_ext [iblk, idx t]

/-- The product over the ordered columns is the product over the columns. -/
theorem dh_at (t : Fin cfg0.N) (r : Fin 512) (k : Fin 1024) :
    k0_pay3 (F := Ideal) (iblk m c 0 t) (iblk m c 1 t) (ix2 r k) = dh m c (row t r) k := by
  refine (pay3_at _ _ r k).trans (Eq.trans (Finset.sum_congr rfl fun l _ => Ideal.mul_congr (iblk0_at m c t r l) (iblk1_at m c t k l)) ?_)
  exact Equiv.sum_comp (⟨FfnBack.pc, FfnBack.pc, FfnBack.pc_pc, FfnBack.pc_pc⟩ : Fin 5632 ≃ Fin 5632) (fun l => aG m c (row t r) l * aU m c k l)

theorem row_at (t : Fin cfg0.N) (r : Fin 512) : (fun j : Fin 1024 => iblk m c 2 t (ix2 r j)) = aX m c (row t r) :=
  funext fun j => iblk2_at m c t r j

theorem xh_at (t : Fin cfg0.N) (r : Fin 512) (k : Fin 1024) :
    k0_pay5 (F := Ideal) (iblk m c 2 t) (ix2 r k) = aX m c (row t r) k * FfnBack.rstd (aX m c (row t r)) :=
  (pay5_at _ r k).trans (Ideal.mul_congr (iblk2_at m c t r k) (congrArg FfnBack.rstd (row_at m c t r)))

theorem dx_at (t : Fin cfg0.N) (r : Fin 512) (k : Fin 1024) :
    k0_pay6 (F := Ideal) (iblk m c 0 t) (iblk m c 1 t) (iblk m c 2 t) (iblk m c 3 t) (iblk m c 4 t) (tok (iblk m c 5 t)) (ix2 r k)
      = FfnBack.dnorm (aX m c (row t r)) (fun k => dh m c (row t r) k * aN m c k) (aC m c (row t r) k) k := by
  refine (pay6_at _ _ _ _ _ _ r k).trans ?_
  have e1 : (fun j : Fin 1024 => k0_pay3 (F := Ideal) (iblk m c 0 t) (iblk m c 1 t) (ix2 r j) * (iblk m c 3 t (ix2 0 j) : EReal))
      = fun k => dh m c (row t r) k * aN m c k := funext fun j => Ideal.mul_congr (dh_at m c t r j) (iblk3_at m c t j)
  have e2 : (show EReal from iblk m c 4 t (ix2 r k)) + (show EReal from iblk m c 5 t (ix2 0 0)) = aC m c (row t r) k :=
    (Ideal.add_congr (iblk4_at m c t r k) (iblk5_at m c t 0 0)).trans (add_zero _)
  exact (congr (congr (congrArg₂ FfnBack.dnorm (row_at m c t r) e1) e2) rfl)

/-- One block of rows' part of the gradient of the norm's weights. -/
theorem dw_at (t : Fin cfg0.N) (z : Fin 1) (k : Fin 1024) :
    k0_pay1 (F := Ideal) (k0_pay3 (iblk m c 0 t) (iblk m c 1 t)) (k0_pay5 (iblk m c 2 t)) (ix2 z k)
      = ∑ r : Fin 512, dh m c (row t r) k * (aX m c (row t r) k * FfnBack.rstd (aX m c (row t r))) :=
  (pay1_at _ _ z k).trans (Finset.sum_congr rfl fun r _ => Ideal.mul_congr (dh_at m c t r k) (xh_at m c t r k))

theorem left_dx (t : Fin cfg0.N) :
    (outsAt0 m c t.val t.isLt).1 = k0_pay6 (F := Ideal) (iblk m c 0 t) (iblk m c 1 t) (iblk m c 2 t) (iblk m c 3 t) (iblk m c 4 t) (tok (iblk m c 5 t)) := by
  have ht := (idx t).1
  by_cases h : t.val % 8 = 0
  · rw [outsAt0_A m c t h (by omega)]
    dsimp only
    rw [dxOf_A]
  · rw [outsAt0_B m c t h (by omega)]
    dsimp only
    rw [dxOf_B]

theorem left_dw_A (t : Fin cfg0.N) (h : t.val % 8 = 0) :
    (outsAt0 m c t.val t.isLt).2 = k0_pay1 (F := Ideal) (k0_pay3 (iblk m c 0 t) (iblk m c 1 t)) (k0_pay5 (iblk m c 2 t)) := by
  have ht := (idx t).1
  rw [outsAt0_A m c t h (by omega)]
  dsimp only
  rw [dwOf_A]

theorem left_dw_B (t : Fin cfg0.N) (h : ¬t.val % 8 = 0) (z : Fin 1) (k : Fin 1024) :
    (outsAt0 m c t.val t.isLt).2 (ix2 z k) = (outsAt0 m c (t.val - 1) (Nat.lt_of_le_of_lt (Nat.sub_le _ _) t.isLt)).2 (ix2 z k)
      + k0_pay1 (F := Ideal) (k0_pay3 (iblk m c 0 t) (iblk m c 1 t)) (k0_pay5 (iblk m c 2 t)) (ix2 z k) := by
  rw [outsAt0_B m c t h (by omega)]
  dsimp only
  rw [dwOf_B]
  exact pay2_at _ _ _ z k

theorem final_dx : (dats m 0 c).arrAt 6 cfg0.N = arrX m c := by
  refine (dats m 0 c).arrAt_eq_of_covers 6 _ (by decide +kernel) fun t hf y => ?_
  obtain ⟨r, k, rfl⟩ : ∃ r : Fin 512, ∃ k : Fin 1024, y = ix2 r k := ⟨y 0, y 1, eq_ix2 y⟩
  have e : (win0_6.blk t).view.emb (ix2 r k) = ix2 (row t r) k := by blk_ext [idx t, row]
  blk_simp
  rw [e, after0_6, left_dx]
  exact dx_at m c t r k

/-- The blocks of rows are all the rows. -/
theorem sum_rows (j : ℕ) (hj : j < 1) (f : Fin 4096 → EReal) :
    (∑ s : Fin 8, ∑ r : Fin 512, f (row ⟨8 * j + s, by have := hN; omega⟩ r)) = ∑ R : Fin 4096, f R := by
  rw [Fin.sum_univ_tiles 8 512 rfl f]
  refine Finset.sum_congr rfl fun s _ => Finset.sum_congr rfl fun r _ => ?_
  refine congrArg f (Fin.ext ?_)
  simp only [row]
  omega

theorem final_dw : (dats m 0 c).arrAt 7 cfg0.N = arrN m c := by
  refine (dats m 0 c).arrAt_eq_of_covers 7 _ (by decide +kernel) fun t hf y => ?_
  obtain ⟨z, k, rfl⟩ : ∃ z : Fin 1, ∃ k : Fin 1024, y = ix2 z k := ⟨y 0, y 1, eq_ix2 y⟩
  have e : (win0_7.blk t).view.emb (ix2 z k) = ix2 z k := by blk_ext [idx t]
  have ht := (idx t).1
  blk_simp
  rw [e]
  rw [after0_7, Pipeline.eq_sum_fin_of_reset_step_apply_of_flush (fun n h => (outsAt0 m c n h).2) 8 (fun _ => 0)
    (fun p j => k0_pay1 (F := Ideal) (k0_pay3 (iblk m c 0 p) (iblk m c 1 p)) (k0_pay5 (iblk m c 2 p)) j)
    (fun t h j => by rw [left_dw_A m c t h, zero_add]) (fun t h j => by rw [eq_ix2 j]; exact left_dw_B m c t h _ _)
    t ((flush0_7 t).mp hf) _, zero_add]
  exact Eq.trans (Fin.sum_fin_congr fun s => dw_at m c _ z k) (sum_rows (t.val / 8) (by omega) (fun R => dh m c R k * (aX m c R k * FfnBack.rstd (aX m c R))))

end Cert.UpDxIdeal.Grad

namespace Cert.UpNorm

open Idealize.ShloMosaic Idealize.ShloMosaic.TcCoe Idealize.ShloMosaic.Tactic Idealize.SL.Sem FfnBack
open Cert.UpDxIdeal.Grad

theorem ref_frame : Cert.quiescent_UpDxRefIdeal (hUpDxRefIdeal := Cert.UpDxRefIdeal.Gen.facts) := fun m ρ _ =>
  (θ_run _ _ _).mono (fun r h => ⟨fun c => (h c).2.2, sem_eq_zero_of_no_sems (by decide) _⟩) (Cert.UpDxRefIdeal.Value.run m ρ)

theorem value : Cert.algebraic_UpDxIdeal_UpDxRefIdeal (hUpDxIdeal := Cert.UpDxIdeal.Gen.facts)
    (hUpDxRefIdeal := Cert.UpDxRefIdeal.Gen.facts) := by
  intro m g m' g' _ hargs
  refine ⟨fun c => arrX m c, fun c => arrN m c, ?_, ?_⟩
  · refine (θ_run _ _ _).mono (fun r h c => ?_) (Cert.UpDxIdeal.Value.run_blocks m g)
    exact ⟨(h c).1.trans (final_dx m c), (h c).2.1.trans (final_dw m c), (h c).2.2⟩
  · refine (θ_run _ _ _).mono (fun r h c => ?_) (Cert.UpDxRefIdeal.Value.run m' g')
    obtain ⟨h1, h2, h3⟩ := h c
    obtain ⟨e0, e1, e2, e3, e4⟩ := hargs c
    refine ⟨h1.trans ?_, h2.trans ?_, h3⟩
    · unfold Cert.UpDxRefIdeal.Value.res_main_v38
      rw [e0, e1, e2, e3, e4]
      funext y
      obtain ⟨r, k, rfl⟩ : ∃ r : Fin 4096, ∃ k : Fin 1024, y = ix2 r k := ⟨y 0, y 1, eq_ix2 y⟩
      refine Eq.trans ?_ (dnorm_eq (aX m c r) (fun k => dh m c r k * aN m c k) (aC m c r k) k)
      unfold dmean rstd mhalf cols eps dh aX aN aU aG aC
      pointwise []
      rw [Fin.sum_univ_one]
    · rw [e0, e2, e3]
      funext y
      obtain ⟨z, k, rfl⟩ : ∃ z : Fin 1, ∃ k : Fin 1024, y = ix2 z k := ⟨y 0, y 1, eq_ix2 y⟩
      unfold arrN rstd cols eps dh aX aU aG
      pointwise []
      rw [Fin.sum_univ_one]
      exact Finset.sum_congr rfl fun R _ => mul_comm _ _

end Cert.UpNorm

end
-- ==== Proof.UpGrad.lean ====
/- The gradient of the first product's weight, cut into the four shards of its columns: the product over the rows in two
   halves, the first kept between the points. -/
module

public import proofs.«01_k».proof.Proof.Gen.UpDwIdeal.Value
public import proofs.«01_k».proof.Proof.Gen.UpDwRefIdeal.Run
public import proofs.«01_k».proof.Proof.Gen.UpDwIdeal
public import proofs.«01_k».proof.Proof.Gen.UpDwRefIdeal
public import proofs.«01_k».proof.Defs
public import proofs.«01_k».proof.Proof.Order
public import Idealize.ShloMosaic.Lib.Pipeline.ValueKit
public import Idealize.ShloMosaic.Lib.StableHlo.ReadAt
public import Idealize.ShloMosaic.Lib.Quiescent

@[expose] public section

set_option maxRecDepth 16384

noncomputable section

namespace Cert.UpDwIdeal.Grad

open Cert.UpDwIdeal Cert.UpDwIdeal.Gen Idealize.ShloMosaic Idealize.ShloMosaic.TcCoe Idealize.ShloMosaic.Tactic Idealize.SL.Sem

section
variable {F : FTy → Type} [FloatOps F]

theorem keptOf_A (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1x1024x1408 .bf16) (harg5 : arg5.IsWhole) (arg6 : Memref sig .tc .vmem S1024x1408 .f32) (harg6 : arg6.IsWhole) (hc0 : cond0_0 i) (hc1 : ¬cond0_1 i)
    (x0 : Vec F S2048x1024 .bf16) (x1 : Vec F S2048x1408 .bf16) :
    sout0_A_0 c i arg3 harg3 arg4 harg4 arg5 harg5 arg6 harg6 hc0 hc1 x0 x1 = k0_pay1 x0 x1 := by
  frame_out

theorem outOf_B (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1x1024x1408 .bf16) (harg5 : arg5.IsWhole) (arg6 : Memref sig .tc .vmem S1024x1408 .f32) (harg6 : arg6.IsWhole) (hc0 : ¬cond0_0 i) (hc1 : cond0_1 i)
    (x0 : Vec F S2048x1024 .bf16) (x1 : Vec F S2048x1408 .bf16) (xs0 : Vec F S1024x1408 .f32) :
    out0_B_2 c i arg3 harg3 arg4 harg4 arg5 harg5 arg6 harg6 hc0 hc1 x0 x1 xs0 = k0_pay2 xs0 x0 x1 := by
  frame_out

end

variable (m : (ℓ : Loc nD τ sig) → Buf (Elt Ideal) ℓ) (c : Dev nD)

/-- The arguments as functions of row and column. -/
def aH (R : Fin 4096) (p : Fin 1024) : EReal := m (c.tc.loc main_arg0) (ix2 R p)
def aC (R : Fin 4096) (l : Fin 5632) : EReal := m (c.tc.loc main_arg1) (ix2 R l)

/-- The gradient. -/
def grad : FVec Ideal S4x1024x1408 .bf16 := fun i =>
  ∑ R : Fin 4096, aH m c R (i 1) * aC m c R ⟨(i 0 : ℕ) * 1408 + (i 2 : ℕ), by
    have h0 : (i 0 : ℕ) < 4 := (i 0).isLt
    have h2 : (i 2 : ℕ) < 1408 := (i 2).isLt
    omega⟩

theorem idx : ∀ t : Fin cfg0.N, t.val < 8 ∧ win0_0.index t = ![t.val % 2, 0] ∧ win0_1.index t = ![t.val % 2, t.val / 2] ∧
    win0_2.index t = ![t.val / 2 % 2 * 2 + t.val / 2 / 2, 0, 0] :=
  (by decide +kernel : ∀ t : Fin grid0.N, _)

def row (t : Fin cfg0.N) (r : Fin 2048) : Fin 4096 := ⟨2048 * (t.val % 2) + r, by omega⟩
def col (t : Fin cfg0.N) (q : Fin 1408) : Fin 5632 := ⟨1408 * (t.val / 2) + q, by have := (idx t).1; omega⟩
/-- The shard a point's block is. -/
def shard (t : Fin cfg0.N) : Fin 4 := ⟨t.val / 2 % 2 * 2 + t.val / 2 / 2, by have := (idx t).1; omega⟩

theorem pc_col (t : Fin cfg0.N) (q : Fin 1408) : (FfnBack.pc (col t q) : ℕ) = (shard t : ℕ) * 1408 + q := by
  have ht := (idx t).1
  have h : (FfnBack.pc (col t q) : ℕ) = if (col t q : ℕ) < 1408 then (col t q : ℕ) else if (col t q : ℕ) < 2816 then (col t q : ℕ) + 1408
    else if (col t q : ℕ) < 4224 then (col t q : ℕ) - 1408 else (col t q : ℕ) := rfl
  have hc : (col t q : ℕ) = 1408 * (t.val / 2) + q := rfl
  have hs : (shard t : ℕ) = t.val / 2 % 2 * 2 + t.val / 2 / 2 := rfl
  have hd : t.val / 2 = 0 ∨ t.val / 2 = 1 ∨ t.val / 2 = 2 ∨ t.val / 2 = 3 := by omega
  rcases hd with hd | hd | hd | hd <;> rw [hd] at hc hs <;> split_ifs at h <;> omega

theorem h_at (r : Fin 4096) (p : Fin 1024) : V m c main_v0 (ix2 r p) = aH m c r p := by
  unfold V
  after_reads_at
  rfl

theorem ct_at (r : Fin 4096) (l : Fin 5632) : V m c main_v6 (ix2 r l) = aC m c r (FfnBack.pc l) := by
  refine Eq.trans ?_ (FfnBack.pick (fun k => aC m c r k) l)
  unfold V aC
  after_reads_at
  split_ifs <;> after_reads_at

theorem iblk0_at (t : Fin cfg0.N) (r : Fin 2048) (p : Fin 1024) : iblk m c 0 t (ix2 r p) = aH m c (row t r) p := by
  rw [← h_at]
  blk_ext [iblk, idx t, row]

theorem iblk1_at (t : Fin cfg0.N) (r : Fin 2048) (q : Fin 1408) : iblk m c 1 t (ix2 r q) = aC m c (row t r) (FfnBack.pc (col t q)) := by
  rw [← ct_at]
  blk_ext [iblk, idx t, row, col]

theorem pay1_at (x0 : FVec Ideal S2048x1024 .bf16) (x1 : FVec Ideal S2048x1408 .bf16) (p : Fin 1024) (q : Fin 1408) :
    k0_pay1 (F := Ideal) x0 x1 (ix2 p q) = ∑ r : Fin 2048, x0 (ix2 r p) * x1 (ix2 r q) := by
  pointwise [k0_pay1]

theorem pay2_at (xs : FVec Ideal S1024x1408 .f32) (x0 : FVec Ideal S2048x1024 .bf16) (x1 : FVec Ideal S2048x1408 .bf16) (p : Fin 1024) (q : Fin 1408) :
    k0_pay2 (F := Ideal) xs x0 x1 (ix3 0 p q) = xs (ix2 p q) + k0_pay1 (F := Ideal) x0 x1 (ix2 p q) := by
  pointwise [k0_pay2, k0_pay1]

/-- One half of the rows' part of the gradient. -/
theorem half_at (t : Fin cfg0.N) (p : Fin 1024) (q : Fin 1408) : k0_pay1 (F := Ideal) (iblk m c 0 t) (iblk m c 1 t) (ix2 p q) =
    ∑ r : Fin 2048, aH m c (row t r) p * aC m c (row t r) (FfnBack.pc (col t q)) :=
  (pay1_at _ _ p q).trans (Finset.sum_congr rfl fun r _ => Ideal.mul_congr (iblk0_at m c t r p) (iblk1_at m c t r q))

theorem left_at (t : Fin cfg0.N) (h : t.val % 2 = 1) (p : Fin 1024) (q : Fin 1408) :
    (outsAt0 m c t.val t.isLt).1 (ix3 0 p q) = ∑ R : Fin 4096, aH m c R p * aC m c R (FfnBack.pc (col t q)) := by
  have ht := (idx t).1
  have hp : t.val - 1 < cfg0.N := by have := t.isLt; omega
  rw [outsAt0_B m c t (by omega) h, outsAt0_A m c ⟨t.val - 1, hp⟩ (by simp only []; omega) (by simp only []; omega)]
  dsimp only
  rw [outOf_B, keptOf_A]
  refine (pay2_at _ _ _ p q).trans ?_
  rw [Fin.sum_univ_tiles 2 2048 rfl, Fin.sum_univ_two]
  refine Ideal.add_congr ((half_at m c _ p q).trans ?_) ((half_at m c t p q).trans ?_)
  · refine Finset.sum_congr rfl fun r _ => ?_
    have e1 : row ⟨t.val - 1, hp⟩ r = ⟨2048 * ((0 : Fin 2) : ℕ) + r, by simp; omega⟩ := Fin.ext (by simp only [row]; simp; omega)
    have e2 : col ⟨t.val - 1, hp⟩ q = col t q := Fin.ext (by simp only [col]; omega)
    rw [e1, e2]
    rfl
  · refine Finset.sum_congr rfl fun r _ => ?_
    have e1 : row t r = ⟨2048 * ((1 : Fin 2) : ℕ) + r, by simp; omega⟩ := Fin.ext (by simp only [row]; simp; omega)
    rw [e1]
    rfl

theorem final : (dats m 0 c).arrAt 2 cfg0.N = grad m c := by
  refine (dats m 0 c).arrAt_eq_of_covers 2 _ (by decide +kernel) fun t hf y => ?_
  obtain ⟨z, r, l, rfl⟩ : ∃ z : Fin 1, ∃ r : Fin 1024, ∃ l : Fin 1408, y = ix3 z r l := ⟨y 0, y 1, y 2, eq_ix3 y⟩
  obtain rfl : z = 0 := Subsingleton.elim _ _
  have e : (win0_2.blk t).view.emb (ix3 0 r l) = ix3 (shard t) r l := by blk_ext [idx t, shard]
  blk_simp
  rw [e, after0_2]
  refine (left_at m c t ((flush0_2 t).mp hf) r l).trans (Finset.sum_congr rfl fun R _ => ?_)
  exact congrArg (fun k => aH m c R r * aC m c R k) (Fin.ext (pc_col t l))

end Cert.UpDwIdeal.Grad

namespace Cert.UpGrad

open Idealize.ShloMosaic Idealize.ShloMosaic.TcCoe Idealize.ShloMosaic.Tactic Idealize.SL.Sem

theorem ref_frame : Cert.quiescent_UpDwRefIdeal (hUpDwRefIdeal := Cert.UpDwRefIdeal.Gen.facts) := fun m ρ _ =>
  (θ_run _ _ _).mono (fun r h => ⟨fun c => (h c).2, sem_eq_zero_of_no_sems (by decide) _⟩) (Cert.UpDwRefIdeal.Value.run m ρ)

theorem value : Cert.algebraic_UpDwIdeal_UpDwRefIdeal (hUpDwIdeal := Cert.UpDwIdeal.Gen.facts)
    (hUpDwRefIdeal := Cert.UpDwRefIdeal.Gen.facts) := by
  intro m g m' g' _ hargs
  refine ⟨fun c => Cert.UpDwIdeal.Grad.grad m c, ?_, ?_⟩
  · refine (θ_run _ _ _).mono (fun r h c => ?_) (Cert.UpDwIdeal.Value.run_blocks m g)
    exact ⟨(h c).1.trans (Cert.UpDwIdeal.Grad.final m c), (h c).2⟩
  · refine (θ_run _ _ _).mono (fun r h c => ⟨(h c).1.trans ?_, (h c).2⟩) (Cert.UpDwRefIdeal.Value.run m' g')
    obtain ⟨e0, e1⟩ := hargs c
    rw [e0, e1]
    funext y
    obtain ⟨d, p, q, rfl⟩ : ∃ d : Fin 4, ∃ p : Fin 1024, ∃ q : Fin 1408, y = ix3 d p q := ⟨y 0, y 1, y 2, eq_ix3 y⟩
    refine Eq.trans (b := ∑ R : Fin 4096, Cert.UpDwIdeal.Grad.aC m c R ⟨(d : ℕ) * 1408 + q, by omega⟩ * Cert.UpDwIdeal.Grad.aH m c R p) ?_
      (Finset.sum_congr rfl fun R _ => mul_comm _ _)
    unfold Cert.UpDwIdeal.Grad.aH Cert.UpDwIdeal.Grad.aC
    pointwise []

end Cert.UpGrad

end
-- ==== Proof.DownGrad.lean ====
/- The gradient of the second product's weight: the product over the rows in two halves, the first kept between the points. -/
module

public import proofs.«01_k».proof.Proof.Gen.DownDwIdeal.Value
public import proofs.«01_k».proof.Proof.Gen.DownDwRefIdeal.Run
public import proofs.«01_k».proof.Proof.Gen.DownDwIdeal
public import proofs.«01_k».proof.Proof.Gen.DownDwRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.DownDwIdeal.Grad

open Cert.DownDwIdeal Cert.DownDwIdeal.Gen Idealize.ShloMosaic Idealize.ShloMosaic.TcCoe Idealize.ShloMosaic.Tactic Idealize.SL.Sem

section
variable {F : FTy → Type} [FloatOps F]

theorem keptOf_A (c : Dev nD) (i : grid0.Coords) (arg3 : Memref sig .tc .vmem S2048x1408 .bf16) (harg3 : arg3.IsWhole) (arg4 : Memref sig .tc .vmem S2048x1024 .f32) (harg4 : arg4.IsWhole) (arg5 : Memref sig .tc .vmem S1408x1024 .bf16) (harg5 : arg5.IsWhole) (arg6 : Memref sig .tc .vmem S1408x1024 .f32) (harg6 : arg6.IsWhole) (hc0 : cond0_0 i) (hc1 : ¬cond0_1 i)
    (x0 : Vec F S2048x1408 .bf16) (x1 : Vec F S2048x1024 .f32) :
    sout0_A_0 c i arg3 harg3 arg4 harg4 arg5 harg5 arg6 harg6 hc0 hc1 x0 x1 = k0_pay1 x0 x1 := by
  frame_out

theorem outOf_B (c : Dev nD) (i : grid0.Coords) (arg3 : Memref sig .tc .vmem S2048x1408 .bf16) (harg3 : arg3.IsWhole) (arg4 : Memref sig .tc .vmem S2048x1024 .f32) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : cond0_1 i)
    (x0 : Vec F S2048x1408 .bf16) (x1 : Vec F S2048x1024 .f32) (xs0 : Vec F S1408x1024 .f32) :
    out0_B_2 c i arg3 harg3 arg4 harg4 arg5 harg5 arg6 harg6 hc0 hc1 x0 x1 xs0 = k0_pay2 xs0 x0 x1 := by
  frame_out

end

variable (m : (ℓ : Loc nD τ sig) → Buf (Elt Ideal) ℓ) (c : Dev nD)

/-- The arguments as functions of row and column. -/
def aA (R : Fin 4096) (q : Fin 2816) : EReal := m (c.tc.loc main_arg0) (ix2 R q)
def aC (R : Fin 4096) (k : Fin 1024) : EReal := m (c.tc.loc main_arg1) (ix2 R k)

/-- The gradient. -/
def grad : FVec Ideal S2816x1024 .bf16 := fun i => ∑ R : Fin 4096, aA m c R (i 0) * aC m c R (i 1)

theorem idx : ∀ t : Fin cfg0.N, t.val < 4 ∧ win0_0.index t = ![t.val % 2, t.val / 2] ∧ win0_1.index t = ![t.val % 2, 0] ∧
    win0_2.index t = ![t.val / 2, 0] :=
  (by decide +kernel : ∀ t : Fin grid0.N, _)

def row (t : Fin cfg0.N) (r : Fin 2048) : Fin 4096 := ⟨2048 * (t.val % 2) + r, by omega⟩
def col (t : Fin cfg0.N) (q : Fin 1408) : Fin 2816 := ⟨1408 * (t.val / 2) + q, by have := (idx t).1; omega⟩

theorem act_at (r : Fin 4096) (q : Fin 2816) : V m c main_v0 (ix2 r q) = aA m c r q := by
  unfold V
  after_reads_at
  rfl

theorem ct_at (r : Fin 4096) (k : Fin 1024) : V m c main_arg1 (ix2 r k) = aC m c r k := by
  rw [V_main_arg1]; rfl

theorem iblk0_at (t : Fin cfg0.N) (r : Fin 2048) (q : Fin 1408) : iblk m c 0 t (ix2 r q) = aA m c (row t r) (col t q) := by
  rw [← act_at]
  blk_ext [iblk, idx t, row, col]

theorem iblk1_at (t : Fin cfg0.N) (r : Fin 2048) (k : Fin 1024) : iblk m c 1 t (ix2 r k) = aC m c (row t r) k := by
  rw [← ct_at]
  blk_ext [iblk, idx t, row]

theorem pay1_at (x0 : FVec Ideal S2048x1408 .bf16) (x1 : FVec Ideal S2048x1024 .f32) (q : Fin 1408) (k : Fin 1024) :
    k0_pay1 (F := Ideal) x0 x1 (ix2 q k) = ∑ r : Fin 2048, x0 (ix2 r q) * x1 (ix2 r k) := by
  pointwise [k0_pay1]

theorem pay2_at (xs : FVec Ideal S1408x1024 .f32) (x0 : FVec Ideal S2048x1408 .bf16) (x1 : FVec Ideal S2048x1024 .f32) (q : Fin 1408) (k : Fin 1024) :
    k0_pay2 (F := Ideal) xs x0 x1 (ix2 q k) = xs (ix2 q k) + k0_pay1 (F := Ideal) x0 x1 (ix2 q k) := by
  pointwise [k0_pay2, k0_pay1]

/-- One half of the rows' part of the gradient. -/
theorem half_at (t : Fin cfg0.N) (q : Fin 1408) (k : Fin 1024) :
    k0_pay1 (F := Ideal) (iblk m c 0 t) (iblk m c 1 t) (ix2 q k) = ∑ r : Fin 2048, aA m c (row t r) (col t q) * aC m c (row t r) k :=
  (pay1_at _ _ q k).trans (Finset.sum_congr rfl fun r _ => Ideal.mul_congr (iblk0_at m c t r q) (iblk1_at m c t r k))

theorem left_at (t : Fin cfg0.N) (h : t.val % 2 = 1) (q : Fin 1408) (k : Fin 1024) :
    (outsAt0 m c t.val t.isLt).1 (ix2 q k) = ∑ R : Fin 4096, aA m c R (col t q) * aC m c R k := by
  have ht := (idx t).1
  have hp : t.val - 1 < cfg0.N := by have := t.isLt; omega
  rw [outsAt0_B m c t (by omega) h, outsAt0_A m c ⟨t.val - 1, hp⟩ (by simp only []; omega) (by simp only []; omega)]
  dsimp only
  rw [outOf_B, keptOf_A]
  refine (pay2_at _ _ _ q k).trans ?_
  rw [Fin.sum_univ_tiles 2 2048 rfl, Fin.sum_univ_two]
  refine Ideal.add_congr ((half_at m c _ q k).trans ?_) ((half_at m c t q k).trans ?_)
  · refine Finset.sum_congr rfl fun r _ => ?_
    have e1 : row ⟨t.val - 1, hp⟩ r = ⟨2048 * ((0 : Fin 2) : ℕ) + r, by simp; omega⟩ := Fin.ext (by simp only [row]; simp; omega)
    have e2 : col ⟨t.val - 1, hp⟩ q = col t q := Fin.ext (by simp only [col]; omega)
    rw [e1, e2]
    rfl
  · refine Finset.sum_congr rfl fun r _ => ?_
    have e1 : row t r = ⟨2048 * ((1 : Fin 2) : ℕ) + r, by simp; omega⟩ := Fin.ext (by simp only [row]; simp; omega)
    rw [e1]
    rfl

theorem final : (dats m 0 c).arrAt 2 cfg0.N = grad m c := by
  refine (dats m 0 c).arrAt_eq_of_covers 2 _ (by decide +kernel) fun t hf y => ?_
  obtain ⟨r, l, rfl⟩ : ∃ r : Fin 1408, ∃ l : Fin 1024, y = ix2 r l := ⟨y 0, y 1, eq_ix2 y⟩
  have e : (win0_2.blk t).view.emb (ix2 r l) = ix2 (col t r) l := by blk_ext [idx t, col]
  blk_simp
  rw [e, after0_2]
  exact left_at m c t ((flush0_2 t).mp hf) r l

end Cert.DownDwIdeal.Grad

namespace Cert.DownGrad

open Idealize.ShloMosaic Idealize.ShloMosaic.TcCoe Idealize.ShloMosaic.Tactic Idealize.SL.Sem

theorem ref_frame : Cert.quiescent_DownDwRefIdeal (hDownDwRefIdeal := Cert.DownDwRefIdeal.Gen.facts) := fun m ρ _ =>
  (θ_run _ _ _).mono (fun r h => ⟨fun c => (h c).2, sem_eq_zero_of_no_sems (by decide) _⟩) (Cert.DownDwRefIdeal.Value.run m ρ)

theorem value : Cert.algebraic_DownDwIdeal_DownDwRefIdeal (hDownDwIdeal := Cert.DownDwIdeal.Gen.facts)
    (hDownDwRefIdeal := Cert.DownDwRefIdeal.Gen.facts) := by
  intro m g m' g' _ hargs
  refine ⟨fun c => Cert.DownDwIdeal.Grad.grad m c, ?_, ?_⟩
  · refine (θ_run _ _ _).mono (fun r h c => ?_) (Cert.DownDwIdeal.Value.run_blocks m g)
    exact ⟨(h c).1.trans (Cert.DownDwIdeal.Grad.final m c), (h c).2⟩
  · refine (θ_run _ _ _).mono (fun r h c => ⟨(h c).1.trans ?_, (h c).2⟩) (Cert.DownDwRefIdeal.Value.run m' g')
    obtain ⟨e0, e1⟩ := hargs c
    rw [e0, e1]
    funext y
    obtain ⟨q, k, rfl⟩ : ∃ q : Fin 2816, ∃ k : Fin 1024, y = ix2 q k := ⟨y 0, y 1, eq_ix2 y⟩
    refine Eq.trans (b := ∑ R : Fin 4096, Cert.DownDwIdeal.Grad.aC m c R k * Cert.DownDwIdeal.Grad.aA m c R q) ?_
      (Finset.sum_congr rfl fun R _ => mul_comm _ _)
    unfold Cert.DownDwIdeal.Grad.aA Cert.DownDwIdeal.Grad.aC
    pointwise []

end Cert.DownGrad

end
-- ==== Proof.UpConv.lean ====
/- The first product, the convolution and the gate: each block's rows, over the last rows of the block above. -/
module

public import proofs.«01_k».proof.Proof.Gen.UpIdeal.Frame
public import proofs.«01_k».proof.Proof.Gen.UpIdeal
public import proofs.«01_k».proof.Proof.Spec
public import proofs.«01_k».proof.Proof.Order
public import Idealize.ShloMosaic.Lib.Pipeline.ValueKit
public import Idealize.ShloMosaic.Lib.StableHlo.ReadAt

@[expose] public section

set_option maxRecDepth 16384

noncomputable section

namespace Cert.UpIdeal.Conv

open Cert.UpIdeal Cert.UpIdeal.Gen Idealize.ShloMosaic Idealize.ShloMosaic.TcCoe Idealize.ShloMosaic.Tactic Idealize.SL.Sem

section
variable {F : FTy → Type} [FloatOps F]

/-- One block of the convolved activations, over the last rows `xs` of the block above. -/
def hcBlock (x0 : Vec F S256x1024 .bf16) (x1 : Vec F S1024x2816 .bf16) (x2 : Vec F S3x2816 .f32) (x3 : Vec F S1x2816 .f32) (xs : Vec F S8x2816 .f32) : FVec F S256x2816 .f32 :=
  k0_pay1 xs (k0_pay7 x2) (k0_pay8 x0 x1 xs x2 x3) (k0_pay9 x0 x1) (iota .tc S8x2816 32 [0] iota_S8x2816_d0_w32) 2#32

/-- The gated activations of that block. -/
def actBlock (x0 : Vec F S256x1024 .bf16) (x1 : Vec F S1024x2816 .bf16) (x2 : Vec F S3x2816 .f32) (x3 : Vec F S1x2816 .f32) (xs : Vec F S8x2816 .f32) : FVec F S256x1408 .bf16 :=
  k0_pay3 xs (k0_pay7 x2) (k0_pay8 x0 x1 xs x2 x3) (k0_pay9 x0 x1) (iota .tc S8x2816 32 [0] iota_S8x2816_d0_w32) 2#32

theorem hidOf_A (c : Dev nD) (i : grid0.Coords) (arg2 : Memref sig .tc .vmem S256x1024 .bf16) (harg2 : arg2.IsWhole) (arg3 : Memref sig .tc .vmem S1024x2816 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S256x2816 .bf16) (harg6 : arg6.IsWhole) (arg7 : Memref sig .tc .vmem S256x2816 .f32) (harg7 : arg7.IsWhole) (arg8 : Memref sig .tc .vmem S256x1408 .bf16) (harg8 : arg8.IsWhole) (arg9 : Memref sig .tc .vmem S8x2816 .f32) (harg9 : arg9.IsWhole) (hc0 : cond0_0 i)
    (x0 : Vec F S256x1024 .bf16) (x1 : Vec F S1024x2816 .bf16) (x2 : Vec F S3x2816 .f32) (x3 : Vec F S1x2816 .f32) :
    out0_A_4 c i arg2 harg2 arg3 harg3 arg4 harg4 arg5 harg5 arg6 harg6 arg7 harg7 arg8 harg8 arg9 harg9 hc0 x0 x1 x2 x3 = k0_pay5 x0 x1 := by
  frame_out

theorem hcOf_A (c : Dev nD) (i : grid0.Coords) (arg2 : Memref sig .tc .vmem S256x1024 .bf16) (harg2 : arg2.IsWhole) (arg3 : Memref sig .tc .vmem S1024x2816 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S256x2816 .bf16) (harg6 : arg6.IsWhole) (arg7 : Memref sig .tc .vmem S256x2816 .f32) (harg7 : arg7.IsWhole) (arg8 : Memref sig .tc .vmem S256x1408 .bf16) (harg8 : arg8.IsWhole) (arg9 : Memref sig .tc .vmem S8x2816 .f32) (harg9 : arg9.IsWhole) (hc0 : cond0_0 i)
    (x0 : Vec F S256x1024 .bf16) (x1 : Vec F S1024x2816 .bf16) (x2 : Vec F S3x2816 .f32) (x3 : Vec F S1x2816 .f32) :
    out0_A_5 c i arg2 harg2 arg3 harg3 arg4 harg4 arg5 harg5 arg6 harg6 arg7 harg7 arg8 harg8 arg9 harg9 hc0 x0 x1 x2 x3 = hcBlock x0 x1 x2 x3 k0_pay4 := by
  frame_out
  rfl

theorem actOf_A (c : Dev nD) (i : grid0.Coords) (arg2 : Memref sig .tc .vmem S256x1024 .bf16) (harg2 : arg2.IsWhole) (arg3 : Memref sig .tc .vmem S1024x2816 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S256x2816 .bf16) (harg6 : arg6.IsWhole) (arg7 : Memref sig .tc .vmem S256x2816 .f32) (harg7 : arg7.IsWhole) (arg8 : Memref sig .tc .vmem S256x1408 .bf16) (harg8 : arg8.IsWhole) (arg9 : Memref sig .tc .vmem S8x2816 .f32) (harg9 : arg9.IsWhole) (hc0 : cond0_0 i)
    (x0 : Vec F S256x1024 .bf16) (x1 : Vec F S1024x2816 .bf16) (x2 : Vec F S3x2816 .f32) (x3 : Vec F S1x2816 .f32) :
    out0_A_6 c i arg2 harg2 arg3 harg3 arg4 harg4 arg5 harg5 arg6 harg6 arg7 harg7 arg8 harg8 arg9 harg9 hc0 x0 x1 x2 x3 = actBlock x0 x1 x2 x3 k0_pay4 := by
  frame_out
  rfl

theorem lastOf_A (c : Dev nD) (i : grid0.Coords) (arg2 : Memref sig .tc .vmem S256x1024 .bf16) (harg2 : arg2.IsWhole) (arg3 : Memref sig .tc .vmem S1024x2816 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S256x2816 .bf16) (harg6 : arg6.IsWhole) (arg7 : Memref sig .tc .vmem S256x2816 .f32) (harg7 : arg7.IsWhole) (arg8 : Memref sig .tc .vmem S256x1408 .bf16) (harg8 : arg8.IsWhole) (arg9 : Memref sig .tc .vmem S8x2816 .f32) (harg9 : arg9.IsWhole) (hc0 : cond0_0 i)
    (x0 : Vec F S256x1024 .bf16) (x1 : Vec F S1024x2816 .bf16) (x2 : Vec F S3x2816 .f32) (x3 : Vec F S1x2816 .f32) :
    sout0_A_0 c i arg2 harg2 arg3 harg3 arg4 harg4 arg5 harg5 arg6 harg6 arg7 harg7 arg8 harg8 arg9 harg9 hc0 x0 x1 x2 x3 = k0_pay2 (k0_pay6 x0 x1) := by
  frame_out

theorem hidOf_B (c : Dev nD) (i : grid0.Coords) (arg2 : Memref sig .tc .vmem S256x1024 .bf16) (harg2 : arg2.IsWhole) (arg3 : Memref sig .tc .vmem S1024x2816 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S256x2816 .bf16) (harg6 : arg6.IsWhole) (arg7 : Memref sig .tc .vmem S256x2816 .f32) (harg7 : arg7.IsWhole) (arg8 : Memref sig .tc .vmem S256x1408 .bf16) (harg8 : arg8.IsWhole) (arg9 : Memref sig .tc .vmem S8x2816 .f32) (harg9 : arg9.IsWhole) (hc0 : ¬cond0_0 i)
    (x0 : Vec F S256x1024 .bf16) (x1 : Vec F S1024x2816 .bf16) (x2 : Vec F S3x2816 .f32) (x3 : Vec F S1x2816 .f32) (xs0 : Vec F S8x2816 .f32) :
    out0_B_4 c i arg2 harg2 arg3 harg3 arg4 harg4 arg5 harg5 arg6 harg6 arg7 harg7 arg8 harg8 arg9 harg9 hc0 x0 x1 x2 x3 xs0 = k0_pay5 x0 x1 := by
  frame_out

theorem hcOf_B (c : Dev nD) (i : grid0.Coords) (arg2 : Memref sig .tc .vmem S256x1024 .bf16) (harg2 : arg2.IsWhole) (arg3 : Memref sig .tc .vmem S1024x2816 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S256x2816 .bf16) (harg6 : arg6.IsWhole) (arg7 : Memref sig .tc .vmem S256x2816 .f32) (harg7 : arg7.IsWhole) (arg8 : Memref sig .tc .vmem S256x1408 .bf16) (harg8 : arg8.IsWhole) (arg9 : Memref sig .tc .vmem S8x2816 .f32) (harg9 : arg9.IsWhole) (hc0 : ¬cond0_0 i)
    (x0 : Vec F S256x1024 .bf16) (x1 : Vec F S1024x2816 .bf16) (x2 : Vec F S3x2816 .f32) (x3 : Vec F S1x2816 .f32) (xs0 : Vec F S8x2816 .f32) :
    out0_B_5 c i arg2 harg2 arg3 harg3 arg4 harg4 arg5 harg5 arg6 harg6 arg7 harg7 arg8 harg8 arg9 harg9 hc0 x0 x1 x2 x3 xs0 = hcBlock x0 x1 x2 x3 xs0 := by
  frame_out
  rfl

theorem actOf_B (c : Dev nD) (i : grid0.Coords) (arg2 : Memref sig .tc .vmem S256x1024 .bf16) (harg2 : arg2.IsWhole) (arg3 : Memref sig .tc .vmem S1024x2816 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S256x2816 .bf16) (harg6 : arg6.IsWhole) (arg7 : Memref sig .tc .vmem S256x2816 .f32) (harg7 : arg7.IsWhole) (arg8 : Memref sig .tc .vmem S256x1408 .bf16) (harg8 : arg8.IsWhole) (arg9 : Memref sig .tc .vmem S8x2816 .f32) (harg9 : arg9.IsWhole) (hc0 : ¬cond0_0 i)
    (x0 : Vec F S256x1024 .bf16) (x1 : Vec F S1024x2816 .bf16) (x2 : Vec F S3x2816 .f32) (x3 : Vec F S1x2816 .f32) (xs0 : Vec F S8x2816 .f32) :
    out0_B_6 c i arg2 harg2 arg3 harg3 arg4 harg4 arg5 harg5 arg6 harg6 arg7 harg7 arg8 harg8 arg9 harg9 hc0 x0 x1 x2 x3 xs0 = actBlock x0 x1 x2 x3 xs0 := by
  frame_out
  rfl

theorem lastOf_B (c : Dev nD) (i : grid0.Coords) (arg2 : Memref sig .tc .vmem S256x1024 .bf16) (harg2 : arg2.IsWhole) (arg3 : Memref sig .tc .vmem S1024x2816 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S256x2816 .bf16) (harg6 : arg6.IsWhole) (arg7 : Memref sig .tc .vmem S256x2816 .f32) (harg7 : arg7.IsWhole) (arg8 : Memref sig .tc .vmem S256x1408 .bf16) (harg8 : arg8.IsWhole) (arg9 : Memref sig .tc .vmem S8x2816 .f32) (harg9 : arg9.IsWhole) (hc0 : ¬cond0_0 i)
    (x0 : Vec F S256x1024 .bf16) (x1 : Vec F S1024x2816 .bf16) (x2 : Vec F S3x2816 .f32) (x3 : Vec F S1x2816 .f32) (xs0 : Vec F S8x2816 .f32) :
    sout0_B_0 c i arg2 harg2 arg3 harg3 arg4 harg4 arg5 harg5 arg6 harg6 arg7 harg7 arg8 harg8 arg9 harg9 hc0 x0 x1 x2 x3 xs0 = k0_pay2 (k0_pay6 x0 x1) := by
  frame_out

end

section
variable (x0 : FVec Ideal S256x1024 .bf16) (x1 : FVec Ideal S1024x2816 .bf16) (x2 : FVec Ideal S3x2816 .f32) (x3 : FVec Ideal S1x2816 .f32)
  (xs : FVec Ideal S8x2816 .f32)

theorem hid_pay_at (r : Fin 256) (l : Fin 2816) : k0_pay5 (F := Ideal) x0 x1 (ix2 r l) = ∑ k : Fin 1024, x0 (ix2 r k) * x1 (ix2 k l) := by
  pointwise [k0_pay5]

theorem cur_at (r : Fin 256) (l : Fin 2816) : k0_pay6 (F := Ideal) x0 x1 (ix2 r l) = k0_pay5 (F := Ideal) x0 x1 (ix2 r l) := by
  pointwise [k0_pay6]

theorem last_at (s : Fin 8) (l : Fin 2816) : k0_pay2 (F := Ideal) (k0_pay6 x0 x1) (ix2 s l) = k0_pay5 (F := Ideal) x0 x1 (ix2 ⟨248 + s, by omega⟩ l) := by
  generalize hy : k0_pay6 (F := Ideal) x0 x1 = y
  have h : ∀ r l, k0_pay5 (F := Ideal) x0 x1 (ix2 r l) = y (ix2 r l) := fun r l => by rw [← hy, cur_at]
  rw [h]
  pointwise [k0_pay2]

theorem zeros_at (i : S8x2816.Idx) : k0_pay4 (F := Ideal) i = 0 := by pointwise [k0_pay4]

/-- The block shifted down by one row: its first row is the block above's last. -/
def lag1 (y : Fin 256 → Fin 2816 → EReal) (z : Fin 8 → Fin 2816 → EReal) (r : Fin 256) (l : Fin 2816) : EReal :=
  if h : (r : ℕ) < 1 then z 7 l else y ⟨r - 1, by omega⟩ l

/-- The block shifted down by two rows: its first two rows are the block above's last two. -/
def lag2 (y : Fin 256 → Fin 2816 → EReal) (z : Fin 8 → Fin 2816 → EReal) (r : Fin 256) (l : Fin 2816) : EReal :=
  if h : (r : ℕ) < 2 then z ⟨6 + r, by omega⟩ l else y ⟨r - 2, by omega⟩ l

theorem part_at (r : Fin 256) (l : Fin 2816) : k0_pay8 (F := Ideal) x0 x1 xs x2 x3 (ix2 r l) =
    k0_pay5 (F := Ideal) x0 x1 (ix2 r l) * x2 (ix2 2 l) + x3 (ix2 0 l)
      + lag1 (fun r l => k0_pay5 (F := Ideal) x0 x1 (ix2 r l)) (fun s l => xs (ix2 s l)) r l * x2 (ix2 1 l) := by
  unfold k0_pay8 lag1
  generalize hy : k0_pay6 (F := Ideal) x0 x1 = y
  have h : ∀ r l, k0_pay5 (F := Ideal) x0 x1 (ix2 r l) = y (ix2 r l) := fun r l => by rw [← hy, cur_at]
  simp only [h]
  pointwise [k0_pay7]
  refine Ideal.add_congr rfl (Ideal.mul_congr ?_ rfl)
  obtain ⟨r, hr⟩ := r
  by_cases h8 : r < 8
  · rw [dif_pos h8]
    simp (disch := word_cmp_side) only [hlo_ix]
    by_cases h' : r < 1
    · rw [if_pos h', dif_pos h']
      exact congrArg (fun i => xs (ix2 i l)) (Fin.ext (by first | omega | (simp only []; omega)))
    · rw [if_neg h', dif_neg h']
      exact congrArg (fun i => y (ix2 i l)) (Fin.ext (by first | omega | (simp only []; omega)))
  · rw [dif_neg h8, dif_neg (show ¬ r < 1 by omega)]
    exact congrArg (fun i => y (ix2 i l)) (Fin.ext (by first | omega | (simp only []; omega)))

theorem hcBlock_at (r : Fin 256) (l : Fin 2816) : hcBlock (F := Ideal) x0 x1 x2 x3 xs (ix2 r l) =
    k0_pay8 (F := Ideal) x0 x1 xs x2 x3 (ix2 r l)
      + lag2 (fun r l => k0_pay5 (F := Ideal) x0 x1 (ix2 r l)) (fun s l => xs (ix2 s l)) r l * x2 (ix2 0 l) := by
  unfold hcBlock lag2 k0_pay9
  generalize hy : k0_pay6 (F := Ideal) x0 x1 = y
  have h : ∀ r l, k0_pay5 (F := Ideal) x0 x1 (ix2 r l) = y (ix2 r l) := fun r l => by rw [← hy, cur_at]
  generalize k0_pay8 (F := Ideal) x0 x1 xs x2 x3 = p
  simp only [h]
  pointwise [k0_pay1, k0_pay7]
  refine Ideal.add_congr rfl (Ideal.mul_congr ?_ rfl)
  obtain ⟨r, hr⟩ := r
  by_cases h8 : r < 8
  · rw [dif_pos h8]
    simp (disch := word_cmp_side) only [hlo_ix]
    by_cases h' : r < 2
    · rw [if_pos h', dif_pos h']
      exact congrArg (fun i => xs (ix2 i l)) (Fin.ext (by first | omega | (simp only []; omega)))
    · rw [if_neg h', dif_neg h']
      exact congrArg (fun i => y (ix2 i l)) (Fin.ext (by first | omega | (simp only []; omega)))
  · rw [dif_neg h8, dif_neg (show ¬ r < 2 by omega)]
    exact congrArg (fun i => y (ix2 i l)) (Fin.ext (by first | omega | (simp only []; omega)))

theorem actBlock_at (r : Fin 256) (q : Fin 1408) : actBlock (F := Ideal) x0 x1 x2 x3 xs (ix2 r q) =
    hcBlock (F := Ideal) x0 x1 x2 x3 xs (ix2 r ⟨1408 + q, by omega⟩) * FfnBack.sg (hcBlock (F := Ideal) x0 x1 x2 x3 xs (ix2 r ⟨1408 + q, by omega⟩))
      * hcBlock (F := Ideal) x0 x1 x2 x3 xs (ix2 r ⟨q, by omega⟩) := by
  unfold actBlock hcBlock k0_pay3 FfnBack.sg
  generalize k0_pay1 (F := Ideal) xs (k0_pay7 x2) (k0_pay8 x0 x1 xs x2 x3) (k0_pay9 x0 x1) (iota .tc S8x2816 32 [0] iota_S8x2816_d0_w32) 2#32 = y
  pointwise []
  simp only [zero_sub]

end

end Cert.UpIdeal.Conv

end
-- ==== Proof.UpFirst.lean ====
/- The first product, the convolution and the gate: the arrays the call writes, their order put back, and the reference. -/
module

public import proofs.«01_k».proof.Proof.UpConv
public import proofs.«01_k».proof.Proof.Ref
public import proofs.«01_k».proof.Proof.Gen.UpRefIdeal.Run
public import proofs.«01_k».proof.Proof.Gen.UpRefIdeal
public import proofs.«01_k».proof.Defs
public import Idealize.ShloMosaic.Lib.Quiescent

@[expose] public section

set_option maxRecDepth 16384

noncomputable section

namespace Cert.UpIdeal.Conv

open Cert.UpIdeal Cert.UpIdeal.Gen Idealize.ShloMosaic Idealize.ShloMosaic.TcCoe Idealize.ShloMosaic.Tactic Idealize.SL.Sem

variable (m : (ℓ : Loc nD τ sig) → Buf (Elt Ideal) ℓ) (c : Dev nD)

/-- The arguments as functions of row and column. -/
def aH (R : Fin 4096) (k : Fin 1024) : EReal := m (c.tc.loc main_arg0) (ix2 R k)
def aU (k : Fin 1024) (l : Fin 5632) : EReal := m (c.tc.loc main_arg1) (ix2 k l)
def aW (k : Fin 3) (l : Fin 5632) : EReal := m (c.tc.loc main_arg2) (ix2 k l)
def aB (l : Fin 5632) : EReal := m (c.tc.loc main_arg3) (ix2 0 l)

/-- The product, the convolved product, and the gated one. -/
def hid (R : Fin 4096) (l : Fin 5632) : EReal := ∑ k : Fin 1024, aH m c R k * aU m c k l
def hc (R : Fin 4096) (l : Fin 5632) : EReal := FfnBack.hcv (hid m c) (aW m c) (aB m c) R l
def act (R : Fin 4096) (q : Fin 2816) : EReal :=
  hc m c R ⟨2816 + q, by omega⟩ * FfnBack.sg (hc m c R ⟨2816 + q, by omega⟩) * hc m c R ⟨q, by omega⟩

/-- The reference's product. -/
def prodR (x : FVec Ideal Cert.UpRefIdeal.S4096x1024 .f32) (w : FVec Ideal Cert.UpRefIdeal.S1024x5632 .f32) : FVec Ideal Cert.UpRefIdeal.S4096x5632 .f32 :=
  Host.dotGeneral Cert.UpRefIdeal.dot_S4096x1024_S1024x5632_S4096x5632_1_0_0_1_n_n none x w

theorem prodR_at (x : FVec Ideal Cert.UpRefIdeal.S4096x1024 .f32) (w : FVec Ideal Cert.UpRefIdeal.S1024x5632 .f32) (r : Fin 4096) (l : Fin 5632) :
    prodR x w (ix2 r l) = ∑ k : Fin 1024, x (ix2 r k) * w (ix2 k l) := by
  unfold prodR
  pointwise []

/-- The arrays the call writes: the first two with the columns in the version's order. -/
def arrD : FVec Ideal S4096x5632 .bf16 := fun i => hid m c (i 0) (FfnBack.pc (i 1))
def arrC : FVec Ideal S4096x5632 .f32 := fun i => hc m c (i 0) (FfnBack.pc (i 1))
def arrA : FVec Ideal S4096x2816 .bf16 := fun i => act m c (i 0) (i 1)

theorem hN : cfg0.N = 32 := N_0

theorem idx : ∀ t : Fin cfg0.N, t.val < 32 ∧ win0_0.index t = ![t.val % 16, 0] ∧ win0_1.index t = ![0, t.val / 16] ∧
    win0_2.index t = ![0, t.val / 16] ∧ win0_3.index t = ![0, t.val / 16] ∧ win0_4.index t = ![t.val % 16, t.val / 16] ∧
    win0_5.index t = ![t.val % 16, t.val / 16] ∧ win0_6.index t = ![t.val % 16, t.val / 16] :=
  (by decide +kernel : ∀ t : Fin grid0.N, _)

def row (t : Fin cfg0.N) (r : Fin 256) : Fin 4096 := ⟨256 * (t.val % 16) + r, by omega⟩
def col (t : Fin cfg0.N) (l : Fin 2816) : Fin 5632 := ⟨2816 * (t.val / 16) + l, by have := (idx t).1; omega⟩
def acol (t : Fin cfg0.N) (l : Fin 2816) : Fin 5632 := FfnBack.pc (col t l)
/-- The column of the gated activations. -/
def qcol (t : Fin cfg0.N) (q : Fin 1408) : Fin 2816 := ⟨1408 * (t.val / 16) + q, by have := (idx t).1; omega⟩

theorem acol_u (t : Fin cfg0.N) (q : Fin 1408) : acol t ⟨q, by omega⟩ = ⟨qcol t q, by omega⟩ := by
  have ht := (idx t).1
  refine Fin.ext ((FfnBack.pc_tile (t.val / 16) (by omega) _).trans ?_)
  rw [if_pos (by simp only []; omega)]
  rfl

theorem acol_g (t : Fin cfg0.N) (q : Fin 1408) : acol t ⟨1408 + q, by omega⟩ = ⟨2816 + qcol t q, by omega⟩ := by
  have ht := (idx t).1
  refine Fin.ext ((FfnBack.pc_tile (t.val / 16) (by omega) _).trans ?_)
  rw [if_neg (by simp only []; omega)]
  simp only [qcol]
  omega

theorem h_at (r : Fin 4096) (k : Fin 1024) : V m c main_v0 (ix2 r k) = aH m c r k := by
  unfold V
  after_reads_at
  rfl

theorem u_at (k : Fin 1024) (l : Fin 5632) : V m c main_v6 (ix2 k l) = aU m c k (FfnBack.pc l) := by
  refine Eq.trans ?_ (FfnBack.pick (fun l => aU m c k l) l)
  unfold V aU
  after_reads_at
  split_ifs <;> after_reads_at

theorem w_at (k : Fin 3) (l : Fin 5632) : V m c main_v11 (ix2 k l) = aW m c k (FfnBack.pc l) := by
  refine Eq.trans ?_ (FfnBack.pick (fun l => aW m c k l) l)
  unfold V aW
  after_reads_at
  split_ifs <;> after_reads_at

theorem b_at (l : Fin 5632) : V m c main_v16 (ix2 0 l) = aB m c (FfnBack.pc l) := by
  refine Eq.trans ?_ (FfnBack.pick (fun l => aB m c l) l)
  unfold V aB
  after_reads_at
  split_ifs <;> after_reads_at

theorem iblk0_at (t : Fin cfg0.N) (r : Fin 256) (k : Fin 1024) : iblk m c 0 t (ix2 r k) = aH m c (row t r) k := by
  rw [← h_at]
  blk_ext [iblk, idx t, row]

theorem iblk1_at (t : Fin cfg0.N) (k : Fin 1024) (l : Fin 2816) : iblk m c 1 t (ix2 k l) = aU m c k (acol t l) := by
  unfold acol
  rw [← u_at]
  blk_ext [iblk, idx t, col]

theorem iblk2_at (t : Fin cfg0.N) (k : Fin 3) (l : Fin 2816) : iblk m c 2 t (ix2 k l) = aW m c k (acol t l) := by
  unfold acol
  rw [← w_at]
  blk_ext [iblk, idx t, col]

theorem iblk3_at (t : Fin cfg0.N) (l : Fin 2816) : iblk m c 3 t (ix2 0 l) = aB m c (acol t l) := by
  unfold acol
  rw [← b_at]
  blk_ext [iblk, idx t, col]

theorem hid_at (t : Fin cfg0.N) (r : Fin 256) (l : Fin 2816) :
    k0_pay5 (F := Ideal) (iblk m c 0 t) (iblk m c 1 t) (ix2 r l) = hid m c (row t r) (acol t l) :=
  (hid_pay_at _ _ r l).trans (Finset.sum_congr rfl fun k _ => Ideal.mul_congr (iblk0_at m c t r k) (iblk1_at m c t k l))

/-- The rows carried into a point: zero at the first block, else the last rows of the block above. -/
def behind (t : Fin cfg0.N) : FVec Ideal S8x2816 .f32 :=
  if h : t.val % 16 = 0 then k0_pay4 (F := Ideal)
  else k0_pay2 (F := Ideal) (k0_pay6 (iblk m c 0 ⟨t.val - 1, by have := t.isLt; omega⟩) (iblk m c 1 ⟨t.val - 1, by have := t.isLt; omega⟩))

theorem behind_at (t : Fin cfg0.N) (s : Fin 8) (l : Fin 2816) :
    behind m c t (ix2 s l) = if h : t.val % 16 = 0 then 0 else hid m c ⟨256 * (t.val % 16) + s - 8, by omega⟩ (acol t l) := by
  unfold behind
  by_cases h : t.val % 16 = 0
  · rw [dif_pos h, dif_pos h, zeros_at]
  · rw [dif_neg h, dif_neg h]
    refine (last_at _ _ s l).trans ((hid_at m c _ _ l).trans ?_)
    have e1 : row ⟨t.val - 1, by have := t.isLt; omega⟩ ⟨248 + s, by omega⟩ = ⟨256 * (t.val % 16) + s - 8, by omega⟩ :=
      Fin.ext (by simp only [row]; omega)
    have e2 : acol ⟨t.val - 1, by have := t.isLt; omega⟩ l = acol t l :=
      congrArg FfnBack.pc (Fin.ext (by simp only [col]; omega))
    rw [e1, e2]

theorem lag1_eq (t : Fin cfg0.N) (r : Fin 256) (l : Fin 2816) :
    lag1 (fun r l => k0_pay5 (F := Ideal) (iblk m c 0 t) (iblk m c 1 t) (ix2 r l)) (fun s l => behind m c t (ix2 s l)) r l
      = if h : 1 + (row t r : ℕ) < 2 then 0 else hid m c ⟨1 + row t r - 2, by omega⟩ (acol t l) := by
  have hr : (row t r : ℕ) = 256 * (t.val % 16) + r := rfl
  unfold lag1
  by_cases h : (r : ℕ) < 1
  · rw [dif_pos h]
    refine (behind_at m c t _ l).trans ?_
    by_cases h0 : t.val % 16 = 0
    · rw [dif_pos h0, dif_pos (by omega)]
    · rw [dif_neg h0, dif_neg (by omega)]
      exact congrArg (fun R => hid m c R (acol t l)) (Fin.ext (by simp only []; omega))
  · rw [dif_neg h, dif_neg (by omega)]
    refine (hid_at m c t _ l).trans ?_
    exact congrArg (fun R => hid m c R (acol t l)) (Fin.ext (by simp only [row]; omega))

theorem lag2_eq (t : Fin cfg0.N) (r : Fin 256) (l : Fin 2816) :
    lag2 (fun r l => k0_pay5 (F := Ideal) (iblk m c 0 t) (iblk m c 1 t) (ix2 r l)) (fun s l => behind m c t (ix2 s l)) r l
      = if h : (row t r : ℕ) < 2 then 0 else hid m c ⟨row t r - 2, by omega⟩ (acol t l) := by
  have hr : (row t r : ℕ) = 256 * (t.val % 16) + r := rfl
  unfold lag2
  by_cases h : (r : ℕ) < 2
  · rw [dif_pos h]
    refine (behind_at m c t _ l).trans ?_
    by_cases h0 : t.val % 16 = 0
    · rw [dif_pos h0, dif_pos (by omega)]
    · rw [dif_neg h0, dif_neg (by omega)]
      exact congrArg (fun R => hid m c R (acol t l)) (Fin.ext (by simp only []; omega))
  · rw [dif_neg h, dif_neg (by omega)]
    refine (hid_at m c t _ l).trans ?_
    exact congrArg (fun R => hid m c R (acol t l)) (Fin.ext (by simp only [row]; omega))

theorem hc_at (t : Fin cfg0.N) (r : Fin 256) (l : Fin 2816) :
    hcBlock (F := Ideal) (iblk m c 0 t) (iblk m c 1 t) (iblk m c 2 t) (iblk m c 3 t) (behind m c t) (ix2 r l) = hc m c (row t r) (acol t l) := by
  refine (hcBlock_at _ _ _ _ _ r l).trans ?_
  refine (Ideal.add_congr ((part_at _ _ _ _ _ r l).trans (Ideal.add_congr (Ideal.add_congr
    (Ideal.mul_congr (hid_at m c t r l) (iblk2_at m c t 2 l)) (iblk3_at m c t l)) (Ideal.mul_congr (lag1_eq m c t r l) (iblk2_at m c t 1 l))))
    (Ideal.mul_congr (lag2_eq m c t r l) (iblk2_at m c t 0 l))).trans ?_
  unfold hc FfnBack.hcv
  ac_rfl

theorem act_at (t : Fin cfg0.N) (r : Fin 256) (q : Fin 1408) :
    actBlock (F := Ideal) (iblk m c 0 t) (iblk m c 1 t) (iblk m c 2 t) (iblk m c 3 t) (behind m c t) (ix2 r q) = act m c (row t r) (qcol t q) := by
  have hg := (hc_at m c t r ⟨1408 + q, by omega⟩).trans (congrArg (hc m c (row t r)) (acol_g t q))
  have hu := (hc_at m c t r ⟨q, by omega⟩).trans (congrArg (hc m c (row t r)) (acol_u t q))
  exact (actBlock_at _ _ _ _ _ r q).trans (Ideal.mul_congr (Ideal.mul_congr hg (congrArg FfnBack.sg hg)) hu)

theorem left_last (t : Fin cfg0.N) : (outsAt0 m c t.val t.isLt).2.2.2 = k0_pay2 (F := Ideal) (k0_pay6 (iblk m c 0 t) (iblk m c 1 t)) := by
  by_cases h : t.val % 16 = 0
  · rw [outsAt0_A m c t h]
    dsimp only
    rw [lastOf_A]
  · rw [outsAt0_B m c t h]
    dsimp only
    rw [lastOf_B]

/-- What a point leaves in its three outputs. -/
theorem left (t : Fin cfg0.N) :
    (outsAt0 m c t.val t.isLt).1 = k0_pay5 (F := Ideal) (iblk m c 0 t) (iblk m c 1 t) ∧
    (outsAt0 m c t.val t.isLt).2.1 = hcBlock (F := Ideal) (iblk m c 0 t) (iblk m c 1 t) (iblk m c 2 t) (iblk m c 3 t) (behind m c t) ∧
    (outsAt0 m c t.val t.isLt).2.2.1 = actBlock (F := Ideal) (iblk m c 0 t) (iblk m c 1 t) (iblk m c 2 t) (iblk m c 3 t) (behind m c t) := by
  by_cases h : t.val % 16 = 0
  · rw [outsAt0_A m c t h, behind, dif_pos h]
    dsimp only
    rw [hidOf_A, hcOf_A, actOf_A]
    exact ⟨rfl, rfl, rfl⟩
  · rw [outsAt0_B m c t h, behind, dif_neg h, ← left_last m c ⟨t.val - 1, by have := t.isLt; omega⟩]
    dsimp only
    rw [hidOf_B, hcOf_B, actOf_B]
    exact ⟨rfl, rfl, rfl⟩

theorem final_hid : (dats m 0 c).arrAt 4 cfg0.N = arrD m c := by
  refine (dats m 0 c).arrAt_eq_of_covers 4 _ (by decide +kernel) fun t hf y => ?_
  obtain ⟨r, l, rfl⟩ : ∃ r : Fin 256, ∃ l : Fin 2816, y = ix2 r l := ⟨y 0, y 1, eq_ix2 y⟩
  have e : (win0_4.blk t).view.emb (ix2 r l) = ix2 (row t r) (col t l) := by blk_ext [idx t, row, col]
  blk_simp
  rw [e, after0_4, (left m c t).1]
  exact hid_at m c t r l

theorem final_hc : (dats m 0 c).arrAt 5 cfg0.N = arrC m c := by
  refine (dats m 0 c).arrAt_eq_of_covers 5 _ (by decide +kernel) fun t hf y => ?_
  obtain ⟨r, l, rfl⟩ : ∃ r : Fin 256, ∃ l : Fin 2816, y = ix2 r l := ⟨y 0, y 1, eq_ix2 y⟩
  have e : (win0_5.blk t).view.emb (ix2 r l) = ix2 (row t r) (col t l) := by blk_ext [idx t, row, col]
  blk_simp
  rw [e, after0_5, (left m c t).2.1]
  exact hc_at m c t r l

theorem final_act : (dats m 0 c).arrAt 6 cfg0.N = arrA m c := by
  refine (dats m 0 c).arrAt_eq_of_covers 6 _ (by decide +kernel) fun t hf y => ?_
  obtain ⟨r, q, rfl⟩ : ∃ r : Fin 256, ∃ q : Fin 1408, y = ix2 r q := ⟨y 0, y 1, eq_ix2 y⟩
  have e : (win0_6.blk t).view.emb (ix2 r q) = ix2 (row t r) (qcol t q) := by blk_ext [idx t, row, qcol]
  blk_simp
  rw [e, after0_6, (left m c t).2.2]
  exact act_at m c t r q

theorem order_hid (W : Valuation τ sig (Elt Ideal)) (r : Fin 4096) (l : Fin 5632) :
    StableHlo.after [hostOps1].flatten W main_v22 (ix2 r l) = W main_v17_0 (ix2 r (FfnBack.pc l)) := by
  refine Eq.trans ?_ (FfnBack.pick (fun l => W main_v17_0 (ix2 r l)) l)
  after_reads_at
  split_ifs <;> after_reads_at

theorem order_hc (W : Valuation τ sig (Elt Ideal)) (r : Fin 4096) (l : Fin 5632) :
    StableHlo.after [hostOps1].flatten W main_v27 (ix2 r l) = W main_v17_1 (ix2 r (FfnBack.pc l)) := by
  refine Eq.trans ?_ (FfnBack.pick (fun l => W main_v17_1 (ix2 r l)) l)
  after_reads_at
  split_ifs <;> after_reads_at

theorem res_hid (r : Fin 4096) (l : Fin 5632) :
    Pipeline.afterTail₀ cfgs (dats m) 0 (V0 m) [hostOps1] c main_v22 (ix2 r l) = hid m c r l := by
  unfold Pipeline.afterTail₀
  refine (order_hid _ r l).trans ?_
  have e : Pipeline.withArrays (cfgs 0).spec c (V0 m c) (fun w => (dats m 0 c).arrAt w (cfgs 0).N) main_v17_0 = arrD m c :=
    (Pipeline.withArrays_arr (cfgs 0).spec (by decide : Function.Injective (Pipeline.arrRef spec0)) c (V0 m c)
      (fun w => (dats m 0 c).arrAt w (cfgs 0).N) 4).trans (final_hid m c)
  refine (congrFun e _).trans ?_
  unfold arrD
  exact congrArg (hid m c r) (FfnBack.pc_pc l)

theorem res_hc (r : Fin 4096) (l : Fin 5632) :
    Pipeline.afterTail₀ cfgs (dats m) 0 (V0 m) [hostOps1] c main_v27 (ix2 r l) = hc m c r l := by
  unfold Pipeline.afterTail₀
  refine (order_hc _ r l).trans ?_
  have e : Pipeline.withArrays (cfgs 0).spec c (V0 m c) (fun w => (dats m 0 c).arrAt w (cfgs 0).N) main_v17_1 = arrC m c :=
    (Pipeline.withArrays_arr (cfgs 0).spec (by decide : Function.Injective (Pipeline.arrRef spec0)) c (V0 m c)
      (fun w => (dats m 0 c).arrAt w (cfgs 0).N) 5).trans (final_hc m c)
  refine (congrFun e _).trans ?_
  unfold arrC
  exact congrArg (hc m c r) (FfnBack.pc_pc l)

end Cert.UpIdeal.Conv

namespace Cert.UpFirst

open Idealize.ShloMosaic Idealize.ShloMosaic.TcCoe Idealize.ShloMosaic.Tactic Idealize.SL.Sem
open Cert.UpIdeal.Conv

theorem ref_frame : Cert.quiescent_UpRefIdeal (hUpRefIdeal := Cert.UpRefIdeal.Gen.facts) := fun m ρ _ =>
  (θ_run _ _ _).mono (fun r h => ⟨fun c => (h c).2.2.2, sem_eq_zero_of_no_sems (by decide) _⟩) (Cert.UpRefIdeal.Value.run m ρ)

theorem value : Cert.algebraic_UpIdeal_UpRefIdeal (hUpIdeal := Cert.UpIdeal.Gen.facts)
    (hUpRefIdeal := Cert.UpRefIdeal.Gen.facts) := by
  intro m g m' g' _ hargs
  refine ⟨fun c i => hid m c (i 0) (i 1), fun c i => hc m c (i 0) (i 1), fun c => arrA m c, ?_, ?_⟩
  · refine (θ_run _ _ _).mono (fun r h c => ?_) (θ_run_and (Cert.UpIdeal.Gen.run_main m g) (Cert.UpIdeal.Gen.unchanged m g))
    obtain ⟨hr, hu⟩ := h
    refine ⟨?_, ?_, ((hr c).1 6).trans (final_act m c), hu c⟩
    · refine ((hr c).2 Cert.UpIdeal.main_v22 (Pipeline.mem_restRefs_of Cert.UpIdeal.main_v22 (by decide) (by decide))).trans ?_
      funext y
      obtain ⟨r, l, rfl⟩ : ∃ r : Fin 4096, ∃ l : Fin 5632, y = ix2 r l := ⟨y 0, y 1, eq_ix2 y⟩
      exact res_hid m c r l
    · refine ((hr c).2 Cert.UpIdeal.main_v27 (Pipeline.mem_restRefs_of Cert.UpIdeal.main_v27 (by decide) (by decide))).trans ?_
      funext y
      obtain ⟨r, l, rfl⟩ : ∃ r : Fin 4096, ∃ l : Fin 5632, y = ix2 r l := ⟨y 0, y 1, eq_ix2 y⟩
      exact res_hc m c r l
  · refine (θ_run _ _ _).mono (fun r h c => ?_) (Cert.UpRefIdeal.Value.run m' g')
    obtain ⟨h1, h2, h3, h4⟩ := h c
    obtain ⟨e0, e1, e2, e3⟩ := hargs c
    unfold Cert.UpRefIdeal.Value.res_main_v30 at h3
    rw [e0, e1] at h1
    rw [e0, e1, e2, e3] at h2 h3
    have hd : ∀ r l, prodR (m (c.tc.loc Cert.UpIdeal.main_arg0)) (m (c.tc.loc Cert.UpIdeal.main_arg1)) (ix2 r l) = hid m c r l :=
      fun r l => prodR_at _ _ r l
    have hcv : ∀ r l, Cert.ReferenceIdeal.Back.hcR (prodR (m (c.tc.loc Cert.UpIdeal.main_arg0)) (m (c.tc.loc Cert.UpIdeal.main_arg1)))
        (m (c.tc.loc Cert.UpIdeal.main_arg2)) (m (c.tc.loc Cert.UpIdeal.main_arg3)) (ix2 r l) = hc m c r l := fun r l => by
      refine (Cert.ReferenceIdeal.Back.hcR_at _ _ _ r l).trans ?_
      unfold hc
      exact congrArg (fun x => FfnBack.hcv x (aW m c) (aB m c) r l) (funext fun r => funext fun l => hd r l)
    refine ⟨h1.trans ?_, h2.trans ?_, h3.trans ?_, h4⟩
    · funext y
      obtain ⟨r, l, rfl⟩ : ∃ r : Fin 4096, ∃ l : Fin 5632, y = ix2 r l := ⟨y 0, y 1, eq_ix2 y⟩
      exact hd r l
    · funext y
      obtain ⟨r, l, rfl⟩ : ∃ r : Fin 4096, ∃ l : Fin 5632, y = ix2 r l := ⟨y 0, y 1, eq_ix2 y⟩
      exact hcv r l
    · funext y
      obtain ⟨r, q, rfl⟩ : ∃ r : Fin 4096, ∃ q : Fin 2816, y = ix2 r q := ⟨y 0, y 1, eq_ix2 y⟩
      have hg := (Cert.ReferenceIdeal.Back.gR_at _ _ _ r q).trans (hcv r ⟨2816 + q, by omega⟩)
      have hu := (Cert.ReferenceIdeal.Back.uR_at _ _ _ r q).trans (hcv r ⟨q, by omega⟩)
      exact Ideal.mul_congr (Ideal.mul_congr hg ((Cert.ReferenceIdeal.Back.sR_at _ _ _ r q).trans (congrArg FfnBack.sg hg))) hu

end Cert.UpFirst

end
-- ==== Proof.DownNorm.lean ====
/- The second product with the residual, and the norm of the next mixer. -/
module

public import proofs.«01_k».proof.Proof.Gen.DownIdeal.Value
public import proofs.«01_k».proof.Proof.Gen.DownRefIdeal.Run
public import proofs.«01_k».proof.Proof.Gen.DownIdeal
public import proofs.«01_k».proof.Proof.Gen.DownRefIdeal
public import proofs.«01_k».proof.Defs
public import proofs.«01_k».proof.Proof.NormSpec
public import Idealize.ShloMosaic.Lib.Pipeline.ValueKit
public import Idealize.ShloMosaic.Lib.StableHlo.ReadAt
public import Idealize.ShloMosaic.Lib.Quiescent

@[expose] public section

set_option maxRecDepth 16384

noncomputable section

namespace Cert.DownIdeal.Norm

open Cert.DownIdeal Cert.DownIdeal.Gen Idealize.ShloMosaic Idealize.ShloMosaic.TcCoe Idealize.ShloMosaic.Tactic Idealize.SL.Sem

theorem pay1_at (x0 : FVec Ideal S1024x2816 .bf16) (x1 : FVec Ideal S2816x1024 .bf16) (x2 : FVec Ideal S1024x1024 .f32) (r k : Fin 1024) :
    k0_pay1 (F := Ideal) x0 x1 x2 (ix2 r k) = (∑ q : Fin 2816, x0 (ix2 r q) * x1 (ix2 q k)) + x2 (ix2 r k) := by
  pointwise [k0_pay1]

theorem pay2_at (x0 : FVec Ideal S1024x2816 .bf16) (x1 : FVec Ideal S2816x1024 .bf16) (x2 : FVec Ideal S1024x1024 .f32) (x3 : FVec Ideal S1x1024 .f32) (r k : Fin 1024) :
    k0_pay2 (F := Ideal) x0 x1 x2 x3 (ix2 r k) = FfnBack.rms (fun k => k0_pay1 (F := Ideal) x0 x1 x2 (ix2 r k)) (fun k => x3 (ix2 0 k)) k := by
  pointwise [k0_pay2]
  rfl

variable (m : (ℓ : Loc nD τ sig) → Buf (Elt Ideal) ℓ) (c : Dev nD)

/-- The arguments as functions of row and column. -/
def aA (R : Fin 4096) (q : Fin 2816) : EReal := m (c.tc.loc main_arg0) (ix2 R q)
def aD (q : Fin 2816) (k : Fin 1024) : EReal := m (c.tc.loc main_arg1) (ix2 q k)
def aX (R : Fin 4096) (k : Fin 1024) : EReal := m (c.tc.loc main_arg2) (ix2 R k)
def aW (k : Fin 1024) : EReal := m (c.tc.loc main_arg3) (ix1 k)

/-- The layer's result. -/
def out (R : Fin 4096) (k : Fin 1024) : EReal := (∑ q : Fin 2816, aA m c R q * aD m c q k) + aX m c R k

/-- The arrays the call writes. -/
def arrY : FVec Ideal S4096x1024 .f32 := fun i => out m c (i 0) (i 1)
def arrN : FVec Ideal S4096x1024 .bf16 := fun i => FfnBack.rms (out m c (i 0)) (aW m c) (i 1)

theorem idx : ∀ t : Fin cfg0.N, t.val < 4 ∧ win0_0.index t = ![t.val, 0] ∧ win0_1.index t = ![0, 0] ∧
    win0_2.index t = ![t.val, 0] ∧ win0_3.index t = ![0, 0] ∧ win0_4.index t = ![t.val, 0] ∧ win0_5.index t = ![t.val, 0] :=
  (by decide +kernel : ∀ t : Fin grid0.N, _)

def row (t : Fin cfg0.N) (r : Fin 1024) : Fin 4096 := ⟨1024 * t.val + r, by have := (idx t).1; omega⟩

theorem act_at (r : Fin 4096) (q : Fin 2816) : V m c main_v0 (ix2 r q) = aA m c r q := by
  unfold V
  after_reads_at
  rfl

theorem wd_at (q : Fin 2816) (k : Fin 1024) : V m c main_v1 (ix2 q k) = aD m c q k := by
  unfold V
  after_reads_at
  rfl

theorem w_at (z : Fin 1) (k : Fin 1024) : V m c main_v2 (ix2 z k) = aW m c k := by
  obtain rfl : z = 0 := Subsingleton.elim _ _
  unfold V aW
  after_reads_at

theorem x_at (r : Fin 4096) (k : Fin 1024) : V m c main_arg2 (ix2 r k) = aX m c r k := by
  rw [V_main_arg2]; rfl

theorem iblk0_at (t : Fin cfg0.N) (r : Fin 1024) (q : Fin 2816) : iblk m c 0 t (ix2 r q) = aA m c (row t r) q := by
  rw [← act_at]
  blk_ext [iblk, idx t, row]

theorem iblk1_at (t : Fin cfg0.N) (q : Fin 2816) (k : Fin 1024) : iblk m c 1 t (ix2 q k) = aD m c q k := by
  rw [← wd_at]
  blk_ext [iblk, idx t]

theorem iblk2_at (t : Fin cfg0.N) (r k : Fin 1024) : iblk m c 2 t (ix2 r k) = aX m c (row t r) k := by
  rw [← x_at]
  blk_ext [iblk, idx t, row]

theorem iblk3_at (t : Fin cfg0.N) (k : Fin 1024) : iblk m c 3 t (ix2 0 k) = aW m c k := by
  rw [← w_at m c 0]
  blk_ext [iblk, idx t]

theorem y_at (t : Fin cfg0.N) (r k : Fin 1024) :
    k0_pay1 (F := Ideal) (iblk m c 0 t) (iblk m c 1 t) (iblk m c 2 t) (ix2 r k) = out m c (row t r) k :=
  (pay1_at _ _ _ r k).trans (Ideal.add_congr
    (Finset.sum_congr rfl fun q _ => Ideal.mul_congr (iblk0_at m c t r q) (iblk1_at m c t q k)) (iblk2_at m c t r k))

theorem n_at (t : Fin cfg0.N) (r k : Fin 1024) :
    k0_pay2 (F := Ideal) (iblk m c 0 t) (iblk m c 1 t) (iblk m c 2 t) (iblk m c 3 t) (ix2 r k) = FfnBack.rms (out m c (row t r)) (aW m c) k :=
  (pay2_at _ _ _ _ r k).trans (congrArg₂ (fun y w => FfnBack.rms y w k) (funext fun k => y_at m c t r k) (funext fun k => iblk3_at m c t k))

theorem final_y : (dats m 0 c).arrAt 4 cfg0.N = arrY m c := by
  refine (dats m 0 c).arrAt_eq_of_covers 4 _ (by decide +kernel) fun t hf y => ?_
  obtain ⟨r, k, rfl⟩ : ∃ r : Fin 1024, ∃ k : Fin 1024, y = ix2 r k := ⟨y 0, y 1, eq_ix2 y⟩
  have e : (win0_4.blk t).view.emb (ix2 r k) = ix2 (row t r) k := by blk_ext [idx t, row]
  blk_simp
  rw [e, after0_4]
  unfold out0_4
  frame_out
  exact y_at m c t r k

theorem final_n : (dats m 0 c).arrAt 5 cfg0.N = arrN m c := by
  refine (dats m 0 c).arrAt_eq_of_covers 5 _ (by decide +kernel) fun t hf y => ?_
  obtain ⟨r, k, rfl⟩ : ∃ r : Fin 1024, ∃ k : Fin 1024, y = ix2 r k := ⟨y 0, y 1, eq_ix2 y⟩
  have e : (win0_5.blk t).view.emb (ix2 r k) = ix2 (row t r) k := by blk_ext [idx t, row]
  blk_simp
  rw [e, after0_5]
  unfold out0_5
  frame_out
  exact n_at m c t r k

end Cert.DownIdeal.Norm

namespace Cert.DownNorm

open Idealize.ShloMosaic Idealize.ShloMosaic.TcCoe Idealize.ShloMosaic.Tactic Idealize.SL.Sem

theorem ref_frame : Cert.quiescent_DownRefIdeal (hDownRefIdeal := Cert.DownRefIdeal.Gen.facts) := fun m ρ _ =>
  (θ_run _ _ _).mono (fun r h => ⟨fun c => (h c).2.2, sem_eq_zero_of_no_sems (by decide) _⟩) (Cert.DownRefIdeal.Value.run m ρ)

theorem value : Cert.algebraic_DownIdeal_DownRefIdeal (hDownIdeal := Cert.DownIdeal.Gen.facts)
    (hDownRefIdeal := Cert.DownRefIdeal.Gen.facts) := by
  intro m g m' g' _ hargs
  refine ⟨fun c => Cert.DownIdeal.Norm.arrY m c, fun c => Cert.DownIdeal.Norm.arrN m c, ?_, ?_⟩
  · refine (θ_run _ _ _).mono (fun r h c => ?_) (Cert.DownIdeal.Value.run_blocks m g)
    exact ⟨(h c).1.trans (Cert.DownIdeal.Norm.final_y m c), (h c).2.1.trans (Cert.DownIdeal.Norm.final_n m c), (h c).2.2⟩
  · refine (θ_run _ _ _).mono (fun r h c => ?_) (Cert.DownRefIdeal.Value.run m' g')
    obtain ⟨h1, h2, h3⟩ := h c
    obtain ⟨e0, e1, e2, e3⟩ := hargs c
    rw [e0, e1, e2] at h1
    rw [e0, e1, e2, e3] at h2
    have hy : r.2.mem (c.tc.loc Cert.DownRefIdeal.main_v1) = Cert.DownIdeal.Norm.arrY m c := by
      refine h1.trans ?_
      funext y
      obtain ⟨r, k, rfl⟩ : ∃ r : Fin 4096, ∃ k : Fin 1024, y = ix2 r k := ⟨y 0, y 1, eq_ix2 y⟩
      unfold Cert.DownIdeal.Norm.arrY Cert.DownIdeal.Norm.out Cert.DownIdeal.Norm.aA Cert.DownIdeal.Norm.aD Cert.DownIdeal.Norm.aX
      pointwise []
      exact add_comm _ _
    rw [← h1, hy] at h2
    refine ⟨hy, h2.trans ?_, h3⟩
    funext y
    obtain ⟨r, k, rfl⟩ : ∃ r : Fin 4096, ∃ k : Fin 1024, y = ix2 r k := ⟨y 0, y 1, eq_ix2 y⟩
    unfold Cert.DownIdeal.Norm.arrN FfnBack.rms FfnBack.rstd FfnBack.cols FfnBack.eps Cert.DownIdeal.Norm.aW
    generalize hY : Cert.DownIdeal.Norm.arrY m c = Y
    have hY' : ∀ r k, Cert.DownIdeal.Norm.out m c r k = Y (ix2 r k) := fun r k => by rw [← hY]; rfl
    pointwise []
    simp only [hY']

end Cert.DownNorm

end
-- ==== Proof.InGrad.lean ====
/- The gradient through the in-projection's z and xBC columns: the product over the columns in three parts, the sum of the parts kept between the points. -/
module

public import proofs.«01_k».proof.Proof.Gen.SsmDxIdeal.Value
public import proofs.«01_k».proof.Proof.Gen.SsmDxRefIdeal.Run
public import proofs.«01_k».proof.Proof.Gen.SsmDxIdeal
public import proofs.«01_k».proof.Proof.Gen.SsmDxRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.SsmDxIdeal.Grad

open Cert.SsmDxIdeal Cert.SsmDxIdeal.Gen Idealize.ShloMosaic Idealize.ShloMosaic.TcCoe Idealize.ShloMosaic.Tactic Idealize.SL.Sem

section
variable {F : FTy → Type} [FloatOps F]

theorem keptOf_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (hc2 : ¬cond0_2 i)
    (x0 : Vec F S1024x2048 .bf16) (x1 : Vec F S2048x1024 .bf16) :
    sout0_A_0 c i arg3 harg3 arg4 harg4 arg5 harg5 arg6 harg6 hc0 hc1 hc2 x0 x1 = k0_pay1 x0 x1 := by
  frame_out

theorem keptOf_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (hc2 : ¬cond0_2 i)
    (x0 : Vec F S1024x2048 .bf16) (x1 : Vec F S2048x1024 .bf16) (xs0 : Vec F S1024x1024 .f32) :
    sout0_B_0 c i arg3 harg3 arg4 harg4 arg5 harg5 arg6 harg6 hc0 hc1 hc2 x0 x1 xs0 = k0_pay2 xs0 x0 x1 := by
  frame_out

theorem outOf_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i) (hc2 : cond0_2 i)
    (x0 : Vec F S1024x2048 .bf16) (x1 : Vec F S2048x1024 .bf16) (xs0 : Vec F S1024x1024 .f32) :
    out0_C_2 c i arg3 harg3 arg4 harg4 arg5 harg5 arg6 harg6 hc0 hc1 hc2 x0 x1 xs0 = k0_pay3 xs0 x0 x1 := by
  frame_out

end

variable (m : (ℓ : Loc nD τ sig) → Buf (Elt Ideal) ℓ) (c : Dev nD)

/-- The arguments as functions of row and column. -/
def aW (k : Fin 1024) (l : Fin 6176) : EReal := m (c.tc.loc main_arg0) (ix2 k l)
def aC (R : Fin 4096) (l : Fin 6144) : EReal := m (c.tc.loc main_arg1) (ix2 R l)

/-- One column's part of the gradient, and the gradient. -/
def term (R : Fin 4096) (k : Fin 1024) (l : Fin 6144) : EReal := aC m c R l * aW m c k ⟨l, by omega⟩
def grad : FVec Ideal S4096x1024 .f32 := fun i => ∑ l : Fin 6144, term m c (i 0) (i 1) l

theorem idx : ∀ t : Fin cfg0.N, t.val < 12 ∧ win0_0.index t = ![t.val / 3, t.val % 3] ∧ win0_1.index t = ![t.val % 3, 0] ∧
    win0_2.index t = ![t.val / 3, 0] :=
  (by decide +kernel : ∀ t : Fin grid0.N, _)

def row (t : Fin cfg0.N) (r : Fin 1024) : Fin 4096 := ⟨1024 * (t.val / 3) + r, by have := (idx t).1; omega⟩
def col (t : Fin cfg0.N) (l : Fin 2048) : Fin 6144 := ⟨2048 * (t.val % 3) + l, by omega⟩

theorem ct_at (r : Fin 4096) (l : Fin 6144) : V m c main_v0 (ix2 r l) = aC m c r l := by
  unfold V
  after_reads_at
  rfl

theorem w_at (l : Fin 6176) (k : Fin 1024) : V m c main_v2 (ix2 l k) = aW m c k l := by
  unfold V aW
  after_reads_at

theorem blk0_at (t : Fin cfg0.N) (r : Fin 1024) (l : Fin 2048) : iblk m c 0 t (ix2 r l) = aC m c (row t r) (col t l) := by
  rw [← ct_at]
  blk_ext [iblk, idx t, row, col]

theorem blk1_at (t : Fin cfg0.N) (l : Fin 2048) (k : Fin 1024) : X0_1 m c t (ix2 l k) = aW m c k ⟨col t l, by omega⟩ := by
  rw [← w_at]
  unfold X0_1 Pipeline.Window.fill
  rw [dif_pos (moved0_1 t _)]
  blk_ext [iblk, idx t, col]

theorem pay1_at (x0 : FVec Ideal S1024x2048 .bf16) (x1 : FVec Ideal S2048x1024 .bf16) (r : Fin 1024) (k : Fin 1024) :
    k0_pay1 (F := Ideal) x0 x1 (ix2 r k) = ∑ l : Fin 2048, x0 (ix2 r l) * x1 (ix2 l k) := by
  pointwise [k0_pay1]

theorem pay2_at (xs : FVec Ideal S1024x1024 .f32) (x0 : FVec Ideal S1024x2048 .bf16) (x1 : FVec Ideal S2048x1024 .bf16) (r : Fin 1024) (k : Fin 1024) :
    k0_pay2 (F := Ideal) xs x0 x1 (ix2 r k) = xs (ix2 r k) + k0_pay1 (F := Ideal) x0 x1 (ix2 r k) := by
  pointwise [k0_pay2, k0_pay1]

theorem pay3_at (xs : FVec Ideal S1024x1024 .f32) (x0 : FVec Ideal S1024x2048 .bf16) (x1 : FVec Ideal S2048x1024 .bf16) (r : Fin 1024) (k : Fin 1024) :
    k0_pay3 (F := Ideal) xs x0 x1 (ix2 r k) = xs (ix2 r k) + k0_pay1 (F := Ideal) x0 x1 (ix2 r k) := by
  pointwise [k0_pay3, k0_pay1]

/-- One third of the columns' part of the gradient. -/
theorem part_at (t : Fin cfg0.N) (R : Fin 4096) (r : Fin 1024) (k : Fin 1024) (j : Fin 3) (hR : row t r = R) (hj : t.val % 3 = j) :
    k0_pay1 (F := Ideal) (iblk m c 0 t) (X0_1 m c t) (ix2 r k) = ∑ l : Fin 2048, term m c R k ⟨2048 * j + l, by omega⟩ := by
  refine (pay1_at _ _ r k).trans (Finset.sum_congr rfl fun l _ => ?_)
  refine (Ideal.mul_congr (blk0_at m c t r l) (blk1_at m c t l k)).trans ?_
  have e : col t l = ⟨2048 * j + l, by omega⟩ := Fin.ext (by simp only [col, hj])
  subst hR
  exact congrArg (term m c (row t r) k) e

theorem left_at (t : Fin cfg0.N) (h : t.val % 3 = 2) (r : Fin 1024) (k : Fin 1024) :
    (outsAt0 m c t.val t.isLt).1 (ix2 r k) = ∑ l : Fin 6144, term m c (row t r) k l := by
  have ht := (idx t).1
  have h1 : t.val - 1 < cfg0.N := by have := t.isLt; omega
  have h2 : t.val - 1 - 1 < cfg0.N := by have := t.isLt; omega
  rw [outsAt0_C m c t (by omega) (by omega) h,
    outsAt0_B m c ⟨t.val - 1, h1⟩ (by simp only []; omega) (by simp only []; omega) (by simp only []; omega),
    outsAt0_A m c ⟨t.val - 1 - 1, h2⟩ (by simp only []; omega) (by simp only []; omega) (by simp only []; omega)]
  dsimp only
  rw [outOf_C, keptOf_B, keptOf_A]
  refine (pay3_at _ _ _ r k).trans ?_
  rw [Fin.sum_univ_tiles 3 2048 rfl, Fin.sum_univ_three]
  refine Ideal.add_congr ((pay2_at _ _ _ r k).trans (Ideal.add_congr (part_at m c _ _ r k 0 ?_ ?_) (part_at m c _ _ r k 1 ?_ ?_)))
    (part_at m c t _ r k 2 rfl h)
  · exact Fin.ext (by simp only [row]; omega)
  · show (t.val - 1 - 1) % 3 = 0
    omega
  · exact Fin.ext (by simp only [row]; omega)
  · show (t.val - 1) % 3 = 1
    omega

theorem final : (dats m 0 c).arrAt 2 cfg0.N = grad m c := by
  refine (dats m 0 c).arrAt_eq_of_covers 2 _ (by decide +kernel) fun t hf y => ?_
  obtain ⟨r, k, rfl⟩ : ∃ r : Fin 1024, ∃ k : Fin 1024, y = ix2 r k := ⟨y 0, y 1, eq_ix2 y⟩
  have e : (win0_2.blk t).view.emb (ix2 r k) = ix2 (row t r) k := by blk_ext [idx t, row]
  blk_simp
  rw [e, after0_2]
  exact left_at m c t ((flush0_2 t).mp hf) r k

end Cert.SsmDxIdeal.Grad

namespace Cert.InGrad

open Idealize.ShloMosaic Idealize.ShloMosaic.TcCoe Idealize.ShloMosaic.Tactic Idealize.SL.Sem
open Cert.SsmDxIdeal.Grad

theorem ref_frame : Cert.quiescent_SsmDxRefIdeal (hSsmDxRefIdeal := Cert.SsmDxRefIdeal.Gen.facts) := fun m ρ _ =>
  (θ_run _ _ _).mono (fun r h => ⟨fun c => (h c).2, sem_eq_zero_of_no_sems (by decide) _⟩) (Cert.SsmDxRefIdeal.Value.run m ρ)

/-- The columns of dt have no cotangent: their part of the sum is zero. -/
theorem sum_cut (f : Fin 6176 → EReal) (g : Fin 6144 → EReal) (h : ∀ l : Fin 6144, f ⟨l, by omega⟩ = g l) (h0 : ∀ l : Fin 32, f ⟨6144 + l, by omega⟩ = 0) :
    ∑ l : Fin 6176, f l = ∑ l : Fin 6144, g l := by
  refine (Fin.sum_univ_add (a := 6144) (b := 32) f).trans ?_
  refine (congrArg₂ (· + ·) (Finset.sum_congr rfl fun l _ => h l) (Finset.sum_eq_zero fun l _ => h0 l)).trans (add_zero _)

theorem value : Cert.algebraic_SsmDxIdeal_SsmDxRefIdeal (hSsmDxIdeal := Cert.SsmDxIdeal.Gen.facts)
    (hSsmDxRefIdeal := Cert.SsmDxRefIdeal.Gen.facts) := by
  intro m g m' g' _ hargs
  refine ⟨fun c => grad m c, ?_, ?_⟩
  · refine (θ_run _ _ _).mono (fun r h c => ?_) (Cert.SsmDxIdeal.Value.run_blocks m g)
    exact ⟨(h c).1.trans (final m c), (h c).2⟩
  · refine (θ_run _ _ _).mono (fun r h c => ⟨(h c).1.trans ?_, (h c).2⟩) (Cert.SsmDxRefIdeal.Value.run m' g')
    obtain ⟨e0, e1⟩ := hargs c
    rw [e0, e1]
    funext y
    obtain ⟨r, k, rfl⟩ : ∃ r : Fin 4096, ∃ k : Fin 1024, y = ix2 r k := ⟨y 0, y 1, eq_ix2 y⟩
    unfold grad term aC aW
    pointwise []
    refine sum_cut _ _ (fun l => ?_) (fun l => ?_)
    · refine Ideal.mul_congr (dif_pos ?_) rfl
      refine Fin.forall_fin_two.2 ⟨⟨Nat.zero_le _, Nat.mod_one _, ?_⟩, ⟨Nat.zero_le _, Nat.mod_one _, ?_⟩⟩
      · show ((r : ℕ) - 0) / (0 + 1) < 4096
        omega
      · show ((l : ℕ) - 0) / (0 + 1) < 6144
        omega
    · refine (Ideal.mul_congr (dif_neg fun h => ?_) rfl).trans (zero_mul _)
      have h1 : ((6144 + l : ℕ) - 0) / (0 + 1) < 6144 := (h (1 : Fin 2)).2.2
      omega

end Cert.InGrad

end
-- ==== Proof.InWeight.lean ====
/- The gradient of the in-projection's z and xBC columns, written into the first rows of a larger array: the product over the rows in two halves, the first kept between the points. -/
module

public import proofs.«01_k».proof.Proof.Gen.SsmDwIdeal.Frame
public import proofs.«01_k».proof.Proof.Gen.SsmDwRefIdeal.Run
public import proofs.«01_k».proof.Proof.Gen.SsmDwIdeal
public import proofs.«01_k».proof.Proof.Gen.SsmDwRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.SsmDwIdeal.Grad

open Cert.SsmDwIdeal Cert.SsmDwIdeal.Gen Idealize.ShloMosaic Idealize.ShloMosaic.TcCoe Idealize.ShloMosaic.Tactic Idealize.SL.Sem

section
variable {F : FTy → Type} [FloatOps F]

theorem keptOf_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S2048x1024 .bf16) (x1 : Vec F S2048x1024 .bf16) :
    sout0_A_0 c i arg3 harg3 arg4 harg4 arg5 harg5 arg6 harg6 hc0 hc1 x0 x1 = k0_pay1 x0 x1 := by
  frame_out

theorem outOf_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S2048x1024 .bf16) (x1 : Vec F S2048x1024 .bf16) (xs0 : Vec F S1024x1024 .f32) :
    out0_B_2 c i arg3 harg3 arg4 harg4 arg5 harg5 arg6 harg6 hc0 hc1 x0 x1 xs0 = k0_pay2 xs0 x0 x1 := by
  frame_out

end

variable (m : (ℓ : Loc nD τ sig) → Buf (Elt Ideal) ℓ) (c : Dev nD)

/-- The arguments as functions of row and column. -/
def aH (R : Fin 4096) (k : Fin 1024) : EReal := m (c.tc.loc main_arg0) (ix2 R k)
def aC (R : Fin 4096) (l : Fin 6144) : EReal := m (c.tc.loc main_arg1) (ix2 R l)

/-- One row's part of the gradient, and the gradient. -/
def term (l : Fin 6144) (k : Fin 1024) (R : Fin 4096) : EReal := aC m c R l * aH m c R k
def grad : FVec Ideal S6144x1024 .bf16 := fun i => ∑ R : Fin 4096, term m c (i 0) (i 1) R

/-- The array the call writes into; its last rows are not written. -/
def arr : FVec Ideal S6176x1024 .bf16 := fun i =>
  if h : (i 0 : ℕ) < 6144 then ∑ R : Fin 4096, term m c ⟨i 0, h⟩ (i 1) R else 0

theorem idx : ∀ t : Fin cfg0.N, t.val < 12 ∧ win0_0.index t = ![t.val % 2, t.val / 2] ∧ win0_1.index t = ![t.val % 2, 0] ∧
    win0_2.index t = ![t.val / 2, 0] :=
  (by decide +kernel : ∀ t : Fin grid0.N, _)

def row (t : Fin cfg0.N) (r : Fin 2048) : Fin 4096 := ⟨2048 * (t.val % 2) + r, by omega⟩
def col (t : Fin cfg0.N) (l : Fin 1024) : Fin 6144 := ⟨1024 * (t.val / 2) + l, by have := (idx t).1; omega⟩

theorem ct_at (r : Fin 4096) (l : Fin 6144) : V m c main_v0 (ix2 r l) = aC m c r l := by
  unfold V
  after_reads_at
  rfl

theorem h_at (r : Fin 4096) (k : Fin 1024) : V m c main_v1 (ix2 r k) = aH m c r k := by
  unfold V
  after_reads_at
  rfl

theorem iblk0_at (t : Fin cfg0.N) (r : Fin 2048) (l : Fin 1024) : iblk m c 0 t (ix2 r l) = aC m c (row t r) (col t l) := by
  rw [← ct_at]
  blk_ext [iblk, idx t, row, col]

theorem iblk1_at (t : Fin cfg0.N) (r : Fin 2048) (k : Fin 1024) : iblk m c 1 t (ix2 r k) = aH m c (row t r) k := by
  rw [← h_at]
  blk_ext [iblk, idx t, row]

theorem pay1_at (x0 x1 : FVec Ideal S2048x1024 .bf16) (l : Fin 1024) (k : Fin 1024) :
    k0_pay1 (F := Ideal) x0 x1 (ix2 l k) = ∑ r : Fin 2048, x0 (ix2 r l) * x1 (ix2 r k) := by
  pointwise [k0_pay1]

theorem pay2_at (xs : FVec Ideal S1024x1024 .f32) (x0 x1 : FVec Ideal S2048x1024 .bf16) (l : Fin 1024) (k : Fin 1024) :
    k0_pay2 (F := Ideal) xs x0 x1 (ix2 l k) = xs (ix2 l k) + k0_pay1 (F := Ideal) x0 x1 (ix2 l k) := by
  pointwise [k0_pay2, k0_pay1]

/-- One half of the rows' part of the gradient. -/
theorem half_at (t : Fin cfg0.N) (L : Fin 6144) (l : Fin 1024) (k : Fin 1024) (j : Fin 2) (hL : col t l = L) (hj : t.val % 2 = j) :
    k0_pay1 (F := Ideal) (iblk m c 0 t) (iblk m c 1 t) (ix2 l k) = ∑ r : Fin 2048, term m c L k ⟨2048 * j + r, by omega⟩ := by
  refine (pay1_at _ _ l k).trans (Finset.sum_congr rfl fun r _ => ?_)
  refine (Ideal.mul_congr (iblk0_at m c t r l) (iblk1_at m c t r k)).trans ?_
  have e : row t r = ⟨2048 * j + r, by omega⟩ := Fin.ext (by simp only [row, hj])
  subst hL
  exact congrArg (term m c (col t l) k) e

theorem left_at (t : Fin cfg0.N) (h : t.val % 2 = 1) (l : Fin 1024) (k : Fin 1024) :
    (outsAt0 m c t.val t.isLt).1 (ix2 l k) = ∑ R : Fin 4096, term m c (col t l) k R := by
  have ht := (idx t).1
  have hp : t.val - 1 < cfg0.N := by have := t.isLt; omega
  rw [outsAt0_B m c t (by omega) h, outsAt0_A m c ⟨t.val - 1, hp⟩ (by simp only []; omega) (by simp only []; omega)]
  dsimp only
  rw [outOf_B, keptOf_A]
  refine (pay2_at _ _ _ l k).trans ?_
  rw [Fin.sum_univ_tiles 2 2048 rfl, Fin.sum_univ_two]
  refine Ideal.add_congr (half_at m c _ _ l k 0 ?_ ?_) (half_at m c t _ l k 1 rfl h)
  · exact Fin.ext (by simp only [col]; omega)
  · show (t.val - 1) % 2 = 0
    omega

theorem arr_at (R : Fin 6144) (k : Fin 1024) : arr m c (ix2 (⟨R, by omega⟩ : Fin 6176) k) = ∑ r : Fin 4096, term m c R k r :=
  dif_pos R.isLt

theorem final (R : Fin 6144) (k : Fin 1024) : (dats m 0 c).arrAt 2 cfg0.N (ix2 ⟨R, by omega⟩ k) = ∑ r : Fin 4096, term m c R k r := by
  refine ((dats m 0 c).arrAt_apply_of_coversWhere 2 (arr m c) (P := fun i => (i 0 : ℕ) / 1024 < 6) (fun β => β 0 < 6) (by decide +kernel)
    (fun t hf y => ?_) (fun j => Iff.rfl) _).trans ?_
  · have ht := (idx t).1
    have h0 := (win0_2).xsize_le (cfg0.grid.coords t) 0
    have h1 := (win0_2).xsize_le (cfg0.grid.coords t) 1
    have e0 : (cfg0.win 2).xinj (cfg0.grid.coords t) y = ix2 (⟨y 0, lt_of_lt_of_le (y 0).isLt h0⟩ : Fin 1024) (⟨y 1, lt_of_lt_of_le (y 1).isLt h1⟩ : Fin 1024) :=
      eq_ix2 _
    have e1 : ((cfg0.win 2).blk t).view.emb y = ix2 (⟨col t ⟨y 0, lt_of_lt_of_le (y 0).isLt h0⟩, by omega⟩ : Fin 6176) (⟨y 1, lt_of_lt_of_le (y 1).isLt h1⟩ : Fin 1024) := by
      blk_ext [idx t, col]
    rw [e0, after0_2, e1]
    refine Eq.trans ?_ (arr_at m c _ _).symm
    exact left_at m c t ((flush0_2 t).mp hf) _ _
  · refine (if_pos ?_).trans (arr_at m c R k)
    show (R : ℕ) / 1024 < 6
    omega

theorem res (l : Fin 6144) (k : Fin 1024) :
    Pipeline.afterTail₀ cfgs (dats m) 0 (V0 m) [hostOps1] c main_v3 (ix2 l k) = grad m c (ix2 l k) := by
  unfold Pipeline.afterTail₀
  have e : Pipeline.withArrays (cfgs 0).spec c (V0 m c) (fun w => (dats m 0 c).arrAt w (cfgs 0).N) main_v2 = (dats m 0 c).arrAt 2 cfg0.N :=
    Pipeline.withArrays_arr (cfgs 0).spec (by decide : Function.Injective (Pipeline.arrRef spec0)) c (V0 m c)
      (fun w => (dats m 0 c).arrAt w (cfgs 0).N) 2
  refine Eq.trans ?_ (final m c l k)
  rw [← e]
  after_reads_at

end Cert.SsmDwIdeal.Grad

namespace Cert.InWeight

open Idealize.ShloMosaic Idealize.ShloMosaic.TcCoe Idealize.ShloMosaic.Tactic Idealize.SL.Sem
open Cert.SsmDwIdeal.Grad

theorem ref_frame : Cert.quiescent_SsmDwRefIdeal (hSsmDwRefIdeal := Cert.SsmDwRefIdeal.Gen.facts) := fun m ρ _ =>
  (θ_run _ _ _).mono (fun r h => ⟨fun c => (h c).2, sem_eq_zero_of_no_sems (by decide) _⟩) (Cert.SsmDwRefIdeal.Value.run m ρ)

theorem value : Cert.algebraic_SsmDwIdeal_SsmDwRefIdeal (hSsmDwIdeal := Cert.SsmDwIdeal.Gen.facts)
    (hSsmDwRefIdeal := Cert.SsmDwRefIdeal.Gen.facts) := by
  intro m g m' g' _ hargs
  refine ⟨fun c => grad m c, ?_, ?_⟩
  · refine (θ_run _ _ _).mono (fun r h c => ?_) (θ_run_and (Cert.SsmDwIdeal.Gen.run_main m g) (Cert.SsmDwIdeal.Gen.unchanged m g))
    obtain ⟨hr, hu⟩ := h
    refine ⟨?_, hu c⟩
    refine ((hr c).2 Cert.SsmDwIdeal.main_v3 (Pipeline.mem_restRefs_of Cert.SsmDwIdeal.main_v3 (by decide) (by decide))).trans ?_
    funext y
    obtain ⟨l, k, rfl⟩ : ∃ l : Fin 6144, ∃ k : Fin 1024, y = ix2 l k := ⟨y 0, y 1, eq_ix2 y⟩
    exact res m c l k
  · refine (θ_run _ _ _).mono (fun r h c => ⟨(h c).1.trans ?_, (h c).2⟩) (Cert.SsmDwRefIdeal.Value.run m' g')
    obtain ⟨e0, e1⟩ := hargs c
    rw [e0, e1]
    funext y
    obtain ⟨l, k, rfl⟩ : ∃ l : Fin 6144, ∃ k : Fin 1024, y = ix2 l k := ⟨y 0, y 1, eq_ix2 y⟩
    unfold grad term aC aH
    pointwise []

end Cert.InWeight

end
-- ==== Proof.InConv.lean ====
/- The in-projection's xBC columns with the convolution of width 4 and the SiLU: each block's rows, over the last rows of the block above. -/
module

public import proofs.«01_k».proof.Proof.Gen.SsmInIdeal.Value
public import proofs.«01_k».proof.Proof.Gen.SsmInRefIdeal.Run
public import proofs.«01_k».proof.Proof.Gen.SsmInIdeal
public import proofs.«01_k».proof.Proof.Gen.SsmInRefIdeal
public import proofs.«01_k».proof.Defs
public import proofs.«01_k».proof.Proof.Spec
public import Idealize.ShloMosaic.Lib.Pipeline.ValueKit
public import Idealize.ShloMosaic.Lib.StableHlo.ReadAt
public import Idealize.ShloMosaic.Lib.Quiescent

@[expose] public section

set_option maxRecDepth 16384

noncomputable section

namespace InConv

open Idealize.ShloMosaic

/-- Rows of an array, some rows before: zero before the first. -/
def back (X : Fin 4096 → Fin 4096 → EReal) (n : Fin 9) (R : Fin 4096) (l : Fin 4096) : EReal :=
  if h : (R : ℕ) < n then 0 else X ⟨R - n, by omega⟩ l

/-- The convolution of width 4. -/
def conv (X : Fin 4096 → Fin 4096 → EReal) (W : Fin 4 → Fin 4096 → EReal) (B : Fin 4096 → EReal) (R : Fin 4096) (l : Fin 4096) : EReal :=
  back X 3 R l * W 0 l + back X 2 R l * W 1 l + back X 1 R l * W 2 l + X R l * W 3 l + B l

end InConv

namespace Cert.SsmInIdeal.Conv

open Cert.SsmInIdeal Cert.SsmInIdeal.Gen Idealize.ShloMosaic Idealize.ShloMosaic.TcCoe Idealize.ShloMosaic.Tactic Idealize.SL.Sem

section
variable {F : FTy → Type} [FloatOps F]

/-- A block shifted down by some rows: its first rows are the last of the block above. -/
def shift (n : BitVec 32) (y : FVec F S256x1024 .f32) (xs : FVec F S8x1024 .f32) : FVec F S256x1024 .f32 :=
  concatenate S256x1024 0 [⟨S8x1024, select (cmpi .slt (iota .tc S8x1024 32 [0] iota_S8x1024_d0_w32) (broadcast S8x1024 n))
    (dynamicRotate 0 n none xs rotates_S8x1024_d0) (extractStridedSlice S8x1024 ![0, 0] (dynamicRotate 0 n none y rotates_S256x1024_d0) slices_S256x1024_o0_0_S8x1024)⟩,
    ⟨S248x1024, extractStridedSlice S248x1024 ![8, 0] (dynamicRotate 0 n none y rotates_S256x1024_d0) slices_S256x1024_o8_0_S248x1024⟩] concatenates_S8x1024_S248x1024_S256x1024_d0

/-- One block of the convolution, over the last rows `xs` of the block above: the taps one after the other. -/
def preBlock (y : FVec F S256x1024 .f32) (x2 : Vec F S4x1024 .f32) (x3 : Vec F S1x1024 .f32) (xs : Vec F S8x1024 .f32) : FVec F S256x1024 .f32 :=
  addf (addf (addf (addf
    (mulf y (broadcastTo S256x1024 (extractStridedSlice S1x1024 ![3, 0] x2 slices_S4x1024_o3_0_S1x1024) broadcasts_S1x1024_S256x1024))
    (broadcastTo S256x1024 x3 broadcasts_S1x1024_S256x1024))
    (mulf (shift 1#32 y xs) (broadcastTo S256x1024 (extractStridedSlice S1x1024 ![2, 0] x2 slices_S4x1024_o2_0_S1x1024) broadcasts_S1x1024_S256x1024)))
    (mulf (shift 2#32 y xs) (broadcastTo S256x1024 (extractStridedSlice S1x1024 ![1, 0] x2 slices_S4x1024_o1_0_S1x1024) broadcasts_S1x1024_S256x1024)))
    (mulf (shift 3#32 y xs) (broadcastTo S256x1024 (extractStridedSlice S1x1024 ![0, 0] x2 slices_S4x1024_o0_0_S1x1024) broadcasts_S1x1024_S256x1024))

/-- The same block through the SiLU. -/
def actBlock (y : FVec F S256x1024 .f32) (x2 : Vec F S4x1024 .f32) (x3 : Vec F S1x1024 .f32) (xs : Vec F S8x1024 .f32) : FVec F S256x1024 .f32 :=
  mulf (preBlock y x2 x3 xs) (divf (broadcast S256x1024 (Scalar.ofBits .f32 0x3F800000#32))
    (addf (broadcast S256x1024 (Scalar.ofBits .f32 0x3F800000#32)) (exp (subf (broadcast S256x1024 (Scalar.ofBits .f32 0x00000000#32)) (preBlock y x2 x3 xs)))))

theorem xOf_A (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S8x1024 .f32) (harg9 : arg9.IsWhole) (hc0 : cond0_0 i)
    (x0 : Vec F S256x1024 .bf16) (x1 : Vec F S1024x1024 .bf16) (x2 : Vec F S4x1024 .f32) (x3 : Vec F S1x1024 .f32) :
    out0_A_4 c i arg2 harg2 arg3 harg3 arg4 harg4 arg5 harg5 arg6 harg6 arg7 harg7 arg8 harg8 arg9 harg9 hc0 x0 x1 x2 x3 = k0_pay5 x0 x1 := by
  frame_out

theorem preOf_A (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S8x1024 .f32) (harg9 : arg9.IsWhole) (hc0 : cond0_0 i)
    (x0 : Vec F S256x1024 .bf16) (x1 : Vec F S1024x1024 .bf16) (x2 : Vec F S4x1024 .f32) (x3 : Vec F S1x1024 .f32) :
    out0_A_5 c i arg2 harg2 arg3 harg3 arg4 harg4 arg5 harg5 arg6 harg6 arg7 harg7 arg8 harg8 arg9 harg9 hc0 x0 x1 x2 x3 = preBlock (k0_pay5 x0 x1) x2 x3 k0_pay4 := by
  frame_out
  rfl

theorem actOf_A (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S8x1024 .f32) (harg9 : arg9.IsWhole) (hc0 : cond0_0 i)
    (x0 : Vec F S256x1024 .bf16) (x1 : Vec F S1024x1024 .bf16) (x2 : Vec F S4x1024 .f32) (x3 : Vec F S1x1024 .f32) :
    out0_A_6 c i arg2 harg2 arg3 harg3 arg4 harg4 arg5 harg5 arg6 harg6 arg7 harg7 arg8 harg8 arg9 harg9 hc0 x0 x1 x2 x3 = actBlock (k0_pay5 x0 x1) x2 x3 k0_pay4 := by
  frame_out
  rfl

theorem lastOf_A (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S8x1024 .f32) (harg9 : arg9.IsWhole) (hc0 : cond0_0 i)
    (x0 : Vec F S256x1024 .bf16) (x1 : Vec F S1024x1024 .bf16) (x2 : Vec F S4x1024 .f32) (x3 : Vec F S1x1024 .f32) :
    sout0_A_0 c i arg2 harg2 arg3 harg3 arg4 harg4 arg5 harg5 arg6 harg6 arg7 harg7 arg8 harg8 arg9 harg9 hc0 x0 x1 x2 x3 = k0_pay2 (k0_pay5 x0 x1) := by
  frame_out

theorem xOf_B (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S8x1024 .f32) (harg9 : arg9.IsWhole) (hc0 : ¬cond0_0 i)
    (x0 : Vec F S256x1024 .bf16) (x1 : Vec F S1024x1024 .bf16) (x2 : Vec F S4x1024 .f32) (x3 : Vec F S1x1024 .f32) (xs0 : Vec F S8x1024 .f32) :
    out0_B_4 c i arg2 harg2 arg3 harg3 arg4 harg4 arg5 harg5 arg6 harg6 arg7 harg7 arg8 harg8 arg9 harg9 hc0 x0 x1 x2 x3 xs0 = k0_pay5 x0 x1 := by
  frame_out

theorem preOf_B (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S8x1024 .f32) (harg9 : arg9.IsWhole) (hc0 : ¬cond0_0 i)
    (x0 : Vec F S256x1024 .bf16) (x1 : Vec F S1024x1024 .bf16) (x2 : Vec F S4x1024 .f32) (x3 : Vec F S1x1024 .f32) (xs0 : Vec F S8x1024 .f32) :
    out0_B_5 c i arg2 harg2 arg3 harg3 arg4 harg4 arg5 harg5 arg6 harg6 arg7 harg7 arg8 harg8 arg9 harg9 hc0 x0 x1 x2 x3 xs0 = preBlock (k0_pay5 x0 x1) x2 x3 xs0 := by
  frame_out
  rfl

theorem actOf_B (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S8x1024 .f32) (harg9 : arg9.IsWhole) (hc0 : ¬cond0_0 i)
    (x0 : Vec F S256x1024 .bf16) (x1 : Vec F S1024x1024 .bf16) (x2 : Vec F S4x1024 .f32) (x3 : Vec F S1x1024 .f32) (xs0 : Vec F S8x1024 .f32) :
    out0_B_6 c i arg2 harg2 arg3 harg3 arg4 harg4 arg5 harg5 arg6 harg6 arg7 harg7 arg8 harg8 arg9 harg9 hc0 x0 x1 x2 x3 xs0 = actBlock (k0_pay5 x0 x1) x2 x3 xs0 := by
  frame_out
  rfl

theorem lastOf_B (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S8x1024 .f32) (harg9 : arg9.IsWhole) (hc0 : ¬cond0_0 i)
    (x0 : Vec F S256x1024 .bf16) (x1 : Vec F S1024x1024 .bf16) (x2 : Vec F S4x1024 .f32) (x3 : Vec F S1x1024 .f32) (xs0 : Vec F S8x1024 .f32) :
    sout0_B_0 c i arg2 harg2 arg3 harg3 arg4 harg4 arg5 harg5 arg6 harg6 arg7 harg7 arg8 harg8 arg9 harg9 hc0 x0 x1 x2 x3 xs0 = k0_pay2 (k0_pay5 x0 x1) := by
  frame_out

end

theorem x_pay_at (x0 : FVec Ideal S256x1024 .bf16) (x1 : FVec Ideal S1024x1024 .bf16) (r : Fin 256) (l : Fin 1024) :
    k0_pay5 (F := Ideal) x0 x1 (ix2 r l) = ∑ k : Fin 1024, x0 (ix2 r k) * x1 (ix2 l k) := by
  pointwise [k0_pay5]

section
variable (y : FVec Ideal S256x1024 .f32) (x2 : FVec Ideal S4x1024 .f32) (x3 : FVec Ideal S1x1024 .f32) (xs : FVec Ideal S8x1024 .f32)

theorem last_at (s : Fin 8) (l : Fin 1024) : k0_pay2 (F := Ideal) y (ix2 s l) = y (ix2 ⟨248 + s, by omega⟩ l) := by
  pointwise [k0_pay2]

theorem zeros_at (i : S8x1024.Idx) : k0_pay4 (F := Ideal) i = 0 := by pointwise [k0_pay4]

/-- What a shifted block holds. -/
def lag (n : Fin 9) (r : Fin 256) (l : Fin 1024) : EReal :=
  if h : (r : ℕ) < n then xs (ix2 ⟨8 - n + r, by omega⟩ l) else y (ix2 ⟨r - n, by omega⟩ l)

theorem shift_at (r : Fin 256) (l : Fin 1024) : shift 1#32 y xs (ix2 r l) = lag y xs 1 r l ∧ shift 2#32 y xs (ix2 r l) = lag y xs 2 r l ∧
    shift 3#32 y xs (ix2 r l) = lag y xs 3 r l := by
  unfold shift lag
  refine ⟨?_, ?_, ?_⟩
  all_goals
    pointwise []
    obtain ⟨r, hr⟩ := r
    by_cases h8 : r < 8
    · simp (disch := word_cmp_side) only [hlo_ix]
      rw [dif_pos h8]
      split_ifs with h1
      · exact congrArg (fun i => xs (ix2 i l)) (Fin.ext (by simp only []; omega))
      · exact congrArg (fun i => y (ix2 i l)) (Fin.ext (by simp only []; omega))
    · rw [dif_neg h8]
      refine Eq.trans ?_ (dif_neg (by simp only []; omega)).symm
      exact congrArg (fun i => y (ix2 i l)) (Fin.ext (by simp only []; omega))

theorem preBlock_at (r : Fin 256) (l : Fin 1024) : preBlock y x2 x3 xs (ix2 r l) =
    y (ix2 r l) * x2 (ix2 3 l) + x3 (ix2 0 l) + lag y xs 1 r l * x2 (ix2 2 l) + lag y xs 2 r l * x2 (ix2 1 l) + lag y xs 3 r l * x2 (ix2 0 l) := by
  rw [← (shift_at y xs r l).1, ← (shift_at y xs r l).2.1, ← (shift_at y xs r l).2.2]
  unfold preBlock
  generalize shift 1#32 y xs = s1
  generalize shift 2#32 y xs = s2
  generalize shift 3#32 y xs = s3
  pointwise []

theorem actBlock_at (r : Fin 256) (l : Fin 1024) : actBlock y x2 x3 xs (ix2 r l) = preBlock y x2 x3 xs (ix2 r l) * FfnBack.sg (preBlock y x2 x3 xs (ix2 r l)) := by
  unfold actBlock FfnBack.sg
  generalize preBlock y x2 x3 xs = p
  pointwise []
  simp only [zero_sub]

end

variable (m : (ℓ : Loc nD τ sig) → Buf (Elt Ideal) ℓ) (c : Dev nD)

/-- The arguments as functions of row and column. -/
def aH (R : Fin 4096) (k : Fin 1024) : EReal := m (c.tc.loc main_arg0) (ix2 R k)
def aU (k : Fin 1024) (l : Fin 6176) : EReal := m (c.tc.loc main_arg1) (ix2 k l)
def aW (k : Fin 4) (l : Fin 4096) : EReal := m (c.tc.loc main_arg2) (ix2 k l)
def aB (l : Fin 4096) : EReal := m (c.tc.loc main_arg3) (ix2 0 l)

/-- The columns of the product, and the convolved ones. -/
def xbc (R : Fin 4096) (l : Fin 4096) : EReal := ∑ k : Fin 1024, aH m c R k * aU m c k ⟨2048 + l, by omega⟩
def pre (R : Fin 4096) (l : Fin 4096) : EReal := InConv.conv (xbc m c) (aW m c) (aB m c) R l

/-- The arrays the call writes. -/
def arrX : FVec Ideal S4096x4096 .f32 := fun i => xbc m c (i 0) (i 1)
def arrP : FVec Ideal S4096x4096 .f32 := fun i => pre m c (i 0) (i 1)
def arrA : FVec Ideal S4096x4096 .f32 := fun i => pre m c (i 0) (i 1) * FfnBack.sg (pre m c (i 0) (i 1))

theorem idx : ∀ t : Fin cfg0.N, t.val < 64 ∧ win0_0.index t = ![t.val % 16, 0] ∧ win0_1.index t = ![t.val / 16 + 2, 0] ∧
    win0_2.index t = ![0, t.val / 16] ∧ win0_3.index t = ![0, t.val / 16] ∧ win0_4.index t = ![t.val % 16, t.val / 16] ∧
    win0_5.index t = ![t.val % 16, t.val / 16] ∧ win0_6.index t = ![t.val % 16, t.val / 16] :=
  (by decide +kernel : ∀ t : Fin grid0.N, _)

def row (t : Fin cfg0.N) (r : Fin 256) : Fin 4096 := ⟨256 * (t.val % 16) + r, by omega⟩
def col (t : Fin cfg0.N) (l : Fin 1024) : Fin 4096 := ⟨1024 * (t.val / 16) + l, by have := (idx t).1; omega⟩

theorem h_at (r : Fin 4096) (k : Fin 1024) : V m c main_v0 (ix2 r k) = aH m c r k := by
  unfold V
  after_reads_at
  rfl

theorem u_at (l : Fin 6176) (k : Fin 1024) : V m c main_v2 (ix2 l k) = aU m c k l := by
  unfold V
  after_reads_at
  rfl

theorem w_at (k : Fin 4) (l : Fin 4096) : V m c main_arg2 (ix2 k l) = aW m c k l := by
  rw [V_main_arg2]; rfl

theorem b_at (l : Fin 4096) : V m c main_arg3 (ix2 0 l) = aB m c l := by
  rw [V_main_arg3]; rfl

theorem blk0_at (t : Fin cfg0.N) (r : Fin 256) (k : Fin 1024) : iblk m c 0 t (ix2 r k) = aH m c (row t r) k := by
  rw [← h_at]
  blk_ext [iblk, idx t, row]

theorem blk1_at (t : Fin cfg0.N) (l : Fin 1024) (k : Fin 1024) : X0_1 m c t (ix2 l k) = aU m c k ⟨2048 + col t l, by omega⟩ := by
  rw [← u_at]
  unfold X0_1 Pipeline.Window.fill
  rw [dif_pos (moved0_1 t _)]
  blk_ext [iblk, idx t, col]

theorem blk2_at (t : Fin cfg0.N) (k : Fin 4) (l : Fin 1024) : iblk m c 2 t (ix2 k l) = aW m c k (col t l) := by
  rw [← w_at]
  blk_ext [iblk, idx t, col]

theorem blk3_at (t : Fin cfg0.N) (l : Fin 1024) : iblk m c 3 t (ix2 0 l) = aB m c (col t l) := by
  rw [← b_at]
  blk_ext [iblk, idx t, col]

theorem xbc_at (t : Fin cfg0.N) (r : Fin 256) (l : Fin 1024) :
    k0_pay5 (F := Ideal) (iblk m c 0 t) (X0_1 m c t) (ix2 r l) = xbc m c (row t r) (col t l) :=
  (x_pay_at _ _ r l).trans (Finset.sum_congr rfl fun k _ => Ideal.mul_congr (blk0_at m c t r k) (blk1_at m c t l k))

/-- The rows carried into a point: zero at the first block, else the last rows of the block above. -/
def behind (t : Fin cfg0.N) : FVec Ideal S8x1024 .f32 :=
  if h : t.val % 16 = 0 then k0_pay4 (F := Ideal)
  else k0_pay2 (F := Ideal) (k0_pay5 (iblk m c 0 ⟨t.val - 1, by have := t.isLt; omega⟩) (X0_1 m c ⟨t.val - 1, by have := t.isLt; omega⟩))

theorem behind_at (t : Fin cfg0.N) (s : Fin 8) (l : Fin 1024) :
    behind m c t (ix2 s l) = if h : t.val % 16 = 0 then 0 else xbc m c ⟨256 * (t.val % 16) + s - 8, by omega⟩ (col t l) := by
  unfold behind
  by_cases h : t.val % 16 = 0
  · rw [dif_pos h, dif_pos h, zeros_at]
  · rw [dif_neg h, dif_neg h]
    refine (last_at _ s l).trans ((xbc_at m c _ _ l).trans ?_)
    have e1 : row ⟨t.val - 1, by have := t.isLt; omega⟩ ⟨248 + s, by omega⟩ = ⟨256 * (t.val % 16) + s - 8, by omega⟩ :=
      Fin.ext (by simp only [row]; omega)
    have e2 : col ⟨t.val - 1, by have := t.isLt; omega⟩ l = col t l := Fin.ext (by simp only [col]; omega)
    rw [e1, e2]

theorem lag_eq (t : Fin cfg0.N) (n : Fin 9) (r : Fin 256) (l : Fin 1024) :
    lag (k0_pay5 (F := Ideal) (iblk m c 0 t) (X0_1 m c t)) (behind m c t) n r l = InConv.back (xbc m c) n (row t r) (col t l) := by
  have hr : (row t r : ℕ) = 256 * (t.val % 16) + r := rfl
  unfold lag InConv.back
  by_cases h : (r : ℕ) < n
  · rw [dif_pos h]
    refine (behind_at m c t _ l).trans ?_
    by_cases h0 : t.val % 16 = 0
    · rw [dif_pos h0, dif_pos (by omega)]
    · rw [dif_neg h0, dif_neg (by omega)]
      exact congrArg (fun R => xbc m c R (col t l)) (Fin.ext (by simp only []; omega))
  · rw [dif_neg h, dif_neg (by omega)]
    refine (xbc_at m c t _ l).trans ?_
    exact congrArg (fun R => xbc m c R (col t l)) (Fin.ext (by simp only [row]; omega))

theorem pre_at (t : Fin cfg0.N) (r : Fin 256) (l : Fin 1024) :
    preBlock (F := Ideal) (k0_pay5 (iblk m c 0 t) (X0_1 m c t)) (iblk m c 2 t) (iblk m c 3 t) (behind m c t) (ix2 r l) = pre m c (row t r) (col t l) := by
  refine (preBlock_at _ _ _ _ r l).trans ?_
  refine (Ideal.add_congr (Ideal.add_congr (Ideal.add_congr (Ideal.add_congr
    (Ideal.mul_congr (xbc_at m c t r l) (blk2_at m c t 3 l)) (blk3_at m c t l)) (Ideal.mul_congr (lag_eq m c t 1 r l) (blk2_at m c t 2 l)))
    (Ideal.mul_congr (lag_eq m c t 2 r l) (blk2_at m c t 1 l))) (Ideal.mul_congr (lag_eq m c t 3 r l) (blk2_at m c t 0 l))).trans ?_
  unfold pre InConv.conv
  ac_rfl

theorem act_at (t : Fin cfg0.N) (r : Fin 256) (l : Fin 1024) :
    actBlock (F := Ideal) (k0_pay5 (iblk m c 0 t) (X0_1 m c t)) (iblk m c 2 t) (iblk m c 3 t) (behind m c t) (ix2 r l)
      = pre m c (row t r) (col t l) * FfnBack.sg (pre m c (row t r) (col t l)) :=
  (actBlock_at _ _ _ _ r l).trans (Ideal.mul_congr (pre_at m c t r l) (congrArg FfnBack.sg (pre_at m c t r l)))

theorem left_last (t : Fin cfg0.N) : (outsAt0 m c t.val t.isLt).2.2.2 = k0_pay2 (F := Ideal) (k0_pay5 (iblk m c 0 t) (X0_1 m c t)) := by
  by_cases h : t.val % 16 = 0
  · rw [outsAt0_A m c t h]
    dsimp only
    rw [lastOf_A]
  · rw [outsAt0_B m c t h]
    dsimp only
    rw [lastOf_B]

/-- What a point leaves in its three outputs. -/
theorem left (t : Fin cfg0.N) :
    (outsAt0 m c t.val t.isLt).1 = k0_pay5 (F := Ideal) (iblk m c 0 t) (X0_1 m c t) ∧
    (outsAt0 m c t.val t.isLt).2.1 = preBlock (F := Ideal) (k0_pay5 (iblk m c 0 t) (X0_1 m c t)) (iblk m c 2 t) (iblk m c 3 t) (behind m c t) ∧
    (outsAt0 m c t.val t.isLt).2.2.1 = actBlock (F := Ideal) (k0_pay5 (iblk m c 0 t) (X0_1 m c t)) (iblk m c 2 t) (iblk m c 3 t) (behind m c t) := by
  by_cases h : t.val % 16 = 0
  · rw [outsAt0_A m c t h, behind, dif_pos h]
    dsimp only
    rw [xOf_A, preOf_A, actOf_A]
    exact ⟨rfl, rfl, rfl⟩
  · rw [outsAt0_B m c t h, behind, dif_neg h, ← left_last m c ⟨t.val - 1, by have := t.isLt; omega⟩]
    dsimp only
    rw [xOf_B, preOf_B, actOf_B]
    exact ⟨rfl, rfl, rfl⟩

theorem final : (dats m 0 c).arrAt 4 cfg0.N = arrX m c ∧ (dats m 0 c).arrAt 5 cfg0.N = arrP m c ∧ (dats m 0 c).arrAt 6 cfg0.N = arrA m c := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_⟩
  · obtain ⟨r, l, rfl⟩ : ∃ r : Fin 256, ∃ l : Fin 1024, y = ix2 r l := ⟨y 0, y 1, eq_ix2 y⟩
    have e : (win0_4.blk t).view.emb (ix2 r l) = ix2 (row t r) (col t l) := by blk_ext [idx t, row, col]
    blk_simp
    rw [e, after0_4, (left m c t).1]
    exact xbc_at m c t r l
  · obtain ⟨r, l, rfl⟩ : ∃ r : Fin 256, ∃ l : Fin 1024, y = ix2 r l := ⟨y 0, y 1, eq_ix2 y⟩
    have e : (win0_5.blk t).view.emb (ix2 r l) = ix2 (row t r) (col t l) := by blk_ext [idx t, row, col]
    blk_simp
    rw [e, after0_5, (left m c t).2.1]
    exact pre_at m c t r l
  · obtain ⟨r, l, rfl⟩ : ∃ r : Fin 256, ∃ l : Fin 1024, y = ix2 r l := ⟨y 0, y 1, eq_ix2 y⟩
    have e : (win0_6.blk t).view.emb (ix2 r l) = ix2 (row t r) (col t l) := by blk_ext [idx t, row, col]
    blk_simp
    rw [e, after0_6, (left m c t).2.2]
    exact act_at m c t r l

end Cert.SsmInIdeal.Conv

namespace Cert.SsmInRefIdeal.Conv

open Cert.SsmInRefIdeal Cert.SsmInRefIdeal.Gen Idealize.ShloMosaic Idealize.ShloMosaic.TcCoe Idealize.ShloMosaic.Tactic Idealize.SL.Sem

section
variable (h : FVec Ideal S4096x1024 .f32) (w : FVec Ideal S1024x6176 .f32) (A0 : FVec Ideal S4096x4096 .f32) (A1 : FVec Ideal S4x4096 .f32) (A2 : FVec Ideal S1x4096 .f32)

/-- The columns of the product. -/
def xR : FVec Ideal S4096x4096 .f32 :=
  extractStridedSlice S4096x4096 ![0, 2048] (Host.dotGeneral dot_S4096x1024_S1024x6176_S4096x6176_1_0_0_1_n_n none h w) slices_S4096x6176_S4096x4096_0_2048

/-- The same with three rows of zeros before the first. -/
def xpad : FVec Ideal S4099x4096 .f32 :=
  concatenate S4099x4096 0 [⟨S3x4096, (broadcastInDim S3x4096 ![] bcast_S_S3x4096 (constant S_ .f32 0x00000000#32))⟩, ⟨S4096x4096, A0⟩] concatenates_S3x4096_S4096x4096_S4099x4096_d0

/-- A tap of the convolution, for every row. -/
def tap (z : FVec Ideal S1x4096 .f32) : FVec Ideal S4096x4096 .f32 :=
  broadcastInDim S4096x4096 ![0, 1] bcast_S1x4096_S4096x4096_0_1 (broadcastInDim S1x4096 ![1] bcast_S4096_S1x4096_1 (shapeCast _ z shapeCasts_S1x4096_S4096))

/-- The convolved columns. -/
def preR : FVec Ideal S4096x4096 .f32 :=
  addf (addf (addf (addf
    (mulf (extractStridedSlice S4096x4096 ![0, 0] (xpad A0) slices_S4099x4096_S4096x4096_0_0) (tap (extractStridedSlice S1x4096 ![0, 0] A1 slices_S4x4096_S1x4096_0_0)))
    (mulf (extractStridedSlice S4096x4096 ![1, 0] (xpad A0) slices_S4099x4096_S4096x4096_1_0) (tap (extractStridedSlice S1x4096 ![1, 0] A1 slices_S4x4096_S1x4096_1_0))))
    (mulf (extractStridedSlice S4096x4096 ![2, 0] (xpad A0) slices_S4099x4096_S4096x4096_2_0) (tap (extractStridedSlice S1x4096 ![2, 0] A1 slices_S4x4096_S1x4096_2_0))))
    (mulf (extractStridedSlice S4096x4096 ![3, 0] (xpad A0) slices_S4099x4096_S4096x4096_3_0) (tap (extractStridedSlice S1x4096 ![3, 0] A1 slices_S4x4096_S1x4096_3_0))))
    (broadcastInDim S4096x4096 ![0, 1] bcast_S1x4096_S4096x4096_0_1 A2)

/-- The SiLU. -/
def siluR : FVec Ideal S4096x4096 .f32 :=
  mulf A0 (Host.divf (broadcastInDim S4096x4096 ![] bcast_S_S4096x4096 (constant S_ .f32 0x3F800000#32))
    (addf (broadcastInDim S4096x4096 ![] bcast_S_S4096x4096 (constant S_ .f32 0x3F800000#32)) (Host.exp (Host.negf A0))))

theorem xR_at (r : Fin 4096) (l : Fin 4096) : xR h w (ix2 r l) = ∑ k : Fin 1024, h (ix2 r k) * w (ix2 k ⟨2048 + l, by omega⟩) := by
  unfold xR
  pointwise []

theorem xpad_at (R : Fin 4099) (l : Fin 4096) : xpad A0 (ix2 R l) = if h : (R : ℕ) < 3 then 0 else A0 (ix2 ⟨R - 3, by omega⟩ l) := by
  unfold xpad
  pointwise []

theorem back_at (n : Fin 9) (hn : (n : ℕ) ≤ 3) (r : Fin 4096) (l : Fin 4096) :
    xpad A0 (ix2 ⟨3 - n + r, by omega⟩ l) = InConv.back (fun r l => A0 (ix2 r l)) n r l := by
  rw [xpad_at]
  unfold InConv.back
  by_cases h : (r : ℕ) < n
  · rw [dif_pos h, dif_pos (by simp only []; omega)]
  · rw [dif_neg h, dif_neg (by simp only []; omega)]
    exact congrArg (fun i => A0 (ix2 i l)) (Fin.ext (by simp only []; omega))

theorem preR_at (r : Fin 4096) (l : Fin 4096) : preR A0 A1 A2 (ix2 r l)
    = InConv.conv (fun r l => A0 (ix2 r l)) (fun k l => A1 (ix2 k l)) (fun l => A2 (ix2 0 l)) r l := by
  unfold InConv.conv
  have h0 : A0 (ix2 r l) = InConv.back (fun r l => A0 (ix2 r l)) 0 r l := by simp [InConv.back]
  dsimp only
  rw [h0]
  simp only [← back_at A0 _ (by decide : ((3 : Fin 9) : ℕ) ≤ 3), ← back_at A0 _ (by decide : ((2 : Fin 9) : ℕ) ≤ 3),
    ← back_at A0 _ (by decide : ((1 : Fin 9) : ℕ) ≤ 3), ← back_at A0 _ (by decide : ((0 : Fin 9) : ℕ) ≤ 3)]
  unfold preR
  generalize xpad A0 = p
  pointwise [tap]

theorem siluR_at (r : Fin 4096) (l : Fin 4096) : siluR A0 (ix2 r l) = A0 (ix2 r l) * FfnBack.sg (A0 (ix2 r l)) := by
  unfold siluR FfnBack.sg
  pointwise []

end

end Cert.SsmInRefIdeal.Conv

namespace Cert.InConv

open Idealize.ShloMosaic Idealize.ShloMosaic.TcCoe Idealize.ShloMosaic.Tactic Idealize.SL.Sem
open Cert.SsmInIdeal.Conv Cert.SsmInRefIdeal.Conv

theorem ref_frame : Cert.quiescent_SsmInRefIdeal (hSsmInRefIdeal := Cert.SsmInRefIdeal.Gen.facts) := fun m ρ _ =>
  (θ_run _ _ _).mono (fun r h => ⟨fun c => (h c).2.2.2, sem_eq_zero_of_no_sems (by decide) _⟩) (Cert.SsmInRefIdeal.Value.run m ρ)

theorem value : Cert.algebraic_SsmInIdeal_SsmInRefIdeal (hSsmInIdeal := Cert.SsmInIdeal.Gen.facts)
    (hSsmInRefIdeal := Cert.SsmInRefIdeal.Gen.facts) := by
  intro m g m' g' _ hargs
  refine ⟨fun c => arrX m c, fun c => arrP m c, fun c => arrA m c, ?_, ?_⟩
  · refine (θ_run _ _ _).mono (fun r h c => ?_) (Cert.SsmInIdeal.Value.run_blocks m g)
    exact ⟨(h c).1.trans (final m c).1, (h c).2.1.trans (final m c).2.1, (h c).2.2.1.trans (final m c).2.2, (h c).2.2.2⟩
  · refine (θ_run _ _ _).mono (fun r h c => ?_) (Cert.SsmInRefIdeal.Value.run m' g')
    obtain ⟨h1, h2, h3, h4⟩ := h c
    obtain ⟨e0, e1, e2, e3⟩ := hargs c
    unfold Cert.SsmInRefIdeal.Value.res_main_v35 at h3
    rw [e0, e1] at h1
    rw [e0, e1, e2, e3] at h2 h3
    have hx : xR (m (c.tc.loc Cert.SsmInIdeal.main_arg0)) (m (c.tc.loc Cert.SsmInIdeal.main_arg1)) = arrX m c := by
      funext y
      obtain ⟨r, l, rfl⟩ : ∃ r : Fin 4096, ∃ l : Fin 4096, y = ix2 r l := ⟨y 0, y 1, eq_ix2 y⟩
      exact xR_at _ _ r l
    have hp : preR (arrX m c) (m (c.tc.loc Cert.SsmInIdeal.main_arg2)) (m (c.tc.loc Cert.SsmInIdeal.main_arg3)) = arrP m c := by
      funext y
      obtain ⟨r, l, rfl⟩ : ∃ r : Fin 4096, ∃ l : Fin 4096, y = ix2 r l := ⟨y 0, y 1, eq_ix2 y⟩
      exact preR_at _ _ _ r l
    have ha : siluR (arrP m c) = arrA m c := by
      funext y
      obtain ⟨r, l, rfl⟩ : ∃ r : Fin 4096, ∃ l : Fin 4096, y = ix2 r l := ⟨y 0, y 1, eq_ix2 y⟩
      exact siluR_at _ r l
    refine ⟨h1.trans hx, h2.trans ?_, h3.trans ?_, h4⟩
    · show preR (xR _ _) _ _ = arrP m c
      rw [hx, hp]
    · show siluR (preR (xR _ _) _ _) = arrA m c
      rw [hx, hp, ha]

end Cert.InConv

end
-- ==== Proof.Head.lean ====
/- The last layer's second product with the residual, the final norm, the loss and its gradient: the product's row, the norm's gradient, and the sums over the rows kept between the points. -/
module

public import proofs.«01_k».proof.Proof.Gen.HeadIdeal.Frame
public import proofs.«01_k».proof.Proof.Gen.HeadRefIdeal.Run
public import proofs.«01_k».proof.Proof.Gen.HeadIdeal
public import proofs.«01_k».proof.Proof.Gen.HeadRefIdeal
public import proofs.«01_k».proof.Defs
public import proofs.«01_k».proof.Proof.NormGrad
public import Idealize.ShloMosaic.Lib.Pipeline.ValueKit
public import Idealize.ShloMosaic.Lib.StableHlo.ReadAt
public import Idealize.ShloMosaic.Lib.Quiescent

@[expose] public section

set_option maxRecDepth 16384

noncomputable section

namespace Cert.HeadIdeal.Loss

open Cert.HeadIdeal Cert.HeadIdeal.Gen Idealize.ShloMosaic Idealize.ShloMosaic.TcCoe Idealize.ShloMosaic.Tactic Idealize.SL.Sem

section
variable {F : FTy → Type} [FloatOps F]

theorem dxOf_A (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x128 .f32) (harg10 : arg10.IsWhole) (hc0 : cond0_0 i) (hc1 : ¬cond0_1 i) (hc2 : cond0_2 i) (hc3 : ¬cond0_3 i)
    (x0 : Vec F S1024x2816 .bf16) (x1 : Vec F S2816x1024 .bf16) (x2 : Vec F S1024x1024 .f32) (x3 : Vec F S1x1024 .f32) (x4 : Vec F S1024x1024 .f32) :
    out0_A_5 c i arg3 harg3 arg4 harg4 arg5 harg5 arg6 harg6 arg7 harg7 arg8 harg8 arg9 harg9 arg10 harg10 hc0 hc1 hc2 hc3 x0 x1 x2 x3 x4 = k0_pay1 (k0_pay8 x0 x1 x2) (k0_pay9 x0 x1 x2) (k0_pay13 x0 x1 x2 x3 x4) (k0_pay14 x0 x1 x2 x3 x4) := by
  frame_out

theorem dxOf_B (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x128 .f32) (harg10 : arg10.IsWhole) (hc0 : ¬cond0_0 i) (hc1 : cond0_1 i) (hc2 : ¬cond0_2 i) (hc3 : cond0_3 i)
    (x0 : Vec F S1024x2816 .bf16) (x1 : Vec F S2816x1024 .bf16) (x2 : Vec F S1024x1024 .f32) (x3 : Vec F S1x1024 .f32) (x4 : Vec F S1024x1024 .f32) (xo6 : Vec F S1x1024 .f32) (xo7 : Vec F S1x128 .f32) :
    out0_B_5 c i arg3 harg3 arg4 harg4 arg5 harg5 arg6 harg6 arg7 harg7 arg8 harg8 arg9 harg9 arg10 harg10 hc0 hc1 hc2 hc3 x0 x1 x2 x3 x4 xo6 xo7 = k0_pay1 (k0_pay8 x0 x1 x2) (k0_pay9 x0 x1 x2) (k0_pay13 x0 x1 x2 x3 x4) (k0_pay14 x0 x1 x2 x3 x4) := by
  frame_out

theorem dwOf_A (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x128 .f32) (harg10 : arg10.IsWhole) (hc0 : cond0_0 i) (hc1 : ¬cond0_1 i) (hc2 : cond0_2 i) (hc3 : ¬cond0_3 i)
    (x0 : Vec F S1024x2816 .bf16) (x1 : Vec F S2816x1024 .bf16) (x2 : Vec F S1024x1024 .f32) (x3 : Vec F S1x1024 .f32) (x4 : Vec F S1024x1024 .f32) :
    out0_A_6 c i arg3 harg3 arg4 harg4 arg5 harg5 arg6 harg6 arg7 harg7 arg8 harg8 arg9 harg9 arg10 harg10 hc0 hc1 hc2 hc3 x0 x1 x2 x3 x4 = k0_pay2 (k0_pay9 x0 x1 x2) (k0_pay12 x0 x1 x2 x3 x4) := by
  frame_out

theorem dwOf_B (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x128 .f32) (harg10 : arg10.IsWhole) (hc0 : ¬cond0_0 i) (hc1 : cond0_1 i) (hc2 : ¬cond0_2 i) (hc3 : cond0_3 i)
    (x0 : Vec F S1024x2816 .bf16) (x1 : Vec F S2816x1024 .bf16) (x2 : Vec F S1024x1024 .f32) (x3 : Vec F S1x1024 .f32) (x4 : Vec F S1024x1024 .f32) (xo6 : Vec F S1x1024 .f32) (xo7 : Vec F S1x128 .f32) :
    out0_B_6 c i arg3 harg3 arg4 harg4 arg5 harg5 arg6 harg6 arg7 harg7 arg8 harg8 arg9 harg9 arg10 harg10 hc0 hc1 hc2 hc3 x0 x1 x2 x3 x4 xo6 xo7 = k0_pay3 (k0_pay9 x0 x1 x2) (k0_pay12 x0 x1 x2 x3 x4) xo6 := by
  frame_out

theorem lossOf_A (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x128 .f32) (harg10 : arg10.IsWhole) (hc0 : cond0_0 i) (hc1 : ¬cond0_1 i) (hc2 : cond0_2 i) (hc3 : ¬cond0_3 i)
    (x0 : Vec F S1024x2816 .bf16) (x1 : Vec F S2816x1024 .bf16) (x2 : Vec F S1024x1024 .f32) (x3 : Vec F S1x1024 .f32) (x4 : Vec F S1024x1024 .f32) :
    out0_A_7 c i arg3 harg3 arg4 harg4 arg5 harg5 arg6 harg6 arg7 harg7 arg8 harg8 arg9 harg9 arg10 harg10 hc0 hc1 hc2 hc3 x0 x1 x2 x3 x4 = k0_pay4 (k0_pay11 x0 x1 x2 x3 x4) := by
  frame_out

theorem lossOf_B (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x128 .f32) (harg10 : arg10.IsWhole) (hc0 : ¬cond0_0 i) (hc1 : cond0_1 i) (hc2 : ¬cond0_2 i) (hc3 : cond0_3 i)
    (x0 : Vec F S1024x2816 .bf16) (x1 : Vec F S2816x1024 .bf16) (x2 : Vec F S1024x1024 .f32) (x3 : Vec F S1x1024 .f32) (x4 : Vec F S1024x1024 .f32) (xo6 : Vec F S1x1024 .f32) (xo7 : Vec F S1x128 .f32) :
    out0_B_7 c i arg3 harg3 arg4 harg4 arg5 harg5 arg6 harg6 arg7 harg7 arg8 harg8 arg9 harg9 arg10 harg10 hc0 hc1 hc2 hc3 x0 x1 x2 x3 x4 xo6 xo7 = k0_pay5 (k0_pay11 x0 x1 x2 x3 x4) xo7 := by
  frame_out

end

/-- The constants of the loss, as the programs write them. -/
def half : EReal := Ideal.ofBits .f32 0x3F000000#32
def inv : EReal := Ideal.ofBits .f32 0x3A800000#32
def two : EReal := Ideal.ofBits .f32 0x40000000#32

theorem half_eq : half = ((1 / 2 : ℝ) : EReal) := by
  unfold half
  simp [Ideal.ofBits, Ideal.ieee, -EReal.coe_mul]
  norm_num

theorem inv_eq : inv = ((1 / 1024 : ℝ) : EReal) := by
  unfold inv
  simp [Ideal.ofBits, Ideal.ieee, -EReal.coe_mul]
  norm_num

theorem two_eq : two = ((2 : ℝ) : EReal) := by
  unfold two
  simp [Ideal.ofBits, Ideal.ieee, -EReal.coe_mul]
  norm_num

/-- The derivative of half the mean of the squares, as the product rule writes it. -/
theorem scale_eq (e : EReal) : Ideal.div half FfnBack.cols * (two * e) = e * inv := by
  rw [FfnBack.div_cols, half_eq, two_eq, inv_eq, ← mul_assoc, mul_comm e]
  simp only [← EReal.coe_mul]
  norm_num

section
variable (x0 : FVec Ideal S1024x2816 .bf16) (x1 : FVec Ideal S2816x1024 .bf16) (x2 : FVec Ideal S1024x1024 .f32)
  (x3 : FVec Ideal S1x1024 .f32) (x4 : FVec Ideal S1024x1024 .f32) (r k : Fin 1024)

theorem pay6_at : k0_pay6 (F := Ideal) x0 x1 x2 (ix2 r k) = (∑ q : Fin 2816, x0 (ix2 r q) * x1 (ix2 q k)) + x2 (ix2 r k) := by
  pointwise [k0_pay6]

theorem pay8_at : k0_pay8 (F := Ideal) x0 x1 x2 (ix2 r 0) = FfnBack.rstd (fun j => k0_pay6 (F := Ideal) x0 x1 x2 (ix2 r j)) := by
  pointwise [k0_pay8]
  rfl

theorem pay9_at : k0_pay9 (F := Ideal) x0 x1 x2 (ix2 r k)
    = k0_pay6 (F := Ideal) x0 x1 x2 (ix2 r k) * FfnBack.rstd (fun j => k0_pay6 (F := Ideal) x0 x1 x2 (ix2 r j)) := by
  pointwise [k0_pay9, pay8_at]

theorem pay10_at : k0_pay10 (F := Ideal) x0 x1 x2 x3 x4 (ix2 r k)
    = FfnBack.rms (fun j => k0_pay6 (F := Ideal) x0 x1 x2 (ix2 r j)) (fun j => x3 (ix2 0 j)) k - x4 (ix2 r k) := by
  pointwise [k0_pay10, k0_pay7, pay9_at]
  rfl

theorem pay12_at : k0_pay12 (F := Ideal) x0 x1 x2 x3 x4 (ix2 r k) = k0_pay10 (F := Ideal) x0 x1 x2 x3 x4 (ix2 r k) * inv := by
  pointwise [k0_pay12]
  rfl

theorem pay1_at : k0_pay1 (F := Ideal) (k0_pay8 x0 x1 x2) (k0_pay9 x0 x1 x2) (k0_pay13 x0 x1 x2 x3 x4) (k0_pay14 x0 x1 x2 x3 x4) (ix2 r k)
    = FfnBack.dnorm (fun j => k0_pay6 (F := Ideal) x0 x1 x2 (ix2 r j)) (fun j => k0_pay12 (F := Ideal) x0 x1 x2 x3 x4 (ix2 r j) * x3 (ix2 0 j)) 0 k := by
  unfold FfnBack.dnorm
  rw [zero_add]
  pointwise [k0_pay1, k0_pay13, k0_pay14, k0_pay7, pay8_at, pay9_at]
  rfl

end

theorem pay2_at (v w : FVec Ideal S1024x1024 .f32) (z : Fin 1) (k : Fin 1024) :
    k0_pay2 (F := Ideal) v w (ix2 z k) = ∑ r : Fin 1024, w (ix2 r k) * v (ix2 r k) := by
  pointwise [k0_pay2]

theorem pay3_at (v w : FVec Ideal S1024x1024 .f32) (o : FVec Ideal S1x1024 .f32) (z : Fin 1) (k : Fin 1024) :
    k0_pay3 (F := Ideal) v w o (ix2 z k) = o (ix2 z k) + k0_pay2 (F := Ideal) v w (ix2 z k) := by
  pointwise [k0_pay3]

theorem pay4_at (v : FVec Ideal S1x1 .f32) (z : Fin 1) (l : Fin 128) : k0_pay4 (F := Ideal) v (ix2 z l) = v (ix2 0 0) := by
  pointwise [k0_pay4]

theorem pay5_at (v : FVec Ideal S1x1 .f32) (o : FVec Ideal S1x128 .f32) (z : Fin 1) (l : Fin 128) :
    k0_pay5 (F := Ideal) v o (ix2 z l) = o (ix2 z l) + k0_pay4 (F := Ideal) v (ix2 z l) := by
  pointwise [k0_pay5]

theorem pay11_at (x0 : FVec Ideal S1024x2816 .bf16) (x1 : FVec Ideal S2816x1024 .bf16) (x2 : FVec Ideal S1024x1024 .f32)
    (x3 : FVec Ideal S1x1024 .f32) (x4 : FVec Ideal S1024x1024 .f32) :
    k0_pay11 (F := Ideal) x0 x1 x2 x3 x4 (ix2 0 0)
      = half * ∑ r : Fin 1024, Ideal.div (∑ k : Fin 1024, k0_pay10 (F := Ideal) x0 x1 x2 x3 x4 (ix2 r k) * k0_pay10 (F := Ideal) x0 x1 x2 x3 x4 (ix2 r k)) FfnBack.cols := by
  pointwise [k0_pay11]
  rfl

variable (m : (ℓ : Loc nD τ sig) → Buf (Elt Ideal) ℓ) (c : Dev nD)

/-- The arguments as functions of row and column. -/
def aA (R : Fin 4096) (q : Fin 2816) : EReal := m (c.tc.loc main_arg0) (ix2 R q)
def aD (q : Fin 2816) (k : Fin 1024) : EReal := m (c.tc.loc main_arg1) (ix2 q k)
def aX (R : Fin 4096) (k : Fin 1024) : EReal := m (c.tc.loc main_arg2) (ix2 R k)
def aW (k : Fin 1024) : EReal := m (c.tc.loc main_arg3) (ix1 k)
def aT (R : Fin 4096) (k : Fin 1024) : EReal := m (c.tc.loc main_arg4) (ix2 R k)

/-- The layer's result, its distance from the target, the gradient of the normed row, the mean of a row's squares. -/
def out (R : Fin 4096) (k : Fin 1024) : EReal := (∑ q : Fin 2816, aA m c R q * aD m c q k) + aX m c R k
def err (R : Fin 4096) (k : Fin 1024) : EReal := FfnBack.rms (out m c R) (aW m c) k - aT m c R k
def dy (R : Fin 4096) (k : Fin 1024) : EReal := err m c R k * inv
def meanSq (R : Fin 4096) : EReal := Ideal.div (∑ k : Fin 1024, err m c R k * err m c R k) FfnBack.cols

/-- The arrays the call writes, the layer's result, and the loss. -/
def arrY : FVec Ideal S4096x1024 .f32 := fun i => out m c (i 0) (i 1)
def arrX : FVec Ideal S4096x1024 .f32 := fun i => FfnBack.dnorm (out m c (i 0)) (fun k => dy m c (i 0) k * aW m c k) 0 (i 1)
def arrN : FVec Ideal S1x1024 .f32 := fun i => ∑ R : Fin 4096, dy m c R (i 1) * (out m c R (i 1) * FfnBack.rstd (out m c R))
def loss : EReal := half * ∑ R : Fin 4096, meanSq m c R
def arrL : FVec Ideal S1x128 .f32 := fun _ => loss m c

theorem hN : cfg0.N = 4 := N_0

theorem idx : ∀ t : Fin cfg0.N, t.val < 4 ∧ win0_0.index t = ![t.val, 0] ∧ win0_1.index t = ![0, 0] ∧
    win0_2.index t = ![t.val, 0] ∧ win0_3.index t = ![0, 0] ∧ win0_4.index t = ![t.val, 0] ∧ win0_5.index t = ![t.val, 0] ∧
    win0_6.index t = ![0, 0] ∧ win0_7.index t = ![0, 0] :=
  (by decide +kernel : ∀ t : Fin grid0.N, _)

def row (t : Fin cfg0.N) (r : Fin 1024) : Fin 4096 := ⟨1024 * t.val + r, by have := (idx t).1; omega⟩

theorem act_at (r : Fin 4096) (q : Fin 2816) : V m c main_v0 (ix2 r q) = aA m c r q := by
  unfold V
  after_reads_at
  rfl

theorem wd_at (q : Fin 2816) (k : Fin 1024) : V m c main_v1 (ix2 q k) = aD m c q k := by
  unfold V
  after_reads_at
  rfl

theorem w_at (z : Fin 1) (k : Fin 1024) : V m c main_v2 (ix2 z k) = aW m c k := by
  obtain rfl : z = 0 := Subsingleton.elim _ _
  unfold V aW
  after_reads_at

theorem x_at (r : Fin 4096) (k : Fin 1024) : V m c main_arg2 (ix2 r k) = aX m c r k := by
  rw [V_main_arg2]; rfl

theorem t_at (r : Fin 4096) (k : Fin 1024) : V m c main_arg4 (ix2 r k) = aT m c r k := by
  rw [V_main_arg4]; rfl

theorem iblk0_at (t : Fin cfg0.N) (r : Fin 1024) (q : Fin 2816) : iblk m c 0 t (ix2 r q) = aA m c (row t r) q := by
  rw [← act_at]
  blk_ext [iblk, idx t, row]

theorem iblk1_at (t : Fin cfg0.N) (q : Fin 2816) (k : Fin 1024) : iblk m c 1 t (ix2 q k) = aD m c q k := by
  rw [← wd_at]
  blk_ext [iblk, idx t]

theorem iblk2_at (t : Fin cfg0.N) (r k : Fin 1024) : iblk m c 2 t (ix2 r k) = aX m c (row t r) k := by
  rw [← x_at]
  blk_ext [iblk, idx t, row]

theorem iblk3_at (t : Fin cfg0.N) (k : Fin 1024) : iblk m c 3 t (ix2 0 k) = aW m c k := by
  rw [← w_at m c 0]
  blk_ext [iblk, idx t]

theorem iblk4_at (t : Fin cfg0.N) (r k : Fin 1024) : iblk m c 4 t (ix2 r k) = aT m c (row t r) k := by
  rw [← t_at]
  blk_ext [iblk, idx t, row]

section
variable (t : Fin cfg0.N) (r k : Fin 1024)

theorem y_at : k0_pay6 (F := Ideal) (iblk m c 0 t) (iblk m c 1 t) (iblk m c 2 t) (ix2 r k) = out m c (row t r) k :=
  (pay6_at _ _ _ r k).trans (Ideal.add_congr
    (Finset.sum_congr rfl fun q _ => Ideal.mul_congr (iblk0_at m c t r q) (iblk1_at m c t q k)) (iblk2_at m c t r k))

theorem row_at : (fun j => k0_pay6 (F := Ideal) (iblk m c 0 t) (iblk m c 1 t) (iblk m c 2 t) (ix2 r j)) = out m c (row t r) :=
  funext fun j => y_at m c t r j

theorem xh_at : k0_pay9 (F := Ideal) (iblk m c 0 t) (iblk m c 1 t) (iblk m c 2 t) (ix2 r k)
    = out m c (row t r) k * FfnBack.rstd (out m c (row t r)) :=
  (pay9_at _ _ _ r k).trans (Ideal.mul_congr (y_at m c t r k) (congrArg FfnBack.rstd (row_at m c t r)))

theorem err_at : k0_pay10 (F := Ideal) (iblk m c 0 t) (iblk m c 1 t) (iblk m c 2 t) (iblk m c 3 t) (iblk m c 4 t) (ix2 r k) = err m c (row t r) k :=
  (pay10_at _ _ _ _ _ r k).trans (congrArg₂ (fun a b : EReal => a - b)
    (congrArg₂ (fun y w => FfnBack.rms y w k) (row_at m c t r) (funext fun j => iblk3_at m c t j)) (iblk4_at m c t r k))

theorem dy_at : k0_pay12 (F := Ideal) (iblk m c 0 t) (iblk m c 1 t) (iblk m c 2 t) (iblk m c 3 t) (iblk m c 4 t) (ix2 r k) = dy m c (row t r) k :=
  (pay12_at _ _ _ _ _ r k).trans (congrArg (· * inv) (err_at m c t r k))

theorem dx_at : k0_pay1 (F := Ideal) (k0_pay8 (iblk m c 0 t) (iblk m c 1 t) (iblk m c 2 t)) (k0_pay9 (iblk m c 0 t) (iblk m c 1 t) (iblk m c 2 t))
    (k0_pay13 (iblk m c 0 t) (iblk m c 1 t) (iblk m c 2 t) (iblk m c 3 t) (iblk m c 4 t))
    (k0_pay14 (iblk m c 0 t) (iblk m c 1 t) (iblk m c 2 t) (iblk m c 3 t) (iblk m c 4 t)) (ix2 r k)
      = FfnBack.dnorm (out m c (row t r)) (fun k => dy m c (row t r) k * aW m c k) 0 k := by
  refine (pay1_at _ _ _ _ _ r k).trans ?_
  exact congrArg₂ (fun y g => FfnBack.dnorm y g 0 k) (row_at m c t r) (funext fun j => Ideal.mul_congr (dy_at m c t r j) (iblk3_at m c t j))

end

/-- One block of rows' part of the gradient of the norm's weights, and of the loss. -/
theorem dw_at (t : Fin cfg0.N) (z : Fin 1) (k : Fin 1024) :
    k0_pay2 (F := Ideal) (k0_pay9 (iblk m c 0 t) (iblk m c 1 t) (iblk m c 2 t))
      (k0_pay12 (iblk m c 0 t) (iblk m c 1 t) (iblk m c 2 t) (iblk m c 3 t) (iblk m c 4 t)) (ix2 z k)
      = ∑ r : Fin 1024, dy m c (row t r) k * (out m c (row t r) k * FfnBack.rstd (out m c (row t r))) :=
  (pay2_at _ _ z k).trans (Finset.sum_congr rfl fun r _ => Ideal.mul_congr (dy_at m c t r k) (xh_at m c t r k))

theorem loss_at (t : Fin cfg0.N) (z : Fin 1) (l : Fin 128) :
    k0_pay4 (F := Ideal) (k0_pay11 (iblk m c 0 t) (iblk m c 1 t) (iblk m c 2 t) (iblk m c 3 t) (iblk m c 4 t)) (ix2 z l)
      = half * ∑ r : Fin 1024, meanSq m c (row t r) :=
  (pay4_at _ z l).trans ((pay11_at _ _ _ _ _).trans (congrArg (half * ·) (Finset.sum_congr rfl fun r _ =>
    congrArg (fun s : EReal => Ideal.div s FfnBack.cols) (Finset.sum_congr rfl fun k _ => Ideal.mul_congr (err_at m c t r k) (err_at m c t r k)))))

theorem left_dx (t : Fin cfg0.N) : (outsAt0 m c t.val t.isLt).1
    = k0_pay1 (F := Ideal) (k0_pay8 (iblk m c 0 t) (iblk m c 1 t) (iblk m c 2 t)) (k0_pay9 (iblk m c 0 t) (iblk m c 1 t) (iblk m c 2 t))
    (k0_pay13 (iblk m c 0 t) (iblk m c 1 t) (iblk m c 2 t) (iblk m c 3 t) (iblk m c 4 t))
    (k0_pay14 (iblk m c 0 t) (iblk m c 1 t) (iblk m c 2 t) (iblk m c 3 t) (iblk m c 4 t)) := by
  have ht := (idx t).1
  by_cases h : t.val % 4 = 0
  · rw [outsAt0_A m c t h (by omega) h (by omega)]
    dsimp only
    rw [dxOf_A]
  · rw [outsAt0_B m c t h (by omega) h (by omega)]
    dsimp only
    rw [dxOf_B]

theorem left_A (t : Fin cfg0.N) (h : t.val % 4 = 0) : (outsAt0 m c t.val t.isLt).2
    = (k0_pay2 (F := Ideal) (k0_pay9 (iblk m c 0 t) (iblk m c 1 t) (iblk m c 2 t))
      (k0_pay12 (iblk m c 0 t) (iblk m c 1 t) (iblk m c 2 t) (iblk m c 3 t) (iblk m c 4 t)),
      k0_pay4 (F := Ideal) (k0_pay11 (iblk m c 0 t) (iblk m c 1 t) (iblk m c 2 t) (iblk m c 3 t) (iblk m c 4 t))) := by
  have ht := (idx t).1
  rw [outsAt0_A m c t h (by omega) h (by omega)]
  dsimp only
  rw [dwOf_A, lossOf_A]

theorem left_B (t : Fin cfg0.N) (h : ¬t.val % 4 = 0) : (outsAt0 m c t.val t.isLt).2
    = (k0_pay3 (F := Ideal) (k0_pay9 (iblk m c 0 t) (iblk m c 1 t) (iblk m c 2 t))
      (k0_pay12 (iblk m c 0 t) (iblk m c 1 t) (iblk m c 2 t) (iblk m c 3 t) (iblk m c 4 t))
      (outsAt0 m c (t.val - 1) (Nat.lt_of_le_of_lt (Nat.sub_le _ _) t.isLt)).2.1,
      k0_pay5 (F := Ideal) (k0_pay11 (iblk m c 0 t) (iblk m c 1 t) (iblk m c 2 t) (iblk m c 3 t) (iblk m c 4 t))
      (outsAt0 m c (t.val - 1) (Nat.lt_of_le_of_lt (Nat.sub_le _ _) t.isLt)).2.2) := by
  rw [outsAt0_B m c t h (by omega) h (by omega)]
  dsimp only
  rw [dwOf_B, lossOf_B]

theorem final_dx : (dats m 0 c).arrAt 5 cfg0.N = arrX m c := by
  refine (dats m 0 c).arrAt_eq_of_covers 5 _ (by decide +kernel) fun t hf y => ?_
  obtain ⟨r, k, rfl⟩ : ∃ r : Fin 1024, ∃ k : Fin 1024, y = ix2 r k := ⟨y 0, y 1, eq_ix2 y⟩
  have e : (win0_5.blk t).view.emb (ix2 r k) = ix2 (row t r) k := by blk_ext [idx t, row]
  blk_simp
  rw [e, after0_5, left_dx]
  exact dx_at m c t r k

/-- The blocks of rows are all the rows. -/
theorem sum_rows (j : ℕ) (hj : j < 1) (f : Fin 4096 → EReal) :
    (∑ s : Fin 4, ∑ r : Fin 1024, f (row ⟨4 * j + s, by have := hN; omega⟩ r)) = ∑ R : Fin 4096, f R := by
  rw [Fin.sum_univ_tiles 4 1024 rfl f]
  refine Finset.sum_congr rfl fun s _ => Finset.sum_congr rfl fun r _ => ?_
  refine congrArg f (Fin.ext ?_)
  simp only [row]
  omega

/-- A half comes out of the sum over the blocks, infinite parts included. -/
theorem sum_half {ι : Type} (s : Finset ι) (f : ι → EReal) : (∑ j ∈ s, half * f j) = half * ∑ j ∈ s, f j := by
  rw [half_eq, mul_comm, ← FfnBack.sum_mul_real s f (q := 1 / 2) (by norm_num)]
  exact Finset.sum_congr rfl fun j _ => mul_comm _ _

theorem final_dw : (dats m 0 c).arrAt 6 cfg0.N = arrN m c := by
  refine (dats m 0 c).arrAt_eq_of_covers 6 _ (by decide +kernel) fun t hf y => ?_
  obtain ⟨z, k, rfl⟩ : ∃ z : Fin 1, ∃ k : Fin 1024, y = ix2 z k := ⟨y 0, y 1, eq_ix2 y⟩
  have e : (win0_6.blk t).view.emb (ix2 z k) = ix2 z k := by blk_ext [idx t]
  have ht := (idx t).1
  blk_simp
  rw [e]
  rw [after0_6, Pipeline.eq_sum_fin_of_reset_step_apply_of_flush (fun n h => (outsAt0 m c n h).2.1) 4 (fun _ => 0)
    (fun p j => k0_pay2 (F := Ideal) (k0_pay9 (iblk m c 0 p) (iblk m c 1 p) (iblk m c 2 p))
      (k0_pay12 (iblk m c 0 p) (iblk m c 1 p) (iblk m c 2 p) (iblk m c 3 p) (iblk m c 4 p)) j)
    (fun t h j => by rw [left_A m c t h, zero_add]) (fun t h j => by rw [eq_ix2 j, left_B m c t h]; exact pay3_at _ _ _ _ _)
    t ((flush0_6 t).mp hf) _, zero_add]
  exact Eq.trans (Fin.sum_fin_congr fun s => dw_at m c _ z k)
    (sum_rows (t.val / 4) (by omega) (fun R => dy m c R k * (out m c R k * FfnBack.rstd (out m c R))))

theorem final_loss : (dats m 0 c).arrAt 7 cfg0.N = arrL m c := by
  refine (dats m 0 c).arrAt_eq_of_covers 7 _ (by decide +kernel) fun t hf y => ?_
  obtain ⟨z, l, rfl⟩ : ∃ z : Fin 1, ∃ l : Fin 128, y = ix2 z l := ⟨y 0, y 1, eq_ix2 y⟩
  have e : (win0_7.blk t).view.emb (ix2 z l) = ix2 z l := by blk_ext [idx t]
  have ht := (idx t).1
  blk_simp
  rw [e]
  rw [after0_7, Pipeline.eq_sum_fin_of_reset_step_apply_of_flush (fun n h => (outsAt0 m c n h).2.2) 4 (fun _ => 0)
    (fun p j => k0_pay4 (F := Ideal) (k0_pay11 (iblk m c 0 p) (iblk m c 1 p) (iblk m c 2 p) (iblk m c 3 p) (iblk m c 4 p)) j)
    (fun t h j => by rw [left_A m c t h, zero_add]) (fun t h j => by rw [eq_ix2 j, left_B m c t h]; exact pay5_at _ _ _ _)
    t ((flush0_7 t).mp hf) _, zero_add]
  refine Eq.trans (Fin.sum_fin_congr fun s => loss_at m c _ z l) ((sum_half _ _).trans (congrArg (half * ·) ?_))
  exact sum_rows (t.val / 4) (by omega) (meanSq m c)

theorem res (y : S1x1.Idx) :
    Pipeline.afterTail₀ cfgs (dats m) 0 (V0 m) [hostOps1] c main_v4 y = loss m c := by
  unfold Pipeline.afterTail₀
  have e : Pipeline.withArrays (cfgs 0).spec c (V0 m c) (fun w => (dats m 0 c).arrAt w (cfgs 0).N) main_v3_2 = (dats m 0 c).arrAt 7 cfg0.N :=
    Pipeline.withArrays_arr (cfgs 0).spec (by decide : Function.Injective (Pipeline.arrRef spec0)) c (V0 m c)
      (fun w => (dats m 0 c).arrAt w (cfgs 0).N) 7
  rw [eq_ix2 y]
  refine Eq.trans ?_ (congrFun (final_loss m c) (ix2 0 0))
  rw [← e]
  after_reads_at

end Cert.HeadIdeal.Loss

namespace Cert.HeadLoss

open Idealize.ShloMosaic Idealize.ShloMosaic.TcCoe Idealize.ShloMosaic.Tactic Idealize.SL.Sem FfnBack
open Cert.HeadIdeal.Loss

/-- The layer's result as the reference writes it. -/
def refY (a : FVec Ideal Cert.HeadRefIdeal.S4096x2816 .f32) (d : FVec Ideal Cert.HeadRefIdeal.S2816x1024 .f32)
    (x : FVec Ideal Cert.HeadRefIdeal.S4096x1024 .f32) : FVec Ideal Cert.HeadRefIdeal.S4096x1024 .f32 :=
  addf x (Host.dotGeneral Cert.HeadRefIdeal.dot_S4096x2816_S2816x1024_S4096x1024_1_0_0_1_n_n none a d)

theorem refY_at (a : FVec Ideal Cert.HeadRefIdeal.S4096x2816 .f32) (d : FVec Ideal Cert.HeadRefIdeal.S2816x1024 .f32)
    (x : FVec Ideal Cert.HeadRefIdeal.S4096x1024 .f32) (r : Fin 4096) (k : Fin 1024) :
    refY a d x (ix2 r k) = x (ix2 r k) + ∑ q : Fin 2816, a (ix2 r q) * d (ix2 q k) := by
  unfold refY
  pointwise []

theorem ref_frame : Cert.quiescent_HeadRefIdeal (hHeadRefIdeal := Cert.HeadRefIdeal.Gen.facts) := fun m ρ _ =>
  (θ_run _ _ _).mono (fun r h => ⟨fun c => (h c).2.2.2, sem_eq_zero_of_no_sems (by decide) _⟩) (Cert.HeadRefIdeal.Value.run m ρ)

theorem value : Cert.algebraic_HeadIdeal_HeadRefIdeal (hHeadIdeal := Cert.HeadIdeal.Gen.facts)
    (hHeadRefIdeal := Cert.HeadRefIdeal.Gen.facts) := by
  intro m g m' g' _ hargs
  refine ⟨fun c => arrX m c, fun c => arrN m c, fun c => fun _ => loss m c, ?_, ?_⟩
  · refine (θ_run _ _ _).mono (fun r h c => ?_) (θ_run_and (Cert.HeadIdeal.Gen.run_main m g) (Cert.HeadIdeal.Gen.unchanged m g))
    obtain ⟨hr, hu⟩ := h
    refine ⟨((hr c).1 5).trans (final_dx m c), ((hr c).1 6).trans (final_dw m c), ?_, hu c⟩
    refine ((hr c).2 Cert.HeadIdeal.main_v4 (Pipeline.mem_restRefs_of Cert.HeadIdeal.main_v4 (by decide) (by decide))).trans ?_
    funext y
    exact res m c y
  · refine (θ_run _ _ _).mono (fun r h c => ?_) (Cert.HeadRefIdeal.Value.run m' g')
    obtain ⟨h1, h2, h3, h4⟩ := h c
    obtain ⟨e0, e1, e2, e3, e4⟩ := hargs c
    have hy : refY (m (c.tc.loc Cert.HeadIdeal.main_arg0)) (m (c.tc.loc Cert.HeadIdeal.main_arg1)) (m (c.tc.loc Cert.HeadIdeal.main_arg2)) = arrY m c := by
      funext y
      obtain ⟨r, k, rfl⟩ : ∃ r : Fin 4096, ∃ k : Fin 1024, y = ix2 r k := ⟨y 0, y 1, eq_ix2 y⟩
      exact (refY_at _ _ _ r k).trans (add_comm _ _)
    unfold refY at hy
    have hY : out m c = fun r k => arrY m c (ix2 r k) := rfl
    refine ⟨h1.trans ?_, h2.trans ?_, h3.trans ?_, h4⟩ <;> clear h1 h2 h3 h4
    · unfold Cert.HeadRefIdeal.Value.res_main_v52
      rw [e0, e1, e2, e3, e4, hy]
      funext y
      obtain ⟨r, k, rfl⟩ : ∃ r : Fin 4096, ∃ k : Fin 1024, y = ix2 r k := ⟨y 0, y 1, eq_ix2 y⟩
      refine Eq.trans ?_ (dnorm_eq (out m c r) (fun k => dy m c r k * aW m c k) 0 k)
      rw [zero_add]
      unfold dmean dy
      simp only [← scale_eq]
      unfold err rms rstd mhalf cols eps half two aW aT
      simp only [hY]
      generalize arrY m c = Y
      pointwise []
      rw [Fin.sum_univ_one]
    · rw [e0, e1, e2, e3, e4, hy]
      funext y
      obtain ⟨z, k, rfl⟩ : ∃ z : Fin 1, ∃ k : Fin 1024, y = ix2 z k := ⟨y 0, y 1, eq_ix2 y⟩
      unfold arrN dy
      simp only [← scale_eq]
      unfold err rms rstd cols eps half two aW aT
      simp only [hY]
      generalize arrY m c = Y
      pointwise []
      rw [Fin.sum_univ_one]
      exact Finset.sum_congr rfl fun R _ => mul_comm _ _
    · rw [e0, e1, e2, e3, e4, hy]
      funext y
      unfold loss meanSq err rms rstd cols eps half aW aT
      simp only [hY]
      generalize arrY m c = Y
      pointwise []

end Cert.HeadLoss

end
-- ==== Proof.OutNorm.lean ====
/- The out-projection with the residual, and the norm of the next layer. -/
module

public import proofs.«01_k».proof.Proof.Gen.SsmOutIdeal.Value
public import proofs.«01_k».proof.Proof.Gen.SsmOutRefIdeal.Run
public import proofs.«01_k».proof.Proof.Gen.SsmOutIdeal
public import proofs.«01_k».proof.Proof.Gen.SsmOutRefIdeal
public import proofs.«01_k».proof.Defs
public import proofs.«01_k».proof.Proof.NormSpec
public import Idealize.ShloMosaic.Lib.Pipeline.ValueKit
public import Idealize.ShloMosaic.Lib.StableHlo.ReadAt
public import Idealize.ShloMosaic.Lib.Quiescent

@[expose] public section

set_option maxRecDepth 16384

noncomputable section

namespace Cert.SsmOutIdeal.Norm

open Cert.SsmOutIdeal Cert.SsmOutIdeal.Gen Idealize.ShloMosaic Idealize.ShloMosaic.TcCoe Idealize.ShloMosaic.Tactic Idealize.SL.Sem

theorem pay1_at (x0 : FVec Ideal S1024x2048 .bf16) (x1 : FVec Ideal S2048x1024 .bf16) (x2 : FVec Ideal S1024x1024 .f32) (r k : Fin 1024) :
    k0_pay1 (F := Ideal) x0 x1 x2 (ix2 r k) = (∑ q : Fin 2048, x0 (ix2 r q) * x1 (ix2 q k)) + x2 (ix2 r k) := by
  pointwise [k0_pay1]

theorem pay2_at (x0 : FVec Ideal S1024x2048 .bf16) (x1 : FVec Ideal S2048x1024 .bf16) (x2 : FVec Ideal S1024x1024 .f32) (x3 : FVec Ideal S1x1024 .f32) (r k : Fin 1024) :
    k0_pay2 (F := Ideal) x0 x1 x2 x3 (ix2 r k) = FfnBack.rms (fun k => k0_pay1 (F := Ideal) x0 x1 x2 (ix2 r k)) (fun k => x3 (ix2 0 k)) k := by
  pointwise [k0_pay2]
  rfl

variable (m : (ℓ : Loc nD τ sig) → Buf (Elt Ideal) ℓ) (c : Dev nD)

/-- The arguments as functions of row and column. -/
def aA (R : Fin 4096) (q : Fin 2048) : EReal := m (c.tc.loc main_arg0) (ix2 R q)
def aD (q : Fin 2048) (k : Fin 1024) : EReal := m (c.tc.loc main_arg1) (ix2 q k)
def aX (R : Fin 4096) (k : Fin 1024) : EReal := m (c.tc.loc main_arg2) (ix2 R k)
def aW (k : Fin 1024) : EReal := m (c.tc.loc main_arg3) (ix1 k)

/-- The layer's result. -/
def out (R : Fin 4096) (k : Fin 1024) : EReal := (∑ q : Fin 2048, aA m c R q * aD m c q k) + aX m c R k

/-- The arrays the call writes. -/
def arrY : FVec Ideal S4096x1024 .f32 := fun i => out m c (i 0) (i 1)
def arrN : FVec Ideal S4096x1024 .bf16 := fun i => FfnBack.rms (out m c (i 0)) (aW m c) (i 1)

theorem idx : ∀ t : Fin cfg0.N, t.val < 4 ∧ win0_0.index t = ![t.val, 0] ∧ win0_1.index t = ![0, 0] ∧
    win0_2.index t = ![t.val, 0] ∧ win0_3.index t = ![0, 0] ∧ win0_4.index t = ![t.val, 0] ∧ win0_5.index t = ![t.val, 0] :=
  (by decide +kernel : ∀ t : Fin grid0.N, _)

def row (t : Fin cfg0.N) (r : Fin 1024) : Fin 4096 := ⟨1024 * t.val + r, by have := (idx t).1; omega⟩

theorem act_at (r : Fin 4096) (q : Fin 2048) : V m c main_v0 (ix2 r q) = aA m c r q := by
  unfold V
  after_reads_at
  rfl

theorem wd_at (q : Fin 2048) (k : Fin 1024) : V m c main_v1 (ix2 q k) = aD m c q k := by
  unfold V
  after_reads_at
  rfl

theorem w_at (z : Fin 1) (k : Fin 1024) : V m c main_v2 (ix2 z k) = aW m c k := by
  obtain rfl : z = 0 := Subsingleton.elim _ _
  unfold V aW
  after_reads_at

theorem x_at (r : Fin 4096) (k : Fin 1024) : V m c main_arg2 (ix2 r k) = aX m c r k := by
  rw [V_main_arg2]; rfl

theorem iblk0_at (t : Fin cfg0.N) (r : Fin 1024) (q : Fin 2048) : iblk m c 0 t (ix2 r q) = aA m c (row t r) q := by
  rw [← act_at]
  blk_ext [iblk, idx t, row]

theorem iblk1_at (t : Fin cfg0.N) (q : Fin 2048) (k : Fin 1024) : iblk m c 1 t (ix2 q k) = aD m c q k := by
  rw [← wd_at]
  blk_ext [iblk, idx t]

theorem iblk2_at (t : Fin cfg0.N) (r k : Fin 1024) : iblk m c 2 t (ix2 r k) = aX m c (row t r) k := by
  rw [← x_at]
  blk_ext [iblk, idx t, row]

theorem iblk3_at (t : Fin cfg0.N) (k : Fin 1024) : iblk m c 3 t (ix2 0 k) = aW m c k := by
  rw [← w_at m c 0]
  blk_ext [iblk, idx t]

theorem y_at (t : Fin cfg0.N) (r k : Fin 1024) :
    k0_pay1 (F := Ideal) (iblk m c 0 t) (iblk m c 1 t) (iblk m c 2 t) (ix2 r k) = out m c (row t r) k :=
  (pay1_at _ _ _ r k).trans (Ideal.add_congr
    (Finset.sum_congr rfl fun q _ => Ideal.mul_congr (iblk0_at m c t r q) (iblk1_at m c t q k)) (iblk2_at m c t r k))

theorem n_at (t : Fin cfg0.N) (r k : Fin 1024) :
    k0_pay2 (F := Ideal) (iblk m c 0 t) (iblk m c 1 t) (iblk m c 2 t) (iblk m c 3 t) (ix2 r k) = FfnBack.rms (out m c (row t r)) (aW m c) k :=
  (pay2_at _ _ _ _ r k).trans (congrArg₂ (fun y w => FfnBack.rms y w k) (funext fun k => y_at m c t r k) (funext fun k => iblk3_at m c t k))

theorem final_y : (dats m 0 c).arrAt 4 cfg0.N = arrY m c := by
  refine (dats m 0 c).arrAt_eq_of_covers 4 _ (by decide +kernel) fun t hf y => ?_
  obtain ⟨r, k, rfl⟩ : ∃ r : Fin 1024, ∃ k : Fin 1024, y = ix2 r k := ⟨y 0, y 1, eq_ix2 y⟩
  have e : (win0_4.blk t).view.emb (ix2 r k) = ix2 (row t r) k := by blk_ext [idx t, row]
  blk_simp
  rw [e, after0_4]
  unfold out0_4
  frame_out
  exact y_at m c t r k

theorem final_n : (dats m 0 c).arrAt 5 cfg0.N = arrN m c := by
  refine (dats m 0 c).arrAt_eq_of_covers 5 _ (by decide +kernel) fun t hf y => ?_
  obtain ⟨r, k, rfl⟩ : ∃ r : Fin 1024, ∃ k : Fin 1024, y = ix2 r k := ⟨y 0, y 1, eq_ix2 y⟩
  have e : (win0_5.blk t).view.emb (ix2 r k) = ix2 (row t r) k := by blk_ext [idx t, row]
  blk_simp
  rw [e, after0_5]
  unfold out0_5
  frame_out
  exact n_at m c t r k

end Cert.SsmOutIdeal.Norm

namespace Cert.OutNorm

open Idealize.ShloMosaic Idealize.ShloMosaic.TcCoe Idealize.ShloMosaic.Tactic Idealize.SL.Sem

theorem ref_frame : Cert.quiescent_SsmOutRefIdeal (hSsmOutRefIdeal := Cert.SsmOutRefIdeal.Gen.facts) := fun m ρ _ =>
  (θ_run _ _ _).mono (fun r h => ⟨fun c => (h c).2.2, sem_eq_zero_of_no_sems (by decide) _⟩) (Cert.SsmOutRefIdeal.Value.run m ρ)

theorem value : Cert.algebraic_SsmOutIdeal_SsmOutRefIdeal (hSsmOutIdeal := Cert.SsmOutIdeal.Gen.facts)
    (hSsmOutRefIdeal := Cert.SsmOutRefIdeal.Gen.facts) := by
  intro m g m' g' _ hargs
  refine ⟨fun c => Cert.SsmOutIdeal.Norm.arrY m c, fun c => Cert.SsmOutIdeal.Norm.arrN m c, ?_, ?_⟩
  · refine (θ_run _ _ _).mono (fun r h c => ?_) (Cert.SsmOutIdeal.Value.run_blocks m g)
    exact ⟨(h c).1.trans (Cert.SsmOutIdeal.Norm.final_y m c), (h c).2.1.trans (Cert.SsmOutIdeal.Norm.final_n m c), (h c).2.2⟩
  · refine (θ_run _ _ _).mono (fun r h c => ?_) (Cert.SsmOutRefIdeal.Value.run m' g')
    obtain ⟨h1, h2, h3⟩ := h c
    obtain ⟨e0, e1, e2, e3⟩ := hargs c
    rw [e0, e1, e2] at h1
    rw [e0, e1, e2, e3] at h2
    have hy : r.2.mem (c.tc.loc Cert.SsmOutRefIdeal.main_v1) = Cert.SsmOutIdeal.Norm.arrY m c := by
      refine h1.trans ?_
      funext y
      obtain ⟨r, k, rfl⟩ : ∃ r : Fin 4096, ∃ k : Fin 1024, y = ix2 r k := ⟨y 0, y 1, eq_ix2 y⟩
      unfold Cert.SsmOutIdeal.Norm.arrY Cert.SsmOutIdeal.Norm.out Cert.SsmOutIdeal.Norm.aA Cert.SsmOutIdeal.Norm.aD Cert.SsmOutIdeal.Norm.aX
      pointwise []
      exact add_comm _ _
    rw [← h1, hy] at h2
    refine ⟨hy, h2.trans ?_, h3⟩
    funext y
    obtain ⟨r, k, rfl⟩ : ∃ r : Fin 4096, ∃ k : Fin 1024, y = ix2 r k := ⟨y 0, y 1, eq_ix2 y⟩
    unfold Cert.SsmOutIdeal.Norm.arrN FfnBack.rms FfnBack.rstd FfnBack.cols FfnBack.eps Cert.SsmOutIdeal.Norm.aW
    generalize hY : Cert.SsmOutIdeal.Norm.arrY m c = Y
    have hY' : ∀ r k, Cert.SsmOutIdeal.Norm.out m c r k = Y (ix2 r k) := fun r k => by rw [← hY]; rfl
    pointwise []
    simp only [hY']

end Cert.OutNorm

end
-- ==== Proof.OutGrad.lean ====
/- The gradient through the out-projection: at each point a whole product. -/
module

public import proofs.«01_k».proof.Proof.Gen.SsmOutDxIdeal.Value
public import proofs.«01_k».proof.Proof.Gen.SsmOutDxRefIdeal.Run
public import proofs.«01_k».proof.Proof.Gen.SsmOutDxIdeal
public import proofs.«01_k».proof.Proof.Gen.SsmOutDxRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.SsmOutDxIdeal.Grad

open Cert.SsmOutDxIdeal Cert.SsmOutDxIdeal.Gen Idealize.ShloMosaic Idealize.ShloMosaic.TcCoe Idealize.ShloMosaic.Tactic Idealize.SL.Sem

variable (m : (ℓ : Loc nD τ sig) → Buf (Elt Ideal) ℓ) (c : Dev nD)

/-- The arguments as functions of row and column. -/
def aW (q : Fin 2048) (k : Fin 1024) : EReal := m (c.tc.loc main_arg0) (ix2 q k)
def aC (R : Fin 4096) (k : Fin 1024) : EReal := m (c.tc.loc main_arg1) (ix2 R k)

/-- The gradient. -/
def grad : FVec Ideal S4096x2048 .f32 := fun i => ∑ k : Fin 1024, aC m c (i 0) k * aW m c (i 1) k

theorem idx : ∀ t : Fin cfg0.N, t.val < 8 ∧ win0_0.index t = ![t.val / 2, 0] ∧ win0_1.index t = ![t.val % 2, 0] ∧
    win0_2.index t = ![t.val / 2, t.val % 2] :=
  (by decide +kernel : ∀ t : Fin grid0.N, _)

def row (t : Fin cfg0.N) (r : Fin 1024) : Fin 4096 := ⟨1024 * (t.val / 2) + r, by have := (idx t).1; omega⟩
def col (t : Fin cfg0.N) (q : Fin 1024) : Fin 2048 := ⟨1024 * (t.val % 2) + q, by omega⟩

theorem w_at (q : Fin 2048) (k : Fin 1024) : V m c main_v0 (ix2 q k) = aW m c q k := by
  unfold V
  after_reads_at
  rfl

theorem ct_at (r : Fin 4096) (k : Fin 1024) : V m c main_arg1 (ix2 r k) = aC m c r k := by
  rw [V_main_arg1]; rfl

theorem blk0_at (t : Fin cfg0.N) (r : Fin 1024) (k : Fin 1024) : iblk m c 0 t (ix2 r k) = aC m c (row t r) k := by
  rw [← ct_at]
  blk_ext [iblk, idx t, row]

theorem blk1_at (t : Fin cfg0.N) (q : Fin 1024) (k : Fin 1024) : iblk m c 1 t (ix2 q k) = aW m c (col t q) k := by
  rw [← w_at]
  blk_ext [iblk, idx t, col]

theorem pay_at (x0 : FVec Ideal S1024x1024 .f32) (x1 : FVec Ideal S1024x1024 .bf16) (r q : Fin 1024) :
    k0_pay1 (F := Ideal) x0 x1 (ix2 r q) = ∑ k : Fin 1024, x0 (ix2 r k) * x1 (ix2 q k) := by
  pointwise [k0_pay1]

theorem final : (dats m 0 c).arrAt 2 cfg0.N = grad m c := by
  refine (dats m 0 c).arrAt_eq_of_covers 2 _ (by decide +kernel) fun t hf y => ?_
  obtain ⟨r, q, rfl⟩ : ∃ r : Fin 1024, ∃ q : Fin 1024, y = ix2 r q := ⟨y 0, y 1, eq_ix2 y⟩
  have e : (win0_2.blk t).view.emb (ix2 r q) = ix2 (row t r) (col t q) := by blk_ext [idx t, row, col]
  blk_simp
  rw [e, after0_2]
  unfold out0_2
  frame_out
  exact (pay_at _ _ r q).trans (Finset.sum_congr rfl fun k _ => Ideal.mul_congr (blk0_at m c t r k) (blk1_at m c t q k))

end Cert.SsmOutDxIdeal.Grad

namespace Cert.OutGrad

open Idealize.ShloMosaic Idealize.ShloMosaic.TcCoe Idealize.ShloMosaic.Tactic Idealize.SL.Sem
open Cert.SsmOutDxIdeal.Grad

theorem ref_frame : Cert.quiescent_SsmOutDxRefIdeal (hSsmOutDxRefIdeal := Cert.SsmOutDxRefIdeal.Gen.facts) := fun m ρ _ =>
  (θ_run _ _ _).mono (fun r h => ⟨fun c => (h c).2, sem_eq_zero_of_no_sems (by decide) _⟩) (Cert.SsmOutDxRefIdeal.Value.run m ρ)

theorem value : Cert.algebraic_SsmOutDxIdeal_SsmOutDxRefIdeal (hSsmOutDxIdeal := Cert.SsmOutDxIdeal.Gen.facts)
    (hSsmOutDxRefIdeal := Cert.SsmOutDxRefIdeal.Gen.facts) := by
  intro m g m' g' _ hargs
  refine ⟨fun c => grad m c, ?_, ?_⟩
  · refine (θ_run _ _ _).mono (fun r h c => ?_) (Cert.SsmOutDxIdeal.Value.run_blocks m g)
    exact ⟨(h c).1.trans (final m c), (h c).2⟩
  · refine (θ_run _ _ _).mono (fun r h c => ⟨(h c).1.trans ?_, (h c).2⟩) (Cert.SsmOutDxRefIdeal.Value.run m' g')
    obtain ⟨e0, e1⟩ := hargs c
    rw [e0, e1]
    funext y
    obtain ⟨r, q, rfl⟩ : ∃ r : Fin 4096, ∃ q : Fin 2048, y = ix2 r q := ⟨y 0, y 1, eq_ix2 y⟩
    unfold grad aC aW
    pointwise []

end Cert.OutGrad

end
-- ==== Proof.OutWeight.lean ====
/- The gradient of the out-projection's weight: the product over the rows in two halves, the first kept between the points. -/
module

public import proofs.«01_k».proof.Proof.Gen.SsmOutDwIdeal.Value
public import proofs.«01_k».proof.Proof.Gen.SsmOutDwRefIdeal.Run
public import proofs.«01_k».proof.Proof.Gen.SsmOutDwIdeal
public import proofs.«01_k».proof.Proof.Gen.SsmOutDwRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.SsmOutDwIdeal.Grad

open Cert.SsmOutDwIdeal Cert.SsmOutDwIdeal.Gen Idealize.ShloMosaic Idealize.ShloMosaic.TcCoe Idealize.ShloMosaic.Tactic Idealize.SL.Sem

section
variable {F : FTy → Type} [FloatOps F]

theorem keptOf_A (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S2048x1024 .bf16) (x1 : Vec F S2048x1024 .f32) :
    sout0_A_0 c i arg3 harg3 arg4 harg4 arg5 harg5 arg6 harg6 hc0 hc1 x0 x1 = k0_pay1 x0 x1 := by
  frame_out

theorem outOf_B (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S2048x1024 .bf16) (x1 : Vec F S2048x1024 .f32) (xs0 : Vec F S1024x1024 .f32) :
    out0_B_2 c i arg3 harg3 arg4 harg4 arg5 harg5 arg6 harg6 hc0 hc1 x0 x1 xs0 = k0_pay2 xs0 x0 x1 := by
  frame_out

end

variable (m : (ℓ : Loc nD τ sig) → Buf (Elt Ideal) ℓ) (c : Dev nD)

/-- The arguments as functions of row and column. -/
def aA (R : Fin 4096) (q : Fin 2048) : EReal := m (c.tc.loc main_arg0) (ix2 R q)
def aC (R : Fin 4096) (k : Fin 1024) : EReal := m (c.tc.loc main_arg1) (ix2 R k)

/-- The gradient. -/
def grad : FVec Ideal S2048x1024 .bf16 := fun i => ∑ R : Fin 4096, aA m c R (i 0) * aC m c R (i 1)

theorem idx : ∀ t : Fin cfg0.N, t.val < 4 ∧ win0_0.index t = ![t.val % 2, t.val / 2] ∧ win0_1.index t = ![t.val % 2, 0] ∧
    win0_2.index t = ![t.val / 2, 0] :=
  (by decide +kernel : ∀ t : Fin grid0.N, _)

def row (t : Fin cfg0.N) (r : Fin 2048) : Fin 4096 := ⟨2048 * (t.val % 2) + r, by omega⟩
def col (t : Fin cfg0.N) (q : Fin 1024) : Fin 2048 := ⟨1024 * (t.val / 2) + q, by have := (idx t).1; omega⟩

theorem act_at (r : Fin 4096) (q : Fin 2048) : V m c main_v0 (ix2 r q) = aA m c r q := by
  unfold V
  after_reads_at
  rfl

theorem ct_at (r : Fin 4096) (k : Fin 1024) : V m c main_arg1 (ix2 r k) = aC m c r k := by
  rw [V_main_arg1]; rfl

theorem iblk0_at (t : Fin cfg0.N) (r : Fin 2048) (q : Fin 1024) : iblk m c 0 t (ix2 r q) = aA m c (row t r) (col t q) := by
  rw [← act_at]
  blk_ext [iblk, idx t, row, col]

theorem iblk1_at (t : Fin cfg0.N) (r : Fin 2048) (k : Fin 1024) : iblk m c 1 t (ix2 r k) = aC m c (row t r) k := by
  rw [← ct_at]
  blk_ext [iblk, idx t, row]

theorem pay1_at (x0 : FVec Ideal S2048x1024 .bf16) (x1 : FVec Ideal S2048x1024 .f32) (q : Fin 1024) (k : Fin 1024) :
    k0_pay1 (F := Ideal) x0 x1 (ix2 q k) = ∑ r : Fin 2048, x0 (ix2 r q) * x1 (ix2 r k) := by
  pointwise [k0_pay1]

theorem pay2_at (xs : FVec Ideal S1024x1024 .f32) (x0 : FVec Ideal S2048x1024 .bf16) (x1 : FVec Ideal S2048x1024 .f32) (q : Fin 1024) (k : Fin 1024) :
    k0_pay2 (F := Ideal) xs x0 x1 (ix2 q k) = xs (ix2 q k) + k0_pay1 (F := Ideal) x0 x1 (ix2 q k) := by
  pointwise [k0_pay2, k0_pay1]

/-- One half of the rows' part of the gradient. -/
theorem half_at (t : Fin cfg0.N) (q : Fin 1024) (k : Fin 1024) :
    k0_pay1 (F := Ideal) (iblk m c 0 t) (iblk m c 1 t) (ix2 q k) = ∑ r : Fin 2048, aA m c (row t r) (col t q) * aC m c (row t r) k :=
  (pay1_at _ _ q k).trans (Finset.sum_congr rfl fun r _ => Ideal.mul_congr (iblk0_at m c t r q) (iblk1_at m c t r k))

theorem left_at (t : Fin cfg0.N) (h : t.val % 2 = 1) (q : Fin 1024) (k : Fin 1024) :
    (outsAt0 m c t.val t.isLt).1 (ix2 q k) = ∑ R : Fin 4096, aA m c R (col t q) * aC m c R k := by
  have ht := (idx t).1
  have hp : t.val - 1 < cfg0.N := by have := t.isLt; omega
  rw [outsAt0_B m c t (by omega) h, outsAt0_A m c ⟨t.val - 1, hp⟩ (by simp only []; omega) (by simp only []; omega)]
  dsimp only
  rw [outOf_B, keptOf_A]
  refine (pay2_at _ _ _ q k).trans ?_
  rw [Fin.sum_univ_tiles 2 2048 rfl, Fin.sum_univ_two]
  refine Ideal.add_congr ((half_at m c _ q k).trans ?_) ((half_at m c t q k).trans ?_)
  · refine Finset.sum_congr rfl fun r _ => ?_
    have e1 : row ⟨t.val - 1, hp⟩ r = ⟨2048 * ((0 : Fin 2) : ℕ) + r, by simp; omega⟩ := Fin.ext (by simp only [row]; simp; omega)
    have e2 : col ⟨t.val - 1, hp⟩ q = col t q := Fin.ext (by simp only [col]; omega)
    rw [e1, e2]
    rfl
  · refine Finset.sum_congr rfl fun r _ => ?_
    have e1 : row t r = ⟨2048 * ((1 : Fin 2) : ℕ) + r, by simp; omega⟩ := Fin.ext (by simp only [row]; simp; omega)
    rw [e1]
    rfl

theorem final : (dats m 0 c).arrAt 2 cfg0.N = grad m c := by
  refine (dats m 0 c).arrAt_eq_of_covers 2 _ (by decide +kernel) fun t hf y => ?_
  obtain ⟨r, l, rfl⟩ : ∃ r : Fin 1024, ∃ l : Fin 1024, y = ix2 r l := ⟨y 0, y 1, eq_ix2 y⟩
  have e : (win0_2.blk t).view.emb (ix2 r l) = ix2 (col t r) l := by blk_ext [idx t, col]
  blk_simp
  rw [e, after0_2]
  exact left_at m c t ((flush0_2 t).mp hf) r l

end Cert.SsmOutDwIdeal.Grad

namespace Cert.OutWeight

open Idealize.ShloMosaic Idealize.ShloMosaic.TcCoe Idealize.ShloMosaic.Tactic Idealize.SL.Sem

theorem ref_frame : Cert.quiescent_SsmOutDwRefIdeal (hSsmOutDwRefIdeal := Cert.SsmOutDwRefIdeal.Gen.facts) := fun m ρ _ =>
  (θ_run _ _ _).mono (fun r h => ⟨fun c => (h c).2, sem_eq_zero_of_no_sems (by decide) _⟩) (Cert.SsmOutDwRefIdeal.Value.run m ρ)

theorem value : Cert.algebraic_SsmOutDwIdeal_SsmOutDwRefIdeal (hSsmOutDwIdeal := Cert.SsmOutDwIdeal.Gen.facts)
    (hSsmOutDwRefIdeal := Cert.SsmOutDwRefIdeal.Gen.facts) := by
  intro m g m' g' _ hargs
  refine ⟨fun c => Cert.SsmOutDwIdeal.Grad.grad m c, ?_, ?_⟩
  · refine (θ_run _ _ _).mono (fun r h c => ?_) (Cert.SsmOutDwIdeal.Value.run_blocks m g)
    exact ⟨(h c).1.trans (Cert.SsmOutDwIdeal.Grad.final m c), (h c).2⟩
  · refine (θ_run _ _ _).mono (fun r h c => ⟨(h c).1.trans ?_, (h c).2⟩) (Cert.SsmOutDwRefIdeal.Value.run m' g')
    obtain ⟨e0, e1⟩ := hargs c
    rw [e0, e1]
    funext y
    obtain ⟨q, k, rfl⟩ : ∃ q : Fin 2048, ∃ k : Fin 1024, y = ix2 q k := ⟨y 0, y 1, eq_ix2 y⟩
    refine Eq.trans (b := ∑ R : Fin 4096, Cert.SsmOutDwIdeal.Grad.aC m c R k * Cert.SsmOutDwIdeal.Grad.aA m c R q) ?_
      (Finset.sum_congr rfl fun R _ => mul_comm _ _)
    unfold Cert.SsmOutDwIdeal.Grad.aA Cert.SsmOutDwIdeal.Grad.aC
    pointwise []

end Cert.OutWeight

end
-- ==== Proof.InGate.lean ====
/- The in-projection's z columns: at each point a whole product. -/
module

public import proofs.«01_k».proof.Proof.Gen.SsmZIdeal.Value
public import proofs.«01_k».proof.Proof.Gen.SsmZRefIdeal.Run
public import proofs.«01_k».proof.Proof.Gen.SsmZIdeal
public import proofs.«01_k».proof.Proof.Gen.SsmZRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.SsmZIdeal.Gate

open Cert.SsmZIdeal Cert.SsmZIdeal.Gen Idealize.ShloMosaic Idealize.ShloMosaic.TcCoe Idealize.ShloMosaic.Tactic Idealize.SL.Sem

section
variable {F : FTy → Type} [FloatOps F]

theorem outOf (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole)
    (x0 : Vec F S1024x1024 .bf16) (x1 : Vec F S1024x1024 .bf16) :
    out0_A_2 c i arg3 harg3 arg4 harg4 arg5 harg5 x0 x1 = k0_pay1 x0 x1 := by
  frame_out

end

variable (m : (ℓ : Loc nD τ sig) → Buf (Elt Ideal) ℓ) (c : Dev nD)

/-- The arguments as functions of row and column. -/
def aH (R : Fin 4096) (k : Fin 1024) : EReal := m (c.tc.loc main_arg0) (ix2 R k)
def aW (k : Fin 1024) (l : Fin 6176) : EReal := m (c.tc.loc main_arg1) (ix2 k l)

/-- A column of z in the whole projection. -/
def zc (l : Fin 2048) : Fin 6176 := ⟨l, by omega⟩

/-- The columns. -/
def arrZ : FVec Ideal S4096x2048 .f32 := fun i => ∑ k : Fin 1024, aH m c (i 0) k * aW m c k (zc (i 1))

theorem idx : ∀ t : Fin cfg0.N, t.val < 8 ∧ win0_0.index t = ![t.val / 2, 0] ∧ win0_1.index t = ![t.val % 2, 0] ∧
    win0_2.index t = ![t.val / 2, t.val % 2] :=
  (by decide +kernel : ∀ t : Fin grid0.N, _)

def row (t : Fin cfg0.N) (r : Fin 1024) : Fin 4096 := ⟨1024 * (t.val / 2) + r, by have := (idx t).1; omega⟩
def col (t : Fin cfg0.N) (l : Fin 1024) : Fin 2048 := ⟨1024 * (t.val % 2) + l, by omega⟩

theorem h_at (r : Fin 4096) (k : Fin 1024) : V m c main_v0 (ix2 r k) = aH m c r k := by
  unfold V
  after_reads_at
  rfl

theorem w_at (l : Fin 6176) (k : Fin 1024) : V m c main_v2 (ix2 l k) = aW m c k l := by
  unfold V aW
  after_reads_at

theorem blk0_at (t : Fin cfg0.N) (r : Fin 1024) (k : Fin 1024) : iblk m c 0 t (ix2 r k) = aH m c (row t r) k := by
  rw [← h_at]
  blk_ext [iblk, idx t, row]

theorem blk1_at (t : Fin cfg0.N) (l : Fin 1024) (k : Fin 1024) : X0_1 m c t (ix2 l k) = aW m c k (zc (col t l)) := by
  rw [← w_at]
  unfold X0_1 Pipeline.Window.fill
  rw [dif_pos (moved0_1 t _)]
  blk_ext [iblk, idx t, col, zc]

theorem pay_at (x0 : FVec Ideal S1024x1024 .bf16) (x1 : FVec Ideal S1024x1024 .bf16) (r l : Fin 1024) :
    k0_pay1 (F := Ideal) x0 x1 (ix2 r l) = ∑ k : Fin 1024, x0 (ix2 r k) * x1 (ix2 l k) := by
  pointwise [k0_pay1]

theorem final : (dats m 0 c).arrAt 2 cfg0.N = arrZ m c := by
  refine (dats m 0 c).arrAt_eq_of_covers 2 _ (by decide +kernel) fun t hf y => ?_
  obtain ⟨r, l, rfl⟩ : ∃ r : Fin 1024, ∃ l : Fin 1024, y = ix2 r l := ⟨y 0, y 1, eq_ix2 y⟩
  have e : (win0_2.blk t).view.emb (ix2 r l) = ix2 (row t r) (col t l) := by blk_ext [idx t, row, col]
  blk_simp
  rw [e, after0_2]
  unfold outsAt0
  rw [outOf]
  exact (pay_at _ _ r l).trans (Finset.sum_congr rfl fun k _ => Ideal.mul_congr (blk0_at m c t r k) (blk1_at m c t l k))

end Cert.SsmZIdeal.Gate

namespace Cert.InGate

open Idealize.ShloMosaic Idealize.ShloMosaic.TcCoe Idealize.ShloMosaic.Tactic Idealize.SL.Sem
open Cert.SsmZIdeal.Gate

theorem ref_frame : Cert.quiescent_SsmZRefIdeal (hSsmZRefIdeal := Cert.SsmZRefIdeal.Gen.facts) := fun m ρ _ =>
  (θ_run _ _ _).mono (fun r h => ⟨fun c => (h c).2, sem_eq_zero_of_no_sems (by decide) _⟩) (Cert.SsmZRefIdeal.Value.run m ρ)

theorem value : Cert.algebraic_SsmZIdeal_SsmZRefIdeal (hSsmZIdeal := Cert.SsmZIdeal.Gen.facts)
    (hSsmZRefIdeal := Cert.SsmZRefIdeal.Gen.facts) := by
  intro m g m' g' _ hargs
  refine ⟨fun c => arrZ m c, ?_, ?_⟩
  · refine (θ_run _ _ _).mono (fun r h c => ?_) (Cert.SsmZIdeal.Value.run_blocks m g)
    exact ⟨(h c).1.trans (final m c), (h c).2⟩
  · refine (θ_run _ _ _).mono (fun r h c => ⟨(h c).1.trans ?_, (h c).2⟩) (Cert.SsmZRefIdeal.Value.run m' g')
    obtain ⟨e0, e1⟩ := hargs c
    rw [e0, e1]
    funext y
    obtain ⟨r, l, rfl⟩ : ∃ r : Fin 4096, ∃ l : Fin 2048, y = ix2 r l := ⟨y 0, y 1, eq_ix2 y⟩
    unfold arrZ aH aW zc
    pointwise []

end Cert.InGate

end
-- ==== Proof.MixNorm.lean ====
/- The first mixer's output projection with the residual, and the norm of the feed-forward layer. -/
module

public import proofs.«01_k».proof.Proof.Gen.MixOutIdeal.Value
public import proofs.«01_k».proof.Proof.Gen.MixOutRefIdeal.Run
public import proofs.«01_k».proof.Proof.Gen.MixOutIdeal
public import proofs.«01_k».proof.Proof.Gen.MixOutRefIdeal
public import proofs.«01_k».proof.Defs
public import proofs.«01_k».proof.Proof.NormSpec
public import Idealize.ShloMosaic.Lib.Pipeline.ValueKit
public import Idealize.ShloMosaic.Lib.StableHlo.ReadAt
public import Idealize.ShloMosaic.Lib.Quiescent

@[expose] public section

set_option maxRecDepth 16384

noncomputable section

namespace Cert.MixOutIdeal.Norm

open Cert.MixOutIdeal Cert.MixOutIdeal.Gen Idealize.ShloMosaic Idealize.ShloMosaic.TcCoe Idealize.ShloMosaic.Tactic Idealize.SL.Sem

theorem pay1_at (x0 : FVec Ideal S1024x1024 .bf16) (x1 : FVec Ideal S1024x1024 .bf16) (x2 : FVec Ideal S1024x1024 .f32) (r k : Fin 1024) :
    k0_pay1 (F := Ideal) x0 x1 x2 (ix2 r k) = (∑ q : Fin 1024, x0 (ix2 r q) * x1 (ix2 q k)) + x2 (ix2 r k) := by
  pointwise [k0_pay1]

theorem pay2_at (x0 : FVec Ideal S1024x1024 .bf16) (x1 : FVec Ideal S1024x1024 .bf16) (x2 : FVec Ideal S1024x1024 .f32) (x3 : FVec Ideal S1x1024 .f32) (r k : Fin 1024) :
    k0_pay2 (F := Ideal) x0 x1 x2 x3 (ix2 r k) = FfnBack.rms (fun k => k0_pay1 (F := Ideal) x0 x1 x2 (ix2 r k)) (fun k => x3 (ix2 0 k)) k := by
  pointwise [k0_pay2]
  rfl

variable (m : (ℓ : Loc nD τ sig) → Buf (Elt Ideal) ℓ) (c : Dev nD)

/-- The arguments as functions of row and column. -/
def aA (R : Fin 4096) (q : Fin 1024) : EReal := m (c.tc.loc main_arg0) (ix2 R q)
def aD (q : Fin 1024) (k : Fin 1024) : EReal := m (c.tc.loc main_arg1) (ix2 q k)
def aX (R : Fin 4096) (k : Fin 1024) : EReal := m (c.tc.loc main_arg2) (ix2 R k)
def aW (k : Fin 1024) : EReal := m (c.tc.loc main_arg3) (ix1 k)

/-- The layer's result. -/
def out (R : Fin 4096) (k : Fin 1024) : EReal := (∑ q : Fin 1024, aA m c R q * aD m c q k) + aX m c R k

/-- The arrays the call writes. -/
def arrY : FVec Ideal S4096x1024 .f32 := fun i => out m c (i 0) (i 1)
def arrN : FVec Ideal S4096x1024 .bf16 := fun i => FfnBack.rms (out m c (i 0)) (aW m c) (i 1)

theorem idx : ∀ t : Fin cfg0.N, t.val < 4 ∧ win0_0.index t = ![t.val, 0] ∧ win0_1.index t = ![0, 0] ∧
    win0_2.index t = ![t.val, 0] ∧ win0_3.index t = ![0, 0] ∧ win0_4.index t = ![t.val, 0] ∧ win0_5.index t = ![t.val, 0] :=
  (by decide +kernel : ∀ t : Fin grid0.N, _)

def row (t : Fin cfg0.N) (r : Fin 1024) : Fin 4096 := ⟨1024 * t.val + r, by have := (idx t).1; omega⟩

theorem act_at (r : Fin 4096) (q : Fin 1024) : V m c main_v0 (ix2 r q) = aA m c r q := by
  unfold V
  after_reads_at
  rfl

theorem wd_at (q : Fin 1024) (k : Fin 1024) : V m c main_v1 (ix2 q k) = aD m c q k := by
  unfold V
  after_reads_at
  rfl

theorem w_at (z : Fin 1) (k : Fin 1024) : V m c main_v2 (ix2 z k) = aW m c k := by
  obtain rfl : z = 0 := Subsingleton.elim _ _
  unfold V aW
  after_reads_at

theorem x_at (r : Fin 4096) (k : Fin 1024) : V m c main_arg2 (ix2 r k) = aX m c r k := by
  rw [V_main_arg2]; rfl

theorem iblk0_at (t : Fin cfg0.N) (r : Fin 1024) (q : Fin 1024) : iblk m c 0 t (ix2 r q) = aA m c (row t r) q := by
  rw [← act_at]
  blk_ext [iblk, idx t, row]

theorem iblk1_at (t : Fin cfg0.N) (q : Fin 1024) (k : Fin 1024) : iblk m c 1 t (ix2 q k) = aD m c q k := by
  rw [← wd_at]
  blk_ext [iblk, idx t]

theorem iblk2_at (t : Fin cfg0.N) (r k : Fin 1024) : iblk m c 2 t (ix2 r k) = aX m c (row t r) k := by
  rw [← x_at]
  blk_ext [iblk, idx t, row]

theorem iblk3_at (t : Fin cfg0.N) (k : Fin 1024) : iblk m c 3 t (ix2 0 k) = aW m c k := by
  rw [← w_at m c 0]
  blk_ext [iblk, idx t]

theorem y_at (t : Fin cfg0.N) (r k : Fin 1024) :
    k0_pay1 (F := Ideal) (iblk m c 0 t) (iblk m c 1 t) (iblk m c 2 t) (ix2 r k) = out m c (row t r) k :=
  (pay1_at _ _ _ r k).trans (Ideal.add_congr
    (Finset.sum_congr rfl fun q _ => Ideal.mul_congr (iblk0_at m c t r q) (iblk1_at m c t q k)) (iblk2_at m c t r k))

theorem n_at (t : Fin cfg0.N) (r k : Fin 1024) :
    k0_pay2 (F := Ideal) (iblk m c 0 t) (iblk m c 1 t) (iblk m c 2 t) (iblk m c 3 t) (ix2 r k) = FfnBack.rms (out m c (row t r)) (aW m c) k :=
  (pay2_at _ _ _ _ r k).trans (congrArg₂ (fun y w => FfnBack.rms y w k) (funext fun k => y_at m c t r k) (funext fun k => iblk3_at m c t k))

theorem final_y : (dats m 0 c).arrAt 4 cfg0.N = arrY m c := by
  refine (dats m 0 c).arrAt_eq_of_covers 4 _ (by decide +kernel) fun t hf y => ?_
  obtain ⟨r, k, rfl⟩ : ∃ r : Fin 1024, ∃ k : Fin 1024, y = ix2 r k := ⟨y 0, y 1, eq_ix2 y⟩
  have e : (win0_4.blk t).view.emb (ix2 r k) = ix2 (row t r) k := by blk_ext [idx t, row]
  blk_simp
  rw [e, after0_4]
  unfold out0_4
  frame_out
  exact y_at m c t r k

theorem final_n : (dats m 0 c).arrAt 5 cfg0.N = arrN m c := by
  refine (dats m 0 c).arrAt_eq_of_covers 5 _ (by decide +kernel) fun t hf y => ?_
  obtain ⟨r, k, rfl⟩ : ∃ r : Fin 1024, ∃ k : Fin 1024, y = ix2 r k := ⟨y 0, y 1, eq_ix2 y⟩
  have e : (win0_5.blk t).view.emb (ix2 r k) = ix2 (row t r) k := by blk_ext [idx t, row]
  blk_simp
  rw [e, after0_5]
  unfold out0_5
  frame_out
  exact n_at m c t r k

end Cert.MixOutIdeal.Norm

namespace Cert.MixNorm

open Idealize.ShloMosaic Idealize.ShloMosaic.TcCoe Idealize.ShloMosaic.Tactic Idealize.SL.Sem

theorem ref_frame : Cert.quiescent_MixOutRefIdeal (hMixOutRefIdeal := Cert.MixOutRefIdeal.Gen.facts) := fun m ρ _ =>
  (θ_run _ _ _).mono (fun r h => ⟨fun c => (h c).2.2, sem_eq_zero_of_no_sems (by decide) _⟩) (Cert.MixOutRefIdeal.Value.run m ρ)

theorem value : Cert.algebraic_MixOutIdeal_MixOutRefIdeal (hMixOutIdeal := Cert.MixOutIdeal.Gen.facts)
    (hMixOutRefIdeal := Cert.MixOutRefIdeal.Gen.facts) := by
  intro m g m' g' _ hargs
  refine ⟨fun c => Cert.MixOutIdeal.Norm.arrY m c, fun c => Cert.MixOutIdeal.Norm.arrN m c, ?_, ?_⟩
  · refine (θ_run _ _ _).mono (fun r h c => ?_) (Cert.MixOutIdeal.Value.run_blocks m g)
    exact ⟨(h c).1.trans (Cert.MixOutIdeal.Norm.final_y m c), (h c).2.1.trans (Cert.MixOutIdeal.Norm.final_n m c), (h c).2.2⟩
  · refine (θ_run _ _ _).mono (fun r h c => ?_) (Cert.MixOutRefIdeal.Value.run m' g')
    obtain ⟨h1, h2, h3⟩ := h c
    obtain ⟨e0, e1, e2, e3⟩ := hargs c
    rw [e0, e1, e2] at h1
    rw [e0, e1, e2, e3] at h2
    have hy : r.2.mem (c.tc.loc Cert.MixOutRefIdeal.main_v1) = Cert.MixOutIdeal.Norm.arrY m c := by
      refine h1.trans ?_
      funext y
      obtain ⟨r, k, rfl⟩ : ∃ r : Fin 4096, ∃ k : Fin 1024, y = ix2 r k := ⟨y 0, y 1, eq_ix2 y⟩
      unfold Cert.MixOutIdeal.Norm.arrY Cert.MixOutIdeal.Norm.out Cert.MixOutIdeal.Norm.aA Cert.MixOutIdeal.Norm.aD Cert.MixOutIdeal.Norm.aX
      pointwise []
      exact add_comm _ _
    rw [← h1, hy] at h2
    refine ⟨hy, h2.trans ?_, h3⟩
    funext y
    obtain ⟨r, k, rfl⟩ : ∃ r : Fin 4096, ∃ k : Fin 1024, y = ix2 r k := ⟨y 0, y 1, eq_ix2 y⟩
    unfold Cert.MixOutIdeal.Norm.arrN FfnBack.rms FfnBack.rstd FfnBack.cols FfnBack.eps Cert.MixOutIdeal.Norm.aW
    generalize hY : Cert.MixOutIdeal.Norm.arrY m c = Y
    have hY' : ∀ r k, Cert.MixOutIdeal.Norm.out m c r k = Y (ix2 r k) := fun r k => by rw [← hY]; rfl
    pointwise []
    simp only [hY']

end Cert.MixNorm

end
-- ==== Proof.MixGrad.lean ====
/- The gradient through the first mixer's output projection: at each point a whole product. -/
module

public import proofs.«01_k».proof.Proof.Gen.MixOutDxIdeal.Value
public import proofs.«01_k».proof.Proof.Gen.MixOutDxRefIdeal.Run
public import proofs.«01_k».proof.Proof.Gen.MixOutDxIdeal
public import proofs.«01_k».proof.Proof.Gen.MixOutDxRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.MixOutDxIdeal.Grad

open Cert.MixOutDxIdeal Cert.MixOutDxIdeal.Gen Idealize.ShloMosaic Idealize.ShloMosaic.TcCoe Idealize.ShloMosaic.Tactic Idealize.SL.Sem

variable (m : (ℓ : Loc nD τ sig) → Buf (Elt Ideal) ℓ) (c : Dev nD)

/-- The arguments as functions of row and column. -/
def aW (q : Fin 1024) (k : Fin 1024) : EReal := m (c.tc.loc main_arg0) (ix2 q k)
def aC (R : Fin 4096) (k : Fin 1024) : EReal := m (c.tc.loc main_arg1) (ix2 R k)

/-- The gradient. -/
def grad : FVec Ideal S4096x1024 .f32 := fun i => ∑ k : Fin 1024, aC m c (i 0) k * aW m c (i 1) k

theorem idx : ∀ t : Fin cfg0.N, t.val < 4 ∧ win0_0.index t = ![t.val, 0] ∧ win0_1.index t = ![0, 0] ∧
    win0_2.index t = ![t.val, 0] :=
  (by decide +kernel : ∀ t : Fin grid0.N, _)

def row (t : Fin cfg0.N) (r : Fin 1024) : Fin 4096 := ⟨1024 * t.val + r, by have := (idx t).1; omega⟩

theorem w_at (q : Fin 1024) (k : Fin 1024) : V m c main_v0 (ix2 q k) = aW m c q k := by
  unfold V
  after_reads_at
  rfl

theorem ct_at (r : Fin 4096) (k : Fin 1024) : V m c main_arg1 (ix2 r k) = aC m c r k := by
  rw [V_main_arg1]; rfl

theorem blk0_at (t : Fin cfg0.N) (r : Fin 1024) (k : Fin 1024) : iblk m c 0 t (ix2 r k) = aC m c (row t r) k := by
  rw [← ct_at]
  blk_ext [iblk, idx t, row]

theorem blk1_at (t : Fin cfg0.N) (q : Fin 1024) (k : Fin 1024) : iblk m c 1 t (ix2 q k) = aW m c q k := by
  rw [← w_at]
  blk_ext [iblk, idx t]

theorem pay_at (x0 : FVec Ideal S1024x1024 .f32) (x1 : FVec Ideal S1024x1024 .bf16) (r q : Fin 1024) :
    k0_pay1 (F := Ideal) x0 x1 (ix2 r q) = ∑ k : Fin 1024, x0 (ix2 r k) * x1 (ix2 q k) := by
  pointwise [k0_pay1]

theorem final : (dats m 0 c).arrAt 2 cfg0.N = grad m c := by
  refine (dats m 0 c).arrAt_eq_of_covers 2 _ (by decide +kernel) fun t hf y => ?_
  obtain ⟨r, q, rfl⟩ : ∃ r : Fin 1024, ∃ q : Fin 1024, y = ix2 r q := ⟨y 0, y 1, eq_ix2 y⟩
  have e : (win0_2.blk t).view.emb (ix2 r q) = ix2 (row t r) q := by blk_ext [idx t, row]
  blk_simp
  rw [e, after0_2]
  unfold out0_2
  frame_out
  exact (pay_at _ _ r q).trans (Finset.sum_congr rfl fun k _ => Ideal.mul_congr (blk0_at m c t r k) (blk1_at m c t q k))

end Cert.MixOutDxIdeal.Grad

namespace Cert.MixGrad

open Idealize.ShloMosaic Idealize.ShloMosaic.TcCoe Idealize.ShloMosaic.Tactic Idealize.SL.Sem
open Cert.MixOutDxIdeal.Grad

theorem ref_frame : Cert.quiescent_MixOutDxRefIdeal (hMixOutDxRefIdeal := Cert.MixOutDxRefIdeal.Gen.facts) := fun m ρ _ =>
  (θ_run _ _ _).mono (fun r h => ⟨fun c => (h c).2, sem_eq_zero_of_no_sems (by decide) _⟩) (Cert.MixOutDxRefIdeal.Value.run m ρ)

theorem value : Cert.algebraic_MixOutDxIdeal_MixOutDxRefIdeal (hMixOutDxIdeal := Cert.MixOutDxIdeal.Gen.facts)
    (hMixOutDxRefIdeal := Cert.MixOutDxRefIdeal.Gen.facts) := by
  intro m g m' g' _ hargs
  refine ⟨fun c => grad m c, ?_, ?_⟩
  · refine (θ_run _ _ _).mono (fun r h c => ?_) (Cert.MixOutDxIdeal.Value.run_blocks m g)
    exact ⟨(h c).1.trans (final m c), (h c).2⟩
  · refine (θ_run _ _ _).mono (fun r h c => ⟨(h c).1.trans ?_, (h c).2⟩) (Cert.MixOutDxRefIdeal.Value.run m' g')
    obtain ⟨e0, e1⟩ := hargs c
    rw [e0, e1]
    funext y
    obtain ⟨r, q, rfl⟩ : ∃ r : Fin 4096, ∃ q : Fin 1024, y = ix2 r q := ⟨y 0, y 1, eq_ix2 y⟩
    unfold grad aC aW
    pointwise []

end Cert.MixGrad

end
-- ==== Proof.MixWeight.lean ====
/- The gradient of the weight of the first mixer's output projection: the product over the rows in two halves, the first kept between the points. -/
module

public import proofs.«01_k».proof.Proof.Gen.MixOutDwIdeal.Value
public import proofs.«01_k».proof.Proof.Gen.MixOutDwRefIdeal.Run
public import proofs.«01_k».proof.Proof.Gen.MixOutDwIdeal
public import proofs.«01_k».proof.Proof.Gen.MixOutDwRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.MixOutDwIdeal.Grad

open Cert.MixOutDwIdeal Cert.MixOutDwIdeal.Gen Idealize.ShloMosaic Idealize.ShloMosaic.TcCoe Idealize.ShloMosaic.Tactic Idealize.SL.Sem

section
variable {F : FTy → Type} [FloatOps F]

theorem keptOf_A (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S2048x1024 .bf16) (x1 : Vec F S2048x1024 .f32) :
    sout0_A_0 c i arg3 harg3 arg4 harg4 arg5 harg5 arg6 harg6 hc0 hc1 x0 x1 = k0_pay1 x0 x1 := by
  frame_out

theorem outOf_B (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S2048x1024 .bf16) (x1 : Vec F S2048x1024 .f32) (xs0 : Vec F S1024x1024 .f32) :
    out0_B_2 c i arg3 harg3 arg4 harg4 arg5 harg5 arg6 harg6 hc0 hc1 x0 x1 xs0 = k0_pay2 xs0 x0 x1 := by
  frame_out

end

variable (m : (ℓ : Loc nD τ sig) → Buf (Elt Ideal) ℓ) (c : Dev nD)

/-- The arguments as functions of row and column. -/
def aA (R : Fin 4096) (q : Fin 1024) : EReal := m (c.tc.loc main_arg0) (ix2 R q)
def aC (R : Fin 4096) (k : Fin 1024) : EReal := m (c.tc.loc main_arg1) (ix2 R k)

/-- The gradient. -/
def grad : FVec Ideal S1024x1024 .bf16 := fun i => ∑ R : Fin 4096, aA m c R (i 0) * aC m c R (i 1)

theorem idx : ∀ t : Fin cfg0.N, t.val < 2 ∧ win0_0.index t = ![t.val % 2, 0] ∧ win0_1.index t = ![t.val % 2, 0] ∧
    win0_2.index t = ![0, 0] :=
  (by decide +kernel : ∀ t : Fin grid0.N, _)

def row (t : Fin cfg0.N) (r : Fin 2048) : Fin 4096 := ⟨2048 * (t.val % 2) + r, by omega⟩

theorem act_at (r : Fin 4096) (q : Fin 1024) : V m c main_v0 (ix2 r q) = aA m c r q := by
  unfold V
  after_reads_at
  rfl

theorem ct_at (r : Fin 4096) (k : Fin 1024) : V m c main_arg1 (ix2 r k) = aC m c r k := by
  rw [V_main_arg1]; rfl

theorem iblk0_at (t : Fin cfg0.N) (r : Fin 2048) (q : Fin 1024) : iblk m c 0 t (ix2 r q) = aA m c (row t r) q := by
  rw [← act_at]
  blk_ext [iblk, idx t, row]

theorem iblk1_at (t : Fin cfg0.N) (r : Fin 2048) (k : Fin 1024) : iblk m c 1 t (ix2 r k) = aC m c (row t r) k := by
  rw [← ct_at]
  blk_ext [iblk, idx t, row]

theorem pay1_at (x0 : FVec Ideal S2048x1024 .bf16) (x1 : FVec Ideal S2048x1024 .f32) (q : Fin 1024) (k : Fin 1024) :
    k0_pay1 (F := Ideal) x0 x1 (ix2 q k) = ∑ r : Fin 2048, x0 (ix2 r q) * x1 (ix2 r k) := by
  pointwise [k0_pay1]

theorem pay2_at (xs : FVec Ideal S1024x1024 .f32) (x0 : FVec Ideal S2048x1024 .bf16) (x1 : FVec Ideal S2048x1024 .f32) (q : Fin 1024) (k : Fin 1024) :
    k0_pay2 (F := Ideal) xs x0 x1 (ix2 q k) = xs (ix2 q k) + k0_pay1 (F := Ideal) x0 x1 (ix2 q k) := by
  pointwise [k0_pay2, k0_pay1]

/-- One half of the rows' part of the gradient. -/
theorem half_at (t : Fin cfg0.N) (q : Fin 1024) (k : Fin 1024) :
    k0_pay1 (F := Ideal) (iblk m c 0 t) (iblk m c 1 t) (ix2 q k) = ∑ r : Fin 2048, aA m c (row t r) q * aC m c (row t r) k :=
  (pay1_at _ _ q k).trans (Finset.sum_congr rfl fun r _ => Ideal.mul_congr (iblk0_at m c t r q) (iblk1_at m c t r k))

theorem left_at (t : Fin cfg0.N) (h : t.val % 2 = 1) (q : Fin 1024) (k : Fin 1024) :
    (outsAt0 m c t.val t.isLt).1 (ix2 q k) = ∑ R : Fin 4096, aA m c R q * aC m c R k := by
  have ht := (idx t).1
  have hp : t.val - 1 < cfg0.N := by have := t.isLt; omega
  rw [outsAt0_B m c t (by omega) h, outsAt0_A m c ⟨t.val - 1, hp⟩ (by simp only []; omega) (by simp only []; omega)]
  dsimp only
  rw [outOf_B, keptOf_A]
  refine (pay2_at _ _ _ q k).trans ?_
  rw [Fin.sum_univ_tiles 2 2048 rfl, Fin.sum_univ_two]
  refine Ideal.add_congr ((half_at m c _ q k).trans ?_) ((half_at m c t q k).trans ?_)
  · refine Finset.sum_congr rfl fun r _ => ?_
    have e1 : row ⟨t.val - 1, hp⟩ r = ⟨2048 * ((0 : Fin 2) : ℕ) + r, by simp; omega⟩ := Fin.ext (by simp only [row]; simp; omega)
    rw [e1]
    rfl
  · refine Finset.sum_congr rfl fun r _ => ?_
    have e1 : row t r = ⟨2048 * ((1 : Fin 2) : ℕ) + r, by simp; omega⟩ := Fin.ext (by simp only [row]; simp; omega)
    rw [e1]
    rfl

theorem final : (dats m 0 c).arrAt 2 cfg0.N = grad m c := by
  refine (dats m 0 c).arrAt_eq_of_covers 2 _ (by decide +kernel) fun t hf y => ?_
  obtain ⟨r, l, rfl⟩ : ∃ r : Fin 1024, ∃ l : Fin 1024, y = ix2 r l := ⟨y 0, y 1, eq_ix2 y⟩
  have e : (win0_2.blk t).view.emb (ix2 r l) = ix2 r l := by blk_ext [idx t]
  blk_simp
  rw [e, after0_2]
  exact left_at m c t ((flush0_2 t).mp hf) r l

end Cert.MixOutDwIdeal.Grad

namespace Cert.MixWeight

open Idealize.ShloMosaic Idealize.ShloMosaic.TcCoe Idealize.ShloMosaic.Tactic Idealize.SL.Sem

theorem ref_frame : Cert.quiescent_MixOutDwRefIdeal (hMixOutDwRefIdeal := Cert.MixOutDwRefIdeal.Gen.facts) := fun m ρ _ =>
  (θ_run _ _ _).mono (fun r h => ⟨fun c => (h c).2, sem_eq_zero_of_no_sems (by decide) _⟩) (Cert.MixOutDwRefIdeal.Value.run m ρ)

theorem value : Cert.algebraic_MixOutDwIdeal_MixOutDwRefIdeal (hMixOutDwIdeal := Cert.MixOutDwIdeal.Gen.facts)
    (hMixOutDwRefIdeal := Cert.MixOutDwRefIdeal.Gen.facts) := by
  intro m g m' g' _ hargs
  refine ⟨fun c => Cert.MixOutDwIdeal.Grad.grad m c, ?_, ?_⟩
  · refine (θ_run _ _ _).mono (fun r h c => ?_) (Cert.MixOutDwIdeal.Value.run_blocks m g)
    exact ⟨(h c).1.trans (Cert.MixOutDwIdeal.Grad.final m c), (h c).2⟩
  · refine (θ_run _ _ _).mono (fun r h c => ⟨(h c).1.trans ?_, (h c).2⟩) (Cert.MixOutDwRefIdeal.Value.run m' g')
    obtain ⟨e0, e1⟩ := hargs c
    rw [e0, e1]
    funext y
    obtain ⟨q, k, rfl⟩ : ∃ q : Fin 1024, ∃ k : Fin 1024, y = ix2 q k := ⟨y 0, y 1, eq_ix2 y⟩
    refine Eq.trans (b := ∑ R : Fin 4096, Cert.MixOutDwIdeal.Grad.aC m c R k * Cert.MixOutDwIdeal.Grad.aA m c R q) ?_
      (Finset.sum_congr rfl fun R _ => mul_comm _ _)
    unfold Cert.MixOutDwIdeal.Grad.aA Cert.MixOutDwIdeal.Grad.aC
    pointwise []

end Cert.MixWeight

end
-- ==== Proof.MixProj.lean ====
/- The first mixer's input projection: at each point a whole product. -/
module

public import proofs.«01_k».proof.Proof.Gen.MixInIdeal.Value
public import proofs.«01_k».proof.Proof.Gen.MixInRefIdeal.Run
public import proofs.«01_k».proof.Proof.Gen.MixInIdeal
public import proofs.«01_k».proof.Proof.Gen.MixInRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.MixInIdeal.Proj

open Cert.MixInIdeal Cert.MixInIdeal.Gen Idealize.ShloMosaic Idealize.ShloMosaic.TcCoe Idealize.ShloMosaic.Tactic Idealize.SL.Sem

variable (m : (ℓ : Loc nD τ sig) → Buf (Elt Ideal) ℓ) (c : Dev nD)

/-- The arguments as functions of row and column. -/
def aH (R : Fin 4096) (k : Fin 1024) : EReal := m (c.tc.loc main_arg0) (ix2 R k)
def aW (k : Fin 1024) (q : Fin 1280) : EReal := m (c.tc.loc main_arg1) (ix2 k q)

/-- The projection. -/
def proj : FVec Ideal S4096x1280 .f32 := fun i => ∑ k : Fin 1024, aH m c (i 0) k * aW m c k (i 1)

theorem idx : ∀ t : Fin cfg0.N, t.val < 4 ∧ win0_0.index t = ![t.val, 0] ∧ win0_1.index t = ![0, 0] ∧
    win0_2.index t = ![t.val, 0] :=
  (by decide +kernel : ∀ t : Fin grid0.N, _)

def row (t : Fin cfg0.N) (r : Fin 1024) : Fin 4096 := ⟨1024 * t.val + r, by have := (idx t).1; omega⟩

theorem h_at (r : Fin 4096) (k : Fin 1024) : V m c main_v0 (ix2 r k) = aH m c r k := by
  unfold V
  after_reads_at
  rfl

theorem w_at (q : Fin 1280) (k : Fin 1024) : V m c main_v2 (ix2 q k) = aW m c k q := by
  unfold V aW
  after_reads_at

theorem blk0_at (t : Fin cfg0.N) (r : Fin 1024) (k : Fin 1024) : iblk m c 0 t (ix2 r k) = aH m c (row t r) k := by
  rw [← h_at]
  blk_ext [iblk, idx t, row]

theorem blk1_at (t : Fin cfg0.N) (q : Fin 1280) (k : Fin 1024) : iblk m c 1 t (ix2 q k) = aW m c k q := by
  rw [← w_at]
  blk_ext [iblk, idx t]

theorem pay_at (x0 : FVec Ideal S1024x1024 .bf16) (x1 : FVec Ideal S1280x1024 .bf16) (r : Fin 1024) (q : Fin 1280) :
    k0_pay1 (F := Ideal) x0 x1 (ix2 r q) = ∑ k : Fin 1024, x0 (ix2 r k) * x1 (ix2 q k) := by
  pointwise [k0_pay1]

theorem final : (dats m 0 c).arrAt 2 cfg0.N = proj m c := by
  refine (dats m 0 c).arrAt_eq_of_covers 2 _ (by decide +kernel) fun t hf y => ?_
  obtain ⟨r, q, rfl⟩ : ∃ r : Fin 1024, ∃ q : Fin 1280, y = ix2 r q := ⟨y 0, y 1, eq_ix2 y⟩
  have e : (win0_2.blk t).view.emb (ix2 r q) = ix2 (row t r) q := by blk_ext [idx t, row]
  blk_simp
  rw [e, after0_2]
  unfold out0_2
  frame_out
  exact (pay_at _ _ r q).trans (Finset.sum_congr rfl fun k _ => Ideal.mul_congr (blk0_at m c t r k) (blk1_at m c t q k))

end Cert.MixInIdeal.Proj

namespace Cert.MixProj

open Idealize.ShloMosaic Idealize.ShloMosaic.TcCoe Idealize.ShloMosaic.Tactic Idealize.SL.Sem
open Cert.MixInIdeal.Proj

theorem ref_frame : Cert.quiescent_MixInRefIdeal (hMixInRefIdeal := Cert.MixInRefIdeal.Gen.facts) := fun m ρ _ =>
  (θ_run _ _ _).mono (fun r h => ⟨fun c => (h c).2, sem_eq_zero_of_no_sems (by decide) _⟩) (Cert.MixInRefIdeal.Value.run m ρ)

theorem value : Cert.algebraic_MixInIdeal_MixInRefIdeal (hMixInIdeal := Cert.MixInIdeal.Gen.facts)
    (hMixInRefIdeal := Cert.MixInRefIdeal.Gen.facts) := by
  intro m g m' g' _ hargs
  refine ⟨fun c => proj m c, ?_, ?_⟩
  · refine (θ_run _ _ _).mono (fun r h c => ?_) (Cert.MixInIdeal.Value.run_blocks m g)
    exact ⟨(h c).1.trans (final m c), (h c).2⟩
  · refine (θ_run _ _ _).mono (fun r h c => ⟨(h c).1.trans ?_, (h c).2⟩) (Cert.MixInRefIdeal.Value.run m' g')
    obtain ⟨e0, e1⟩ := hargs c
    rw [e0, e1]
    funext y
    obtain ⟨r, q, rfl⟩ : ∃ r : Fin 4096, ∃ q : Fin 1280, y = ix2 r q := ⟨y 0, y 1, eq_ix2 y⟩
    unfold proj aH aW
    pointwise []

end Cert.MixProj

end
-- ==== Proof.MixInNorm.lean ====
/- The gradient through the norm, the first mixer's input projection and the residual: the product's row, the norm's gradient, and the sum over the rows kept between the points. -/
module

public import proofs.«01_k».proof.Proof.Gen.MixInDxIdeal.Value
public import proofs.«01_k».proof.Proof.Gen.MixInDxRefIdeal.Run
public import proofs.«01_k».proof.Proof.Gen.MixInDxIdeal
public import proofs.«01_k».proof.Proof.Gen.MixInDxRefIdeal
public import proofs.«01_k».proof.Defs
public import proofs.«01_k».proof.Proof.NormGrad
public import Idealize.ShloMosaic.Lib.Pipeline.ValueKit
public import Idealize.ShloMosaic.Lib.StableHlo.ReadAt
public import Idealize.ShloMosaic.Lib.Quiescent

@[expose] public section

set_option maxRecDepth 16384

noncomputable section

namespace Cert.MixInDxIdeal.Grad

open Cert.MixInDxIdeal Cert.MixInDxIdeal.Gen Idealize.ShloMosaic Idealize.ShloMosaic.TcCoe Idealize.ShloMosaic.Tactic Idealize.SL.Sem

section
variable {F : FTy → Type} [FloatOps F]

/-- The one entry of the token the call reads. -/
def tok (x5 : Vec F S8x128 .f32) : Vec F S1x1 .f32 := View.ld x5 (Rect.unit ![0, 0] ![1, 1] inb_S8x128_S1x1_0_0)

theorem tok_at (x5 : Vec F S8x128 .f32) : tok x5 (ix2 0 0) = x5 (ix2 0 0) := by
  unfold tok
  exact View.ld_unit_apply_of _ _ _ _ _ _ (Fin.forall_fin_two.2 ⟨rfl, rfl⟩)

theorem dxOf_A (c : Dev nD) (i : grid0.Coords) (arg3 : Memref sig .tc .vmem S1024x1280 .bf16) (harg3 : arg3.IsWhole) (arg4 : Memref sig .tc .vmem S1280x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S8x128 .f32) (harg8 : arg8.IsWhole) (arg9 : Memref sig .tc .vmem S1024x1024 .f32) (harg9 : arg9.IsWhole) (arg10 : Memref sig .tc .vmem S1x1024 .f32) (harg10 : arg10.IsWhole) (hc0 : cond0_0 i) (hc1 : ¬cond0_1 i)
    (x0 : Vec F S1024x1280 .bf16) (x1 : Vec F S1280x1024 .bf16) (x2 : Vec F S1024x1024 .f32) (x3 : Vec F S1x1024 .f32) (x4 : Vec F S1024x1024 .f32) (x5 : Vec F S8x128 .f32) :
    out0_A_6 c i arg3 harg3 arg4 harg4 arg5 harg5 arg6 harg6 arg7 harg7 arg8 harg8 arg9 harg9 arg10 harg10 hc0 hc1 x0 x1 x2 x3 x4 x5 = k0_pay6 x0 x1 x2 x3 x4 (tok x5) := by
  frame_out
  rfl

theorem dxOf_B (c : Dev nD) (i : grid0.Coords) (arg3 : Memref sig .tc .vmem S1024x1280 .bf16) (harg3 : arg3.IsWhole) (arg4 : Memref sig .tc .vmem S1280x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S8x128 .f32) (harg8 : arg8.IsWhole) (arg9 : Memref sig .tc .vmem S1024x1024 .f32) (harg9 : arg9.IsWhole) (arg10 : Memref sig .tc .vmem S1x1024 .f32) (harg10 : arg10.IsWhole) (hc0 : ¬cond0_0 i) (hc1 : cond0_1 i)
    (x0 : Vec F S1024x1280 .bf16) (x1 : Vec F S1280x1024 .bf16) (x2 : Vec F S1024x1024 .f32) (x3 : Vec F S1x1024 .f32) (x4 : Vec F S1024x1024 .f32) (x5 : Vec F S8x128 .f32) (xo7 : Vec F S1x1024 .f32) :
    out0_B_6 c i arg3 harg3 arg4 harg4 arg5 harg5 arg6 harg6 arg7 harg7 arg8 harg8 arg9 harg9 arg10 harg10 hc0 hc1 x0 x1 x2 x3 x4 x5 xo7 = k0_pay6 x0 x1 x2 x3 x4 (tok x5) := by
  frame_out
  rfl

theorem dwOf_A (c : Dev nD) (i : grid0.Coords) (arg3 : Memref sig .tc .vmem S1024x1280 .bf16) (harg3 : arg3.IsWhole) (arg4 : Memref sig .tc .vmem S1280x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S8x128 .f32) (harg8 : arg8.IsWhole) (arg9 : Memref sig .tc .vmem S1024x1024 .f32) (harg9 : arg9.IsWhole) (arg10 : Memref sig .tc .vmem S1x1024 .f32) (harg10 : arg10.IsWhole) (hc0 : cond0_0 i) (hc1 : ¬cond0_1 i)
    (x0 : Vec F S1024x1280 .bf16) (x1 : Vec F S1280x1024 .bf16) (x2 : Vec F S1024x1024 .f32) (x3 : Vec F S1x1024 .f32) (x4 : Vec F S1024x1024 .f32) (x5 : Vec F S8x128 .f32) :
    out0_A_7 c i arg3 harg3 arg4 harg4 arg5 harg5 arg6 harg6 arg7 harg7 arg8 harg8 arg9 harg9 arg10 harg10 hc0 hc1 x0 x1 x2 x3 x4 x5 = k0_pay1 (k0_pay3 x0 x1) (k0_pay5 x2) := by
  frame_out

theorem dwOf_B (c : Dev nD) (i : grid0.Coords) (arg3 : Memref sig .tc .vmem S1024x1280 .bf16) (harg3 : arg3.IsWhole) (arg4 : Memref sig .tc .vmem S1280x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S8x128 .f32) (harg8 : arg8.IsWhole) (arg9 : Memref sig .tc .vmem S1024x1024 .f32) (harg9 : arg9.IsWhole) (arg10 : Memref sig .tc .vmem S1x1024 .f32) (harg10 : arg10.IsWhole) (hc0 : ¬cond0_0 i) (hc1 : cond0_1 i)
    (x0 : Vec F S1024x1280 .bf16) (x1 : Vec F S1280x1024 .bf16) (x2 : Vec F S1024x1024 .f32) (x3 : Vec F S1x1024 .f32) (x4 : Vec F S1024x1024 .f32) (x5 : Vec F S8x128 .f32) (xo7 : Vec F S1x1024 .f32) :
    out0_B_7 c i arg3 harg3 arg4 harg4 arg5 harg5 arg6 harg6 arg7 harg7 arg8 harg8 arg9 harg9 arg10 harg10 hc0 hc1 x0 x1 x2 x3 x4 x5 xo7 = k0_pay2 (k0_pay3 x0 x1) (k0_pay5 x2) xo7 := by
  frame_out

end

theorem pay3_at (x0 : FVec Ideal S1024x1280 .bf16) (x1 : FVec Ideal S1280x1024 .bf16) (r : Fin 1024) (k : Fin 1024) :
    k0_pay3 (F := Ideal) x0 x1 (ix2 r k) = ∑ l : Fin 1280, x0 (ix2 r l) * x1 (ix2 l k) := by
  pointwise [k0_pay3]

theorem pay5_at (x2 : FVec Ideal S1024x1024 .f32) (r : Fin 1024) (k : Fin 1024) :
    k0_pay5 (F := Ideal) x2 (ix2 r k) = x2 (ix2 r k) * FfnBack.rstd (fun j => x2 (ix2 r j)) := by
  pointwise [k0_pay5, k0_pay4]
  rfl

theorem pay6_at (x0 : FVec Ideal S1024x1280 .bf16) (x1 : FVec Ideal S1280x1024 .bf16) (x2 : FVec Ideal S1024x1024 .f32)
    (x3 : FVec Ideal S1x1024 .f32) (x4 : FVec Ideal S1024x1024 .f32) (x5 : FVec Ideal S8x128 .f32) (r : Fin 1024) (k : Fin 1024) :
    k0_pay6 (F := Ideal) x0 x1 x2 x3 x4 (tok x5) (ix2 r k)
      = FfnBack.dnorm (fun j => x2 (ix2 r j)) (fun j => k0_pay3 (F := Ideal) x0 x1 (ix2 r j) * x3 (ix2 0 j)) (x4 (ix2 r k) + x5 (ix2 0 0)) k := by
  pointwise [k0_pay6, k0_pay5, k0_pay4, tok_at]
  rfl

theorem pay1_at (v4 v15 : FVec Ideal S1024x1024 .f32) (z : Fin 1) (k : Fin 1024) :
    k0_pay1 (F := Ideal) v4 v15 (ix2 z k) = ∑ r : Fin 1024, v4 (ix2 r k) * v15 (ix2 r k) := by
  pointwise [k0_pay1]

theorem pay2_at (v4 v15 : FVec Ideal S1024x1024 .f32) (v : FVec Ideal S1x1024 .f32) (z : Fin 1) (k : Fin 1024) :
    k0_pay2 (F := Ideal) v4 v15 v (ix2 z k) = v (ix2 z k) + k0_pay1 (F := Ideal) v4 v15 (ix2 z k) := by
  pointwise [k0_pay2]

variable (m : (ℓ : Loc nD τ sig) → Buf (Elt Ideal) ℓ) (c : Dev nD)

/-- The arguments as functions of row and column. -/
def aX (R : Fin 4096) (k : Fin 1024) : EReal := m (c.tc.loc main_arg0) (ix2 R k)
def aN (k : Fin 1024) : EReal := m (c.tc.loc main_arg1) (ix1 k)
def aU (k : Fin 1024) (l : Fin 1280) : EReal := m (c.tc.loc main_arg2) (ix2 k l)
def aG (R : Fin 4096) (l : Fin 1280) : EReal := m (c.tc.loc main_arg3) (ix2 R l)
def aC (R : Fin 4096) (k : Fin 1024) : EReal := m (c.tc.loc main_arg4) (ix2 R k)

/-- The gradient of the normed row. -/
def dh (R : Fin 4096) (k : Fin 1024) : EReal := ∑ l : Fin 1280, aG m c R l * aU m c k l

/-- The arrays the call writes. -/
def arrX : FVec Ideal S4096x1024 .f32 := fun i => FfnBack.dnorm (aX m c (i 0)) (fun k => dh m c (i 0) k * aN m c k) (aC m c (i 0) (i 1)) (i 1)
def arrN : FVec Ideal S1x1024 .f32 := fun i => ∑ R : Fin 4096, dh m c R (i 1) * (aX m c R (i 1) * FfnBack.rstd (aX m c R))

theorem hN : cfg0.N = 4 := N_0

theorem idx : ∀ t : Fin cfg0.N, t.val < 4 ∧ win0_0.index t = ![t.val, 0] ∧ win0_1.index t = ![0, 0] ∧
    win0_2.index t = ![t.val, 0] ∧ win0_3.index t = ![0, 0] ∧ win0_4.index t = ![t.val, 0] ∧ win0_5.index t = ![0, 0] ∧
    win0_6.index t = ![t.val, 0] ∧ win0_7.index t = ![0, 0] :=
  (by decide +kernel : ∀ t : Fin grid0.N, _)

def row (t : Fin cfg0.N) (r : Fin 1024) : Fin 4096 := ⟨1024 * t.val + r, by have := (idx t).1; omega⟩

theorem g_at (r : Fin 4096) (l : Fin 1280) : V m c main_v0 (ix2 r l) = aG m c r l := by
  unfold V
  after_reads_at
  rfl

theorem u_at (l : Fin 1280) (k : Fin 1024) : V m c main_v2 (ix2 l k) = aU m c k l := by
  unfold V aU
  after_reads_at

theorem x_at (r : Fin 4096) (k : Fin 1024) : V m c main_arg0 (ix2 r k) = aX m c r k := by
  rw [V_main_arg0]; rfl

theorem n_at (z : Fin 1) (k : Fin 1024) : V m c main_v4 (ix2 z k) = aN m c k := by
  obtain rfl : z = 0 := Subsingleton.elim _ _
  unfold V aN
  after_reads_at

theorem c_at (r : Fin 4096) (k : Fin 1024) : V m c main_arg4 (ix2 r k) = aC m c r k := by
  rw [V_main_arg4]; rfl

theorem tok0_at (r : Fin 8) (k : Fin 128) : V m c main_v3 (ix2 r k) = (0 : EReal) := by
  unfold V
  after_reads_at

theorem iblk0_at (t : Fin cfg0.N) (r : Fin 1024) (l : Fin 1280) : iblk m c 0 t (ix2 r l) = aG m c (row t r) l := by
  rw [← g_at]
  blk_ext [iblk, idx t, row]

theorem iblk1_at (t : Fin cfg0.N) (l : Fin 1280) (k : Fin 1024) : iblk m c 1 t (ix2 l k) = aU m c k l := by
  rw [← u_at]
  blk_ext [iblk, idx t]

theorem iblk2_at (t : Fin cfg0.N) (r : Fin 1024) (k : Fin 1024) : iblk m c 2 t (ix2 r k) = aX m c (row t r) k := by
  rw [← x_at]
  blk_ext [iblk, idx t, row]

theorem iblk3_at (t : Fin cfg0.N) (k : Fin 1024) : iblk m c 3 t (ix2 0 k) = aN m c k := by
  rw [← n_at m c 0]
  blk_ext [iblk, idx t]

theorem iblk4_at (t : Fin cfg0.N) (r : Fin 1024) (k : Fin 1024) : iblk m c 4 t (ix2 r k) = aC m c (row t r) k := by
  rw [← c_at]
  blk_ext [iblk, idx t, row]

theorem iblk5_at (t : Fin cfg0.N) (r : Fin 8) (k : Fin 128) : iblk m c 5 t (ix2 r k) = (0 : EReal) := by
  rw [← tok0_at m c r k]
  blk_ext [iblk, idx t]

theorem dh_at (t : Fin cfg0.N) (r : Fin 1024) (k : Fin 1024) :
    k0_pay3 (F := Ideal) (iblk m c 0 t) (iblk m c 1 t) (ix2 r k) = dh m c (row t r) k := by
  exact (pay3_at _ _ r k).trans (Finset.sum_congr rfl fun l _ => Ideal.mul_congr (iblk0_at m c t r l) (iblk1_at m c t l k))

theorem row_at (t : Fin cfg0.N) (r : Fin 1024) : (fun j : Fin 1024 => iblk m c 2 t (ix2 r j)) = aX m c (row t r) :=
  funext fun j => iblk2_at m c t r j

theorem xh_at (t : Fin cfg0.N) (r : Fin 1024) (k : Fin 1024) :
    k0_pay5 (F := Ideal) (iblk m c 2 t) (ix2 r k) = aX m c (row t r) k * FfnBack.rstd (aX m c (row t r)) :=
  (pay5_at _ r k).trans (Ideal.mul_congr (iblk2_at m c t r k) (congrArg FfnBack.rstd (row_at m c t r)))

theorem dx_at (t : Fin cfg0.N) (r : Fin 1024) (k : Fin 1024) :
    k0_pay6 (F := Ideal) (iblk m c 0 t) (iblk m c 1 t) (iblk m c 2 t) (iblk m c 3 t) (iblk m c 4 t) (tok (iblk m c 5 t)) (ix2 r k)
      = FfnBack.dnorm (aX m c (row t r)) (fun k => dh m c (row t r) k * aN m c k) (aC m c (row t r) k) k := by
  refine (pay6_at _ _ _ _ _ _ r k).trans ?_
  have e1 : (fun j : Fin 1024 => k0_pay3 (F := Ideal) (iblk m c 0 t) (iblk m c 1 t) (ix2 r j) * (iblk m c 3 t (ix2 0 j) : EReal))
      = fun k => dh m c (row t r) k * aN m c k := funext fun j => Ideal.mul_congr (dh_at m c t r j) (iblk3_at m c t j)
  have e2 : (show EReal from iblk m c 4 t (ix2 r k)) + (show EReal from iblk m c 5 t (ix2 0 0)) = aC m c (row t r) k :=
    (Ideal.add_congr (iblk4_at m c t r k) (iblk5_at m c t 0 0)).trans (add_zero _)
  exact (congr (congr (congrArg₂ FfnBack.dnorm (row_at m c t r) e1) e2) rfl)

/-- One block of rows' part of the gradient of the norm's weights. -/
theorem dw_at (t : Fin cfg0.N) (z : Fin 1) (k : Fin 1024) :
    k0_pay1 (F := Ideal) (k0_pay3 (iblk m c 0 t) (iblk m c 1 t)) (k0_pay5 (iblk m c 2 t)) (ix2 z k)
      = ∑ r : Fin 1024, dh m c (row t r) k * (aX m c (row t r) k * FfnBack.rstd (aX m c (row t r))) :=
  (pay1_at _ _ z k).trans (Finset.sum_congr rfl fun r _ => Ideal.mul_congr (dh_at m c t r k) (xh_at m c t r k))

theorem left_dx (t : Fin cfg0.N) :
    (outsAt0 m c t.val t.isLt).1 = k0_pay6 (F := Ideal) (iblk m c 0 t) (iblk m c 1 t) (iblk m c 2 t) (iblk m c 3 t) (iblk m c 4 t) (tok (iblk m c 5 t)) := by
  have ht := (idx t).1
  by_cases h : t.val % 4 = 0
  · rw [outsAt0_A m c t h (by omega)]
    dsimp only
    rw [dxOf_A]
  · rw [outsAt0_B m c t h (by omega)]
    dsimp only
    rw [dxOf_B]

theorem left_dw_A (t : Fin cfg0.N) (h : t.val % 4 = 0) :
    (outsAt0 m c t.val t.isLt).2 = k0_pay1 (F := Ideal) (k0_pay3 (iblk m c 0 t) (iblk m c 1 t)) (k0_pay5 (iblk m c 2 t)) := by
  have ht := (idx t).1
  rw [outsAt0_A m c t h (by omega)]
  dsimp only
  rw [dwOf_A]

theorem left_dw_B (t : Fin cfg0.N) (h : ¬t.val % 4 = 0) (z : Fin 1) (k : Fin 1024) :
    (outsAt0 m c t.val t.isLt).2 (ix2 z k) = (outsAt0 m c (t.val - 1) (Nat.lt_of_le_of_lt (Nat.sub_le _ _) t.isLt)).2 (ix2 z k)
      + k0_pay1 (F := Ideal) (k0_pay3 (iblk m c 0 t) (iblk m c 1 t)) (k0_pay5 (iblk m c 2 t)) (ix2 z k) := by
  rw [outsAt0_B m c t h (by omega)]
  dsimp only
  rw [dwOf_B]
  exact pay2_at _ _ _ z k

theorem final_dx : (dats m 0 c).arrAt 6 cfg0.N = arrX m c := by
  refine (dats m 0 c).arrAt_eq_of_covers 6 _ (by decide +kernel) fun t hf y => ?_
  obtain ⟨r, k, rfl⟩ : ∃ r : Fin 1024, ∃ k : Fin 1024, y = ix2 r k := ⟨y 0, y 1, eq_ix2 y⟩
  have e : (win0_6.blk t).view.emb (ix2 r k) = ix2 (row t r) k := by blk_ext [idx t, row]
  blk_simp
  rw [e, after0_6, left_dx]
  exact dx_at m c t r k

/-- The blocks of rows are all the rows. -/
theorem sum_rows (j : ℕ) (hj : j < 1) (f : Fin 4096 → EReal) :
    (∑ s : Fin 4, ∑ r : Fin 1024, f (row ⟨4 * j + s, by have := hN; omega⟩ r)) = ∑ R : Fin 4096, f R := by
  rw [Fin.sum_univ_tiles 4 1024 rfl f]
  refine Finset.sum_congr rfl fun s _ => Finset.sum_congr rfl fun r _ => ?_
  refine congrArg f (Fin.ext ?_)
  simp only [row]
  omega

theorem final_dw : (dats m 0 c).arrAt 7 cfg0.N = arrN m c := by
  refine (dats m 0 c).arrAt_eq_of_covers 7 _ (by decide +kernel) fun t hf y => ?_
  obtain ⟨z, k, rfl⟩ : ∃ z : Fin 1, ∃ k : Fin 1024, y = ix2 z k := ⟨y 0, y 1, eq_ix2 y⟩
  have e : (win0_7.blk t).view.emb (ix2 z k) = ix2 z k := by blk_ext [idx t]
  have ht := (idx t).1
  blk_simp
  rw [e]
  rw [after0_7, Pipeline.eq_sum_fin_of_reset_step_apply_of_flush (fun n h => (outsAt0 m c n h).2) 4 (fun _ => 0)
    (fun p j => k0_pay1 (F := Ideal) (k0_pay3 (iblk m c 0 p) (iblk m c 1 p)) (k0_pay5 (iblk m c 2 p)) j)
    (fun t h j => by rw [left_dw_A m c t h, zero_add]) (fun t h j => by rw [eq_ix2 j]; exact left_dw_B m c t h _ _)
    t ((flush0_7 t).mp hf) _, zero_add]
  exact Eq.trans (Fin.sum_fin_congr fun s => dw_at m c _ z k) (sum_rows (t.val / 4) (by omega) (fun R => dh m c R k * (aX m c R k * FfnBack.rstd (aX m c R))))

end Cert.MixInDxIdeal.Grad

namespace Cert.MixInNorm

open Idealize.ShloMosaic Idealize.ShloMosaic.TcCoe Idealize.ShloMosaic.Tactic Idealize.SL.Sem FfnBack
open Cert.MixInDxIdeal.Grad

theorem ref_frame : Cert.quiescent_MixInDxRefIdeal (hMixInDxRefIdeal := Cert.MixInDxRefIdeal.Gen.facts) := fun m ρ _ =>
  (θ_run _ _ _).mono (fun r h => ⟨fun c => (h c).2.2, sem_eq_zero_of_no_sems (by decide) _⟩) (Cert.MixInDxRefIdeal.Value.run m ρ)

theorem value : Cert.algebraic_MixInDxIdeal_MixInDxRefIdeal (hMixInDxIdeal := Cert.MixInDxIdeal.Gen.facts)
    (hMixInDxRefIdeal := Cert.MixInDxRefIdeal.Gen.facts) := by
  intro m g m' g' _ hargs
  refine ⟨fun c => arrX m c, fun c => arrN m c, ?_, ?_⟩
  · refine (θ_run _ _ _).mono (fun r h c => ?_) (Cert.MixInDxIdeal.Value.run_blocks m g)
    exact ⟨(h c).1.trans (final_dx m c), (h c).2.1.trans (final_dw m c), (h c).2.2⟩
  · refine (θ_run _ _ _).mono (fun r h c => ?_) (Cert.MixInDxRefIdeal.Value.run m' g')
    obtain ⟨h1, h2, h3⟩ := h c
    obtain ⟨e0, e1, e2, e3, e4⟩ := hargs c
    refine ⟨h1.trans ?_, h2.trans ?_, h3⟩
    · unfold Cert.MixInDxRefIdeal.Value.res_main_v38
      rw [e0, e1, e2, e3, e4]
      funext y
      obtain ⟨r, k, rfl⟩ : ∃ r : Fin 4096, ∃ k : Fin 1024, y = ix2 r k := ⟨y 0, y 1, eq_ix2 y⟩
      refine Eq.trans ?_ (dnorm_eq (aX m c r) (fun k => dh m c r k * aN m c k) (aC m c r k) k)
      unfold dmean rstd mhalf cols eps dh aX aN aU aG aC
      pointwise []
      rw [Fin.sum_univ_one]
    · rw [e0, e2, e3]
      funext y
      obtain ⟨z, k, rfl⟩ : ∃ z : Fin 1, ∃ k : Fin 1024, y = ix2 z k := ⟨y 0, y 1, eq_ix2 y⟩
      unfold arrN rstd cols eps dh aX aU aG
      pointwise []
      rw [Fin.sum_univ_one]
      exact Finset.sum_congr rfl fun R _ => mul_comm _ _

end Cert.MixInNorm

end
-- ==== Proof.MixInWeight.lean ====
/- The gradient of the weight of the first mixer's input projection: the product over the rows in two halves, the first kept between the points. -/
module

public import proofs.«01_k».proof.Proof.Gen.MixInDwIdeal.Value
public import proofs.«01_k».proof.Proof.Gen.MixInDwRefIdeal.Run
public import proofs.«01_k».proof.Proof.Gen.MixInDwIdeal
public import proofs.«01_k».proof.Proof.Gen.MixInDwRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.MixInDwIdeal.Grad

open Cert.MixInDwIdeal Cert.MixInDwIdeal.Gen Idealize.ShloMosaic Idealize.ShloMosaic.TcCoe Idealize.ShloMosaic.Tactic Idealize.SL.Sem

section
variable {F : FTy → Type} [FloatOps F]

theorem keptOf_A (c : Dev nD) (i : grid0.Coords) (arg3 : Memref sig .tc .vmem S2048x1280 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : cond0_0 i) (hc1 : ¬cond0_1 i)
    (x0 : Vec F S2048x1280 .bf16) (x1 : Vec F S2048x1024 .bf16) :
    sout0_A_0 c i arg3 harg3 arg4 harg4 arg5 harg5 arg6 harg6 hc0 hc1 x0 x1 = k0_pay1 x0 x1 := by
  frame_out

theorem outOf_B (c : Dev nD) (i : grid0.Coords) (arg3 : Memref sig .tc .vmem S2048x1280 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond0_0 i) (hc1 : cond0_1 i)
    (x0 : Vec F S2048x1280 .bf16) (x1 : Vec F S2048x1024 .bf16) (xs0 : Vec F S1280x1024 .f32) :
    out0_B_2 c i arg3 harg3 arg4 harg4 arg5 harg5 arg6 harg6 hc0 hc1 x0 x1 xs0 = k0_pay2 xs0 x0 x1 := by
  frame_out

end

variable (m : (ℓ : Loc nD τ sig) → Buf (Elt Ideal) ℓ) (c : Dev nD)

/-- The arguments as functions of row and column. -/
def aA (R : Fin 4096) (q : Fin 1280) : EReal := m (c.tc.loc main_arg1) (ix2 R q)
def aC (R : Fin 4096) (k : Fin 1024) : EReal := m (c.tc.loc main_arg0) (ix2 R k)

/-- The gradient. -/
def grad : FVec Ideal S1280x1024 .bf16 := fun i => ∑ R : Fin 4096, aA m c R (i 0) * aC m c R (i 1)

theorem idx : ∀ t : Fin cfg0.N, t.val < 2 ∧ win0_0.index t = ![t.val % 2, 0] ∧ win0_1.index t = ![t.val % 2, 0] ∧
    win0_2.index t = ![0, 0] :=
  (by decide +kernel : ∀ t : Fin grid0.N, _)

def row (t : Fin cfg0.N) (r : Fin 2048) : Fin 4096 := ⟨2048 * (t.val % 2) + r, by omega⟩

theorem act_at (r : Fin 4096) (q : Fin 1280) : V m c main_v0 (ix2 r q) = aA m c r q := by
  unfold V
  after_reads_at
  rfl

theorem ct_at (r : Fin 4096) (k : Fin 1024) : V m c main_v1 (ix2 r k) = aC m c r k := by
  unfold V
  after_reads_at
  rfl

theorem iblk0_at (t : Fin cfg0.N) (r : Fin 2048) (q : Fin 1280) : iblk m c 0 t (ix2 r q) = aA m c (row t r) q := by
  rw [← act_at]
  blk_ext [iblk, idx t, row]

theorem iblk1_at (t : Fin cfg0.N) (r : Fin 2048) (k : Fin 1024) : iblk m c 1 t (ix2 r k) = aC m c (row t r) k := by
  rw [← ct_at]
  blk_ext [iblk, idx t, row]

theorem pay1_at (x0 : FVec Ideal S2048x1280 .bf16) (x1 : FVec Ideal S2048x1024 .bf16) (q : Fin 1280) (k : Fin 1024) :
    k0_pay1 (F := Ideal) x0 x1 (ix2 q k) = ∑ r : Fin 2048, x0 (ix2 r q) * x1 (ix2 r k) := by
  pointwise [k0_pay1]

theorem pay2_at (xs : FVec Ideal S1280x1024 .f32) (x0 : FVec Ideal S2048x1280 .bf16) (x1 : FVec Ideal S2048x1024 .bf16) (q : Fin 1280) (k : Fin 1024) :
    k0_pay2 (F := Ideal) xs x0 x1 (ix2 q k) = xs (ix2 q k) + k0_pay1 (F := Ideal) x0 x1 (ix2 q k) := by
  pointwise [k0_pay2, k0_pay1]

/-- One half of the rows' part of the gradient. -/
theorem half_at (t : Fin cfg0.N) (q : Fin 1280) (k : Fin 1024) :
    k0_pay1 (F := Ideal) (iblk m c 0 t) (iblk m c 1 t) (ix2 q k) = ∑ r : Fin 2048, aA m c (row t r) q * aC m c (row t r) k :=
  (pay1_at _ _ q k).trans (Finset.sum_congr rfl fun r _ => Ideal.mul_congr (iblk0_at m c t r q) (iblk1_at m c t r k))

theorem left_at (t : Fin cfg0.N) (h : t.val % 2 = 1) (q : Fin 1280) (k : Fin 1024) :
    (outsAt0 m c t.val t.isLt).1 (ix2 q k) = ∑ R : Fin 4096, aA m c R q * aC m c R k := by
  have ht := (idx t).1
  have hp : t.val - 1 < cfg0.N := by have := t.isLt; omega
  rw [outsAt0_B m c t (by omega) h, outsAt0_A m c ⟨t.val - 1, hp⟩ (by simp only []; omega) (by simp only []; omega)]
  dsimp only
  rw [outOf_B, keptOf_A]
  refine (pay2_at _ _ _ q k).trans ?_
  rw [Fin.sum_univ_tiles 2 2048 rfl, Fin.sum_univ_two]
  refine Ideal.add_congr ((half_at m c _ q k).trans ?_) ((half_at m c t q k).trans ?_)
  · refine Finset.sum_congr rfl fun r _ => ?_
    have e1 : row ⟨t.val - 1, hp⟩ r = ⟨2048 * ((0 : Fin 2) : ℕ) + r, by simp; omega⟩ := Fin.ext (by simp only [row]; simp; omega)
    rw [e1]
    rfl
  · refine Finset.sum_congr rfl fun r _ => ?_
    have e1 : row t r = ⟨2048 * ((1 : Fin 2) : ℕ) + r, by simp; omega⟩ := Fin.ext (by simp only [row]; simp; omega)
    rw [e1]
    rfl

theorem final : (dats m 0 c).arrAt 2 cfg0.N = grad m c := by
  refine (dats m 0 c).arrAt_eq_of_covers 2 _ (by decide +kernel) fun t hf y => ?_
  obtain ⟨r, l, rfl⟩ : ∃ r : Fin 1280, ∃ l : Fin 1024, y = ix2 r l := ⟨y 0, y 1, eq_ix2 y⟩
  have e : (win0_2.blk t).view.emb (ix2 r l) = ix2 r l := by blk_ext [idx t]
  blk_simp
  rw [e, after0_2]
  exact left_at m c t ((flush0_2 t).mp hf) r l

end Cert.MixInDwIdeal.Grad

namespace Cert.MixInWeight

open Idealize.ShloMosaic Idealize.ShloMosaic.TcCoe Idealize.ShloMosaic.Tactic Idealize.SL.Sem

theorem ref_frame : Cert.quiescent_MixInDwRefIdeal (hMixInDwRefIdeal := Cert.MixInDwRefIdeal.Gen.facts) := fun m ρ _ =>
  (θ_run _ _ _).mono (fun r h => ⟨fun c => (h c).2, sem_eq_zero_of_no_sems (by decide) _⟩) (Cert.MixInDwRefIdeal.Value.run m ρ)

theorem value : Cert.algebraic_MixInDwIdeal_MixInDwRefIdeal (hMixInDwIdeal := Cert.MixInDwIdeal.Gen.facts)
    (hMixInDwRefIdeal := Cert.MixInDwRefIdeal.Gen.facts) := by
  intro m g m' g' _ hargs
  refine ⟨fun c => Cert.MixInDwIdeal.Grad.grad m c, ?_, ?_⟩
  · refine (θ_run _ _ _).mono (fun r h c => ?_) (Cert.MixInDwIdeal.Value.run_blocks m g)
    exact ⟨(h c).1.trans (Cert.MixInDwIdeal.Grad.final m c), (h c).2⟩
  · refine (θ_run _ _ _).mono (fun r h c => ⟨(h c).1.trans ?_, (h c).2⟩) (Cert.MixInDwRefIdeal.Value.run m' g')
    obtain ⟨e0, e1⟩ := hargs c
    rw [e0, e1]
    funext y
    obtain ⟨q, k, rfl⟩ : ∃ q : Fin 1280, ∃ k : Fin 1024, y = ix2 q k := ⟨y 0, y 1, eq_ix2 y⟩
    unfold Cert.MixInDwIdeal.Grad.grad Cert.MixInDwIdeal.Grad.aA Cert.MixInDwIdeal.Grad.aC
    pointwise []

end Cert.MixInWeight

end
-- ==== Proof.PoolSums.lean ====
/- Sums over a trailing window of rows: the difference of two running sums, and a sum doubled by shifting it against itself. -/
module

public import proofs.«01_k».proof.Proof.Finite
public import Idealize.ShloMosaic.Lib.WordArith

@[expose] public section

set_option maxRecDepth 16384

noncomputable section

namespace FfnBack

open Idealize.ShloMosaic

/-- A column, zero past its end. -/
def ext {n : ℕ} (f : Fin n → EReal) (k : ℕ) : EReal := if h : k < n then f ⟨k, h⟩ else 0

theorem ext_of_lt {n : ℕ} (f : Fin n → EReal) (k : Fin n) : ext f k = f k := dif_pos k.isLt

/-- The sum of the `w` entries that end at `R`; there are none before the first. -/
def trail (f : ℕ → EReal) (w R : ℕ) : EReal := ∑ j ∈ Finset.range w, if j ≤ R then f (R - j) else 0

theorem real_trail (g : ℕ → ℝ) (R w : ℕ) :
    ∑ k ∈ Finset.range (R + 1), g k
      = (∑ j ∈ Finset.range w, if j ≤ R then g (R - j) else 0) + ∑ k ∈ Finset.range (R + 1 - w), g k := by
  induction w with
  | zero => simp
  | succ w ih =>
    rw [ih, Finset.sum_range_succ, add_assoc]
    congr 1
    by_cases h : w ≤ R
    · rw [if_pos h, show R + 1 - w = (R + 1 - (w + 1)) + 1 from by omega, Finset.sum_range_succ, add_comm,
        show R + 1 - (w + 1) = R - w from by omega]
    · rw [if_neg h, show R + 1 - w = 0 from by omega, show R + 1 - (w + 1) = 0 from by omega]
      simp

/-- The difference of two running sums of reals is the sum between them. -/
theorem run_sub (f : ℕ → EReal) (hf : ∀ k, Real? (f k)) (R w : ℕ) :
    (∑ k ∈ Finset.range (R + 1), f k) - (∑ k ∈ Finset.range (R + 1 - w), f k) = trail f w R := by
  choose g hg using hf
  obtain rfl : f = fun k => ((g k : ℝ) : EReal) := funext hg
  have hs : ∀ n : ℕ, (∑ k ∈ Finset.range n, ((g k : ℝ) : EReal)) = ((∑ k ∈ Finset.range n, g k : ℝ) : EReal) :=
    fun n => (map_sum (⟨⟨Real.toEReal, rfl⟩, EReal.coe_add⟩ : ℝ →+ EReal) _ _).symm
  have ht : trail (fun k => ((g k : ℝ) : EReal)) w R = ((∑ j ∈ Finset.range w, if j ≤ R then g (R - j) else 0 : ℝ) : EReal) := by
    refine Eq.trans ?_ (map_sum (⟨⟨Real.toEReal, rfl⟩, EReal.coe_add⟩ : ℝ →+ EReal) _ _).symm
    refine Finset.sum_congr rfl fun j _ => ?_
    show _ = (((if j ≤ R then g (R - j) else 0 : ℝ)) : EReal)
    split <;> rfl
  rw [hs, hs, ht, ← EReal.coe_sub, real_trail g R w, add_sub_cancel_right]

/-- Adding a sum of `n` entries to itself shifted by `n` gives the sum of twice as many. -/
theorem trail_double (f : ℕ → EReal) (n R : ℕ) (h : n ≤ R) : trail f n R + trail f n (R - n) = trail f (n + n) R := by
  unfold trail
  rw [Finset.sum_range_add]
  congr 1
  refine Finset.sum_congr rfl fun j _ => ?_
  by_cases hj : n + j ≤ R
  · rw [if_pos hj, if_pos (by omega), show R - n - j = R - (n + j) from by omega]
  · rw [if_neg hj, if_neg (by omega)]

/-- One step of the kernel's window sums: the array plus itself rotated down by `n` rows. -/
theorem roll_step (S : FVec Ideal ⟨2, ![256, 128]⟩ .f32) (f : ℕ → EReal) (n a : ℕ) (b : BitVec 32) (hb : b.toNat = n) (hn : n < 256)
    (c : Fin 128) (hr : (⟨2, ![256, 128]⟩ : Shape).Rotates 0 none)
    (hS : ∀ q : Fin 256, a ≤ (q : ℕ) → S (ix2 q c) = trail f n q) (q : Fin 256) (hq : a + n ≤ (q : ℕ)) :
    addf S (dynamicRotate 0 b none S hr) (ix2 q c) = trail f (n + n) q := by
  have e : dynamicRotate 0 b none S hr (ix2 q c) = S (ix2 ⟨q - n, by omega⟩ c) := by
    unfold dynamicRotate
    refine congrArg S (funext fun x => ?_)
    match x with
    | ⟨0, _⟩ =>
      refine Fin.ext ?_
      show ((q : ℕ) + 256 - (b.toNat + 0) % 256) % 256 = q - n
      have := q.isLt
      omega
    | ⟨1, _⟩ => rfl
  show S (ix2 q c) + dynamicRotate 0 b none S hr (ix2 q c) = _
  rw [e, hS q (by omega), hS _ (by show a ≤ (q : ℕ) - n; omega)]
  exact trail_double f n q (by omega)

theorem trail_one (f : ℕ → EReal) (R : ℕ) : trail f 1 R = f R := by simp [trail]

/-- A row's divisor, as a kernel counts it and as the reference does. -/
theorem count_eq (R w : ℕ) : min (((R : ℤ) : ℝ) : EReal) (((w : ℤ) : ℝ) : EReal) = (((min (R : ℤ) (w : ℤ) : ℤ) : ℝ) : EReal) := by
  rcases le_total R w with h | h
  · rw [min_eq_left (by exact_mod_cast h), min_eq_left (by exact_mod_cast h)]
  · rw [min_eq_right (by exact_mod_cast h), min_eq_right (by exact_mod_cast h)]

/-- A row's average over the rows of its window there are, less the row. -/
def avg (f : ℕ → EReal) (w R : ℕ) : EReal :=
  Ideal.div (trail f w R) (((min ((R + 1 : ℕ) : ℤ) (w : ℤ) : ℤ) : ℝ) : EReal) - f R

theorem foldl_add_eq {ι : Type} (l : List ι) (g : ι → EReal) (v : EReal) : l.foldl (fun r n => r + g n) v = v + (l.map g).sum := by
  induction l generalizing v with
  | nil => simp
  | cons x l ih => rw [List.foldl_cons, ih, List.map_cons, List.sum_cons, add_assoc]

theorem sum_window (f : ℕ → EReal) (A R : ℕ) (h : R ≤ A) :
    (∑ n ∈ Finset.range (A + 1), if A ≤ R + n then f (R + n - A) else 0) = ∑ k ∈ Finset.range (R + 1), f k := by
  rw [show A + 1 = (A - R) + (R + 1) from by omega, Finset.sum_range_add, Finset.sum_eq_zero fun n hn => if_neg (by have := Finset.mem_range.1 hn; omega),
    zero_add]
  refine Finset.sum_congr rfl fun n _ => ?_
  rw [if_pos (by omega), show R + (A - R + n) - A = n from by omega]

/-- A running sum down the first of three axes. -/
theorem cumsum3 {A G C : ℕ} (x : (⟨3, ![A + 1, G, C]⟩ : Shape).Idx → EReal) (init : (⟨0, ![]⟩ : Shape).Idx → EReal) (hi : ∀ y, init y = 0)
    (h : (⟨3, ![A + 1, G, C]⟩ : Shape).ReduceWindows (![A + 1, 1, 1] : Fin 3 → ℕ) ![1, 1, 1] ![A, 0, 0] ![0, 0, 0] ⟨3, ![A + 1, G, C]⟩)
    (hu : 0 < (⟨0, ![]⟩ : Shape).numel) (R : Fin (A + 1)) (g : Fin G) (k : Fin C) :
    Host.reduceWindow (· + ·) ![A + 1, 1, 1] ![1, 1, 1] ![A, 0, 0] ![0, 0, 0] x init h hu (ix3 R g k)
      = ∑ j ∈ Finset.range (R + 1), ext (fun q => x (ix3 q g k)) j := by
  unfold Host.reduceWindow
  dsimp only
  rw [foldl_add_eq, hi, zero_add, ← List.ofFn_eq_map, List.sum_ofFn]
  rw [← sum_window _ A R (by omega), Finset.sum_range]
  refine (Fintype.sum_bijective (fun n : Fin (A + 1) => (⟨3, ![A + 1, 1, 1]⟩ : Shape).rowMajor (ix3 n 0 0)) ?_ _ _ fun n => ?_).symm
  · refine (Equiv.bijective _).comp ⟨fun a b hab => ?_, fun w => ⟨w 0, ?_⟩⟩
    · exact congrFun hab 0
    · funext a
      match a with
      | ⟨0, _⟩ => rfl
      | ⟨1, _⟩ => exact Subsingleton.elim (α := Fin 1) _ _
      | ⟨2, _⟩ => exact Subsingleton.elim (α := Fin 1) _ _
  · have hw := Equiv.symm_apply_apply (⟨3, ![A + 1, 1, 1]⟩ : Shape).rowMajor (ix3 n 0 0)
    have h0 : ((⟨3, ![A + 1, 1, 1]⟩ : Shape).rowMajor.symm ((⟨3, ![A + 1, 1, 1]⟩ : Shape).rowMajor (ix3 n 0 0)) 0).val = n := by rw [hw]; rfl
    have h1 : ((⟨3, ![A + 1, 1, 1]⟩ : Shape).rowMajor.symm ((⟨3, ![A + 1, 1, 1]⟩ : Shape).rowMajor (ix3 n 0 0)) 1).val = 0 := by rw [hw]; rfl
    have h2 : ((⟨3, ![A + 1, 1, 1]⟩ : Shape).rowMajor.symm ((⟨3, ![A + 1, 1, 1]⟩ : Shape).rowMajor (ix3 n 0 0)) 2).val = 0 := by rw [hw]; rfl
    have hR := R.isLt
    have hn := n.isLt
    have hg := g.isLt
    have hk := k.isLt
    by_cases hA : A ≤ R + n
    · rw [if_pos hA, dif_pos]
      · unfold ext
        rw [dif_pos (by omega)]
        refine congrArg x (funext fun a => Fin.ext ?_)
        match a with
        | ⟨0, _⟩ => show (R : ℕ) + n - A = R * 1 + ((⟨3, ![A + 1, 1, 1]⟩ : Shape).rowMajor.symm ((⟨3, ![A + 1, 1, 1]⟩ : Shape).rowMajor (ix3 n 0 0)) 0).val - A; rw [h0]; omega
        | ⟨1, _⟩ => show (g : ℕ) = g * 1 + ((⟨3, ![A + 1, 1, 1]⟩ : Shape).rowMajor.symm ((⟨3, ![A + 1, 1, 1]⟩ : Shape).rowMajor (ix3 n 0 0)) 1).val - 0; rw [h1]; omega
        | ⟨2, _⟩ => show (k : ℕ) = k * 1 + ((⟨3, ![A + 1, 1, 1]⟩ : Shape).rowMajor.symm ((⟨3, ![A + 1, 1, 1]⟩ : Shape).rowMajor (ix3 n 0 0)) 2).val - 0; rw [h2]; omega
      · intro a
        match a with
        | ⟨0, _⟩ => show A ≤ (R : ℕ) * 1 + ((⟨3, ![A + 1, 1, 1]⟩ : Shape).rowMajor.symm ((⟨3, ![A + 1, 1, 1]⟩ : Shape).rowMajor (ix3 n 0 0)) 0).val ∧ (R : ℕ) * 1 + ((⟨3, ![A + 1, 1, 1]⟩ : Shape).rowMajor.symm ((⟨3, ![A + 1, 1, 1]⟩ : Shape).rowMajor (ix3 n 0 0)) 0).val - A < A + 1; rw [h0]; omega
        | ⟨1, _⟩ => show 0 ≤ (g : ℕ) * 1 + ((⟨3, ![A + 1, 1, 1]⟩ : Shape).rowMajor.symm ((⟨3, ![A + 1, 1, 1]⟩ : Shape).rowMajor (ix3 n 0 0)) 1).val ∧ (g : ℕ) * 1 + ((⟨3, ![A + 1, 1, 1]⟩ : Shape).rowMajor.symm ((⟨3, ![A + 1, 1, 1]⟩ : Shape).rowMajor (ix3 n 0 0)) 1).val - 0 < G; rw [h1]; omega
        | ⟨2, _⟩ => show 0 ≤ (k : ℕ) * 1 + ((⟨3, ![A + 1, 1, 1]⟩ : Shape).rowMajor.symm ((⟨3, ![A + 1, 1, 1]⟩ : Shape).rowMajor (ix3 n 0 0)) 2).val ∧ (k : ℕ) * 1 + ((⟨3, ![A + 1, 1, 1]⟩ : Shape).rowMajor.symm ((⟨3, ![A + 1, 1, 1]⟩ : Shape).rowMajor (ix3 n 0 0)) 2).val - 0 < C; rw [h2]; omega
    · rw [if_neg hA, dif_neg]
      intro hin
      have hi0 := hin 0
      change A ≤ (R : ℕ) * 1 + ((⟨3, ![A + 1, 1, 1]⟩ : Shape).rowMajor.symm ((⟨3, ![A + 1, 1, 1]⟩ : Shape).rowMajor (ix3 n 0 0)) 0).val ∧ _ at hi0
      rw [h0] at hi0
      omega

/-- The same of the operation the reference prints. -/
theorem running3 {N A G C : ℕ} (hN : N = A + 1) (x : FVec Ideal ⟨3, ![N, G, C]⟩ .f32) (init : FVec Ideal ⟨0, ![]⟩ .f32) (hi : ∀ y, init y = 0)
    (h : (⟨3, ![N, G, C]⟩ : Shape).ReduceWindows (![N, 1, 1] : Fin 3 → ℕ) ![1, 1, 1] ![A, 0, 0] ![0, 0, 0] ⟨3, ![N, G, C]⟩)
    (hu : 0 < (⟨0, ![]⟩ : Shape).numel) (R : Fin N) (g : Fin G) (k : Fin C) :
    Host.reduceWindowAdd (F := Ideal) ![N, 1, 1] ![1, 1, 1] ![A, 0, 0] ![0, 0, 0] x init h hu (ix3 R g k)
      = ∑ j ∈ Finset.range (R + 1), ext (fun q => x (ix3 q g k)) j := by
  subst hN
  exact cumsum3 x (fun _ => init (Shape.Idx.first hu)) (fun _ => hi _) h hu R g k

end FfnBack

end
-- ==== Proof.PoolKernel.lean ====
/- The pooling mixer's block of rows, as the kernel forms it: for each group of columns the average over a trailing window, less
   the row itself, and the two products that its gradients are made of. -/
module

public import proofs.«01_k».proof.Proof.Gen.PoolIdeal.Skeleton
public import proofs.«01_k».proof.Proof.PoolSums
public import Idealize.ShloMosaic.Lib.Pipeline.ValueKit
public import Idealize.ShloMosaic.Lib.StableHlo.ReadAt

@[expose] public section

set_option maxRecDepth 16384

noncomputable section

namespace Cert.PoolIdeal.Grad

open Cert.PoolIdeal Cert.PoolIdeal.Gen Idealize.ShloMosaic Idealize.ShloMosaic.TcCoe Idealize.ShloMosaic.Tactic Idealize.SL.Sem FfnBack

/-- A column of the rows before a block and the block's own, one after the other. -/
def two (p v : FVec Ideal S128x1280 .f32) (k : Fin 1280) (q : ℕ) : EReal :=
  if h : q < 128 then p (ix2 ⟨q, h⟩ k) else if h : q - 128 < 128 then v (ix2 ⟨q - 128, h⟩ k) else 0

/-- The two blocks' columns from `o` on, one above the other. -/
abbrev cat (o : ℕ) (p v : FVec Ideal S128x1280 .f32) (hs : S128x1280.Slices ![0, o] S128x128) : FVec Ideal S256x128 .f32 :=
  concatenate S256x128 0 [⟨S128x128, extractStridedSlice S128x128 ![0, o] p hs⟩, ⟨S128x128, extractStridedSlice S128x128 ![0, o] v hs⟩]
    concatenates_S128x128_S128x128_S256x128_d0

theorem cat_at (o : ℕ) (ho : o + 128 ≤ 1280) (p v : FVec Ideal S128x1280 .f32) (hs : S128x1280.Slices ![0, o] S128x128)
    (c : Fin 128) (q : Fin 256) : cat o p v hs (ix2 q c) = trail (two p v ⟨o + c, by omega⟩) 1 q := by
  rw [trail_one]
  unfold two cat
  pointwise []
  have := q.isLt
  split
  · rfl
  · rw [dif_pos (by omega)]

/-- The average over the window, less the row. -/
theorem mean_at (o : ℕ) (ho : o + 128 ≤ 1280) (w : BitVec 32) (X : FVec Ideal S256x128 .f32) (v : FVec Ideal S128x1280 .f32) (n : FVec Ideal S128x1 .f32)
    (hs : S128x1280.Slices ![0, o] S128x128) (r c : Fin 128) :
    subf (divf (extractStridedSlice S128x128 ![128, 0] X slices_S256x128_o128_0_S128x128)
        (broadcastTo S128x128 (minimumf n (broadcast S128x1 (Scalar.ofBits (F := Ideal) .f32 w))) broadcasts_S128x1_S128x128))
        (extractStridedSlice S128x128 ![0, o] v hs) (ix2 r c)
      = Ideal.div (X (ix2 ⟨128 + r, by omega⟩ c)) (min (n (ix2 r 0)) (Scalar.ofBits (F := Ideal) .f32 w)) - v (ix2 r ⟨o + c, by omega⟩) := by
  pointwise []

theorem mean0 (i : grid0.Coords) (v2 v3 : FVec Ideal S128x1280 .f32) (r c : Fin 128) :
    k0_pay10 (F := Ideal) i v2 v3 (ix2 r c)
      = Ideal.div (trail (two (k0_pay6 (F := Ideal) i v3) v2 ⟨0 + c, by omega⟩) 2 (128 + r))
          (min (k0_pay8 (F := Ideal) i (ix2 r 0)) (Scalar.ofBits (F := Ideal) .f32 0x40000000#32)) - v2 (ix2 r ⟨0 + c, by omega⟩) := by
  unfold k0_pay10
  dsimp only
  rw [mean_at 0 (by omega)]
  refine congrArg (fun z => Ideal.div z _ - _) ?_
  exact roll_step _ _ 1 0 1#32 rfl (by omega) c _ (fun q _ => cat_at 0 (by omega) _ _ _ c q) ⟨128 + r, by omega⟩ (by show 0 + 1 ≤ 128 + (r : ℕ); omega)

theorem mean1 (v2 v5 : FVec Ideal S128x1280 .f32) (n : FVec Ideal S128x1 .f32) (r c : Fin 128) :
    k0_pay17 (F := Ideal) v2 n (k0_pay15 v2 v5) k0_pay16 (ix2 r c)
      = Ideal.div (trail (two v5 v2 ⟨128 + c, by omega⟩) 4 (128 + r))
          (min (n (ix2 r 0)) (Scalar.ofBits (F := Ideal) .f32 0x40800000#32)) - v2 (ix2 r ⟨128 + c, by omega⟩) := by
  unfold k0_pay17 k0_pay15 k0_pay16
  dsimp only
  rw [mean_at 128 (by omega)]
  refine congrArg (fun z => Ideal.div z _ - _) ?_
  refine roll_step _ _ 2 1 2#32 rfl (by omega) c _ (fun q hq => ?_) ⟨128 + r, by omega⟩ (by show 1 + 2 ≤ 128 + (r : ℕ); omega)
  exact roll_step _ _ 1 0 1#32 rfl (by omega) c _ (fun q _ => cat_at 128 (by omega) _ _ _ c q) q hq

theorem mean2 (v2 v5 : FVec Ideal S128x1280 .f32) (n : FVec Ideal S128x1 .f32) (r c : Fin 128) :
    k0_pay24 (F := Ideal) v2 n (k0_pay22 v5) (k0_pay23 v2) (ix2 r c)
      = Ideal.div (trail (two v5 v2 ⟨256 + c, by omega⟩) 8 (128 + r))
          (min (n (ix2 r 0)) (Scalar.ofBits (F := Ideal) .f32 0x41000000#32)) - v2 (ix2 r ⟨256 + c, by omega⟩) := by
  unfold k0_pay24 k0_pay22 k0_pay23
  dsimp only
  rw [mean_at 256 (by omega)]
  refine congrArg (fun z => Ideal.div z _ - _) ?_
  refine roll_step _ _ 4 3 4#32 rfl (by omega) c _ (fun q hq => ?_) ⟨128 + r, by omega⟩ (by show 3 + 4 ≤ 128 + (r : ℕ); omega)
  refine roll_step _ _ 2 1 2#32 rfl (by omega) c _ (fun q hq => ?_) q hq
  exact roll_step _ _ 1 0 1#32 rfl (by omega) c _ (fun q _ => cat_at 256 (by omega) _ _ _ c q) q hq

theorem mean3 (v2 v5 : FVec Ideal S128x1280 .f32) (n : FVec Ideal S128x1 .f32) (r c : Fin 128) :
    k0_pay31 (F := Ideal) v2 v5 n (ix2 r c)
      = Ideal.div (trail (two v5 v2 ⟨384 + c, by omega⟩) 16 (128 + r))
          (min (n (ix2 r 0)) (Scalar.ofBits (F := Ideal) .f32 0x41800000#32)) - v2 (ix2 r ⟨384 + c, by omega⟩) := by
  unfold k0_pay31
  dsimp only
  rw [mean_at 384 (by omega)]
  refine congrArg (fun z => Ideal.div z _ - _) ?_
  refine roll_step _ _ 8 7 8#32 rfl (by omega) c _ (fun q hq => ?_) ⟨128 + r, by omega⟩ (by show 7 + 8 ≤ 128 + (r : ℕ); omega)
  refine roll_step _ _ 4 3 4#32 rfl (by omega) c _ (fun q hq => ?_) q hq
  refine roll_step _ _ 2 1 2#32 rfl (by omega) c _ (fun q hq => ?_) q hq
  exact roll_step _ _ 1 0 1#32 rfl (by omega) c _ (fun q _ => cat_at 384 (by omega) _ _ _ c q) q hq

/-- The block's part of a group's scale gradient, of its average `a`. -/
def sPart (o : ℕ) (ho : o + 128 ≤ 512) (v6 : FVec Ideal S128x1024 .f32) (a : FVec Ideal S128x128 .f32) (w : FVec Ideal S1x128x128 .f32) (c : Fin 128) : EReal :=
  ∑ r : Fin 128, v6 (ix2 r ⟨o + c, by omega⟩) * ∑ e : Fin 128, a (ix2 r e) * w (ix3 0 e c)

/-- The block's part of a group's weight gradient, of its average `a`. -/
def wPart (o : ℕ) (ho : o + 128 ≤ 512) (v6 : FVec Ideal S128x1024 .f32) (s : FVec Ideal S1x512 .f32) (a : FVec Ideal S128x128 .f32) (e d : Fin 128) : EReal :=
  ∑ r : Fin 128, a (ix2 r e) * (v6 (ix2 r ⟨o + d, by omega⟩) * s (ix2 0 ⟨o + d, by omega⟩))

theorem s0_at (v6 : FVec Ideal S128x1024 .f32) (a : FVec Ideal S128x128 .f32) (w : FVec Ideal S1x128x128 .f32) (z : Fin 1) (c : Fin 128) :
    k0_pay11 (F := Ideal) v6 a w (ix2 z c) = sPart 0 (by omega) v6 a w c := by
  unfold sPart
  pointwise [k0_pay11]

theorem s1_at (v2 : FVec Ideal S128x1280 .f32) (v6 : FVec Ideal S128x1024 .f32) (n : FVec Ideal S128x1 .f32) (b : FVec Ideal S128x128 .f32) (n' : FVec Ideal S128x1 .f32) (w : FVec Ideal S1x128x128 .f32) (z : Fin 1) (c : Fin 128) :
    k0_pay18 (F := Ideal) v2 v6 n b n' w (ix2 z c) = sPart 128 (by omega) v6 (k0_pay17 (F := Ideal) v2 n b n') w c := by
  unfold sPart
  pointwise [k0_pay18]

theorem s2_at (v2 : FVec Ideal S128x1280 .f32) (v6 : FVec Ideal S128x1024 .f32) (n : FVec Ideal S128x1 .f32) (b b' : FVec Ideal S128x128 .f32) (w : FVec Ideal S1x128x128 .f32) (z : Fin 1) (c : Fin 128) :
    k0_pay25 (F := Ideal) v2 v6 n b b' w (ix2 z c) = sPart 256 (by omega) v6 (k0_pay24 (F := Ideal) v2 n b b') w c := by
  unfold sPart
  pointwise [k0_pay25]

theorem s3_at (v2 v5 : FVec Ideal S128x1280 .f32) (v6 : FVec Ideal S128x1024 .f32) (n : FVec Ideal S128x1 .f32) (w : FVec Ideal S1x128x128 .f32) (z : Fin 1) (c : Fin 128) :
    k0_pay32 (F := Ideal) v2 v5 v6 n w (ix2 z c) = sPart 384 (by omega) v6 (k0_pay31 (F := Ideal) v2 v5 n) w c := by
  unfold sPart
  pointwise [k0_pay32]

theorem w0_at (v6 v9 : FVec Ideal S128x1024 .f32) (s : FVec Ideal S1x512 .f32) (a : FVec Ideal S128x128 .f32) (e d : Fin 128) :
    k0_pay13 (F := Ideal) v6 v9 s a (ix2 e d) = wPart 0 (by omega) v6 s a e d := by
  unfold wPart
  pointwise [k0_pay13, k0_pay12]

theorem w1_at (v2 : FVec Ideal S128x1280 .f32) (v6 v9 : FVec Ideal S128x1024 .f32) (n : FVec Ideal S128x1 .f32) (s : FVec Ideal S1x512 .f32) (b : FVec Ideal S128x128 .f32) (n' : FVec Ideal S128x1 .f32) (e d : Fin 128) :
    k0_pay20 (F := Ideal) v2 v6 v9 n s b n' (ix2 e d) = wPart 128 (by omega) v6 s (k0_pay17 (F := Ideal) v2 n b n') e d := by
  unfold wPart
  pointwise [k0_pay20, k0_pay19]

theorem w2_at (v2 : FVec Ideal S128x1280 .f32) (v6 v9 : FVec Ideal S128x1024 .f32) (n : FVec Ideal S128x1 .f32) (s : FVec Ideal S1x512 .f32) (b b' : FVec Ideal S128x128 .f32) (e d : Fin 128) :
    k0_pay27 (F := Ideal) v2 v6 v9 n s b b' (ix2 e d) = wPart 256 (by omega) v6 s (k0_pay24 (F := Ideal) v2 n b b') e d := by
  unfold wPart
  pointwise [k0_pay27, k0_pay26]

theorem w3_at (v2 v5 : FVec Ideal S128x1280 .f32) (v6 v9 : FVec Ideal S128x1024 .f32) (n : FVec Ideal S128x1 .f32) (s : FVec Ideal S1x512 .f32) (e d : Fin 128) :
    k0_pay36 (F := Ideal) (k0_pay34 v2 v5 n) (k0_pay35 v6 v9 s) (ix2 e d) = wPart 384 (by omega) v6 s (k0_pay31 (F := Ideal) v2 v5 n) e d := by
  unfold wPart
  pointwise [k0_pay36, k0_pay34, k0_pay35, k0_pay33]

/-- A row's window, read off its block and the one before, is its window in the whole column. -/
theorem trail_block (i : grid0.Coords) (f : ℕ → EReal) (v v3 : FVec Ideal S128x1280 .f32) (k : Fin 1280)
    (hv : ∀ r : Fin 128, v (ix2 r k) = f (128 * (i 0).val + r))
    (hp : 0 < (i 0).val → ∀ r : Fin 128, v3 (ix2 r k) = f (128 * ((i 0).val - 1) + r)) (w : ℕ) (hw : w ≤ 128) (r : Fin 128) :
    trail (two (k0_pay6 (F := Ideal) i v3) v k) w (128 + r) = trail f w (128 * (i 0).val + r) := by
  have hi : (i 0).val < 32 := (i 0).isLt
  refine Finset.sum_congr rfl fun j hj => ?_
  have hj := Finset.mem_range.1 hj
  have hr := r.isLt
  rw [if_pos (by omega)]
  unfold two
  by_cases h : 128 + (r : ℕ) - j < 128
  · rw [dif_pos h]
    by_cases h0 : 0 < (i 0).val
    · have e : Scalar.cmpi .sgt (BitVec.ofNat 32 (i 0).val) 0#32 = 1#1 := by
        generalize (i 0).val = n at hi h0 ⊢
        interval_cases n <;> decide
      rw [if_pos (by omega)]
      unfold k0_pay6
      dsimp only
      rw [e]
      refine (hp h0 ⟨128 + r - j, h⟩).trans (congrArg f ?_)
      show 128 * ((i 0).val - 1) + (128 + (r : ℕ) - j) = _
      omega
    · have e : Scalar.cmpi .sgt (BitVec.ofNat 32 (i 0).val) 0#32 = 0#1 := by
        rw [show (i 0).val = 0 from by omega]; decide
      rw [if_neg (by omega)]
      unfold k0_pay6
      dsimp only
      rw [e]
      exact Ideal.ofBits_zero_f32
  · rw [dif_neg h, dif_pos (by omega), if_pos (by omega)]
    refine (hv _).trans (congrArg f ?_)
    show 128 * (i 0).val + (128 + (r : ℕ) - j - 128) = _
    omega

/-- A row's number, counted from one. -/
theorem count_at (i : grid0.Coords) (r : Fin 128) :
    k0_pay8 (F := Ideal) i (ix2 r 0) = ((((128 * (i 0).val + r + 1 : ℕ) : ℤ) : ℝ) : EReal) := by
  have hi : (i 0).val < 32 := (i 0).isLt
  have hr := r.isLt
  unfold k0_pay8
  pointwise []
  generalize (i 0).val = n at hi ⊢
  have e : (BitVec.ofNat 32 n * 128#32 + BitVec.ofNat 32 r) + 1#32 = BitVec.ofNat 32 (128 * n + r + 1) := by
    apply BitVec.eq_of_toNat_eq
    simp only [BitVec.toNat_add, BitVec.toNat_mul, BitVec.toNat_ofNat]
    omega
  show ((((BitVec.ofNat 32 n * 128#32 + BitVec.ofNat 32 r) + 1#32).toInt : ℝ) : EReal) = _
  rw [e, WordArith.toInt_ofNat_small _ (by omega)]

theorem two_eq : Ideal.ofBits .f32 0x40000000#32 = (((2 : ℤ) : ℝ) : EReal) := by
  simp [Ideal.ofBits, Ideal.ieee, -EReal.coe_mul]
  norm_num
theorem four_eq : Ideal.ofBits .f32 0x40800000#32 = (((4 : ℤ) : ℝ) : EReal) := by
  simp [Ideal.ofBits, Ideal.ieee, -EReal.coe_mul]
  norm_num
theorem eight_eq : Ideal.ofBits .f32 0x41000000#32 = (((8 : ℤ) : ℝ) : EReal) := by
  simp [Ideal.ofBits, Ideal.ieee, -EReal.coe_mul]
  norm_num
theorem sixteen_eq : Ideal.ofBits .f32 0x41800000#32 = (((16 : ℤ) : ℝ) : EReal) := by
  simp [Ideal.ofBits, Ideal.ieee, -EReal.coe_mul]
  norm_num

/-- A block's average is the whole column's. -/
theorem avg_of (i : grid0.Coords) (f : ℕ → EReal) (v v3 : FVec Ideal S128x1280 .f32) (k : Fin 1280)
    (hv : ∀ r : Fin 128, v (ix2 r k) = f (128 * (i 0).val + r))
    (hp : 0 < (i 0).val → ∀ r : Fin 128, v3 (ix2 r k) = f (128 * ((i 0).val - 1) + r)) (w : ℕ) (hw : w ≤ 128) (b : EReal)
    (hb : b = (((w : ℤ) : ℝ) : EReal)) (r : Fin 128) :
    Ideal.div (trail (two (k0_pay6 (F := Ideal) i v3) v k) w (128 + r)) (min (k0_pay8 (F := Ideal) i (ix2 r 0)) b) - v (ix2 r k)
      = avg f w (128 * (i 0).val + r) := by
  rw [trail_block i f v v3 k hv hp w hw r, count_at, hb, count_eq, hv]
  rfl

end Cert.PoolIdeal.Grad

end
-- ==== Proof.PoolRef.lean ====
/- The reference of the pooling mixer's weight gradients: each group's average over its trailing window, by running sums. -/
module

public import proofs.«01_k».proof.Proof.Gen.PoolRefIdeal.Run
public import proofs.«01_k».proof.Proof.PoolSums
public import Idealize.ShloMosaic.Lib.Pipeline.ValueKit
public import Idealize.ShloMosaic.Lib.StableHlo.ReadAt
public import Idealize.ShloMosaic.Lib.Quiescent

@[expose] public section

set_option maxRecDepth 16384

noncomputable section

namespace Cert.PoolRefIdeal.Grad

open Cert.PoolRefIdeal Cert.PoolRefIdeal.Gen Idealize.ShloMosaic Idealize.ShloMosaic.TcCoe Idealize.ShloMosaic.Tactic Idealize.SL.Sem FfnBack

/-- The mixer's columns, in groups. -/
def groups (p : FVec Ideal S4096x1280 .f32) : FVec Ideal S4096x4x128 .f32 :=
  shapeCast _ (extractStridedSlice S4096x512 ![0, 0] p slices_S4096x1280_S4096x512_0_0) shapeCasts_S4096x512_S4096x4x128

/-- Their running sums, from zero. -/
def sums (p : FVec Ideal S4096x1280 .f32) : FVec Ideal S4097x4x128 .f32 :=
  concatenate S4097x4x128 0 [⟨S1x4x128, (broadcastInDim S1x4x128 ![] bcast_S_S1x4x128 (constant (F := Ideal) S_ .f32 0x00000000#32))⟩,
    ⟨S4096x4x128, (Host.reduceWindowAdd (F := Ideal) ![4096, 1, 1] ![1, 1, 1] ![4095, 0, 0] ![0, 0, 0] (groups p)
      (broadcastInDim S_ ![] bcast_S_S_ (constant (F := Ideal) S_ .f32 0x00000000#32)) reduceWindows_S4096x4x128_S4096x4x128_w4096s1p4095_0_w1s1p0_0_w1s1p0_0 h_S_)⟩] concatenates_S1x4x128_S4096x4x128_S4097x4x128_d0

/-- The averages of the group whose window has 2 rows. -/
def grp0 (p : FVec Ideal S4096x1280 .f32) : FVec Ideal S4096x1x128 .f32 :=
  ((broadcastInDim S4096x1x128 ![0, 2] bcast_S4096x128_S4096x1x128_0_2 (Host.divf (subf (shapeCast _ (extractStridedSlice S4096x1x128 ![1, 0, 0] (sums p) slices_S4097x4x128_S4096x1x128_1_0_0) shapeCasts_S4096x1x128_S4096x128) (concatenate S4096x128 0 [⟨S1x128, (broadcastInDim S1x128 ![] bcast_S_S1x128 (constant (F := Ideal) S_ .f32 0x00000000#32))⟩, ⟨S4095x128, (shapeCast _ (extractStridedSlice S4095x1x128 ![0, 0, 0] (sums p) slices_S4097x4x128_S4095x1x128_0_0_0) shapeCasts_S4095x1x128_S4095x128)⟩] concatenates_S1x128_S4095x128_S4096x128_d0)) (broadcastInDim S4096x128 ![0, 1] bcast_S4096x1_S4096x128_0_1 (broadcastInDim S4096x1 ![0] bcast_S4096_S4096x1_0 (sitofp (F := Ideal) .f32 (minsi (addi (broadcastInDim S4096 ![] bcast_S_S4096 (constantI S_ 32 1#32)) (iotaInDim S4096 32 0)) (broadcastInDim S4096 ![] bcast_S_S4096 (constantI S_ 32 2#32)))))))) : (⟨S4096x1x128, .f32⟩ : BufTy).Contents (Elt Ideal))

/-- The averages of the group whose window has 4 rows. -/
def grp1 (p : FVec Ideal S4096x1280 .f32) : FVec Ideal S4096x1x128 .f32 :=
  ((broadcastInDim S4096x1x128 ![0, 2] bcast_S4096x128_S4096x1x128_0_2 (Host.divf (subf (shapeCast _ (extractStridedSlice S4096x1x128 ![1, 1, 0] (sums p) slices_S4097x4x128_S4096x1x128_1_1_0) shapeCasts_S4096x1x128_S4096x128) (concatenate S4096x128 0 [⟨S3x128, (broadcastInDim S3x128 ![] bcast_S_S3x128 (constant (F := Ideal) S_ .f32 0x00000000#32))⟩, ⟨S4093x128, (shapeCast _ (extractStridedSlice S4093x1x128 ![0, 1, 0] (sums p) slices_S4097x4x128_S4093x1x128_0_1_0) shapeCasts_S4093x1x128_S4093x128)⟩] concatenates_S3x128_S4093x128_S4096x128_d0)) (broadcastInDim S4096x128 ![0, 1] bcast_S4096x1_S4096x128_0_1 (broadcastInDim S4096x1 ![0] bcast_S4096_S4096x1_0 (sitofp (F := Ideal) .f32 (minsi (addi (broadcastInDim S4096 ![] bcast_S_S4096 (constantI S_ 32 1#32)) (iotaInDim S4096 32 0)) (broadcastInDim S4096 ![] bcast_S_S4096 (constantI S_ 32 4#32)))))))) : (⟨S4096x1x128, .f32⟩ : BufTy).Contents (Elt Ideal))

/-- The averages of the group whose window has 8 rows. -/
def grp2 (p : FVec Ideal S4096x1280 .f32) : FVec Ideal S4096x1x128 .f32 :=
  ((broadcastInDim S4096x1x128 ![0, 2] bcast_S4096x128_S4096x1x128_0_2 (Host.divf (subf (shapeCast _ (extractStridedSlice S4096x1x128 ![1, 2, 0] (sums p) slices_S4097x4x128_S4096x1x128_1_2_0) shapeCasts_S4096x1x128_S4096x128) (concatenate S4096x128 0 [⟨S7x128, (broadcastInDim S7x128 ![] bcast_S_S7x128 (constant (F := Ideal) S_ .f32 0x00000000#32))⟩, ⟨S4089x128, (shapeCast _ (extractStridedSlice S4089x1x128 ![0, 2, 0] (sums p) slices_S4097x4x128_S4089x1x128_0_2_0) shapeCasts_S4089x1x128_S4089x128)⟩] concatenates_S7x128_S4089x128_S4096x128_d0)) (broadcastInDim S4096x128 ![0, 1] bcast_S4096x1_S4096x128_0_1 (broadcastInDim S4096x1 ![0] bcast_S4096_S4096x1_0 (sitofp (F := Ideal) .f32 (minsi (addi (broadcastInDim S4096 ![] bcast_S_S4096 (constantI S_ 32 1#32)) (iotaInDim S4096 32 0)) (broadcastInDim S4096 ![] bcast_S_S4096 (constantI S_ 32 8#32)))))))) : (⟨S4096x1x128, .f32⟩ : BufTy).Contents (Elt Ideal))

/-- The averages of the group whose window has 16 rows. -/
def grp3 (p : FVec Ideal S4096x1280 .f32) : FVec Ideal S4096x1x128 .f32 :=
  ((broadcastInDim S4096x1x128 ![0, 2] bcast_S4096x128_S4096x1x128_0_2 (Host.divf (subf (shapeCast _ (extractStridedSlice S4096x1x128 ![1, 3, 0] (sums p) slices_S4097x4x128_S4096x1x128_1_3_0) shapeCasts_S4096x1x128_S4096x128) (concatenate S4096x128 0 [⟨S15x128, (broadcastInDim S15x128 ![] bcast_S_S15x128 (constant (F := Ideal) S_ .f32 0x00000000#32))⟩, ⟨S4081x128, (shapeCast _ (extractStridedSlice S4081x1x128 ![0, 3, 0] (sums p) slices_S4097x4x128_S4081x1x128_0_3_0) shapeCasts_S4081x1x128_S4081x128)⟩] concatenates_S15x128_S4081x128_S4096x128_d0)) (broadcastInDim S4096x128 ![0, 1] bcast_S4096x1_S4096x128_0_1 (broadcastInDim S4096x1 ![0] bcast_S4096_S4096x1_0 (sitofp (F := Ideal) .f32 (minsi (addi (broadcastInDim S4096 ![] bcast_S_S4096 (constantI S_ 32 1#32)) (iotaInDim S4096 32 0)) (broadcastInDim S4096 ![] bcast_S_S4096 (constantI S_ 32 16#32)))))))) : (⟨S4096x1x128, .f32⟩ : BufTy).Contents (Elt Ideal))

/-- Every group's averages, less the rows. -/
def pooled (p : FVec Ideal S4096x1280 .f32) : FVec Ideal S4096x4x128 .f32 :=
  (subf ((concatenate S4096x4x128 1 [⟨S4096x1x128, (grp0 p)⟩, ⟨S4096x1x128, (grp1 p)⟩, ⟨S4096x1x128, (grp2 p)⟩, ⟨S4096x1x128, (grp3 p)⟩] concatenates_S4096x1x128_S4096x1x128_S4096x1x128_S4096x1x128_S4096x4x128_d1 : (⟨S4096x4x128, .f32⟩ : BufTy).Contents (Elt Ideal))) (groups p))

/-- A column of the mixer's. -/
def col (p : FVec Ideal S4096x1280 .f32) (g : ℕ) (k : Fin 128) : ℕ → EReal :=
  ext (fun R : Fin 4096 => if h : 128 * g + k < 1280 then p (ix2 R ⟨128 * g + k, h⟩) else 0)

theorem groups_at (p : FVec Ideal S4096x1280 .f32) (R : Fin 4096) (g : Fin 4) (k : Fin 128) : groups p (ix3 R g k) = col p g k R := by
  unfold col
  rw [ext_of_lt, dif_pos (by omega)]
  pointwise [groups]
  exact congrArg (fun l => p (ix2 R l)) (Fin.ext (by show (g : ℕ) * 128 + k = 128 * g + k; omega))

theorem sums_at (p : FVec Ideal S4096x1280 .f32) (q : Fin 4097) (g : Fin 4) (k : Fin 128) :
    sums p (ix3 q g k) = ∑ j ∈ Finset.range q, col p g k j := by
  unfold sums
  pointwise []
  split
  · rename_i h
    rw [show (q : ℕ) = 0 from by omega, Finset.sum_range_zero]
  · rename_i h
    refine (running3 (by omega) (groups p) _ (fun y => Ideal.ofBits_zero_f32) _ _ ⟨q - 1, _⟩ g k).trans ?_
    rw [show (⟨q - 1, by omega⟩ : Fin 4096).val + 1 = q from by show (q : ℕ) - 1 + 1 = q; omega]
    refine Finset.sum_congr rfl fun j hj => ?_
    have hq := q.isLt
    have hj := Finset.mem_range.1 hj
    have hj' : j < 4096 := by omega
    exact (ext_of_lt _ ⟨j, hj'⟩).trans (groups_at p ⟨j, hj'⟩ g k)

theorem toInt_minsi (x y : BitVec 32) : (IntOp.minsi x y).toInt = min x.toInt y.toInt := by
  unfold IntOp.minsi
  by_cases h : x.slt y = true
  · rw [if_pos h]
    rw [BitVec.slt_iff_toInt_lt] at h
    omega
  · rw [if_neg h]
    rw [BitVec.slt_iff_toInt_lt] at h
    omega

/-- A row's divisor. -/
theorem count_at (R : Fin 4096) (w : ℕ) (hw : w ≤ 16) :
    FloatOps.sitofp (F := Ideal) .f32 (IntOp.minsi (IntOp.addi 1#32 (BitVec.ofNat 32 R)) (BitVec.ofNat 32 w))
      = (((min ((R + 1 : ℕ) : ℤ) (w : ℤ) : ℤ) : ℝ) : EReal) := by
  have hR := R.isLt
  have e : IntOp.addi 1#32 (BitVec.ofNat 32 R) = BitVec.ofNat 32 (R + 1) := by
    apply BitVec.eq_of_toNat_eq
    unfold IntOp.addi
    simp only [BitVec.toNat_add, BitVec.toNat_ofNat]
    omega
  show ((((IntOp.minsi (IntOp.addi 1#32 (BitVec.ofNat 32 R)) (BitVec.ofNat 32 w)).toInt : ℤ) : ℝ) : EReal) = _
  rw [e, toInt_minsi, WordArith.toInt_ofNat_small _ (by omega), WordArith.toInt_ofNat_small _ (by omega)]

theorem quot_of (p : FVec Ideal S4096x1280 .f32) (g : Fin 4) (k : Fin 128) (R : Fin 4096) (w : ℕ) (h0 : 1 ≤ w) (hw : w ≤ 16)
    (hp : ∀ j, Real? (col p g k j)) (a b n : EReal) (ha : a = sums p (ix3 ⟨1 + R, by omega⟩ g k))
    (hb : b = if h : (R : ℕ) < w - 1 then 0 else sums p (ix3 ⟨R - (w - 1), by omega⟩ g k))
    (hn : n = (((min ((R + 1 : ℕ) : ℤ) (w : ℤ) : ℤ) : ℝ) : EReal)) :
    Ideal.div (a - b) n - col p g k R = avg (col p g k) w R := by
  unfold avg
  rw [← run_sub _ hp, ha, sums_at, hb, hn]
  have e : (if h : (R : ℕ) < w - 1 then 0 else sums p (ix3 ⟨R - (w - 1), by omega⟩ g k)) = ∑ j ∈ Finset.range (R + 1 - w), col p g k j := by
    split
    · rename_i h
      rw [show (R : ℕ) + 1 - w = 0 from by omega, Finset.sum_range_zero]
    · rename_i h
      rw [sums_at]
      show ∑ j ∈ Finset.range (R - (w - 1)), col p g k j = _
      rw [show (R : ℕ) - (w - 1) = R + 1 - w from by omega]
  rw [e]
  show Ideal.div ((∑ j ∈ Finset.range (1 + R), col p g k j) - _) _ - _ = _
  rw [add_comm 1 (R : ℕ)]

theorem grp0_at (p : FVec Ideal S4096x1280 .f32) (R : Fin 4096) (z : Fin 1) (k : Fin 128) (hp : ∀ j, Real? (col p 0 k j)) :
    grp0 p (ix3 R z k) - groups p (ix3 R 0 k) = avg (col p 0 k) 2 R := by
  pointwise [grp0]
  rw [groups_at]
  exact quot_of p 0 k R 2 (by omega) (by omega) hp _ _ _ rfl rfl (count_at R 2 (by omega))

theorem grp1_at (p : FVec Ideal S4096x1280 .f32) (R : Fin 4096) (z : Fin 1) (k : Fin 128) (hp : ∀ j, Real? (col p 1 k j)) :
    grp1 p (ix3 R z k) - groups p (ix3 R 1 k) = avg (col p 1 k) 4 R := by
  pointwise [grp1]
  rw [groups_at]
  exact quot_of p 1 k R 4 (by omega) (by omega) hp _ _ _ rfl rfl (count_at R 4 (by omega))

theorem grp2_at (p : FVec Ideal S4096x1280 .f32) (R : Fin 4096) (z : Fin 1) (k : Fin 128) (hp : ∀ j, Real? (col p 2 k j)) :
    grp2 p (ix3 R z k) - groups p (ix3 R 2 k) = avg (col p 2 k) 8 R := by
  pointwise [grp2]
  rw [groups_at]
  exact quot_of p 2 k R 8 (by omega) (by omega) hp _ _ _ rfl rfl (count_at R 8 (by omega))

theorem grp3_at (p : FVec Ideal S4096x1280 .f32) (R : Fin 4096) (z : Fin 1) (k : Fin 128) (hp : ∀ j, Real? (col p 3 k j)) :
    grp3 p (ix3 R z k) - groups p (ix3 R 3 k) = avg (col p 3 k) 16 R := by
  pointwise [grp3]
  rw [groups_at]
  exact quot_of p 3 k R 16 (by omega) (by omega) hp _ _ _ rfl rfl (count_at R 16 (by omega))

/-- The window of a group. -/
def win (g : ℕ) : ℕ := 2 ^ (g + 1)

theorem pooled_at (p : FVec Ideal S4096x1280 .f32) (hp : ∀ g : Fin 4, ∀ k j, Real? (col p g k j)) (R : Fin 4096) (g : Fin 4) (k : Fin 128) :
    pooled p (ix3 R g k) = avg (col p g k) (win g) R := by
  match g with
  | ⟨0, _⟩ => exact Eq.trans (by pointwise [pooled]) (grp0_at p R 0 k (hp 0 k))
  | ⟨1, _⟩ => exact Eq.trans (by pointwise [pooled]) (grp1_at p R 0 k (hp 1 k))
  | ⟨2, _⟩ => exact Eq.trans (by pointwise [pooled]) (grp2_at p R 0 k (hp 2 k))
  | ⟨3, _⟩ => exact Eq.trans (by pointwise [pooled]) (grp3_at p R 0 k (hp 3 k))

def outS (p : FVec Ideal S4096x1280 .f32) (w : FVec Ideal S4x128x128 .f32) (d : FVec Ideal S4096x1024 .f32) : FVec Ideal S1x512 .f32 :=
  shapeCast _ (Host.reduceAdd (mulf (shapeCast _ (transpose S4096x4x128 [2, 0, 1] (Host.dotGeneral dot_S4x128x128_S4096x4x128_S4x128x4096_1_2_2_0_0_1 none w (pooled p)) transposes_S4x128x4096_S4096x4x128_2_0_1) shapeCasts_S4096x4x128_S4096x512) (extractStridedSlice S4096x512 ![0, 0] d slices_S4096x1024_S4096x512_0_0)) (constant (F := Ideal) S_ .f32 0x00000000#32) reducesTo_S4096x512_S512_d0 h_S_) shapeCasts_S512_S1x512

def outW (p : FVec Ideal S4096x1280 .f32) (s : FVec Ideal S1x512 .f32) (d : FVec Ideal S4096x1024 .f32) : FVec Ideal S4x128x128 .f32 :=
  transpose S4x128x128 [0, 2, 1] (Host.dotGeneral dot_S4x128x4096_S4096x4x128_S4x128x128_2_0_1_2_0_1 none (transpose S4x128x4096 [1, 2, 0] (shapeCast _ (mulf (extractStridedSlice S4096x512 ![0, 0] d slices_S4096x1024_S4096x512_0_0) (broadcastInDim S4096x512 ![0, 1] bcast_S1x512_S4096x512_0_1 s)) shapeCasts_S4096x512_S4096x4x128) transposes_S4096x4x128_S4x128x4096_1_2_0) (pooled p)) transposes_S4x128x128_S4x128x128_0_2_1

theorem s_at (p : FVec Ideal S4096x1280 .f32) (hp : ∀ g : Fin 4, ∀ k j, Real? (col p g k j)) (w : FVec Ideal S4x128x128 .f32) (d : FVec Ideal S4096x1024 .f32)
    (z : Fin 1) (g : Fin 4) (k : Fin 128) : outS p w d (ix2 z ⟨128 * g + k, by omega⟩)
      = ∑ R : Fin 4096, d (ix2 R ⟨128 * g + k, by omega⟩) * ∑ e : Fin 128, avg (col p g e) (win g) R * w (ix3 g e k) := by
  pointwise [outS]
  refine Finset.sum_congr rfl fun R _ => (mul_comm _ _).trans (Ideal.mul_congr rfl (Finset.sum_congr rfl fun e _ => ?_))
  rw [pooled_at p hp]
  exact mul_comm _ _

theorem w_at (p : FVec Ideal S4096x1280 .f32) (hp : ∀ g : Fin 4, ∀ k j, Real? (col p g k j)) (s : FVec Ideal S1x512 .f32) (d : FVec Ideal S4096x1024 .f32)
    (g : Fin 4) (e k : Fin 128) : outW p s d (ix3 g e k)
      = ∑ R : Fin 4096, avg (col p g e) (win g) R * (d (ix2 R ⟨128 * g + k, by omega⟩) * s (ix2 0 ⟨128 * g + k, by omega⟩)) := by
  pointwise [outW]
  refine Finset.sum_congr rfl fun R _ => ?_
  rw [pooled_at p hp, mul_comm]
  simp only [mul_comm (g : ℕ) 128]

variable (m : (ℓ : Loc nD τ sig) → Buf (Elt Ideal) ℓ) (c : Dev nD)

theorem out_s : Value.res_main_v74 (F := Ideal) m c = outS (m (c.tc.loc main_arg0)) (m (c.tc.loc main_arg3)) (m (c.tc.loc main_arg8)) := rfl
theorem out_w : Value.res_main_v80 (F := Ideal) m c = outW (m (c.tc.loc main_arg0)) (m (c.tc.loc main_arg4)) (m (c.tc.loc main_arg8)) := rfl

end Cert.PoolRefIdeal.Grad

end
-- ==== Proof.PoolGrad.lean ====
/- The gradients of the pooling mixer's weights and scales: the kernel adds up its blocks' parts, and the reference forms them over all rows. -/
module

public import proofs.«01_k».proof.Proof.Gen.PoolIdeal.Value
public import proofs.«01_k».proof.Proof.Gen.PoolRefIdeal.Run
public import proofs.«01_k».proof.Proof.Gen.PoolIdeal
public import proofs.«01_k».proof.Proof.Gen.PoolRefIdeal
public import proofs.«01_k».proof.Defs
public import proofs.«01_k».proof.Proof.Gen.Pre_finite_proj
public import Idealize.ShloMosaic.Lib.ReduceAll
public import proofs.«01_k».proof.Proof.PoolKernel
public import proofs.«01_k».proof.Proof.PoolRef
public import proofs.«01_k».proof.Proof.Finite
public import Idealize.ShloMosaic.Lib.Pipeline.ValueKit
public import Idealize.ShloMosaic.Lib.StableHlo.ReadAt
public import Idealize.ShloMosaic.Lib.Quiescent

@[expose] public section

set_option maxRecDepth 16384

noncomputable section

namespace Cert.PoolIdeal.Grad

open Cert.PoolIdeal Cert.PoolIdeal.Gen Idealize.ShloMosaic Idealize.ShloMosaic.TcCoe Idealize.ShloMosaic.Tactic Idealize.SL.Sem FfnBack
open Cert.PoolRefIdeal.Grad (col win)

section
variable {F : FTy → Type} [FloatOps F]

/-- A group's weights. -/
abbrev sl (off : Fin 3 → ℕ) (h : ∀ a, off a + (![1, 128, 128] : Fin 3 → ℕ) a ≤ S4x128x128.size a) (x9 : FVec F S4x128x128 .f32) : FVec F S1x128x128 .f32 :=
  View.ld (Val := Elt F) (e' := .f32) x9 (Rect.unit (s := S4x128x128) off ![1, 128, 128] h)

/-- The groups' averages in a block of rows. -/
def a0 (i : grid0.Coords) (x0 x1 : FVec F S128x1280 .f32) : FVec F S128x128 .f32 := k0_pay10 i x0 x1
def a1 (i : grid0.Coords) (x0 x1 : FVec F S128x1280 .f32) : FVec F S128x128 .f32 := k0_pay17 x0 (k0_pay8 i) (k0_pay15 x0 (k0_pay6 i x1)) k0_pay16
def a2 (i : grid0.Coords) (x0 x1 : FVec F S128x1280 .f32) : FVec F S128x128 .f32 := k0_pay24 x0 (k0_pay8 i) (k0_pay22 (k0_pay6 i x1)) (k0_pay23 x0)
def a3 (i : grid0.Coords) (x0 x1 : FVec F S128x1280 .f32) : FVec F S128x128 .f32 := k0_pay31 x0 (k0_pay6 i x1) (k0_pay8 i)

/-- A block's part of the scales' gradient. -/
def dsOf (i : grid0.Coords) (x0 x1 : FVec F S128x1280 .f32) (x9 : FVec F S4x128x128 .f32) (x16 : FVec F S128x1024 .f32) : FVec F S1x512 .f32 :=
  k0_pay38 (k0_pay11 x16 (k0_pay10 i x0 x1) (sl ![0, 0, 0] inb_S4x128x128_S1x128x128_0_0_0 x9))
    (k0_pay18 x0 x16 (k0_pay8 i) (k0_pay15 x0 (k0_pay6 i x1)) k0_pay16 (sl ![1, 0, 0] inb_S4x128x128_S1x128x128_1_0_0 x9))
    (k0_pay25 x0 x16 (k0_pay8 i) (k0_pay22 (k0_pay6 i x1)) (k0_pay23 x0) (sl ![2, 0, 0] inb_S4x128x128_S1x128x128_2_0_0 x9))
    (k0_pay32 x0 (k0_pay6 i x1) x16 (k0_pay8 i) (sl ![3, 0, 0] inb_S4x128x128_S1x128x128_3_0_0 x9))

/-- What the first block leaves of the weights' gradient, and what a later one makes of it. -/
def dwA (i : grid0.Coords) (x0 x1 : FVec F S128x1280 .f32) (x10 : FVec F S1x512 .f32) (x16 x17 : FVec F S128x1024 .f32) : FVec F S4x128x128 .f32 :=
  View.canon (Val := Elt F) (s := S4x128x128) (e := .f32)
      [⟨Rect.unit ![3, 0, 0] ![1, 128, 128] inb_S4x128x128_S1x128x128_3_0_0,
          k0_pay134 (k0_pay36 (k0_pay34 x0 (k0_pay6 i x1) (k0_pay8 i)) (k0_pay35 x16 (k0_pay7 i x17) x10))⟩,
        ⟨Rect.unit ![2, 0, 0] ![1, 128, 128] inb_S4x128x128_S1x128x128_2_0_0,
          k0_pay133 (k0_pay27 x0 x16 (k0_pay7 i x17) (k0_pay8 i) x10 (k0_pay22 (k0_pay6 i x1)) (k0_pay23 x0))⟩,
        ⟨Rect.unit ![1, 0, 0] ![1, 128, 128] inb_S4x128x128_S1x128x128_1_0_0,
          k0_pay132 (k0_pay20 x0 x16 (k0_pay7 i x17) (k0_pay8 i) x10 (k0_pay15 x0 (k0_pay6 i x1)) k0_pay16)⟩,
        ⟨Rect.unit ![0, 0, 0] ![1, 128, 128] inb_S4x128x128_S1x128x128_0_0_0,
          k0_pay131 (k0_pay13 x16 (k0_pay7 i x17) x10 (k0_pay10 i x0 x1))⟩]

def dwB (i : grid0.Coords) (x0 x1 : FVec F S128x1280 .f32) (x10 : FVec F S1x512 .f32) (x16 x17 : FVec F S128x1024 .f32) (xo : FVec F S4x128x128 .f32) : FVec F S4x128x128 .f32 :=
  View.canon (Val := Elt F) (s := S4x128x128) (e := .f32)
      [⟨Rect.unit ![3, 0, 0] ![1, 128, 128] inb_S4x128x128_S1x128x128_3_0_0,
          k0_pay135 (k0_pay36 (k0_pay34 x0 (k0_pay6 i x1) (k0_pay8 i)) (k0_pay35 x16 (k0_pay7 i x17) x10)) (sl ![3, 0, 0] inb_S4x128x128_S1x128x128_3_0_0 xo)⟩,
        ⟨Rect.unit ![2, 0, 0] ![1, 128, 128] inb_S4x128x128_S1x128x128_2_0_0,
          k0_pay5 (k0_pay27 x0 x16 (k0_pay7 i x17) (k0_pay8 i) x10 (k0_pay22 (k0_pay6 i x1)) (k0_pay23 x0)) (sl ![2, 0, 0] inb_S4x128x128_S1x128x128_2_0_0 xo)⟩,
        ⟨Rect.unit ![1, 0, 0] ![1, 128, 128] inb_S4x128x128_S1x128x128_1_0_0,
          k0_pay4 (k0_pay20 x0 x16 (k0_pay7 i x17) (k0_pay8 i) x10 (k0_pay15 x0 (k0_pay6 i x1)) k0_pay16) (sl ![1, 0, 0] inb_S4x128x128_S1x128x128_1_0_0 xo)⟩,
        ⟨Rect.unit ![0, 0, 0] ![1, 128, 128] inb_S4x128x128_S1x128x128_0_0_0,
          k0_pay3 (k0_pay13 x16 (k0_pay7 i x17) x10 (k0_pay10 i x0 x1)) (sl ![0, 0, 0] inb_S4x128x128_S1x128x128_0_0_0 xo)⟩]

theorem dsOf_A (c : Dev nD) (i : grid0.Coords) (arg1 : Memref sig .tc .vmem S128x1280 .f32) (harg1 : arg1.IsWhole) (arg2 : Memref sig .tc .vmem S128x1280 .f32) (harg2 : arg2.IsWhole) (arg3 : Memref sig .tc .vmem S128x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S4x128x128 .f32) (harg10 : arg10.IsWhole) (arg11 : Memref sig .tc .vmem S1x512 .f32) (harg11 : arg11.IsWhole) (arg12 : Memref sig .tc .smem S8 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1280 .bf16) (harg19 : arg19.IsWhole) (arg20 : Memref sig .tc .vmem S4x128x128 .f32) (harg20 : arg20.IsWhole) (arg21 : Memref sig .tc .vmem S1x512 .f32) (harg21 : arg21.IsWhole) (arg22 : Memref sig .tc .vmem S1x128 .f32) (harg22 : arg22.IsWhole) (hc0 : cond0_0 i) (hc1 : ¬cond0_1 i)
    (x0 : Vec F S128x1280 .f32) (x1 : Vec F S128x1280 .f32) (x2 : Vec F S128x1280 .f32) (x3 : Vec F S128x128 .f32) (x4 : Vec F S128x128 .f32) (x5 : Vec F S128x128 .f32) (x6 : Vec F S128x128 .f32) (x7 : Vec F S128x128 .f32) (x8 : Vec F S128x128 .f32) (x9 : Vec F S4x128x128 .f32) (x10 : Vec F S1x512 .f32) (x11 : Vec F S8 .f32) (x12 : Vec F S128x512 .f32) (x13 : Vec F S128x512 .f32) (x14 : Vec F S128x128 .f32) (x15 : Vec F S128x128 .f32) (x16 : Vec F S128x1024 .f32) (x17 : Vec F S128x1024 .f32) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 = dsOf i x0 x1 x9 x16 := by
  unfold dsOf
  frame_out

theorem dsOf_B (c : Dev nD) (i : grid0.Coords) (arg1 : Memref sig .tc .vmem S128x1280 .f32) (harg1 : arg1.IsWhole) (arg2 : Memref sig .tc .vmem S128x1280 .f32) (harg2 : arg2.IsWhole) (arg3 : Memref sig .tc .vmem S128x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S4x128x128 .f32) (harg10 : arg10.IsWhole) (arg11 : Memref sig .tc .vmem S1x512 .f32) (harg11 : arg11.IsWhole) (arg12 : Memref sig .tc .smem S8 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1280 .bf16) (harg19 : arg19.IsWhole) (arg20 : Memref sig .tc .vmem S4x128x128 .f32) (harg20 : arg20.IsWhole) (arg21 : Memref sig .tc .vmem S1x512 .f32) (harg21 : arg21.IsWhole) (arg22 : Memref sig .tc .vmem S1x128 .f32) (harg22 : arg22.IsWhole) (hc0 : ¬cond0_0 i) (hc1 : cond0_1 i)
    (x0 : Vec F S128x1280 .f32) (x1 : Vec F S128x1280 .f32) (x2 : Vec F S128x1280 .f32) (x3 : Vec F S128x128 .f32) (x4 : Vec F S128x128 .f32) (x5 : Vec F S128x128 .f32) (x6 : Vec F S128x128 .f32) (x7 : Vec F S128x128 .f32) (x8 : Vec F S128x128 .f32) (x9 : Vec F S4x128x128 .f32) (x10 : Vec F S1x512 .f32) (x11 : Vec F S8 .f32) (x12 : Vec F S128x512 .f32) (x13 : Vec F S128x512 .f32) (x14 : Vec F S128x128 .f32) (x15 : Vec F S128x128 .f32) (x16 : Vec F S128x1024 .f32) (x17 : Vec F S128x1024 .f32) (xo19 : Vec F S4x128x128 .f32) (xo20 : Vec F S1x512 .f32) (xo21 : Vec F S1x128 .f32) :
    out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xo19 xo20 xo21 = k0_pay1 (dsOf i x0 x1 x9 x16) xo20 := by
  unfold dsOf
  frame_out

theorem dwOf_A (c : Dev nD) (i : grid0.Coords) (arg1 : Memref sig .tc .vmem S128x1280 .f32) (harg1 : arg1.IsWhole) (arg2 : Memref sig .tc .vmem S128x1280 .f32) (harg2 : arg2.IsWhole) (arg3 : Memref sig .tc .vmem S128x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S4x128x128 .f32) (harg10 : arg10.IsWhole) (arg11 : Memref sig .tc .vmem S1x512 .f32) (harg11 : arg11.IsWhole) (arg12 : Memref sig .tc .smem S8 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1280 .bf16) (harg19 : arg19.IsWhole) (arg20 : Memref sig .tc .vmem S4x128x128 .f32) (harg20 : arg20.IsWhole) (arg21 : Memref sig .tc .vmem S1x512 .f32) (harg21 : arg21.IsWhole) (arg22 : Memref sig .tc .vmem S1x128 .f32) (harg22 : arg22.IsWhole) (hc0 : cond0_0 i) (hc1 : ¬cond0_1 i)
    (x0 : Vec F S128x1280 .f32) (x1 : Vec F S128x1280 .f32) (x2 : Vec F S128x1280 .f32) (x3 : Vec F S128x128 .f32) (x4 : Vec F S128x128 .f32) (x5 : Vec F S128x128 .f32) (x6 : Vec F S128x128 .f32) (x7 : Vec F S128x128 .f32) (x8 : Vec F S128x128 .f32) (x9 : Vec F S4x128x128 .f32) (x10 : Vec F S1x512 .f32) (x11 : Vec F S8 .f32) (x12 : Vec F S128x512 .f32) (x13 : Vec F S128x512 .f32) (x14 : Vec F S128x128 .f32) (x15 : Vec F S128x128 .f32) (x16 : Vec F S128x1024 .f32) (x17 : Vec F S128x1024 .f32) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 = dwA i x0 x1 x10 x16 x17 := by
  frame_out

theorem dwOf_B (c : Dev nD) (i : grid0.Coords) (arg1 : Memref sig .tc .vmem S128x1280 .f32) (harg1 : arg1.IsWhole) (arg2 : Memref sig .tc .vmem S128x1280 .f32) (harg2 : arg2.IsWhole) (arg3 : Memref sig .tc .vmem S128x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S4x128x128 .f32) (harg10 : arg10.IsWhole) (arg11 : Memref sig .tc .vmem S1x512 .f32) (harg11 : arg11.IsWhole) (arg12 : Memref sig .tc .smem S8 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1280 .bf16) (harg19 : arg19.IsWhole) (arg20 : Memref sig .tc .vmem S4x128x128 .f32) (harg20 : arg20.IsWhole) (arg21 : Memref sig .tc .vmem S1x512 .f32) (harg21 : arg21.IsWhole) (arg22 : Memref sig .tc .vmem S1x128 .f32) (harg22 : arg22.IsWhole) (hc0 : ¬cond0_0 i) (hc1 : cond0_1 i)
    (x0 : Vec F S128x1280 .f32) (x1 : Vec F S128x1280 .f32) (x2 : Vec F S128x1280 .f32) (x3 : Vec F S128x128 .f32) (x4 : Vec F S128x128 .f32) (x5 : Vec F S128x128 .f32) (x6 : Vec F S128x128 .f32) (x7 : Vec F S128x128 .f32) (x8 : Vec F S128x128 .f32) (x9 : Vec F S4x128x128 .f32) (x10 : Vec F S1x512 .f32) (x11 : Vec F S8 .f32) (x12 : Vec F S128x512 .f32) (x13 : Vec F S128x512 .f32) (x14 : Vec F S128x128 .f32) (x15 : Vec F S128x128 .f32) (x16 : Vec F S128x1024 .f32) (x17 : Vec F S128x1024 .f32) (xo19 : Vec F S4x128x128 .f32) (xo20 : Vec F S1x512 .f32) (xo21 : Vec F S1x128 .f32) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xo19 xo20 xo21 = dwB i x0 x1 x10 x16 x17 xo19 := by
  frame_out

end

/-- The average of group `g`. -/
def mean (i : grid0.Coords) (x0 x1 : FVec Ideal S128x1280 .f32) : Fin 4 → FVec Ideal S128x128 .f32
  | ⟨0, _⟩ => a0 i x0 x1
  | ⟨1, _⟩ => a1 i x0 x1
  | ⟨2, _⟩ => a2 i x0 x1
  | ⟨3, _⟩ => a3 i x0 x1

/-- A block's part of the weights' gradient. -/
def wBlk (i : grid0.Coords) (x0 x1 : FVec Ideal S128x1280 .f32) (x10 : FVec Ideal S1x512 .f32) (x16 : FVec Ideal S128x1024 .f32) : FVec Ideal S4x128x128 .f32 :=
  fun y => wPart (128 * (y 0).val) (by have h : (y 0).val < 4 := (y 0).isLt; omega) x16 x10 (mean i x0 x1 (y 0)) (y 1) (y 2)

theorem sl_at (x9 : FVec Ideal S4x128x128 .f32) (n : ℕ) (g : Fin 4)
    (hn : ∀ a, (![n, 0, 0] : Fin 3 → ℕ) a + (![1, 128, 128] : Fin 3 → ℕ) a ≤ S4x128x128.size a) (h0 : (g : ℕ) = n) (e d : Fin 128) :
    sl ![n, 0, 0] hn x9 (ix3 0 e d) = x9 (ix3 g e d) := by
  refine congrArg x9 (funext fun a => Fin.ext ?_)
  match a with
  | ⟨0, _⟩ => show n + 0 * 1 = g; omega
  | ⟨1, _⟩ => show 0 + 1 * e.val = e; omega
  | ⟨2, _⟩ => show 0 + 1 * d.val = d; omega

theorem up_at (P : FVec Ideal S128x128 .f32) (x : S1x128x128.Idx) (e d : Fin 128) (h1 : (e : ℕ) = (x 1).val) (h2 : (d : ℕ) = (x 2).val) :
    shapeCast S1x128x128 P shapeCasts_S128x128_S1x128x128 x = P (ix2 e d) := by
  obtain ⟨u, e', d', rfl⟩ : ∃ u : Fin 1, ∃ e' d' : Fin 128, x = ix3 u e' d' := ⟨x 0, x 1, x 2, eq_ix3 x⟩
  obtain rfl : e = e' := Fin.ext h1
  obtain rfl : d = d' := Fin.ext h2
  pointwise []

theorem acc_at (P : FVec Ideal S128x128 .f32) (xo : FVec Ideal S4x128x128 .f32) (n : ℕ) (g : Fin 4)
    (hn : ∀ a, (![n, 0, 0] : Fin 3 → ℕ) a + (![1, 128, 128] : Fin 3 → ℕ) a ≤ S4x128x128.size a) (x : S1x128x128.Idx) (e d : Fin 128)
    (h0 : (g : ℕ) = n) (hx : (x 0).val < 1) (h1 : (e : ℕ) = (x 1).val) (h2 : (d : ℕ) = (x 2).val) :
    shapeCast S1x128x128 (addf (shapeCast S128x128 (sl ![n, 0, 0] hn xo) shapeCasts_S1x128x128_S128x128) P) shapeCasts_S128x128_S1x128x128 x
      = xo (ix3 g e d) + P (ix2 e d) := by
  rw [up_at _ x e d h1 h2]
  subst h0
  refine Ideal.add_congr ?_ rfl
  refine Eq.trans (b := sl ![g, 0, 0] hn xo (ix3 0 e d)) (by pointwise []) (sl_at xo g g hn rfl e d)

theorem dwA_eq (i : grid0.Coords) (x0 x1 : FVec Ideal S128x1280 .f32) (x10 : FVec Ideal S1x512 .f32) (x16 x17 : FVec Ideal S128x1024 .f32) (y : S4x128x128.Idx) :
    dwA i x0 x1 x10 x16 x17 y = wBlk i x0 x1 x10 x16 y := by
  unfold dwA
  obtain ⟨g, e, d, rfl⟩ : ∃ g : Fin 4, ∃ e d : Fin 128, y = ix3 g e d := ⟨y 0, y 1, y 2, eq_ix3 y⟩
  canon_tiles x h
  · obtain rfl : g = 3 := Fin.ext (by refine h0.trans ?_; have := x0_lt; show 3 + (x 0).val = 3; omega)
    exact (up_at _ x e d h1 h2).trans (w3_at ..)
  · obtain rfl : g = 2 := Fin.ext (by refine h0.trans ?_; have := x0_lt; show 2 + (x 0).val = 2; omega)
    exact (up_at _ x e d h1 h2).trans (w2_at ..)
  · obtain rfl : g = 1 := Fin.ext (by refine h0.trans ?_; have := x0_lt; show 1 + (x 0).val = 1; omega)
    exact (up_at _ x e d h1 h2).trans (w1_at ..)
  · obtain rfl : g = 0 := Fin.ext (by refine h0.trans ?_; have := x0_lt; show (x 0).val = 0; omega)
    exact (up_at _ x e d h1 h2).trans (w0_at ..)

theorem dwB_eq (i : grid0.Coords) (x0 x1 : FVec Ideal S128x1280 .f32) (x10 : FVec Ideal S1x512 .f32) (x16 x17 : FVec Ideal S128x1024 .f32)
    (xo : FVec Ideal S4x128x128 .f32) (y : S4x128x128.Idx) :
    dwB i x0 x1 x10 x16 x17 xo y = xo y + wBlk i x0 x1 x10 x16 y := by
  unfold dwB
  obtain ⟨g, e, d, rfl⟩ : ∃ g : Fin 4, ∃ e d : Fin 128, y = ix3 g e d := ⟨y 0, y 1, y 2, eq_ix3 y⟩
  canon_tiles x h
  · obtain rfl : g = 3 := Fin.ext (by refine h0.trans ?_; have := x0_lt; show 3 + (x 0).val = 3; omega)
    exact (acc_at _ xo 3 3 _ x e d rfl x0_lt h1 h2).trans (Ideal.add_congr rfl (w3_at ..))
  · obtain rfl : g = 2 := Fin.ext (by refine h0.trans ?_; have := x0_lt; show 2 + (x 0).val = 2; omega)
    exact (acc_at _ xo 2 2 _ x e d rfl x0_lt h1 h2).trans (Ideal.add_congr rfl (w2_at ..))
  · obtain rfl : g = 1 := Fin.ext (by refine h0.trans ?_; have := x0_lt; show 1 + (x 0).val = 1; omega)
    exact (acc_at _ xo 1 1 _ x e d rfl x0_lt h1 h2).trans (Ideal.add_congr rfl (w1_at ..))
  · obtain rfl : g = 0 := Fin.ext (by refine h0.trans ?_; have := x0_lt; show (x 0).val = 0; omega)
    exact (acc_at _ xo 0 0 _ x e d rfl x0_lt h1 h2).trans (Ideal.add_congr rfl (w0_at ..))

/-- A block's part of the scales' gradient, at a group's column. -/
theorem ds_at (i : grid0.Coords) (x0 x1 : FVec Ideal S128x1280 .f32) (x9 : FVec Ideal S4x128x128 .f32) (x16 : FVec Ideal S128x1024 .f32) (z : Fin 1) (g : Fin 4) (k : Fin 128) :
    dsOf i x0 x1 x9 x16 (ix2 z ⟨128 * g + k, by omega⟩)
      = ∑ r : Fin 128, x16 (ix2 r ⟨128 * g + k, by omega⟩) * ∑ e : Fin 128, mean i x0 x1 g (ix2 r e) * x9 (ix3 g e k) := by
  match g with
  | ⟨0, _⟩ =>
    refine Eq.trans (b := k0_pay11 (F := Ideal) x16 (k0_pay10 i x0 x1) (sl ![0, 0, 0] inb_S4x128x128_S1x128x128_0_0_0 x9) (ix2 0 k)) (by pointwise [dsOf, k0_pay38]) ?_
    rw [s0_at]
    unfold sPart
    simp only [sl_at x9 0 0 _ rfl]
    rfl
  | ⟨1, _⟩ =>
    refine Eq.trans (b := k0_pay18 (F := Ideal) x0 x16 (k0_pay8 i) (k0_pay15 x0 (k0_pay6 i x1)) k0_pay16 (sl ![1, 0, 0] inb_S4x128x128_S1x128x128_1_0_0 x9) (ix2 0 k)) (by pointwise [dsOf, k0_pay38]) ?_
    rw [s1_at]
    unfold sPart
    simp only [sl_at x9 1 1 _ rfl]
    rfl
  | ⟨2, _⟩ =>
    refine Eq.trans (b := k0_pay25 (F := Ideal) x0 x16 (k0_pay8 i) (k0_pay22 (k0_pay6 i x1)) (k0_pay23 x0) (sl ![2, 0, 0] inb_S4x128x128_S1x128x128_2_0_0 x9) (ix2 0 k)) ?_ ?_
    · pointwise [dsOf, k0_pay38]
      rw [dif_neg (by omega), dif_neg (by omega), dif_pos (by omega)]
      exact congrArg _ (congrArg (ix2 0) (Fin.ext (by show 256 + k.val - 128 - 128 = k.val; omega)))
    rw [s2_at]
    unfold sPart
    simp only [sl_at x9 2 2 _ rfl]
    rfl
  | ⟨3, _⟩ =>
    refine Eq.trans (b := k0_pay32 (F := Ideal) x0 (k0_pay6 i x1) x16 (k0_pay8 i) (sl ![3, 0, 0] inb_S4x128x128_S1x128x128_3_0_0 x9) (ix2 0 k)) ?_ ?_
    · pointwise [dsOf, k0_pay38]
      rw [dif_neg (by omega), dif_neg (by omega), dif_neg (by omega)]
      exact congrArg _ (congrArg (ix2 0) (Fin.ext (by show 384 + k.val - 128 - 128 - 128 = k.val; omega)))
    rw [s3_at]
    unfold sPart
    simp only [sl_at x9 3 3 _ rfl]
    rfl

theorem acc_s (P v : FVec Ideal S1x512 .f32) (y : S1x512.Idx) : k0_pay1 (F := Ideal) P v y = v y + P y := by
  obtain ⟨z, k, rfl⟩ : ∃ z : Fin 1, ∃ k : Fin 512, y = ix2 z k := ⟨y 0, y 1, eq_ix2 y⟩
  pointwise [k0_pay1]

theorem col_at (p : FVec Ideal S4096x1280 .f32) (g : ℕ) (k : Fin 128) (R : ℕ) (hR : R < 4096) (j : Fin 1280) (hj : (j : ℕ) = 128 * g + k) :
    p (ix2 ⟨R, hR⟩ j) = col p g k R := by
  have h : 128 * g + (k : ℕ) < 1280 := hj ▸ j.isLt
  unfold col ext
  rw [dif_pos hR]
  dsimp only
  rw [dif_pos h]
  exact congrArg (fun j => p (ix2 ⟨R, hR⟩ j)) (Fin.ext hj)

/-- A group's average in a block is the average over the rows behind. -/
theorem mean_col (p : FVec Ideal S4096x1280 .f32) (i : grid0.Coords) (hi : (i 0).val < 32) (x0 x1 : FVec Ideal S128x1280 .f32)
    (hv : ∀ r k, x0 (ix2 r k) = p (ix2 ⟨128 * (i 0).val + (r : Fin 128), by omega⟩ k))
    (hq : 0 < (i 0).val → ∀ r k, x1 (ix2 r k) = p (ix2 ⟨128 * ((i 0).val - 1) + (r : Fin 128), by omega⟩ k)) (g : Fin 4) (r e : Fin 128) :
    mean i x0 x1 g (ix2 r e) = avg (col p g e) (win g) (128 * (i 0).val + r) := by
  have cv : ∀ (g : ℕ) (k : Fin 1280), (k : ℕ) = 128 * g + e → ∀ r : Fin 128, x0 (ix2 r k) = col p g e (128 * (i 0).val + r) :=
    fun g k h r => (hv r k).trans (col_at p g e _ _ k h)
  have cq : ∀ (g : ℕ) (k : Fin 1280), (k : ℕ) = 128 * g + e → 0 < (i 0).val → ∀ r : Fin 128, x1 (ix2 r k) = col p g e (128 * ((i 0).val - 1) + r) :=
    fun g k h h0 r => (hq h0 r k).trans (col_at p g e _ _ k h)
  match g with
  | ⟨0, _⟩ =>
    have h : ((0 + e.val : ℕ)) = 128 * 0 + e.val := by omega
    rw [show mean i x0 x1 ⟨0, by omega⟩ = a0 i x0 x1 from rfl, show win (⟨0, by omega⟩ : Fin 4).val = 2 from rfl]
    unfold a0
    rw [mean0]
    exact (avg_of i (col p 0 e) x0 x1 ⟨0 + e, by omega⟩ (cv 0 _ h) (cq 0 _ h) 2 (by omega) _ two_eq r)
  | ⟨1, _⟩ =>
    have h : ((128 + e.val : ℕ)) = 128 * 1 + e.val := by omega
    rw [show mean i x0 x1 ⟨1, by omega⟩ = a1 i x0 x1 from rfl, show win (⟨1, by omega⟩ : Fin 4).val = 4 from rfl]
    unfold a1
    rw [mean1]
    exact (avg_of i (col p 1 e) x0 x1 ⟨128 + e, by omega⟩ (cv 1 _ h) (cq 1 _ h) 4 (by omega) _ four_eq r)
  | ⟨2, _⟩ =>
    have h : ((256 + e.val : ℕ)) = 128 * 2 + e.val := by omega
    rw [show mean i x0 x1 ⟨2, by omega⟩ = a2 i x0 x1 from rfl, show win (⟨2, by omega⟩ : Fin 4).val = 8 from rfl]
    unfold a2
    rw [mean2]
    exact (avg_of i (col p 2 e) x0 x1 ⟨256 + e, by omega⟩ (cv 2 _ h) (cq 2 _ h) 8 (by omega) _ eight_eq r)
  | ⟨3, _⟩ =>
    have h : ((384 + e.val : ℕ)) = 128 * 3 + e.val := by omega
    rw [show mean i x0 x1 ⟨3, by omega⟩ = a3 i x0 x1 from rfl, show win (⟨3, by omega⟩ : Fin 4).val = 16 from rfl]
    unfold a3
    rw [mean3]
    exact (avg_of i (col p 3 e) x0 x1 ⟨384 + e, by omega⟩ (cv 3 _ h) (cq 3 _ h) 16 (by omega) _ sixteen_eq r)

variable (m : (ℓ : Loc nD τ sig) → Buf (Elt Ideal) ℓ) (c : Dev nD)

/-- The arguments the two results read. -/
def aP : FVec Ideal S4096x1280 .f32 := m (c.tc.loc main_arg0)
def aW : FVec Ideal S4x128x128 .f32 := m (c.tc.loc main_arg3)
def aS : FVec Ideal S1x512 .f32 := m (c.tc.loc main_arg4)
def aD : FVec Ideal S4096x1024 .f32 := m (c.tc.loc main_arg8)

/-- One row's part of the two gradients. -/
def rowS (g : Fin 4) (k : Fin 128) (R : Fin 4096) : EReal :=
  aD m c (ix2 R ⟨128 * g + k, by omega⟩) * ∑ e : Fin 128, avg (col (aP m c) g e) (win g) R * aW m c (ix3 g e k)
def rowW (g : Fin 4) (e k : Fin 128) (R : Fin 4096) : EReal :=
  avg (col (aP m c) g e) (win g) R * (aD m c (ix2 R ⟨128 * g + k, by omega⟩) * aS m c (ix2 0 ⟨128 * g + k, by omega⟩))

theorem hN : cfg0.N = 32 := N_0

theorem idx : ∀ t : Fin cfg0.N, t.val < 32 ∧ (grid0.coords t 0).val = t.val ∧ win0_0.index t = ![t.val, 0] ∧ win0_1.index t = ![t.val - 1, 0] ∧
    win0_9.index t = ![0, 0, 0] ∧ win0_10.index t = ![0, 0] ∧ win0_16.index t = ![t.val, 0] ∧
    win0_19.index t = ![0, 0, 0] ∧ win0_20.index t = ![0, 0] :=
  (by decide +kernel : ∀ t : Fin grid0.N, _)

def row (t : Fin cfg0.N) (r : Fin 128) : Fin 4096 := ⟨128 * t.val + r, by have := (idx t).1; omega⟩

theorem iblk0_at (t : Fin cfg0.N) (r : Fin 128) (k : Fin 1280) : iblk m c 0 t (ix2 r k) = aP m c (ix2 (row t r) k) := by
  unfold aP
  rw [← V_main_arg0 m c]
  blk_ext [iblk, idx t, row]

theorem iblk1_at (t : Fin cfg0.N) (r : Fin 128) (k : Fin 1280) (h : 128 * (t.val - 1) + (r : ℕ) < 4096) :
    iblk m c 1 t (ix2 r k) = aP m c (ix2 ⟨128 * (t.val - 1) + r, h⟩ k) := by
  unfold aP
  rw [← V_main_arg0 m c]
  blk_ext [iblk, idx t]

theorem iblk9_at (t : Fin cfg0.N) (g : Fin 4) (e d : Fin 128) : iblk m c 9 t (ix3 g e d) = aW m c (ix3 g e d) := by
  unfold aW
  rw [← V_main_arg3 m c]
  blk_ext [iblk, idx t]

theorem iblk10_at (t : Fin cfg0.N) (k : Fin 512) : iblk m c 10 t (ix2 0 k) = aS m c (ix2 0 k) := by
  unfold aS
  rw [← V_main_arg4 m c]
  blk_ext [iblk, idx t]

theorem iblk16_at (t : Fin cfg0.N) (r : Fin 128) (k : Fin 1024) : iblk m c 16 t (ix2 r k) = aD m c (ix2 (row t r) k) := by
  unfold aD
  rw [← V_main_arg8 m c]
  blk_ext [iblk, idx t, row]

theorem mean_row (t : Fin cfg0.N) (g : Fin 4) (r e : Fin 128) :
    mean (grid0.coords t) (iblk m c 0 t) (iblk m c 1 t) g (ix2 r e) = avg (col (aP m c) g e) (win g) (row t r) := by
  obtain ⟨h1, h2, -⟩ := idx t
  refine (mean_col (aP m c) (grid0.coords t) (h2 ▸ h1) _ _ (fun r k => ?_) (fun _ r k => ?_) g r e).trans ?_
  · refine (iblk0_at m c t r k).trans (congrArg (fun R => aP m c (ix2 R k)) (Fin.ext ?_))
    show 128 * t.val + r.val = 128 * (grid0.coords t 0).val + r.val
    rw [h2]
  · refine (iblk1_at m c t r k (by omega)).trans (congrArg (fun R => aP m c (ix2 R k)) (Fin.ext ?_))
    show 128 * (t.val - 1) + r.val = 128 * ((grid0.coords t 0).val - 1) + r.val
    rw [h2]
  · refine congrArg _ ?_
    show 128 * (grid0.coords t 0).val + r.val = 128 * t.val + r.val
    rw [h2]

/-- A block's parts of the two gradients. -/
def partS (t : Fin cfg0.N) : FVec Ideal S1x512 .f32 := dsOf (grid0.coords t) (iblk m c 0 t) (iblk m c 1 t) (iblk m c 9 t) (iblk m c 16 t)
def partW (t : Fin cfg0.N) : FVec Ideal S4x128x128 .f32 := wBlk (grid0.coords t) (iblk m c 0 t) (iblk m c 1 t) (iblk m c 10 t) (iblk m c 16 t)

theorem partS_at (t : Fin cfg0.N) (z : Fin 1) (g : Fin 4) (k : Fin 128) :
    partS m c t (ix2 z ⟨128 * g + k, by omega⟩) = ∑ r : Fin 128, rowS m c g k (row t r) := by
  refine (ds_at _ _ _ _ _ z g k).trans (Finset.sum_congr rfl fun r _ => ?_)
  exact Ideal.mul_congr (iblk16_at m c t r _) (Finset.sum_congr rfl fun e _ => Ideal.mul_congr (mean_row m c t g r e) (iblk9_at m c t g e k))

theorem partW_at (t : Fin cfg0.N) (g : Fin 4) (e k : Fin 128) :
    partW m c t (ix3 g e k) = ∑ r : Fin 128, rowW m c g e k (row t r) := by
  unfold partW wBlk wPart
  exact Finset.sum_congr rfl fun r _ =>
    Ideal.mul_congr (mean_row m c t g r e) (Ideal.mul_congr (iblk16_at m c t r _) (iblk10_at m c t _))

theorem left_s_A (t : Fin cfg0.N) (h : t.val % 32 = 0) : (outsAt0 m c t.val t.isLt).2.2.1 = partS m c t := by
  have ht := (idx t).1
  rw [outsAt0_A m c t h (by omega)]
  dsimp only
  rw [dsOf_A]
  rfl

theorem left_s_B (t : Fin cfg0.N) (h : ¬t.val % 32 = 0) (y : S1x512.Idx) :
    (outsAt0 m c t.val t.isLt).2.2.1 y = (outsAt0 m c (t.val - 1) (Nat.lt_of_le_of_lt (Nat.sub_le _ _) t.isLt)).2.2.1 y + partS m c t y := by
  rw [outsAt0_B m c t h (by omega)]
  dsimp only
  rw [dsOf_B]
  unfold partS
  generalize dsOf (F := Ideal) _ _ _ _ _ = P
  exact acc_s P _ y

theorem left_w_A (t : Fin cfg0.N) (h : t.val % 32 = 0) : (outsAt0 m c t.val t.isLt).2.1 = partW m c t := by
  have ht := (idx t).1
  rw [outsAt0_A m c t h (by omega)]
  dsimp only
  rw [dwOf_A]
  exact funext fun y => dwA_eq ..

theorem left_w_B (t : Fin cfg0.N) (h : ¬t.val % 32 = 0) (y : S4x128x128.Idx) :
    (outsAt0 m c t.val t.isLt).2.1 y = (outsAt0 m c (t.val - 1) (Nat.lt_of_le_of_lt (Nat.sub_le _ _) t.isLt)).2.1 y + partW m c t y := by
  rw [outsAt0_B m c t h (by omega)]
  dsimp only
  rw [dwOf_B]
  exact dwB_eq ..

/-- The blocks of rows are all the rows. -/
theorem sum_rows (j : ℕ) (hj : j < 1) (f : Fin 4096 → EReal) :
    (∑ s : Fin 32, ∑ r : Fin 128, f (row ⟨32 * j + s, by have := hN; omega⟩ r)) = ∑ R : Fin 4096, f R := by
  rw [Fin.sum_univ_tiles 32 128 rfl f]
  refine Finset.sum_congr rfl fun s _ => Finset.sum_congr rfl fun r _ => ?_
  refine congrArg f (Fin.ext ?_)
  simp only [row]
  omega

/-- The arrays the call writes. -/
def arrW : FVec Ideal S4x128x128 .f32 := fun y => ∑ R : Fin 4096, rowW m c (y 0) (y 1) (y 2) R
def arrS : FVec Ideal S1x512 .f32 := fun y =>
  ∑ R : Fin 4096, rowS m c ⟨(y 1).val / 128, by have h : (y 1).val < 512 := (y 1).isLt; omega⟩ ⟨(y 1).val % 128, by omega⟩ R

theorem arrS_at (z : Fin 1) (g : Fin 4) (k : Fin 128) (h : 128 * (g : ℕ) + k < 512) : arrS m c (ix2 z ⟨128 * g + k, h⟩) = ∑ R : Fin 4096, rowS m c g k R := by
  have e1 : (⟨(128 * (g : ℕ) + k) / 128, by omega⟩ : Fin 4) = g := Fin.ext (by show (128 * (g : ℕ) + k) / 128 = g; omega)
  have e2 : (⟨(128 * (g : ℕ) + k) % 128, by omega⟩ : Fin 128) = k := Fin.ext (by show (128 * (g : ℕ) + k) % 128 = k; omega)
  show (∑ R : Fin 4096, rowS m c ⟨(128 * (g : ℕ) + k) / 128, _⟩ ⟨(128 * (g : ℕ) + k) % 128, _⟩ R) = _
  rw [e1, e2]

/-- A column of the groups, as its group and its place there. -/
theorem split_col (j : Fin 512) : ∃ g : Fin 4, ∃ k : Fin 128, ∃ h : 128 * (g : ℕ) + k < 512, j = ⟨128 * g + k, h⟩ :=
  ⟨⟨j / 128, by omega⟩, ⟨j % 128, by omega⟩, by dsimp only; omega, Fin.ext (by dsimp only; omega)⟩

theorem final_w : (dats m 0 c).arrAt 19 cfg0.N = arrW m c := by
  refine (dats m 0 c).arrAt_eq_of_covers 19 _ (by decide +kernel) fun t hf y => ?_
  obtain ⟨g, e, k, rfl⟩ : ∃ g : Fin 4, ∃ e k : Fin 128, y = ix3 g e k := ⟨y 0, y 1, y 2, eq_ix3 y⟩
  have he : (win0_19.blk t).view.emb (ix3 g e k) = ix3 g e k := by blk_ext [idx t]
  have ht := (idx t).1
  blk_simp
  rw [he]
  rw [after0_19, Pipeline.eq_sum_fin_of_reset_step_apply_of_flush (fun n h => (outsAt0 m c n h).2.1) 32 (fun _ => 0) (fun p j => partW m c p j)
    (fun t h j => by rw [left_w_A m c t h, zero_add]) (fun t h j => left_w_B m c t h j)
    t ((flush0_19 t).mp hf) _, zero_add]
  exact Eq.trans (Fin.sum_fin_congr fun s => partW_at m c _ g e k) (sum_rows (t.val / 32) (by omega) (fun R => rowW m c g e k R))

theorem final_s : (dats m 0 c).arrAt 20 cfg0.N = arrS m c := by
  refine (dats m 0 c).arrAt_eq_of_covers 20 _ (by decide +kernel) fun t hf y => ?_
  obtain ⟨z, j, rfl⟩ : ∃ z : Fin 1, ∃ j : Fin 512, y = ix2 z j := ⟨y 0, y 1, eq_ix2 y⟩
  obtain ⟨g, k, hk, rfl⟩ := split_col j
  have he : (win0_20.blk t).view.emb (ix2 z ⟨128 * g + k, hk⟩) = ix2 z ⟨128 * g + k, hk⟩ := by blk_ext [idx t]
  have ht := (idx t).1
  blk_simp
  rw [he]
  rw [after0_20, Pipeline.eq_sum_fin_of_reset_step_apply_of_flush (fun n h => (outsAt0 m c n h).2.2.1) 32 (fun _ => 0) (fun p j => partS m c p j)
    (fun t h j => by rw [left_s_A m c t h, zero_add]) (fun t h j => left_s_B m c t h j)
    t ((flush0_20 t).mp hf) _, zero_add, arrS_at]
  exact Eq.trans (Fin.sum_fin_congr fun s => partS_at m c _ z g k) (sum_rows (t.val / 32) (by omega) (fun R => rowS m c g k R))

end Cert.PoolIdeal.Grad

namespace Cert.Pool

open Idealize.ShloMosaic Idealize.ShloMosaic.TcCoe Idealize.ShloMosaic.Tactic Idealize.SL.Sem FfnBack
open Cert.PoolIdeal.Grad

theorem ref_frame : Cert.quiescent_PoolRefIdeal (hPoolRefIdeal := Cert.PoolRefIdeal.Gen.facts) := fun m ρ _ =>
  (θ_run _ _ _).mono (fun r h => ⟨fun c => (h c).2.2, sem_eq_zero_of_no_sems (by decide) _⟩) (Cert.PoolRefIdeal.Value.run m ρ)

instance : Subsingleton Cert.Pre_finite_proj.S_.Idx := ⟨fun a b => funext fun i => i.elim0⟩

/-- The precondition says that the groups' columns are real. -/
theorem cols_real (m : (ℓ : Loc Cert.PoolIdeal.nD Cert.PoolIdeal.τ Cert.PoolIdeal.sig) → Buf (Elt Ideal) ℓ)
    (h : Cert.Pre_PoolIdeal_finite_proj (hPre_finite_proj := Cert.Pre_finite_proj.Gen.facts) m) (c : Dev Cert.PoolIdeal.nD) (g : Fin 4) (k : Fin 128) (j : ℕ) :
    Real? (Cert.PoolRefIdeal.Grad.col (aP m c) g k j) := by
  unfold Cert.PoolRefIdeal.Grad.col ext
  by_cases hj : j < 4096
  · rw [dif_pos hj]
    dsimp only
    rw [dif_pos (by omega : 128 * (g : ℕ) + k < 1280)]
    have e := Real?.of_cmp (Host.reduce_andi_all _ _ _ _ _ (congrFun (h c) (fun i => i.elim0)) (ix2 ⟨j, hj⟩ (⟨128 * g + k, by omega⟩ : Fin 512)))
    have e' : extractStridedSlice Cert.PoolIdeal.S4096x512 ![0, 0] (aP m c) Cert.Pre_finite_proj.Gen.facts.slices_S4096x1280_S4096x512_0_0 (ix2 ⟨j, hj⟩ (⟨128 * g + k, by omega⟩ : Fin 512))
        = aP m c (ix2 ⟨j, hj⟩ ⟨128 * g + k, by omega⟩) := by pointwise []
    exact e' ▸ e
  · rw [dif_neg hj]
    exact Real?.zero

theorem value : Cert.algebraic_PoolIdeal_PoolRefIdeal_pre_finite_proj (hPoolIdeal := Cert.PoolIdeal.Gen.facts)
    (hPoolRefIdeal := Cert.PoolRefIdeal.Gen.facts) (hPre_finite_proj := Cert.Pre_finite_proj.Gen.facts) := by
  intro m g m' g' hpre hargs
  refine ⟨fun c => arrW m c, fun c => arrS m c, ?_, ?_⟩
  · refine (θ_run _ _ _).mono (fun r h c => ?_) (Cert.PoolIdeal.Value.run_blocks m g)
    exact ⟨(h c).2.1.trans (final_w m c), (h c).2.2.1.trans (final_s m c), (h c).2.2.2.2⟩
  · refine (θ_run _ _ _).mono (fun r h c => ?_) (Cert.PoolRefIdeal.Value.run m' g')
    obtain ⟨h1, h2, h3⟩ := h c
    obtain ⟨e0, e1, e2, e3, e4, e5, e6, e7, e8⟩ := hargs c
    refine ⟨h1.trans ?_, h2.trans ?_, h3⟩
    · rw [Cert.PoolRefIdeal.Grad.out_w, e0, e4, e8]
      funext y
      obtain ⟨g, e, k, rfl⟩ : ∃ g : Fin 4, ∃ e k : Fin 128, y = ix3 g e k := ⟨y 0, y 1, y 2, eq_ix3 y⟩
      exact Cert.PoolRefIdeal.Grad.w_at (aP m c) (cols_real m hpre c) (aS m c) (aD m c) g e k
    · rw [Cert.PoolRefIdeal.Grad.out_s, e0, e3, e8]
      funext y
      obtain ⟨z, j, rfl⟩ : ∃ z : Fin 1, ∃ j : Fin 512, y = ix2 z j := ⟨y 0, y 1, eq_ix2 y⟩
      obtain ⟨g, k, hk, rfl⟩ := split_col j
      exact (Cert.PoolRefIdeal.Grad.s_at (aP m c) (cols_real m hpre c) (aW m c) (aD m c) z g k).trans (arrS_at m c z g k hk).symm

end Cert.Pool

end
-- ==== Proof.DtProj.lean ====
/- The in-projection's dt columns: at each point a product with the columns filled up with zeros, of which the columns asked for are read. -/
module

public import proofs.«01_k».proof.Proof.Gen.SsmDtIdeal.Frame
public import proofs.«01_k».proof.Proof.Gen.SsmDtRefIdeal.Run
public import proofs.«01_k».proof.Proof.Gen.SsmDtIdeal
public import proofs.«01_k».proof.Proof.Gen.SsmDtRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.SsmDtIdeal.Proj

open Cert.SsmDtIdeal Cert.SsmDtIdeal.Gen Idealize.ShloMosaic Idealize.ShloMosaic.TcCoe Idealize.ShloMosaic.Tactic Idealize.SL.Sem

variable (m : (ℓ : Loc nD τ sig) → Buf (Elt Ideal) ℓ) (c : Dev nD)

/-- The arguments as functions of row and column. -/
def aH (R : Fin 4096) (k : Fin 1024) : EReal := m (c.tc.loc main_arg0) (ix2 R k)
def aW (k : Fin 1024) (q : Fin 6176) : EReal := m (c.tc.loc main_arg1) (ix2 k q)

/-- The projection. -/
def proj : FVec Ideal S4096x32 .f32 := fun i => ∑ k : Fin 1024, aH m c (i 0) k * aW m c k ⟨6144 + i 1, by have := (i 1).isLt; simp at this; omega⟩

/-- The array the call writes; its columns from 32 on are not read. -/
def arr : FVec Ideal S4096x128 .f32 := fun i => ∑ k : Fin 1024, aH m c (i 0) k * (show EReal from V m c main_v4 (ix2 (i 1) k))

theorem idx : ∀ t : Fin cfg0.N, t.val < 4 ∧ win0_0.index t = ![t.val, 0] ∧ win0_1.index t = ![0, 0] ∧
    win0_2.index t = ![t.val, 0] :=
  (by decide +kernel : ∀ t : Fin grid0.N, _)

def row (t : Fin cfg0.N) (r : Fin 1024) : Fin 4096 := ⟨1024 * t.val + r, by have := (idx t).1; omega⟩

theorem h_at (r : Fin 4096) (k : Fin 1024) : V m c main_v0 (ix2 r k) = aH m c r k := by
  unfold V
  after_reads_at
  rfl

theorem w_at (q : Fin 32) (k : Fin 1024) : V m c main_v4 (ix2 (⟨q, by omega⟩ : Fin 128) k) = aW m c k ⟨6144 + q, by omega⟩ := by
  unfold V aW
  after_reads_at

theorem blk0_at (t : Fin cfg0.N) (r : Fin 1024) (k : Fin 1024) : iblk m c 0 t (ix2 r k) = aH m c (row t r) k := by
  rw [← h_at]
  blk_ext [iblk, idx t, row]

theorem blk1_at (t : Fin cfg0.N) (q : Fin 128) (k : Fin 1024) : iblk m c 1 t (ix2 q k) = V m c main_v4 (ix2 q k) := by
  blk_ext [iblk, idx t]

theorem pay_at (x0 : FVec Ideal S1024x1024 .bf16) (x1 : FVec Ideal S128x1024 .bf16) (r : Fin 1024) (q : Fin 128) :
    k0_pay1 (F := Ideal) x0 x1 (ix2 r q) = ∑ k : Fin 1024, x0 (ix2 r k) * x1 (ix2 q k) := by
  pointwise [k0_pay1]

theorem final : (dats m 0 c).arrAt 2 cfg0.N = arr m c := by
  refine (dats m 0 c).arrAt_eq_of_covers 2 _ (by decide +kernel) fun t hf y => ?_
  obtain ⟨r, q, rfl⟩ : ∃ r : Fin 1024, ∃ q : Fin 128, y = ix2 r q := ⟨y 0, y 1, eq_ix2 y⟩
  have e : (win0_2.blk t).view.emb (ix2 r q) = ix2 (row t r) q := by blk_ext [idx t, row]
  blk_simp
  rw [e, after0_2]
  unfold out0_2
  frame_out
  exact (pay_at _ _ r q).trans (Finset.sum_congr rfl fun k _ => Ideal.mul_congr (blk0_at m c t r k) (blk1_at m c t q k))

theorem res (r : Fin 4096) (q : Fin 32) :
    Pipeline.afterTail₀ cfgs (dats m) 0 (V0 m) [hostOps1] c main_v6 (ix2 r q) = proj m c (ix2 r q) := by
  unfold Pipeline.afterTail₀
  have e : Pipeline.withArrays (cfgs 0).spec c (V0 m c) (fun w => (dats m 0 c).arrAt w (cfgs 0).N) main_v5 = (dats m 0 c).arrAt 2 cfg0.N :=
    Pipeline.withArrays_arr (cfgs 0).spec (by decide : Function.Injective (Pipeline.arrRef spec0)) c (V0 m c)
      (fun w => (dats m 0 c).arrAt w (cfgs 0).N) 2
  have e1 : arr m c (ix2 r (⟨q, by omega⟩ : Fin 128)) = proj m c (ix2 r q) :=
    Finset.sum_congr rfl fun k _ => Ideal.mul_congr rfl (w_at m c q k)
  refine Eq.trans ?_ e1
  rw [← final, ← e]
  after_reads_at

end Cert.SsmDtIdeal.Proj

namespace Cert.DtProj

open Idealize.ShloMosaic Idealize.ShloMosaic.TcCoe Idealize.ShloMosaic.Tactic Idealize.SL.Sem
open Cert.SsmDtIdeal.Proj

theorem ref_frame : Cert.quiescent_SsmDtRefIdeal (hSsmDtRefIdeal := Cert.SsmDtRefIdeal.Gen.facts) := fun m ρ _ =>
  (θ_run _ _ _).mono (fun r h => ⟨fun c => (h c).2, sem_eq_zero_of_no_sems (by decide) _⟩) (Cert.SsmDtRefIdeal.Value.run m ρ)

theorem value : Cert.algebraic_SsmDtIdeal_SsmDtRefIdeal (hSsmDtIdeal := Cert.SsmDtIdeal.Gen.facts)
    (hSsmDtRefIdeal := Cert.SsmDtRefIdeal.Gen.facts) := by
  intro m g m' g' _ hargs
  refine ⟨fun c => proj m c, ?_, ?_⟩
  · refine (θ_run _ _ _).mono (fun r h c => ?_) (θ_run_and (Cert.SsmDtIdeal.Gen.run_main m g) (Cert.SsmDtIdeal.Gen.unchanged m g))
    obtain ⟨hr, hu⟩ := h
    refine ⟨?_, hu c⟩
    refine ((hr c).2 Cert.SsmDtIdeal.main_v6 (Pipeline.mem_restRefs_of Cert.SsmDtIdeal.main_v6 (by decide) (by decide))).trans ?_
    funext y
    obtain ⟨r, q, rfl⟩ : ∃ r : Fin 4096, ∃ q : Fin 32, y = ix2 r q := ⟨y 0, y 1, eq_ix2 y⟩
    exact res m c r q
  · refine (θ_run _ _ _).mono (fun r h c => ⟨(h c).1.trans ?_, (h c).2⟩) (Cert.SsmDtRefIdeal.Value.run m' g')
    obtain ⟨e0, e1⟩ := hargs c
    rw [e0, e1]
    funext y
    obtain ⟨r, q, rfl⟩ : ∃ r : Fin 4096, ∃ q : Fin 32, y = ix2 r q := ⟨y 0, y 1, eq_ix2 y⟩
    unfold proj aH aW
    pointwise []

end Cert.DtProj

end
-- ==== Proof.DtNorm.lean ====
/- The gradient through the norm, the in-projection's dt columns and the residual: the product's row with the gradient through the other columns, the norm's gradient, and the sum over the rows kept between the points. -/
module

public import proofs.«01_k».proof.Proof.Gen.SsmDtDxIdeal.Value
public import proofs.«01_k».proof.Proof.Gen.SsmDtDxRefIdeal.Run
public import proofs.«01_k».proof.Proof.Gen.SsmDtDxIdeal
public import proofs.«01_k».proof.Proof.Gen.SsmDtDxRefIdeal
public import proofs.«01_k».proof.Defs
public import proofs.«01_k».proof.Proof.NormGrad
public import Idealize.ShloMosaic.Lib.Pipeline.ValueKit
public import Idealize.ShloMosaic.Lib.StableHlo.ReadAt
public import Idealize.ShloMosaic.Lib.Quiescent

@[expose] public section

set_option maxRecDepth 16384

noncomputable section

namespace Cert.SsmDtDxIdeal.Grad

open Cert.SsmDtDxIdeal Cert.SsmDtDxIdeal.Gen Idealize.ShloMosaic Idealize.ShloMosaic.TcCoe Idealize.ShloMosaic.Tactic Idealize.SL.Sem

section
variable {F : FTy → Type} [FloatOps F]

/-- The one entry of the token the call reads. -/
def tok (x6 : Vec F S8x128 .f32) : Vec F S1x1 .f32 := View.ld x6 (Rect.unit ![0, 0] ![1, 1] inb_S8x128_S1x1_0_0)

theorem tok_at (x6 : Vec F S8x128 .f32) : tok x6 (ix2 0 0) = x6 (ix2 0 0) := by
  unfold tok
  exact View.ld_unit_apply_of _ _ _ _ _ _ (Fin.forall_fin_two.2 ⟨rfl, rfl⟩)

theorem dxOf_A (c : Dev nD) (i : grid0.Coords) (arg3 : Memref sig .tc .vmem S1024x128 .f32) (harg3 : arg3.IsWhole) (arg4 : Memref sig .tc .vmem S128x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S8x128 .f32) (harg9 : arg9.IsWhole) (arg10 : Memref sig .tc .vmem S1024x1024 .f32) (harg10 : arg10.IsWhole) (arg11 : Memref sig .tc .vmem S1x1024 .f32) (harg11 : arg11.IsWhole) (hc0 : cond0_0 i) (hc1 : ¬cond0_1 i)
    (x0 : Vec F S1024x128 .f32) (x1 : Vec F S128x1024 .bf16) (x2 : Vec F S1024x1024 .f32) (x3 : Vec F S1024x1024 .f32) (x4 : Vec F S1x1024 .f32) (x5 : Vec F S1024x1024 .f32) (x6 : Vec F S8x128 .f32) :
    out0_A_7 c i arg3 harg3 arg4 harg4 arg5 harg5 arg6 harg6 arg7 harg7 arg8 harg8 arg9 harg9 arg10 harg10 arg11 harg11 hc0 hc1 x0 x1 x2 x3 x4 x5 x6 = k0_pay1 (k0_pay7 x5 (tok x6)) (k0_pay8 x0 x1 x2 x3 x4) := by
  frame_out
  rfl

theorem dxOf_B (c : Dev nD) (i : grid0.Coords) (arg3 : Memref sig .tc .vmem S1024x128 .f32) (harg3 : arg3.IsWhole) (arg4 : Memref sig .tc .vmem S128x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S8x128 .f32) (harg9 : arg9.IsWhole) (arg10 : Memref sig .tc .vmem S1024x1024 .f32) (harg10 : arg10.IsWhole) (arg11 : Memref sig .tc .vmem S1x1024 .f32) (harg11 : arg11.IsWhole) (hc0 : ¬cond0_0 i) (hc1 : cond0_1 i)
    (x0 : Vec F S1024x128 .f32) (x1 : Vec F S128x1024 .bf16) (x2 : Vec F S1024x1024 .f32) (x3 : Vec F S1024x1024 .f32) (x4 : Vec F S1x1024 .f32) (x5 : Vec F S1024x1024 .f32) (x6 : Vec F S8x128 .f32) (xo8 : Vec F S1x1024 .f32) :
    out0_B_7 c i arg3 harg3 arg4 harg4 arg5 harg5 arg6 harg6 arg7 harg7 arg8 harg8 arg9 harg9 arg10 harg10 arg11 harg11 hc0 hc1 x0 x1 x2 x3 x4 x5 x6 xo8 = k0_pay1 (k0_pay7 x5 (tok x6)) (k0_pay8 x0 x1 x2 x3 x4) := by
  frame_out
  rfl

theorem dwOf_A (c : Dev nD) (i : grid0.Coords) (arg3 : Memref sig .tc .vmem S1024x128 .f32) (harg3 : arg3.IsWhole) (arg4 : Memref sig .tc .vmem S128x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S8x128 .f32) (harg9 : arg9.IsWhole) (arg10 : Memref sig .tc .vmem S1024x1024 .f32) (harg10 : arg10.IsWhole) (arg11 : Memref sig .tc .vmem S1x1024 .f32) (harg11 : arg11.IsWhole) (hc0 : cond0_0 i) (hc1 : ¬cond0_1 i)
    (x0 : Vec F S1024x128 .f32) (x1 : Vec F S128x1024 .bf16) (x2 : Vec F S1024x1024 .f32) (x3 : Vec F S1024x1024 .f32) (x4 : Vec F S1x1024 .f32) (x5 : Vec F S1024x1024 .f32) (x6 : Vec F S8x128 .f32) :
    out0_A_8 c i arg3 harg3 arg4 harg4 arg5 harg5 arg6 harg6 arg7 harg7 arg8 harg8 arg9 harg9 arg10 harg10 arg11 harg11 hc0 hc1 x0 x1 x2 x3 x4 x5 x6 = k0_pay2 (k0_pay4 x0 x1 x2) (k0_pay6 x3) := by
  frame_out

theorem dwOf_B (c : Dev nD) (i : grid0.Coords) (arg3 : Memref sig .tc .vmem S1024x128 .f32) (harg3 : arg3.IsWhole) (arg4 : Memref sig .tc .vmem S128x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S8x128 .f32) (harg9 : arg9.IsWhole) (arg10 : Memref sig .tc .vmem S1024x1024 .f32) (harg10 : arg10.IsWhole) (arg11 : Memref sig .tc .vmem S1x1024 .f32) (harg11 : arg11.IsWhole) (hc0 : ¬cond0_0 i) (hc1 : cond0_1 i)
    (x0 : Vec F S1024x128 .f32) (x1 : Vec F S128x1024 .bf16) (x2 : Vec F S1024x1024 .f32) (x3 : Vec F S1024x1024 .f32) (x4 : Vec F S1x1024 .f32) (x5 : Vec F S1024x1024 .f32) (x6 : Vec F S8x128 .f32) (xo8 : Vec F S1x1024 .f32) :
    out0_B_8 c i arg3 harg3 arg4 harg4 arg5 harg5 arg6 harg6 arg7 harg7 arg8 harg8 arg9 harg9 arg10 harg10 arg11 harg11 hc0 hc1 x0 x1 x2 x3 x4 x5 x6 xo8 = k0_pay3 (k0_pay4 x0 x1 x2) (k0_pay6 x3) xo8 := by
  frame_out

end

theorem pay4_at (x0 : FVec Ideal S1024x128 .f32) (x1 : FVec Ideal S128x1024 .bf16) (x2 : FVec Ideal S1024x1024 .f32) (r : Fin 1024) (k : Fin 1024) :
    k0_pay4 (F := Ideal) x0 x1 x2 (ix2 r k) = (∑ l : Fin 128, x0 (ix2 r l) * x1 (ix2 l k)) + x2 (ix2 r k) := by
  pointwise [k0_pay4]

theorem pay6_at (x3 : FVec Ideal S1024x1024 .f32) (r : Fin 1024) (k : Fin 1024) :
    k0_pay6 (F := Ideal) x3 (ix2 r k) = x3 (ix2 r k) * FfnBack.rstd (fun j => x3 (ix2 r j)) := by
  pointwise [k0_pay6, k0_pay5]
  rfl

theorem payx_at (x0 : FVec Ideal S1024x128 .f32) (x1 : FVec Ideal S128x1024 .bf16) (x2 x3 : FVec Ideal S1024x1024 .f32)
    (x4 : FVec Ideal S1x1024 .f32) (x5 : FVec Ideal S1024x1024 .f32) (x6 : FVec Ideal S8x128 .f32) (r : Fin 1024) (k : Fin 1024) :
    k0_pay1 (F := Ideal) (k0_pay7 x5 (tok x6)) (k0_pay8 x0 x1 x2 x3 x4) (ix2 r k)
      = FfnBack.dnorm (fun j => x3 (ix2 r j)) (fun j => k0_pay4 (F := Ideal) x0 x1 x2 (ix2 r j) * x4 (ix2 0 j)) (x5 (ix2 r k) + x6 (ix2 0 0)) k := by
  pointwise [k0_pay1, k0_pay7, k0_pay8, k0_pay6, k0_pay5, tok_at]
  rfl

theorem pay2_at (v4 v15 : FVec Ideal S1024x1024 .f32) (z : Fin 1) (k : Fin 1024) :
    k0_pay2 (F := Ideal) v4 v15 (ix2 z k) = ∑ r : Fin 1024, v4 (ix2 r k) * v15 (ix2 r k) := by
  pointwise [k0_pay2]

theorem pay3_at (v4 v15 : FVec Ideal S1024x1024 .f32) (v : FVec Ideal S1x1024 .f32) (z : Fin 1) (k : Fin 1024) :
    k0_pay3 (F := Ideal) v4 v15 v (ix2 z k) = v (ix2 z k) + k0_pay2 (F := Ideal) v4 v15 (ix2 z k) := by
  pointwise [k0_pay3]

variable (m : (ℓ : Loc nD τ sig) → Buf (Elt Ideal) ℓ) (c : Dev nD)

/-- The arguments as functions of row and column. -/
def aX (R : Fin 4096) (k : Fin 1024) : EReal := m (c.tc.loc main_arg0) (ix2 R k)
def aN (k : Fin 1024) : EReal := m (c.tc.loc main_arg1) (ix1 k)
def aU (k : Fin 1024) (l : Fin 6176) : EReal := m (c.tc.loc main_arg2) (ix2 k l)
def aG (R : Fin 4096) (l : Fin 128) : EReal := m (c.tc.loc main_arg3) (ix2 R l)
def aH (R : Fin 4096) (k : Fin 1024) : EReal := m (c.tc.loc main_arg4) (ix2 R k)
def aC (R : Fin 4096) (k : Fin 1024) : EReal := m (c.tc.loc main_arg5) (ix2 R k)

/-- The gradient of the normed row. -/
def dh (R : Fin 4096) (k : Fin 1024) : EReal :=
  (∑ l : Fin 32, aG m c R ⟨l, by omega⟩ * aU m c k ⟨6144 + l, by omega⟩) + aH m c R k

theorem dh_comm (R : Fin 4096) (k : Fin 1024) :
    dh m c R k = aH m c R k + ∑ l : Fin 32, aG m c R ⟨l, by omega⟩ * aU m c k ⟨6144 + l, by omega⟩ := add_comm _ _

/-- The arrays the call writes. -/
def arrX : FVec Ideal S4096x1024 .f32 := fun i => FfnBack.dnorm (aX m c (i 0)) (fun k => dh m c (i 0) k * aN m c k) (aC m c (i 0) (i 1)) (i 1)
def arrN : FVec Ideal S1x1024 .f32 := fun i => ∑ R : Fin 4096, dh m c R (i 1) * (aX m c R (i 1) * FfnBack.rstd (aX m c R))

theorem hN : cfg0.N = 4 := N_0

theorem idx : ∀ t : Fin cfg0.N, t.val < 4 ∧ win0_0.index t = ![t.val, 0] ∧ win0_1.index t = ![0, 0] ∧
    win0_2.index t = ![t.val, 0] ∧ win0_3.index t = ![t.val, 0] ∧ win0_4.index t = ![0, 0] ∧ win0_5.index t = ![t.val, 0] ∧ win0_6.index t = ![0, 0] ∧
    win0_7.index t = ![t.val, 0] ∧ win0_8.index t = ![0, 0] :=
  (by decide +kernel : ∀ t : Fin grid0.N, _)

def row (t : Fin cfg0.N) (r : Fin 1024) : Fin 4096 := ⟨1024 * t.val + r, by have := (idx t).1; omega⟩

theorem g_at (r : Fin 4096) (l : Fin 128) : V m c main_arg3 (ix2 r l) = aG m c r l := by
  rw [V_main_arg3]; rfl

/-- The columns the call reads, filled up with zeros. -/
theorem u_at (l : Fin 128) (k : Fin 1024) : V m c main_v3 (ix2 l k) = if h : (l : ℕ) < 32 then aU m c k ⟨6144 + l, by omega⟩ else 0 := by
  unfold V aU
  after_reads_at
  exact dite_congr rfl (fun _ => rfl) fun _ => by show (((0#32 : BitVec 32).toInt : ℝ) : EReal) = 0; simp

theorem h_at (r : Fin 4096) (k : Fin 1024) : V m c main_arg4 (ix2 r k) = aH m c r k := by
  rw [V_main_arg4]; rfl

theorem x_at (r : Fin 4096) (k : Fin 1024) : V m c main_arg0 (ix2 r k) = aX m c r k := by
  rw [V_main_arg0]; rfl

theorem n_at (z : Fin 1) (k : Fin 1024) : V m c main_v5 (ix2 z k) = aN m c k := by
  obtain rfl : z = 0 := Subsingleton.elim _ _
  unfold V aN
  after_reads_at

theorem c_at (r : Fin 4096) (k : Fin 1024) : V m c main_arg5 (ix2 r k) = aC m c r k := by
  rw [V_main_arg5]; rfl

theorem tok0_at (r : Fin 8) (k : Fin 128) : V m c main_v4 (ix2 r k) = (0 : EReal) := by
  unfold V
  after_reads_at

theorem iblk0_at (t : Fin cfg0.N) (r : Fin 1024) (l : Fin 128) : iblk m c 0 t (ix2 r l) = aG m c (row t r) l := by
  rw [← g_at]
  blk_ext [iblk, idx t, row]

theorem iblk1_at (t : Fin cfg0.N) (l : Fin 128) (k : Fin 1024) :
    iblk m c 1 t (ix2 l k) = if h : (l : ℕ) < 32 then aU m c k ⟨6144 + l, by omega⟩ else 0 := by
  rw [← u_at]
  blk_ext [iblk, idx t]

theorem iblk2_at (t : Fin cfg0.N) (r : Fin 1024) (k : Fin 1024) : iblk m c 2 t (ix2 r k) = aH m c (row t r) k := by
  rw [← h_at]
  blk_ext [iblk, idx t, row]

theorem iblk3_at (t : Fin cfg0.N) (r : Fin 1024) (k : Fin 1024) : iblk m c 3 t (ix2 r k) = aX m c (row t r) k := by
  rw [← x_at]
  blk_ext [iblk, idx t, row]

theorem iblk4_at (t : Fin cfg0.N) (k : Fin 1024) : iblk m c 4 t (ix2 0 k) = aN m c k := by
  rw [← n_at m c 0]
  blk_ext [iblk, idx t]

theorem iblk5_at (t : Fin cfg0.N) (r : Fin 1024) (k : Fin 1024) : iblk m c 5 t (ix2 r k) = aC m c (row t r) k := by
  rw [← c_at]
  blk_ext [iblk, idx t, row]

theorem iblk6_at (t : Fin cfg0.N) (r : Fin 8) (k : Fin 128) : iblk m c 6 t (ix2 r k) = (0 : EReal) := by
  rw [← tok0_at m c r k]
  blk_ext [iblk, idx t]

/-- The zero columns take no part in the sum. -/
theorem sum_heads (f : Fin 128 → EReal) (g : Fin 32 → EReal) :
    (∑ l : Fin 128, f l * (if h : (l : ℕ) < 32 then g ⟨l, h⟩ else 0)) = ∑ l : Fin 32, f ⟨l, by omega⟩ * g l := by
  refine (Fin.sum_univ_add (a := 32) (b := 96) (fun l : Fin (32 + 96) => f l * (if h : (l : ℕ) < 32 then g ⟨l, h⟩ else 0))).trans ?_
  have e1 : (∑ i : Fin 96, f (Fin.natAdd 32 i) * (if h : ((Fin.natAdd 32 i : Fin (32 + 96)) : ℕ) < 32 then g ⟨_, h⟩ else 0)) = 0 :=
    Finset.sum_eq_zero fun i _ => by rw [dif_neg (by simp), mul_zero]
  rw [e1, add_zero]
  exact Finset.sum_congr rfl fun i _ => congrArg (f (Fin.castAdd 96 i) * ·) (dif_pos i.isLt)

theorem dh_at (t : Fin cfg0.N) (r : Fin 1024) (k : Fin 1024) :
    k0_pay4 (F := Ideal) (iblk m c 0 t) (iblk m c 1 t) (iblk m c 2 t) (ix2 r k) = dh m c (row t r) k := by
  refine (pay4_at _ _ _ r k).trans (Ideal.add_congr ?_ (iblk2_at m c t r k))
  exact (Finset.sum_congr rfl fun l _ => Ideal.mul_congr (iblk0_at m c t r l) (iblk1_at m c t l k)).trans
    (sum_heads (aG m c (row t r)) (fun l => aU m c k ⟨6144 + l, by omega⟩))

theorem row_at (t : Fin cfg0.N) (r : Fin 1024) : (fun j : Fin 1024 => iblk m c 3 t (ix2 r j)) = aX m c (row t r) :=
  funext fun j => iblk3_at m c t r j

theorem xh_at (t : Fin cfg0.N) (r : Fin 1024) (k : Fin 1024) :
    k0_pay6 (F := Ideal) (iblk m c 3 t) (ix2 r k) = aX m c (row t r) k * FfnBack.rstd (aX m c (row t r)) :=
  (pay6_at _ r k).trans (Ideal.mul_congr (iblk3_at m c t r k) (congrArg FfnBack.rstd (row_at m c t r)))

theorem dx_at (t : Fin cfg0.N) (r : Fin 1024) (k : Fin 1024) :
    k0_pay1 (F := Ideal) (k0_pay7 (iblk m c 5 t) (tok (iblk m c 6 t))) (k0_pay8 (iblk m c 0 t) (iblk m c 1 t) (iblk m c 2 t) (iblk m c 3 t) (iblk m c 4 t)) (ix2 r k)
      = FfnBack.dnorm (aX m c (row t r)) (fun k => dh m c (row t r) k * aN m c k) (aC m c (row t r) k) k := by
  refine (payx_at _ _ _ _ _ _ _ r k).trans ?_
  have e1 : (fun j : Fin 1024 => k0_pay4 (F := Ideal) (iblk m c 0 t) (iblk m c 1 t) (iblk m c 2 t) (ix2 r j) * (iblk m c 4 t (ix2 0 j) : EReal))
      = fun k => dh m c (row t r) k * aN m c k := funext fun j => Ideal.mul_congr (dh_at m c t r j) (iblk4_at m c t j)
  have e2 : (show EReal from iblk m c 5 t (ix2 r k)) + (show EReal from iblk m c 6 t (ix2 0 0)) = aC m c (row t r) k :=
    (Ideal.add_congr (iblk5_at m c t r k) (iblk6_at m c t 0 0)).trans (add_zero _)
  exact (congr (congr (congrArg₂ FfnBack.dnorm (row_at m c t r) e1) e2) rfl)

/-- One block of rows' part of the gradient of the norm's weights. -/
theorem dw_at (t : Fin cfg0.N) (z : Fin 1) (k : Fin 1024) :
    k0_pay2 (F := Ideal) (k0_pay4 (iblk m c 0 t) (iblk m c 1 t) (iblk m c 2 t)) (k0_pay6 (iblk m c 3 t)) (ix2 z k)
      = ∑ r : Fin 1024, dh m c (row t r) k * (aX m c (row t r) k * FfnBack.rstd (aX m c (row t r))) :=
  (pay2_at _ _ z k).trans (Finset.sum_congr rfl fun r _ => Ideal.mul_congr (dh_at m c t r k) (xh_at m c t r k))

theorem left_dx (t : Fin cfg0.N) :
    (outsAt0 m c t.val t.isLt).1 = k0_pay1 (F := Ideal) (k0_pay7 (iblk m c 5 t) (tok (iblk m c 6 t))) (k0_pay8 (iblk m c 0 t) (iblk m c 1 t) (iblk m c 2 t) (iblk m c 3 t) (iblk m c 4 t)) := by
  have ht := (idx t).1
  by_cases h : t.val % 4 = 0
  · rw [outsAt0_A m c t h (by omega)]
    dsimp only
    rw [dxOf_A]
  · rw [outsAt0_B m c t h (by omega)]
    dsimp only
    rw [dxOf_B]

theorem left_dw_A (t : Fin cfg0.N) (h : t.val % 4 = 0) :
    (outsAt0 m c t.val t.isLt).2 = k0_pay2 (F := Ideal) (k0_pay4 (iblk m c 0 t) (iblk m c 1 t) (iblk m c 2 t)) (k0_pay6 (iblk m c 3 t)) := by
  have ht := (idx t).1
  rw [outsAt0_A m c t h (by omega)]
  dsimp only
  rw [dwOf_A]

theorem left_dw_B (t : Fin cfg0.N) (h : ¬t.val % 4 = 0) (z : Fin 1) (k : Fin 1024) :
    (outsAt0 m c t.val t.isLt).2 (ix2 z k) = (outsAt0 m c (t.val - 1) (Nat.lt_of_le_of_lt (Nat.sub_le _ _) t.isLt)).2 (ix2 z k)
      + k0_pay2 (F := Ideal) (k0_pay4 (iblk m c 0 t) (iblk m c 1 t) (iblk m c 2 t)) (k0_pay6 (iblk m c 3 t)) (ix2 z k) := by
  rw [outsAt0_B m c t h (by omega)]
  dsimp only
  rw [dwOf_B]
  exact pay3_at _ _ _ z k

theorem final_dx : (dats m 0 c).arrAt 7 cfg0.N = arrX m c := by
  refine (dats m 0 c).arrAt_eq_of_covers 7 _ (by decide +kernel) fun t hf y => ?_
  obtain ⟨r, k, rfl⟩ : ∃ r : Fin 1024, ∃ k : Fin 1024, y = ix2 r k := ⟨y 0, y 1, eq_ix2 y⟩
  have e : (win0_7.blk t).view.emb (ix2 r k) = ix2 (row t r) k := by blk_ext [idx t, row]
  blk_simp
  rw [e, after0_7, left_dx]
  exact dx_at m c t r k

/-- The blocks of rows are all the rows. -/
theorem sum_rows (j : ℕ) (hj : j < 1) (f : Fin 4096 → EReal) :
    (∑ s : Fin 4, ∑ r : Fin 1024, f (row ⟨4 * j + s, by have := hN; omega⟩ r)) = ∑ R : Fin 4096, f R := by
  rw [Fin.sum_univ_tiles 4 1024 rfl f]
  refine Finset.sum_congr rfl fun s _ => Finset.sum_congr rfl fun r _ => ?_
  refine congrArg f (Fin.ext ?_)
  simp only [row]
  omega

theorem final_dw : (dats m 0 c).arrAt 8 cfg0.N = arrN m c := by
  refine (dats m 0 c).arrAt_eq_of_covers 8 _ (by decide +kernel) fun t hf y => ?_
  obtain ⟨z, k, rfl⟩ : ∃ z : Fin 1, ∃ k : Fin 1024, y = ix2 z k := ⟨y 0, y 1, eq_ix2 y⟩
  have e : (win0_8.blk t).view.emb (ix2 z k) = ix2 z k := by blk_ext [idx t]
  have ht := (idx t).1
  blk_simp
  rw [e]
  rw [after0_8, Pipeline.eq_sum_fin_of_reset_step_apply_of_flush (fun n h => (outsAt0 m c n h).2) 4 (fun _ => 0)
    (fun p j => k0_pay2 (F := Ideal) (k0_pay4 (iblk m c 0 p) (iblk m c 1 p) (iblk m c 2 p)) (k0_pay6 (iblk m c 3 p)) j)
    (fun t h j => by rw [left_dw_A m c t h, zero_add]) (fun t h j => by rw [eq_ix2 j]; exact left_dw_B m c t h _ _)
    t ((flush0_8 t).mp hf) _, zero_add]
  exact Eq.trans (Fin.sum_fin_congr fun s => dw_at m c _ z k) (sum_rows (t.val / 4) (by omega) (fun R => dh m c R k * (aX m c R k * FfnBack.rstd (aX m c R))))

end Cert.SsmDtDxIdeal.Grad

namespace Cert.DtNorm

open Idealize.ShloMosaic Idealize.ShloMosaic.TcCoe Idealize.ShloMosaic.Tactic Idealize.SL.Sem FfnBack
open Cert.SsmDtDxIdeal.Grad

theorem ref_frame : Cert.quiescent_SsmDtDxRefIdeal (hSsmDtDxRefIdeal := Cert.SsmDtDxRefIdeal.Gen.facts) := fun m ρ _ =>
  (θ_run _ _ _).mono (fun r h => ⟨fun c => (h c).2.2, sem_eq_zero_of_no_sems (by decide) _⟩) (Cert.SsmDtDxRefIdeal.Value.run m ρ)

theorem value : Cert.algebraic_SsmDtDxIdeal_SsmDtDxRefIdeal (hSsmDtDxIdeal := Cert.SsmDtDxIdeal.Gen.facts)
    (hSsmDtDxRefIdeal := Cert.SsmDtDxRefIdeal.Gen.facts) := by
  intro m g m' g' _ hargs
  refine ⟨fun c => arrX m c, fun c => arrN m c, ?_, ?_⟩
  · refine (θ_run _ _ _).mono (fun r h c => ?_) (Cert.SsmDtDxIdeal.Value.run_blocks m g)
    exact ⟨(h c).1.trans (final_dx m c), (h c).2.1.trans (final_dw m c), (h c).2.2⟩
  · refine (θ_run _ _ _).mono (fun r h c => ?_) (Cert.SsmDtDxRefIdeal.Value.run m' g')
    obtain ⟨h1, h2, h3⟩ := h c
    obtain ⟨e0, e1, e2, e3, e4, e5⟩ := hargs c
    refine ⟨h1.trans ?_, h2.trans ?_, h3⟩
    · unfold Cert.SsmDtDxRefIdeal.Value.res_main_v41
      rw [e0, e1, e2, e3, e4, e5]
      funext y
      obtain ⟨r, k, rfl⟩ : ∃ r : Fin 4096, ∃ k : Fin 1024, y = ix2 r k := ⟨y 0, y 1, eq_ix2 y⟩
      refine Eq.trans ?_ (dnorm_eq (aX m c r) (fun k => dh m c r k * aN m c k) (aC m c r k) k)
      simp only [dh_comm]
      unfold dmean rstd mhalf cols eps aX aN aU aG aH aC
      pointwise []
      rw [Fin.sum_univ_one]
    · rw [e0, e2, e3, e4]
      funext y
      obtain ⟨z, k, rfl⟩ : ∃ z : Fin 1, ∃ k : Fin 1024, y = ix2 z k := ⟨y 0, y 1, eq_ix2 y⟩
      show _ = ∑ R : Fin 4096, dh m c R k * (aX m c R k * rstd (aX m c R))
      simp only [dh_comm]
      unfold rstd cols eps aX aU aG aH
      pointwise []
      rw [Fin.sum_univ_one]
      exact Finset.sum_congr rfl fun R _ => mul_comm _ _

end Cert.DtNorm

end
-- ==== Proof.DtWeight.lean ====
/- The gradient of the in-projection's dt columns: the product over the rows in two halves, the first kept between the points, of which the rows asked for are read. -/
module

public import proofs.«01_k».proof.Proof.Gen.SsmDtDwIdeal.Frame
public import proofs.«01_k».proof.Proof.Gen.SsmDtDwRefIdeal.Run
public import proofs.«01_k».proof.Proof.Gen.SsmDtDwIdeal
public import proofs.«01_k».proof.Proof.Gen.SsmDtDwRefIdeal
public import proofs.«01_k».proof.Defs
public import Idealize.ShloMosaic.Lib.Pipeline.ValueKit
public import Idealize.ShloMosaic.Lib.StableHlo.ReadAt
public import Idealize.ShloMosaic.Lib.Quiescent

@[expose] public section

set_option maxRecDepth 16384

noncomputable section

namespace Cert.SsmDtDwIdeal.Grad

open Cert.SsmDtDwIdeal Cert.SsmDtDwIdeal.Gen Idealize.ShloMosaic Idealize.ShloMosaic.TcCoe Idealize.ShloMosaic.Tactic Idealize.SL.Sem

section
variable {F : FTy → Type} [FloatOps F]

theorem keptOf_A (c : Dev nD) (i : grid0.Coords) (arg3 : Memref sig .tc .vmem S2048x128 .f32) (harg3 : arg3.IsWhole) (arg4 : Memref sig .tc .vmem S2048x1024 .bf16) (harg4 : arg4.IsWhole) (arg5 : Memref sig .tc .vmem S128x1024 .bf16) (harg5 : arg5.IsWhole) (arg6 : Memref sig .tc .vmem S128x1024 .f32) (harg6 : arg6.IsWhole) (hc0 : cond0_0 i) (hc1 : ¬cond0_1 i)
    (x0 : Vec F S2048x128 .f32) (x1 : Vec F S2048x1024 .bf16) :
    sout0_A_0 c i arg3 harg3 arg4 harg4 arg5 harg5 arg6 harg6 hc0 hc1 x0 x1 = k0_pay1 x0 x1 := by
  frame_out

theorem outOf_B (c : Dev nD) (i : grid0.Coords) (arg3 : Memref sig .tc .vmem S2048x128 .f32) (harg3 : arg3.IsWhole) (arg4 : Memref sig .tc .vmem S2048x1024 .bf16) (harg4 : arg4.IsWhole) (arg5 : Memref sig .tc .vmem S128x1024 .bf16) (harg5 : arg5.IsWhole) (arg6 : Memref sig .tc .vmem S128x1024 .f32) (harg6 : arg6.IsWhole) (hc0 : ¬cond0_0 i) (hc1 : cond0_1 i)
    (x0 : Vec F S2048x128 .f32) (x1 : Vec F S2048x1024 .bf16) (xs0 : Vec F S128x1024 .f32) :
    out0_B_2 c i arg3 harg3 arg4 harg4 arg5 harg5 arg6 harg6 hc0 hc1 x0 x1 xs0 = k0_pay2 xs0 x0 x1 := by
  frame_out

end

variable (m : (ℓ : Loc nD τ sig) → Buf (Elt Ideal) ℓ) (c : Dev nD)

/-- The arguments as functions of row and column. -/
def aA (R : Fin 4096) (q : Fin 128) : EReal := m (c.tc.loc main_arg1) (ix2 R q)
def aC (R : Fin 4096) (k : Fin 1024) : EReal := m (c.tc.loc main_arg0) (ix2 R k)

/-- The array the call writes, and the gradient, its first rows. -/
def arr : FVec Ideal S128x1024 .bf16 := fun i => ∑ R : Fin 4096, aA m c R (i 0) * aC m c R (i 1)
def grad : FVec Ideal S32x1024 .bf16 := fun i => ∑ R : Fin 4096, aA m c R ⟨i 0, by have := (i 0).isLt; simp at this; omega⟩ * aC m c R (i 1)

theorem idx : ∀ t : Fin cfg0.N, t.val < 2 ∧ win0_0.index t = ![t.val % 2, 0] ∧ win0_1.index t = ![t.val % 2, 0] ∧
    win0_2.index t = ![0, 0] :=
  (by decide +kernel : ∀ t : Fin grid0.N, _)

def row (t : Fin cfg0.N) (r : Fin 2048) : Fin 4096 := ⟨2048 * (t.val % 2) + r, by omega⟩

theorem act_at (r : Fin 4096) (q : Fin 128) : V m c main_arg1 (ix2 r q) = aA m c r q := by
  rw [V_main_arg1]; rfl

theorem ct_at (r : Fin 4096) (k : Fin 1024) : V m c main_v0 (ix2 r k) = aC m c r k := by
  unfold V
  after_reads_at
  rfl

theorem iblk0_at (t : Fin cfg0.N) (r : Fin 2048) (q : Fin 128) : iblk m c 0 t (ix2 r q) = aA m c (row t r) q := by
  rw [← act_at]
  blk_ext [iblk, idx t, row]

theorem iblk1_at (t : Fin cfg0.N) (r : Fin 2048) (k : Fin 1024) : iblk m c 1 t (ix2 r k) = aC m c (row t r) k := by
  rw [← ct_at]
  blk_ext [iblk, idx t, row]

theorem pay1_at (x0 : FVec Ideal S2048x128 .f32) (x1 : FVec Ideal S2048x1024 .bf16) (q : Fin 128) (k : Fin 1024) :
    k0_pay1 (F := Ideal) x0 x1 (ix2 q k) = ∑ r : Fin 2048, x0 (ix2 r q) * x1 (ix2 r k) := by
  pointwise [k0_pay1]

theorem pay2_at (xs : FVec Ideal S128x1024 .f32) (x0 : FVec Ideal S2048x128 .f32) (x1 : FVec Ideal S2048x1024 .bf16) (q : Fin 128) (k : Fin 1024) :
    k0_pay2 (F := Ideal) xs x0 x1 (ix2 q k) = xs (ix2 q k) + k0_pay1 (F := Ideal) x0 x1 (ix2 q k) := by
  pointwise [k0_pay2, k0_pay1]

/-- One half of the rows' part of the gradient. -/
theorem half_at (t : Fin cfg0.N) (q : Fin 128) (k : Fin 1024) :
    k0_pay1 (F := Ideal) (iblk m c 0 t) (iblk m c 1 t) (ix2 q k) = ∑ r : Fin 2048, aA m c (row t r) q * aC m c (row t r) k :=
  (pay1_at _ _ q k).trans (Finset.sum_congr rfl fun r _ => Ideal.mul_congr (iblk0_at m c t r q) (iblk1_at m c t r k))

theorem left_at (t : Fin cfg0.N) (h : t.val % 2 = 1) (q : Fin 128) (k : Fin 1024) :
    (outsAt0 m c t.val t.isLt).1 (ix2 q k) = ∑ R : Fin 4096, aA m c R q * aC m c R k := by
  have ht := (idx t).1
  have hp : t.val - 1 < cfg0.N := by have := t.isLt; omega
  rw [outsAt0_B m c t (by omega) h, outsAt0_A m c ⟨t.val - 1, hp⟩ (by simp only []; omega) (by simp only []; omega)]
  dsimp only
  rw [outOf_B, keptOf_A]
  refine (pay2_at _ _ _ q k).trans ?_
  rw [Fin.sum_univ_tiles 2 2048 rfl, Fin.sum_univ_two]
  refine Ideal.add_congr ((half_at m c _ q k).trans ?_) ((half_at m c t q k).trans ?_)
  · refine Finset.sum_congr rfl fun r _ => ?_
    have e1 : row ⟨t.val - 1, hp⟩ r = ⟨2048 * ((0 : Fin 2) : ℕ) + r, by simp; omega⟩ := Fin.ext (by simp only [row]; simp; omega)
    rw [e1]
    rfl
  · refine Finset.sum_congr rfl fun r _ => ?_
    have e1 : row t r = ⟨2048 * ((1 : Fin 2) : ℕ) + r, by simp; omega⟩ := Fin.ext (by simp only [row]; simp; omega)
    rw [e1]
    rfl

theorem final : (dats m 0 c).arrAt 2 cfg0.N = arr m c := by
  refine (dats m 0 c).arrAt_eq_of_covers 2 _ (by decide +kernel) fun t hf y => ?_
  obtain ⟨r, l, rfl⟩ : ∃ r : Fin 128, ∃ l : Fin 1024, y = ix2 r l := ⟨y 0, y 1, eq_ix2 y⟩
  have e : (win0_2.blk t).view.emb (ix2 r l) = ix2 r l := by blk_ext [idx t]
  blk_simp
  rw [e, after0_2]
  exact left_at m c t ((flush0_2 t).mp hf) r l

theorem res (l : Fin 32) (k : Fin 1024) :
    Pipeline.afterTail₀ cfgs (dats m) 0 (V0 m) [hostOps1] c main_v2 (ix2 l k) = grad m c (ix2 l k) := by
  unfold Pipeline.afterTail₀
  have e : Pipeline.withArrays (cfgs 0).spec c (V0 m c) (fun w => (dats m 0 c).arrAt w (cfgs 0).N) main_v1 = (dats m 0 c).arrAt 2 cfg0.N :=
    Pipeline.withArrays_arr (cfgs 0).spec (by decide : Function.Injective (Pipeline.arrRef spec0)) c (V0 m c)
      (fun w => (dats m 0 c).arrAt w (cfgs 0).N) 2
  have e1 : arr m c (ix2 (⟨l, by omega⟩ : Fin 128) k) = grad m c (ix2 l k) := rfl
  refine Eq.trans ?_ e1
  rw [← final, ← e]
  after_reads_at

end Cert.SsmDtDwIdeal.Grad

namespace Cert.DtWeight

open Idealize.ShloMosaic Idealize.ShloMosaic.TcCoe Idealize.ShloMosaic.Tactic Idealize.SL.Sem

theorem ref_frame : Cert.quiescent_SsmDtDwRefIdeal (hSsmDtDwRefIdeal := Cert.SsmDtDwRefIdeal.Gen.facts) := fun m ρ _ =>
  (θ_run _ _ _).mono (fun r h => ⟨fun c => (h c).2, sem_eq_zero_of_no_sems (by decide) _⟩) (Cert.SsmDtDwRefIdeal.Value.run m ρ)

theorem value : Cert.algebraic_SsmDtDwIdeal_SsmDtDwRefIdeal (hSsmDtDwIdeal := Cert.SsmDtDwIdeal.Gen.facts)
    (hSsmDtDwRefIdeal := Cert.SsmDtDwRefIdeal.Gen.facts) := by
  intro m g m' g' _ hargs
  refine ⟨fun c => Cert.SsmDtDwIdeal.Grad.grad m c, ?_, ?_⟩
  · refine (θ_run _ _ _).mono (fun r h c => ?_) (θ_run_and (Cert.SsmDtDwIdeal.Gen.run_main m g) (Cert.SsmDtDwIdeal.Gen.unchanged m g))
    obtain ⟨hr, hu⟩ := h
    refine ⟨?_, hu c⟩
    refine ((hr c).2 Cert.SsmDtDwIdeal.main_v2 (Pipeline.mem_restRefs_of Cert.SsmDtDwIdeal.main_v2 (by decide) (by decide))).trans ?_
    funext y
    obtain ⟨l, k, rfl⟩ : ∃ l : Fin 32, ∃ k : Fin 1024, y = ix2 l k := ⟨y 0, y 1, eq_ix2 y⟩
    exact Cert.SsmDtDwIdeal.Grad.res m c l k
  · refine (θ_run _ _ _).mono (fun r h c => ⟨(h c).1.trans ?_, (h c).2⟩) (Cert.SsmDtDwRefIdeal.Value.run m' g')
    obtain ⟨e0, e1⟩ := hargs c
    rw [e0, e1]
    funext y
    obtain ⟨q, k, rfl⟩ : ∃ q : Fin 32, ∃ k : Fin 1024, y = ix2 q k := ⟨y 0, y 1, eq_ix2 y⟩
    unfold Cert.SsmDtDwIdeal.Grad.grad Cert.SsmDtDwIdeal.Grad.aA Cert.SsmDtDwIdeal.Grad.aC
    pointwise []

end Cert.DtWeight

end
-- ==== Proof.lean ====
/- The claims, each from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Pre_finite_proj
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.SsmDx
public import proofs.«01_k».proof.Proof.Gen.SsmDx.Skeleton
public import proofs.«01_k».proof.Proof.Gen.SsmDx.Launch
public import proofs.«01_k».proof.Proof.Gen.SsmDx.Points
public import proofs.«01_k».proof.Proof.Gen.SsmDx.Frame
public import proofs.«01_k».proof.Proof.Gen.SsmDxIdeal
public import proofs.«01_k».proof.Proof.Gen.SsmDxIdeal.Skeleton
public import proofs.«01_k».proof.Proof.Gen.SsmDxIdeal.Launch
public import proofs.«01_k».proof.Proof.Gen.SsmDxIdeal.Points
public import proofs.«01_k».proof.Proof.Gen.SsmDxIdeal.Frame
public import proofs.«01_k».proof.Proof.Gen.SsmDxIdeal.Value
public import proofs.«01_k».proof.Proof.Gen.SsmDxRefIdeal
public import proofs.«01_k».proof.Proof.Gen.SsmDxRefIdeal.Run
public import proofs.«01_k».proof.Proof.Gen.SsmDw
public import proofs.«01_k».proof.Proof.Gen.SsmDw.Skeleton
public import proofs.«01_k».proof.Proof.Gen.SsmDw.Launch
public import proofs.«01_k».proof.Proof.Gen.SsmDw.Points
public import proofs.«01_k».proof.Proof.Gen.SsmDw.Frame
public import proofs.«01_k».proof.Proof.Gen.SsmDwIdeal
public import proofs.«01_k».proof.Proof.Gen.SsmDwIdeal.Skeleton
public import proofs.«01_k».proof.Proof.Gen.SsmDwIdeal.Launch
public import proofs.«01_k».proof.Proof.Gen.SsmDwIdeal.Points
public import proofs.«01_k».proof.Proof.Gen.SsmDwIdeal.Frame
public import proofs.«01_k».proof.Proof.Gen.SsmDwRefIdeal
public import proofs.«01_k».proof.Proof.Gen.SsmDwRefIdeal.Run
public import proofs.«01_k».proof.Proof.Gen.SsmIn
public import proofs.«01_k».proof.Proof.Gen.SsmIn.Skeleton
public import proofs.«01_k».proof.Proof.Gen.SsmIn.Launch
public import proofs.«01_k».proof.Proof.Gen.SsmIn.Points
public import proofs.«01_k».proof.Proof.Gen.SsmIn.Frame
public import proofs.«01_k».proof.Proof.Gen.SsmInIdeal
public import proofs.«01_k».proof.Proof.Gen.SsmInIdeal.Skeleton
public import proofs.«01_k».proof.Proof.Gen.SsmInIdeal.Launch
public import proofs.«01_k».proof.Proof.Gen.SsmInIdeal.Points
public import proofs.«01_k».proof.Proof.Gen.SsmInIdeal.Frame
public import proofs.«01_k».proof.Proof.Gen.SsmInIdeal.Value
public import proofs.«01_k».proof.Proof.Gen.SsmInRefIdeal
public import proofs.«01_k».proof.Proof.Gen.SsmInRefIdeal.Run
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.HeadRefIdeal.Run
public import proofs.«01_k».proof.Proof.Gen.SsmOut
public import proofs.«01_k».proof.Proof.Gen.SsmOut.Skeleton
public import proofs.«01_k».proof.Proof.Gen.SsmOut.Launch
public import proofs.«01_k».proof.Proof.Gen.SsmOut.Points
public import proofs.«01_k».proof.Proof.Gen.SsmOut.Frame
public import proofs.«01_k».proof.Proof.Gen.SsmOutIdeal
public import proofs.«01_k».proof.Proof.Gen.SsmOutIdeal.Skeleton
public import proofs.«01_k».proof.Proof.Gen.SsmOutIdeal.Launch
public import proofs.«01_k».proof.Proof.Gen.SsmOutIdeal.Points
public import proofs.«01_k».proof.Proof.Gen.SsmOutIdeal.Frame
public import proofs.«01_k».proof.Proof.Gen.SsmOutIdeal.Value
public import proofs.«01_k».proof.Proof.Gen.SsmOutRefIdeal
public import proofs.«01_k».proof.Proof.Gen.SsmOutRefIdeal.Run
public import proofs.«01_k».proof.Proof.Gen.SsmOutDx
public import proofs.«01_k».proof.Proof.Gen.SsmOutDx.Skeleton
public import proofs.«01_k».proof.Proof.Gen.SsmOutDx.Launch
public import proofs.«01_k».proof.Proof.Gen.SsmOutDx.Points
public import proofs.«01_k».proof.Proof.Gen.SsmOutDx.Frame
public import proofs.«01_k».proof.Proof.Gen.SsmOutDxIdeal
public import proofs.«01_k».proof.Proof.Gen.SsmOutDxIdeal.Skeleton
public import proofs.«01_k».proof.Proof.Gen.SsmOutDxIdeal.Launch
public import proofs.«01_k».proof.Proof.Gen.SsmOutDxIdeal.Points
public import proofs.«01_k».proof.Proof.Gen.SsmOutDxIdeal.Frame
public import proofs.«01_k».proof.Proof.Gen.SsmOutDxIdeal.Value
public import proofs.«01_k».proof.Proof.Gen.SsmOutDxRefIdeal
public import proofs.«01_k».proof.Proof.Gen.SsmOutDxRefIdeal.Run
public import proofs.«01_k».proof.Proof.Gen.SsmOutDw
public import proofs.«01_k».proof.Proof.Gen.SsmOutDw.Skeleton
public import proofs.«01_k».proof.Proof.Gen.SsmOutDw.Launch
public import proofs.«01_k».proof.Proof.Gen.SsmOutDw.Points
public import proofs.«01_k».proof.Proof.Gen.SsmOutDw.Frame
public import proofs.«01_k».proof.Proof.Gen.SsmOutDwIdeal
public import proofs.«01_k».proof.Proof.Gen.SsmOutDwIdeal.Skeleton
public import proofs.«01_k».proof.Proof.Gen.SsmOutDwIdeal.Launch
public import proofs.«01_k».proof.Proof.Gen.SsmOutDwIdeal.Points
public import proofs.«01_k».proof.Proof.Gen.SsmOutDwIdeal.Frame
public import proofs.«01_k».proof.Proof.Gen.SsmOutDwIdeal.Value
public import proofs.«01_k».proof.Proof.Gen.SsmOutDwRefIdeal
public import proofs.«01_k».proof.Proof.Gen.SsmOutDwRefIdeal.Run
public import proofs.«01_k».proof.Proof.Gen.SsmZ
public import proofs.«01_k».proof.Proof.Gen.SsmZ.Skeleton
public import proofs.«01_k».proof.Proof.Gen.SsmZ.Launch
public import proofs.«01_k».proof.Proof.Gen.SsmZ.Points
public import proofs.«01_k».proof.Proof.Gen.SsmZ.Frame
public import proofs.«01_k».proof.Proof.Gen.SsmZIdeal
public import proofs.«01_k».proof.Proof.Gen.SsmZIdeal.Skeleton
public import proofs.«01_k».proof.Proof.Gen.SsmZIdeal.Launch
public import proofs.«01_k».proof.Proof.Gen.SsmZIdeal.Points
public import proofs.«01_k».proof.Proof.Gen.SsmZIdeal.Frame
public import proofs.«01_k».proof.Proof.Gen.SsmZIdeal.Value
public import proofs.«01_k».proof.Proof.Gen.SsmZRefIdeal
public import proofs.«01_k».proof.Proof.Gen.SsmZRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutDx
public import proofs.«01_k».proof.Proof.Gen.MixOutDx.Skeleton
public import proofs.«01_k».proof.Proof.Gen.MixOutDx.Launch
public import proofs.«01_k».proof.Proof.Gen.MixOutDx.Points
public import proofs.«01_k».proof.Proof.Gen.MixOutDx.Frame
public import proofs.«01_k».proof.Proof.Gen.MixOutDxIdeal
public import proofs.«01_k».proof.Proof.Gen.MixOutDxIdeal.Skeleton
public import proofs.«01_k».proof.Proof.Gen.MixOutDxIdeal.Launch
public import proofs.«01_k».proof.Proof.Gen.MixOutDxIdeal.Points
public import proofs.«01_k».proof.Proof.Gen.MixOutDxIdeal.Frame
public import proofs.«01_k».proof.Proof.Gen.MixOutDxIdeal.Value
public import proofs.«01_k».proof.Proof.Gen.MixOutDxRefIdeal
public import proofs.«01_k».proof.Proof.Gen.MixOutDxRefIdeal.Run
public import proofs.«01_k».proof.Proof.Gen.MixOutDw
public import proofs.«01_k».proof.Proof.Gen.MixOutDw.Skeleton
public import proofs.«01_k».proof.Proof.Gen.MixOutDw.Launch
public import proofs.«01_k».proof.Proof.Gen.MixOutDw.Points
public import proofs.«01_k».proof.Proof.Gen.MixOutDw.Frame
public import proofs.«01_k».proof.Proof.Gen.MixOutDwIdeal
public import proofs.«01_k».proof.Proof.Gen.MixOutDwIdeal.Skeleton
public import proofs.«01_k».proof.Proof.Gen.MixOutDwIdeal.Launch
public import proofs.«01_k».proof.Proof.Gen.MixOutDwIdeal.Points
public import proofs.«01_k».proof.Proof.Gen.MixOutDwIdeal.Frame
public import proofs.«01_k».proof.Proof.Gen.MixOutDwIdeal.Value
public import proofs.«01_k».proof.Proof.Gen.MixOutDwRefIdeal
public import proofs.«01_k».proof.Proof.Gen.MixOutDwRefIdeal.Run
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInDx
public import proofs.«01_k».proof.Proof.Gen.MixInDx.Skeleton
public import proofs.«01_k».proof.Proof.Gen.MixInDx.Launch
public import proofs.«01_k».proof.Proof.Gen.MixInDx.Points
public import proofs.«01_k».proof.Proof.Gen.MixInDx.Frame
public import proofs.«01_k».proof.Proof.Gen.MixInDxIdeal
public import proofs.«01_k».proof.Proof.Gen.MixInDxIdeal.Skeleton
public import proofs.«01_k».proof.Proof.Gen.MixInDxIdeal.Launch
public import proofs.«01_k».proof.Proof.Gen.MixInDxIdeal.Points
public import proofs.«01_k».proof.Proof.Gen.MixInDxIdeal.Frame
public import proofs.«01_k».proof.Proof.Gen.MixInDxIdeal.Value
public import proofs.«01_k».proof.Proof.Gen.MixInDxRefIdeal
public import proofs.«01_k».proof.Proof.Gen.MixInDxRefIdeal.Run
public import proofs.«01_k».proof.Proof.Gen.MixInDw
public import proofs.«01_k».proof.Proof.Gen.MixInDw.Skeleton
public import proofs.«01_k».proof.Proof.Gen.MixInDw.Launch
public import proofs.«01_k».proof.Proof.Gen.MixInDw.Points
public import proofs.«01_k».proof.Proof.Gen.MixInDw.Frame
public import proofs.«01_k».proof.Proof.Gen.MixInDwIdeal
public import proofs.«01_k».proof.Proof.Gen.MixInDwIdeal.Skeleton
public import proofs.«01_k».proof.Proof.Gen.MixInDwIdeal.Launch
public import proofs.«01_k».proof.Proof.Gen.MixInDwIdeal.Points
public import proofs.«01_k».proof.Proof.Gen.MixInDwIdeal.Frame
public import proofs.«01_k».proof.Proof.Gen.MixInDwIdeal.Value
public import proofs.«01_k».proof.Proof.Gen.MixInDwRefIdeal
public import proofs.«01_k».proof.Proof.Gen.MixInDwRefIdeal.Run
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.SsmDt
public import proofs.«01_k».proof.Proof.Gen.SsmDt.Skeleton
public import proofs.«01_k».proof.Proof.Gen.SsmDt.Launch
public import proofs.«01_k».proof.Proof.Gen.SsmDt.Points
public import proofs.«01_k».proof.Proof.Gen.SsmDt.Frame
public import proofs.«01_k».proof.Proof.Gen.SsmDtIdeal
public import proofs.«01_k».proof.Proof.Gen.SsmDtIdeal.Skeleton
public import proofs.«01_k».proof.Proof.Gen.SsmDtIdeal.Launch
public import proofs.«01_k».proof.Proof.Gen.SsmDtIdeal.Points
public import proofs.«01_k».proof.Proof.Gen.SsmDtIdeal.Frame
public import proofs.«01_k».proof.Proof.Gen.SsmDtRefIdeal
public import proofs.«01_k».proof.Proof.Gen.SsmDtRefIdeal.Run
public import proofs.«01_k».proof.Proof.Gen.SsmDtDx
public import proofs.«01_k».proof.Proof.Gen.SsmDtDx.Skeleton
public import proofs.«01_k».proof.Proof.Gen.SsmDtDx.Launch
public import proofs.«01_k».proof.Proof.Gen.SsmDtDx.Points
public import proofs.«01_k».proof.Proof.Gen.SsmDtDx.Frame
public import proofs.«01_k».proof.Proof.Gen.SsmDtDxIdeal
public import proofs.«01_k».proof.Proof.Gen.SsmDtDxIdeal.Skeleton
public import proofs.«01_k».proof.Proof.Gen.SsmDtDxIdeal.Launch
public import proofs.«01_k».proof.Proof.Gen.SsmDtDxIdeal.Points
public import proofs.«01_k».proof.Proof.Gen.SsmDtDxIdeal.Frame
public import proofs.«01_k».proof.Proof.Gen.SsmDtDxIdeal.Value
public import proofs.«01_k».proof.Proof.Gen.SsmDtDxRefIdeal
public import proofs.«01_k».proof.Proof.Gen.SsmDtDxRefIdeal.Run
public import proofs.«01_k».proof.Proof.Gen.SsmDtDw
public import proofs.«01_k».proof.Proof.Gen.SsmDtDw.Skeleton
public import proofs.«01_k».proof.Proof.Gen.SsmDtDw.Launch
public import proofs.«01_k».proof.Proof.Gen.SsmDtDw.Points
public import proofs.«01_k».proof.Proof.Gen.SsmDtDw.Frame
public import proofs.«01_k».proof.Proof.Gen.SsmDtDwIdeal
public import proofs.«01_k».proof.Proof.Gen.SsmDtDwIdeal.Skeleton
public import proofs.«01_k».proof.Proof.Gen.SsmDtDwIdeal.Launch
public import proofs.«01_k».proof.Proof.Gen.SsmDtDwIdeal.Points
public import proofs.«01_k».proof.Proof.Gen.SsmDtDwIdeal.Frame
public import proofs.«01_k».proof.Proof.Gen.SsmDtDwRefIdeal
public import proofs.«01_k».proof.Proof.Gen.SsmDtDwRefIdeal.Run
public import proofs.«01_k».proof.Proof.Main
public import proofs.«01_k».proof.Proof.UpNorm
public import proofs.«01_k».proof.Proof.UpGrad
public import proofs.«01_k».proof.Proof.DownGrad
public import proofs.«01_k».proof.Proof.UpFirst
public import proofs.«01_k».proof.Proof.DownNorm
public import proofs.«01_k».proof.Proof.InGrad
public import proofs.«01_k».proof.Proof.InWeight
public import proofs.«01_k».proof.Proof.InConv
public import proofs.«01_k».proof.Proof.Head
public import proofs.«01_k».proof.Proof.OutNorm
public import proofs.«01_k».proof.Proof.OutGrad
public import proofs.«01_k».proof.Proof.OutWeight
public import proofs.«01_k».proof.Proof.InGate
public import proofs.«01_k».proof.Proof.MixNorm
public import proofs.«01_k».proof.Proof.MixGrad
public import proofs.«01_k».proof.Proof.MixWeight
public import proofs.«01_k».proof.Proof.MixProj
public import proofs.«01_k».proof.Proof.MixInNorm
public import proofs.«01_k».proof.Proof.MixInWeight
public import proofs.«01_k».proof.Proof.PoolGrad
public import proofs.«01_k».proof.Proof.DtProj
public import proofs.«01_k».proof.Proof.DtNorm
public import proofs.«01_k».proof.Proof.DtWeight
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.UpDx.Gen.facts, Cert.UpDxIdeal.Gen.facts, Cert.UpDxRefIdeal.Gen.facts, Cert.UpDw.Gen.facts, Cert.UpDwIdeal.Gen.facts, Cert.UpDwRefIdeal.Gen.facts, Cert.DownDw.Gen.facts, Cert.DownDwIdeal.Gen.facts, Cert.DownDwRefIdeal.Gen.facts, Cert.Up.Gen.facts, Cert.UpIdeal.Gen.facts, Cert.UpRefIdeal.Gen.facts, Cert.Down.Gen.facts, Cert.DownIdeal.Gen.facts, Cert.DownRefIdeal.Gen.facts, Cert.SsmDx.Gen.facts, Cert.SsmDxIdeal.Gen.facts, Cert.SsmDxRefIdeal.Gen.facts, Cert.SsmDw.Gen.facts, Cert.SsmDwIdeal.Gen.facts, Cert.SsmDwRefIdeal.Gen.facts, Cert.SsmIn.Gen.facts, Cert.SsmInIdeal.Gen.facts, Cert.SsmInRefIdeal.Gen.facts, Cert.Head.Gen.facts, Cert.HeadIdeal.Gen.facts, Cert.HeadRefIdeal.Gen.facts, Cert.SsmOut.Gen.facts, Cert.SsmOutIdeal.Gen.facts, Cert.SsmOutRefIdeal.Gen.facts, Cert.SsmOutDx.Gen.facts, Cert.SsmOutDxIdeal.Gen.facts, Cert.SsmOutDxRefIdeal.Gen.facts, Cert.SsmOutDw.Gen.facts, Cert.SsmOutDwIdeal.Gen.facts, Cert.SsmOutDwRefIdeal.Gen.facts, Cert.SsmZ.Gen.facts, Cert.SsmZIdeal.Gen.facts, Cert.SsmZRefIdeal.Gen.facts, Cert.MixOut.Gen.facts, Cert.MixOutIdeal.Gen.facts, Cert.MixOutRefIdeal.Gen.facts, Cert.MixOutDx.Gen.facts, Cert.MixOutDxIdeal.Gen.facts, Cert.MixOutDxRefIdeal.Gen.facts, Cert.MixOutDw.Gen.facts, Cert.MixOutDwIdeal.Gen.facts, Cert.MixOutDwRefIdeal.Gen.facts, Cert.MixIn.Gen.facts, Cert.MixInIdeal.Gen.facts, Cert.MixInRefIdeal.Gen.facts, Cert.MixInDx.Gen.facts, Cert.MixInDxIdeal.Gen.facts, Cert.MixInDxRefIdeal.Gen.facts, Cert.MixInDw.Gen.facts, Cert.MixInDwIdeal.Gen.facts, Cert.MixInDwRefIdeal.Gen.facts, Cert.Pool.Gen.facts, Cert.PoolIdeal.Gen.facts, Cert.PoolRefIdeal.Gen.facts, Cert.SsmDt.Gen.facts, Cert.SsmDtIdeal.Gen.facts, Cert.SsmDtRefIdeal.Gen.facts, Cert.SsmDtDx.Gen.facts, Cert.SsmDtDxIdeal.Gen.facts, Cert.SsmDtDxRefIdeal.Gen.facts, Cert.SsmDtDw.Gen.facts, Cert.SsmDtDwIdeal.Gen.facts, Cert.SsmDtDwRefIdeal.Gen.facts, Cert.Pre_finite.Gen.facts, Cert.Pre_finite_proj.Gen.facts,
  fun m ρ _ => Cert.Kernel.Gen.frame m ρ, fun m ρ _ => Cert.KernelIdeal.Gen.frame m ρ, fun m ρ _ => Cert.KernelIdeal.Gen.frame m ρ, Cert.Back.ref_frame, fun m ρ _ => Cert.Back.ref_frame m ρ trivial,
  fun m ρ _ => Cert.UpDx.Gen.frame m ρ, fun m ρ _ => Cert.UpDxIdeal.Gen.frame m ρ, Cert.UpNorm.ref_frame,
  fun m ρ _ => Cert.UpDw.Gen.frame m ρ, fun m ρ _ => Cert.UpDwIdeal.Gen.frame m ρ, Cert.UpGrad.ref_frame,
  fun m ρ _ => Cert.DownDw.Gen.frame m ρ, fun m ρ _ => Cert.DownDwIdeal.Gen.frame m ρ, Cert.DownGrad.ref_frame,
  fun m ρ _ => Cert.Up.Gen.frame m ρ, fun m ρ _ => Cert.UpIdeal.Gen.frame m ρ, Cert.UpFirst.ref_frame,
  fun m ρ _ => Cert.Down.Gen.frame m ρ, fun m ρ _ => Cert.DownIdeal.Gen.frame m ρ, Cert.DownNorm.ref_frame,
  fun m ρ _ => Cert.SsmDx.Gen.frame m ρ, fun m ρ _ => Cert.SsmDxIdeal.Gen.frame m ρ, Cert.InGrad.ref_frame,
  fun m ρ _ => Cert.SsmDw.Gen.frame m ρ, fun m ρ _ => Cert.SsmDwIdeal.Gen.frame m ρ, Cert.InWeight.ref_frame,
  fun m ρ _ => Cert.SsmIn.Gen.frame m ρ, fun m ρ _ => Cert.SsmInIdeal.Gen.frame m ρ, Cert.InConv.ref_frame,
  fun m ρ _ => Cert.Head.Gen.frame m ρ, fun m ρ _ => Cert.HeadIdeal.Gen.frame m ρ, Cert.HeadLoss.ref_frame,
  fun m ρ _ => Cert.SsmOut.Gen.frame m ρ, fun m ρ _ => Cert.SsmOutIdeal.Gen.frame m ρ, Cert.OutNorm.ref_frame,
  fun m ρ _ => Cert.SsmOutDx.Gen.frame m ρ, fun m ρ _ => Cert.SsmOutDxIdeal.Gen.frame m ρ, Cert.OutGrad.ref_frame,
  fun m ρ _ => Cert.SsmOutDw.Gen.frame m ρ, fun m ρ _ => Cert.SsmOutDwIdeal.Gen.frame m ρ, Cert.OutWeight.ref_frame,
  fun m ρ _ => Cert.SsmZ.Gen.frame m ρ, fun m ρ _ => Cert.SsmZIdeal.Gen.frame m ρ, Cert.InGate.ref_frame,
  fun m ρ _ => Cert.MixOut.Gen.frame m ρ, fun m ρ _ => Cert.MixOutIdeal.Gen.frame m ρ, Cert.MixNorm.ref_frame,
  fun m ρ _ => Cert.MixOutDx.Gen.frame m ρ, fun m ρ _ => Cert.MixOutDxIdeal.Gen.frame m ρ, Cert.MixGrad.ref_frame,
  fun m ρ _ => Cert.MixOutDw.Gen.frame m ρ, fun m ρ _ => Cert.MixOutDwIdeal.Gen.frame m ρ, Cert.MixWeight.ref_frame,
  fun m ρ _ => Cert.MixIn.Gen.frame m ρ, fun m ρ _ => Cert.MixInIdeal.Gen.frame m ρ, Cert.MixProj.ref_frame,
  fun m ρ _ => Cert.MixInDx.Gen.frame m ρ, fun m ρ _ => Cert.MixInDxIdeal.Gen.frame m ρ, Cert.MixInNorm.ref_frame,
  fun m ρ _ => Cert.MixInDw.Gen.frame m ρ, fun m ρ _ => Cert.MixInDwIdeal.Gen.frame m ρ, Cert.MixInWeight.ref_frame,
  fun m ρ _ => Cert.Pool.Gen.frame m ρ, fun m ρ _ => Cert.PoolIdeal.Gen.frame m ρ, fun m ρ _ => Cert.PoolIdeal.Gen.frame m ρ, Cert.Pool.ref_frame, fun m ρ _ => Cert.Pool.ref_frame m ρ trivial,
  fun m ρ _ => Cert.SsmDt.Gen.frame m ρ, fun m ρ _ => Cert.SsmDtIdeal.Gen.frame m ρ, Cert.DtProj.ref_frame,
  fun m ρ _ => Cert.SsmDtDx.Gen.frame m ρ, fun m ρ _ => Cert.SsmDtDxIdeal.Gen.frame m ρ, Cert.DtNorm.ref_frame,
  fun m ρ _ => Cert.SsmDtDw.Gen.frame m ρ, fun m ρ _ => Cert.SsmDtDwIdeal.Gen.frame m ρ, Cert.DtWeight.ref_frame,
  trivial, Cert.Back.value, trivial, Cert.UpNorm.value, trivial, Cert.UpGrad.value, trivial, Cert.DownGrad.value, trivial, Cert.UpFirst.value, trivial, Cert.DownNorm.value,
  trivial, Cert.InGrad.value, trivial, Cert.InWeight.value, trivial, Cert.InConv.value, trivial, Cert.HeadLoss.value,
  trivial, Cert.OutNorm.value, trivial, Cert.OutGrad.value, trivial, Cert.OutWeight.value, trivial, Cert.InGate.value,
  trivial, Cert.MixNorm.value, trivial, Cert.MixGrad.value, trivial, Cert.MixWeight.value, trivial, Cert.MixProj.value, trivial, Cert.MixInNorm.value, trivial, Cert.MixInWeight.value,
  trivial, Cert.Pool.value, trivial, Cert.DtProj.value, trivial, Cert.DtNorm.value, trivial, Cert.DtWeight.value⟩

end Cert.Proof

end
